-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_finite_qk [hPre_finite_qk : Cert.Pre_finite_qk.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_finite_qk.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdReferenceIdeal (m : (ℓ : Loc Cert.FlashFwdReferenceIdeal.nD Cert.FlashFwdReferenceIdeal.τ Cert.FlashFwdReferenceIdeal.sig) → Buf (Elt Ideal) ℓ) : Prop :=
  True

def Pre_FlashFwdReferenceIdeal_finite_qk [hPre_finite_qk : Cert.Pre_finite_qk.Facts] (m : (ℓ : Loc Cert.FlashFwdReferenceIdeal.nD Cert.FlashFwdReferenceIdeal.τ Cert.FlashFwdReferenceIdeal.sig) → Buf (Elt Ideal) ℓ) : Prop :=
  ∀ c : Dev Cert.FlashFwdReferenceIdeal.nD,
    (Cert.Pre_finite_qk.fn (F := Ideal) (m ((c.tc : Thread Cert.FlashFwdReferenceIdeal.nD Cert.FlashFwdReferenceIdeal.τ).loc Cert.FlashFwdReferenceIdeal.main_arg0)) (m ((c.tc : Thread Cert.FlashFwdReferenceIdeal.nD Cert.FlashFwdReferenceIdeal.τ).loc Cert.FlashFwdReferenceIdeal.main_arg1)) (m ((c.tc : Thread Cert.FlashFwdReferenceIdeal.nD Cert.FlashFwdReferenceIdeal.τ).loc Cert.FlashFwdReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwReferenceIdeal (m : (ℓ : Loc Cert.ProjDwReferenceIdeal.nD Cert.ProjDwReferenceIdeal.τ Cert.ProjDwReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MlpDwTwo (m : (ℓ : Loc Cert.MlpDwTwo.nD Cert.MlpDwTwo.τ Cert.MlpDwTwo.sig) → Buf (Elt Bits) ℓ) : Prop :=
  True

def Pre_MlpDwTwoIdeal (m : (ℓ : Loc Cert.MlpDwTwoIdeal.nD Cert.MlpDwTwoIdeal.τ Cert.MlpDwTwoIdeal.sig) → Buf (Elt Ideal) ℓ) : Prop :=
  True

def Pre_MlpDwTwoReferenceIdeal (m : (ℓ : Loc Cert.MlpDwTwoReferenceIdeal.nD Cert.MlpDwTwoReferenceIdeal.τ Cert.MlpDwTwoReferenceIdeal.sig) → Buf (Elt Ideal) ℓ) : Prop :=
  True

def Pre_MlpDwOne (m : (ℓ : Loc Cert.MlpDwOne.nD Cert.MlpDwOne.τ Cert.MlpDwOne.sig) → Buf (Elt Bits) ℓ) : Prop :=
  True

def Pre_MlpDwOneIdeal (m : (ℓ : Loc Cert.MlpDwOneIdeal.nD Cert.MlpDwOneIdeal.τ Cert.MlpDwOneIdeal.sig) → Buf (Elt Ideal) ℓ) : Prop :=
  True

def Pre_MlpDwOneReferenceIdeal (m : (ℓ : Loc Cert.MlpDwOneReferenceIdeal.nD Cert.MlpDwOneReferenceIdeal.τ Cert.MlpDwOneReferenceIdeal.sig) → Buf (Elt Ideal) ℓ) : Prop :=
  True

def Pre_SsdOutDw (m : (ℓ : Loc Cert.SsdOutDw.nD Cert.SsdOutDw.τ Cert.SsdOutDw.sig) → Buf (Elt Bits) ℓ) : Prop :=
  True

def Pre_SsdOutDwIdeal (m : (ℓ : Loc Cert.SsdOutDwIdeal.nD Cert.SsdOutDwIdeal.τ Cert.SsdOutDwIdeal.sig) → Buf (Elt Ideal) ℓ) : Prop :=
  True

def Pre_SsdOutDwReferenceIdeal (m : (ℓ : Loc Cert.SsdOutDwReferenceIdeal.nD Cert.SsdOutDwReferenceIdeal.τ Cert.SsdOutDwReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamwMlp (m : (ℓ : Loc Cert.AdamwMlp.nD Cert.AdamwMlp.τ Cert.AdamwMlp.sig) → Buf (Elt Bits) ℓ) : Prop :=
  True

def Pre_AdamwMlpIdeal (m : (ℓ : Loc Cert.AdamwMlpIdeal.nD Cert.AdamwMlpIdeal.τ Cert.AdamwMlpIdeal.sig) → Buf (Elt Ideal) ℓ) : Prop :=
  True

def Pre_AdamwMlpReferenceIdeal (m : (ℓ : Loc Cert.AdamwMlpReferenceIdeal.nD Cert.AdamwMlpReferenceIdeal.τ Cert.AdamwMlpReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwSsd (m : (ℓ : Loc Cert.AdamwSsd.nD Cert.AdamwSsd.τ Cert.AdamwSsd.sig) → Buf (Elt Bits) ℓ) : Prop :=
  True

def Pre_AdamwSsdIdeal (m : (ℓ : Loc Cert.AdamwSsdIdeal.nD Cert.AdamwSsdIdeal.τ Cert.AdamwSsdIdeal.sig) → Buf (Elt Ideal) ℓ) : Prop :=
  True

def Pre_AdamwSsdReferenceIdeal (m : (ℓ : Loc Cert.AdamwSsdReferenceIdeal.nD Cert.AdamwSsdReferenceIdeal.τ Cert.AdamwSsdReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwAda (m : (ℓ : Loc Cert.AdamwAda.nD Cert.AdamwAda.τ Cert.AdamwAda.sig) → Buf (Elt Bits) ℓ) : Prop :=
  True

def Pre_AdamwAdaIdeal (m : (ℓ : Loc Cert.AdamwAdaIdeal.nD Cert.AdamwAdaIdeal.τ Cert.AdamwAdaIdeal.sig) → Buf (Elt Ideal) ℓ) : Prop :=
  True

def Pre_AdamwAdaReferenceIdeal (m : (ℓ : Loc Cert.AdamwAdaReferenceIdeal.nD Cert.AdamwAdaReferenceIdeal.τ Cert.AdamwAdaReferenceIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvReferenceIdeal (m : (ℓ : Loc Cert.AdamwConvReferenceIdeal.nD Cert.AdamwConvReferenceIdeal.τ Cert.AdamwConvReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_finite_qk [hFlashFwdIdeal : Cert.FlashFwdIdeal.Facts] [hPre_finite_qk : Cert.Pre_finite_qk.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_finite_qk m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdReferenceIdeal [hFlashFwdReferenceIdeal : Cert.FlashFwdReferenceIdeal.Facts] : Prop :=
  ∀ (m : (ℓ : Loc Cert.FlashFwdReferenceIdeal.nD Cert.FlashFwdReferenceIdeal.τ Cert.FlashFwdReferenceIdeal.sig) → Buf (Elt Ideal) ℓ) (g : Dev Cert.FlashFwdReferenceIdeal.nD → PrngReg), Pre_FlashFwdReferenceIdeal m →
    θ_run (Cert.FlashFwdReferenceIdeal.defs (F := Ideal)) (onTc (τ := Cert.FlashFwdReferenceIdeal.τ) (Cert.FlashFwdReferenceIdeal.main (F := Ideal))) ⟨m, fun _ => 0, g⟩ (fun r => (∀ c : Dev Cert.FlashFwdReferenceIdeal.nD,
      r.2.mem ((c.tc : Thread Cert.FlashFwdReferenceIdeal.nD Cert.FlashFwdReferenceIdeal.τ).loc Cert.FlashFwdReferenceIdeal.main_arg0) = m ((c.tc : Thread Cert.FlashFwdReferenceIdeal.nD Cert.FlashFwdReferenceIdeal.τ).loc Cert.FlashFwdReferenceIdeal.main_arg0)
      ∧ r.2.mem ((c.tc : Thread Cert.FlashFwdReferenceIdeal.nD Cert.FlashFwdReferenceIdeal.τ).loc Cert.FlashFwdReferenceIdeal.main_arg1) = m ((c.tc : Thread Cert.FlashFwdReferenceIdeal.nD Cert.FlashFwdReferenceIdeal.τ).loc Cert.FlashFwdReferenceIdeal.main_arg1)
      ∧ r.2.mem ((c.tc : Thread Cert.FlashFwdReferenceIdeal.nD Cert.FlashFwdReferenceIdeal.τ).loc Cert.FlashFwdReferenceIdeal.main_arg2) = m ((c.tc : Thread Cert.FlashFwdReferenceIdeal.nD Cert.FlashFwdReferenceIdeal.τ).loc Cert.FlashFwdReferenceIdeal.main_arg2))
      ∧ r.2.sem = fun _ => 0)

def quiescent_FlashFwdReferenceIdeal_pre_finite_qk [hFlashFwdReferenceIdeal : Cert.FlashFwdReferenceIdeal.Facts] [hPre_finite_qk : Cert.Pre_finite_qk.Facts] : Prop :=
  ∀ (m : (ℓ : Loc Cert.FlashFwdReferenceIdeal.nD Cert.FlashFwdReferenceIdeal.τ Cert.FlashFwdReferenceIdeal.sig) → Buf (Elt Ideal) ℓ) (g : Dev Cert.FlashFwdReferenceIdeal.nD → PrngReg), Pre_FlashFwdReferenceIdeal_finite_qk m →
    θ_run (Cert.FlashFwdReferenceIdeal.defs (F := Ideal)) (onTc (τ := Cert.FlashFwdReferenceIdeal.τ) (Cert.FlashFwdReferenceIdeal.main (F := Ideal))) ⟨m, fun _ => 0, g⟩ (fun r => (∀ c : Dev Cert.FlashFwdReferenceIdeal.nD,
      r.2.mem ((c.tc : Thread Cert.FlashFwdReferenceIdeal.nD Cert.FlashFwdReferenceIdeal.τ).loc Cert.FlashFwdReferenceIdeal.main_arg0) = m ((c.tc : Thread Cert.FlashFwdReferenceIdeal.nD Cert.FlashFwdReferenceIdeal.τ).loc Cert.FlashFwdReferenceIdeal.main_arg0)
      ∧ r.2.mem ((c.tc : Thread Cert.FlashFwdReferenceIdeal.nD Cert.FlashFwdReferenceIdeal.τ).loc Cert.FlashFwdReferenceIdeal.main_arg1) = m ((c.tc : Thread Cert.FlashFwdReferenceIdeal.nD Cert.FlashFwdReferenceIdeal.τ).loc Cert.FlashFwdReferenceIdeal.main_arg1)
      ∧ r.2.mem ((c.tc : Thread Cert.FlashFwdReferenceIdeal.nD Cert.FlashFwdReferenceIdeal.τ).loc Cert.FlashFwdReferenceIdeal.main_arg2) = m ((c.tc : Thread Cert.FlashFwdReferenceIdeal.nD Cert.FlashFwdReferenceIdeal.τ).loc Cert.FlashFwdReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwReferenceIdeal [hProjDwReferenceIdeal : Cert.ProjDwReferenceIdeal.Facts] : Prop :=
  ∀ (m : (ℓ : Loc Cert.ProjDwReferenceIdeal.nD Cert.ProjDwReferenceIdeal.τ Cert.ProjDwReferenceIdeal.sig) → Buf (Elt Ideal) ℓ) (g : Dev Cert.ProjDwReferenceIdeal.nD → PrngReg), Pre_ProjDwReferenceIdeal m →
    θ_run (Cert.ProjDwReferenceIdeal.defs (F := Ideal)) (onTc (τ := Cert.ProjDwReferenceIdeal.τ) (Cert.ProjDwReferenceIdeal.main (F := Ideal))) ⟨m, fun _ => 0, g⟩ (fun r => (∀ c : Dev Cert.ProjDwReferenceIdeal.nD,
      r.2.mem ((c.tc : Thread Cert.ProjDwReferenceIdeal.nD Cert.ProjDwReferenceIdeal.τ).loc Cert.ProjDwReferenceIdeal.main_arg0) = m ((c.tc : Thread Cert.ProjDwReferenceIdeal.nD Cert.ProjDwReferenceIdeal.τ).loc Cert.ProjDwReferenceIdeal.main_arg0)
      ∧ r.2.mem ((c.tc : Thread Cert.ProjDwReferenceIdeal.nD Cert.ProjDwReferenceIdeal.τ).loc Cert.ProjDwReferenceIdeal.main_arg1) = m ((c.tc : Thread Cert.ProjDwReferenceIdeal.nD Cert.ProjDwReferenceIdeal.τ).loc Cert.ProjDwReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MlpDwTwo [hMlpDwTwo : Cert.MlpDwTwo.Facts] : Prop :=
  ∀ (m : (ℓ : Loc Cert.MlpDwTwo.nD Cert.MlpDwTwo.τ Cert.MlpDwTwo.sig) → Buf (Elt Bits) ℓ) (g : Dev Cert.MlpDwTwo.nD → PrngReg), Pre_MlpDwTwo m →
    θ_run (Cert.MlpDwTwo.defs (F := Bits)) (onTc (τ := Cert.MlpDwTwo.τ) (Cert.MlpDwTwo.main (F := Bits))) ⟨m, fun _ => 0, g⟩ (fun r => (∀ c : Dev Cert.MlpDwTwo.nD,
      r.2.mem ((c.tc : Thread Cert.MlpDwTwo.nD Cert.MlpDwTwo.τ).loc Cert.MlpDwTwo.main_arg0) = m ((c.tc : Thread Cert.MlpDwTwo.nD Cert.MlpDwTwo.τ).loc Cert.MlpDwTwo.main_arg0)
      ∧ r.2.mem ((c.tc : Thread Cert.MlpDwTwo.nD Cert.MlpDwTwo.τ).loc Cert.MlpDwTwo.main_arg1) = m ((c.tc : Thread Cert.MlpDwTwo.nD Cert.MlpDwTwo.τ).loc Cert.MlpDwTwo.main_arg1)
      ∧ r.2.mem ((c.tc : Thread Cert.MlpDwTwo.nD Cert.MlpDwTwo.τ).loc Cert.MlpDwTwo.main_arg2) = m ((c.tc : Thread Cert.MlpDwTwo.nD Cert.MlpDwTwo.τ).loc Cert.MlpDwTwo.main_arg2))
      ∧ r.2.sem = fun _ => 0)

def quiescent_MlpDwTwoIdeal [hMlpDwTwoIdeal : Cert.MlpDwTwoIdeal.Facts] : Prop :=
  ∀ (m : (ℓ : Loc Cert.MlpDwTwoIdeal.nD Cert.MlpDwTwoIdeal.τ Cert.MlpDwTwoIdeal.sig) → Buf (Elt Ideal) ℓ) (g : Dev Cert.MlpDwTwoIdeal.nD → PrngReg), Pre_MlpDwTwoIdeal m →
    θ_run (Cert.MlpDwTwoIdeal.defs (F := Ideal)) (onTc (τ := Cert.MlpDwTwoIdeal.τ) (Cert.MlpDwTwoIdeal.main (F := Ideal))) ⟨m, fun _ => 0, g⟩ (fun r => (∀ c : Dev Cert.MlpDwTwoIdeal.nD,
      r.2.mem ((c.tc : Thread Cert.MlpDwTwoIdeal.nD Cert.MlpDwTwoIdeal.τ).loc Cert.MlpDwTwoIdeal.main_arg0) = m ((c.tc : Thread Cert.MlpDwTwoIdeal.nD Cert.MlpDwTwoIdeal.τ).loc Cert.MlpDwTwoIdeal.main_arg0)
      ∧ r.2.mem ((c.tc : Thread Cert.MlpDwTwoIdeal.nD Cert.MlpDwTwoIdeal.τ).loc Cert.MlpDwTwoIdeal.main_arg1) = m ((c.tc : Thread Cert.MlpDwTwoIdeal.nD Cert.MlpDwTwoIdeal.τ).loc Cert.MlpDwTwoIdeal.main_arg1)
      ∧ r.2.mem ((c.tc : Thread Cert.MlpDwTwoIdeal.nD Cert.MlpDwTwoIdeal.τ).loc Cert.MlpDwTwoIdeal.main_arg2) = m ((c.tc : Thread Cert.MlpDwTwoIdeal.nD Cert.MlpDwTwoIdeal.τ).loc Cert.MlpDwTwoIdeal.main_arg2))
      ∧ r.2.sem = fun _ => 0)

def quiescent_MlpDwTwoReferenceIdeal [hMlpDwTwoReferenceIdeal : Cert.MlpDwTwoReferenceIdeal.Facts] : Prop :=
  ∀ (m : (ℓ : Loc Cert.MlpDwTwoReferenceIdeal.nD Cert.MlpDwTwoReferenceIdeal.τ Cert.MlpDwTwoReferenceIdeal.sig) → Buf (Elt Ideal) ℓ) (g : Dev Cert.MlpDwTwoReferenceIdeal.nD → PrngReg), Pre_MlpDwTwoReferenceIdeal m →
    θ_run (Cert.MlpDwTwoReferenceIdeal.defs (F := Ideal)) (onTc (τ := Cert.MlpDwTwoReferenceIdeal.τ) (Cert.MlpDwTwoReferenceIdeal.main (F := Ideal))) ⟨m, fun _ => 0, g⟩ (fun r => (∀ c : Dev Cert.MlpDwTwoReferenceIdeal.nD,
      r.2.mem ((c.tc : Thread Cert.MlpDwTwoReferenceIdeal.nD Cert.MlpDwTwoReferenceIdeal.τ).loc Cert.MlpDwTwoReferenceIdeal.main_arg0) = m ((c.tc : Thread Cert.MlpDwTwoReferenceIdeal.nD Cert.MlpDwTwoReferenceIdeal.τ).loc Cert.MlpDwTwoReferenceIdeal.main_arg0)
      ∧ r.2.mem ((c.tc : Thread Cert.MlpDwTwoReferenceIdeal.nD Cert.MlpDwTwoReferenceIdeal.τ).loc Cert.MlpDwTwoReferenceIdeal.main_arg1) = m ((c.tc : Thread Cert.MlpDwTwoReferenceIdeal.nD Cert.MlpDwTwoReferenceIdeal.τ).loc Cert.MlpDwTwoReferenceIdeal.main_arg1)
      ∧ r.2.mem ((c.tc : Thread Cert.MlpDwTwoReferenceIdeal.nD Cert.MlpDwTwoReferenceIdeal.τ).loc Cert.MlpDwTwoReferenceIdeal.main_arg2) = m ((c.tc : Thread Cert.MlpDwTwoReferenceIdeal.nD Cert.MlpDwTwoReferenceIdeal.τ).loc Cert.MlpDwTwoReferenceIdeal.main_arg2))
      ∧ r.2.sem = fun _ => 0)

def quiescent_MlpDwOne [hMlpDwOne : Cert.MlpDwOne.Facts] : Prop :=
  ∀ (m : (ℓ : Loc Cert.MlpDwOne.nD Cert.MlpDwOne.τ Cert.MlpDwOne.sig) → Buf (Elt Bits) ℓ) (g : Dev Cert.MlpDwOne.nD → PrngReg), Pre_MlpDwOne m →
    θ_run (Cert.MlpDwOne.defs (F := Bits)) (onTc (τ := Cert.MlpDwOne.τ) (Cert.MlpDwOne.main (F := Bits))) ⟨m, fun _ => 0, g⟩ (fun r => (∀ c : Dev Cert.MlpDwOne.nD,
      r.2.mem ((c.tc : Thread Cert.MlpDwOne.nD Cert.MlpDwOne.τ).loc Cert.MlpDwOne.main_arg0) = m ((c.tc : Thread Cert.MlpDwOne.nD Cert.MlpDwOne.τ).loc Cert.MlpDwOne.main_arg0)
      ∧ r.2.mem ((c.tc : Thread Cert.MlpDwOne.nD Cert.MlpDwOne.τ).loc Cert.MlpDwOne.main_arg1) = m ((c.tc : Thread Cert.MlpDwOne.nD Cert.MlpDwOne.τ).loc Cert.MlpDwOne.main_arg1))
      ∧ r.2.sem = fun _ => 0)

def quiescent_MlpDwOneIdeal [hMlpDwOneIdeal : Cert.MlpDwOneIdeal.Facts] : Prop :=
  ∀ (m : (ℓ : Loc Cert.MlpDwOneIdeal.nD Cert.MlpDwOneIdeal.τ Cert.MlpDwOneIdeal.sig) → Buf (Elt Ideal) ℓ) (g : Dev Cert.MlpDwOneIdeal.nD → PrngReg), Pre_MlpDwOneIdeal m →
    θ_run (Cert.MlpDwOneIdeal.defs (F := Ideal)) (onTc (τ := Cert.MlpDwOneIdeal.τ) (Cert.MlpDwOneIdeal.main (F := Ideal))) ⟨m, fun _ => 0, g⟩ (fun r => (∀ c : Dev Cert.MlpDwOneIdeal.nD,
      r.2.mem ((c.tc : Thread Cert.MlpDwOneIdeal.nD Cert.MlpDwOneIdeal.τ).loc Cert.MlpDwOneIdeal.main_arg0) = m ((c.tc : Thread Cert.MlpDwOneIdeal.nD Cert.MlpDwOneIdeal.τ).loc Cert.MlpDwOneIdeal.main_arg0)
      ∧ r.2.mem ((c.tc : Thread Cert.MlpDwOneIdeal.nD Cert.MlpDwOneIdeal.τ).loc Cert.MlpDwOneIdeal.main_arg1) = m ((c.tc : Thread Cert.MlpDwOneIdeal.nD Cert.MlpDwOneIdeal.τ).loc Cert.MlpDwOneIdeal.main_arg1))
      ∧ r.2.sem = fun _ => 0)

def quiescent_MlpDwOneReferenceIdeal [hMlpDwOneReferenceIdeal : Cert.MlpDwOneReferenceIdeal.Facts] : Prop :=
  ∀ (m : (ℓ : Loc Cert.MlpDwOneReferenceIdeal.nD Cert.MlpDwOneReferenceIdeal.τ Cert.MlpDwOneReferenceIdeal.sig) → Buf (Elt Ideal) ℓ) (g : Dev Cert.MlpDwOneReferenceIdeal.nD → PrngReg), Pre_MlpDwOneReferenceIdeal m →
    θ_run (Cert.MlpDwOneReferenceIdeal.defs (F := Ideal)) (onTc (τ := Cert.MlpDwOneReferenceIdeal.τ) (Cert.MlpDwOneReferenceIdeal.main (F := Ideal))) ⟨m, fun _ => 0, g⟩ (fun r => (∀ c : Dev Cert.MlpDwOneReferenceIdeal.nD,
      r.2.mem ((c.tc : Thread Cert.MlpDwOneReferenceIdeal.nD Cert.MlpDwOneReferenceIdeal.τ).loc Cert.MlpDwOneReferenceIdeal.main_arg0) = m ((c.tc : Thread Cert.MlpDwOneReferenceIdeal.nD Cert.MlpDwOneReferenceIdeal.τ).loc Cert.MlpDwOneReferenceIdeal.main_arg0)
      ∧ r.2.mem ((c.tc : Thread Cert.MlpDwOneReferenceIdeal.nD Cert.MlpDwOneReferenceIdeal.τ).loc Cert.MlpDwOneReferenceIdeal.main_arg1) = m ((c.tc : Thread Cert.MlpDwOneReferenceIdeal.nD Cert.MlpDwOneReferenceIdeal.τ).loc Cert.MlpDwOneReferenceIdeal.main_arg1))
      ∧ r.2.sem = fun _ => 0)

def quiescent_SsdOutDw [hSsdOutDw : Cert.SsdOutDw.Facts] : Prop :=
  ∀ (m : (ℓ : Loc Cert.SsdOutDw.nD Cert.SsdOutDw.τ Cert.SsdOutDw.sig) → Buf (Elt Bits) ℓ) (g : Dev Cert.SsdOutDw.nD → PrngReg), Pre_SsdOutDw m →
    θ_run (Cert.SsdOutDw.defs (F := Bits)) (onTc (τ := Cert.SsdOutDw.τ) (Cert.SsdOutDw.main (F := Bits))) ⟨m, fun _ => 0, g⟩ (fun r => (∀ c : Dev Cert.SsdOutDw.nD,
      r.2.mem ((c.tc : Thread Cert.SsdOutDw.nD Cert.SsdOutDw.τ).loc Cert.SsdOutDw.main_arg0) = m ((c.tc : Thread Cert.SsdOutDw.nD Cert.SsdOutDw.τ).loc Cert.SsdOutDw.main_arg0)
      ∧ r.2.mem ((c.tc : Thread Cert.SsdOutDw.nD Cert.SsdOutDw.τ).loc Cert.SsdOutDw.main_arg1) = m ((c.tc : Thread Cert.SsdOutDw.nD Cert.SsdOutDw.τ).loc Cert.SsdOutDw.main_arg1))
      ∧ r.2.sem = fun _ => 0)

def quiescent_SsdOutDwIdeal [hSsdOutDwIdeal : Cert.SsdOutDwIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg), Pre_SsdOutDwIdeal m →
    θ_run (Cert.SsdOutDwIdeal.defs (F := Ideal)) (onTc (τ := Cert.SsdOutDwIdeal.τ) (Cert.SsdOutDwIdeal.main (F := Ideal))) ⟨m, fun _ => 0, g⟩ (fun r => (∀ c : Dev Cert.SsdOutDwIdeal.nD,
      r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
      ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ r.2.sem = fun _ => 0)

def quiescent_SsdOutDwReferenceIdeal [hSsdOutDwReferenceIdeal : Cert.SsdOutDwReferenceIdeal.Facts] : Prop :=
  ∀ (m : (ℓ : Loc Cert.SsdOutDwReferenceIdeal.nD Cert.SsdOutDwReferenceIdeal.τ Cert.SsdOutDwReferenceIdeal.sig) → Buf (Elt Ideal) ℓ) (g : Dev Cert.SsdOutDwReferenceIdeal.nD → PrngReg), Pre_SsdOutDwReferenceIdeal m →
    θ_run (Cert.SsdOutDwReferenceIdeal.defs (F := Ideal)) (onTc (τ := Cert.SsdOutDwReferenceIdeal.τ) (Cert.SsdOutDwReferenceIdeal.main (F := Ideal))) ⟨m, fun _ => 0, g⟩ (fun r => (∀ c : Dev Cert.SsdOutDwReferenceIdeal.nD,
      r.2.mem ((c.tc : Thread Cert.SsdOutDwReferenceIdeal.nD Cert.SsdOutDwReferenceIdeal.τ).loc Cert.SsdOutDwReferenceIdeal.main_arg0) = m ((c.tc : Thread Cert.SsdOutDwReferenceIdeal.nD Cert.SsdOutDwReferenceIdeal.τ).loc Cert.SsdOutDwReferenceIdeal.main_arg0)
      ∧ r.2.mem ((c.tc : Thread Cert.SsdOutDwReferenceIdeal.nD Cert.SsdOutDwReferenceIdeal.τ).loc Cert.SsdOutDwReferenceIdeal.main_arg1) = m ((c.tc : Thread Cert.SsdOutDwReferenceIdeal.nD Cert.SsdOutDwReferenceIdeal.τ).loc Cert.SsdOutDwReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_AdamwMlp [hAdamwMlp : Cert.AdamwMlp.Facts] : Prop :=
  ∀ (m : (ℓ : Loc Cert.AdamwMlp.nD Cert.AdamwMlp.τ Cert.AdamwMlp.sig) → Buf (Elt Bits) ℓ) (g : Dev Cert.AdamwMlp.nD → PrngReg), Pre_AdamwMlp m →
    θ_run (Cert.AdamwMlp.defs (F := Bits)) (onTc (τ := Cert.AdamwMlp.τ) (Cert.AdamwMlp.main (F := Bits))) ⟨m, fun _ => 0, g⟩ (fun r => (∀ c : Dev Cert.AdamwMlp.nD,
      r.2.mem ((c.tc : Thread Cert.AdamwMlp.nD Cert.AdamwMlp.τ).loc Cert.AdamwMlp.main_arg0) = m ((c.tc : Thread Cert.AdamwMlp.nD Cert.AdamwMlp.τ).loc Cert.AdamwMlp.main_arg0)
      ∧ r.2.mem ((c.tc : Thread Cert.AdamwMlp.nD Cert.AdamwMlp.τ).loc Cert.AdamwMlp.main_arg1) = m ((c.tc : Thread Cert.AdamwMlp.nD Cert.AdamwMlp.τ).loc Cert.AdamwMlp.main_arg1)
      ∧ r.2.mem ((c.tc : Thread Cert.AdamwMlp.nD Cert.AdamwMlp.τ).loc Cert.AdamwMlp.main_arg2) = m ((c.tc : Thread Cert.AdamwMlp.nD Cert.AdamwMlp.τ).loc Cert.AdamwMlp.main_arg2)
      ∧ r.2.mem ((c.tc : Thread Cert.AdamwMlp.nD Cert.AdamwMlp.τ).loc Cert.AdamwMlp.main_arg3) = m ((c.tc : Thread Cert.AdamwMlp.nD Cert.AdamwMlp.τ).loc Cert.AdamwMlp.main_arg3))
      ∧ r.2.sem = fun _ => 0)

def quiescent_AdamwMlpIdeal [hAdamwMlpIdeal : Cert.AdamwMlpIdeal.Facts] : Prop :=
  ∀ (m : (ℓ : Loc Cert.AdamwMlpIdeal.nD Cert.AdamwMlpIdeal.τ Cert.AdamwMlpIdeal.sig) → Buf (Elt Ideal) ℓ) (g : Dev Cert.AdamwMlpIdeal.nD → PrngReg), Pre_AdamwMlpIdeal m →
    θ_run (Cert.AdamwMlpIdeal.defs (F := Ideal)) (onTc (τ := Cert.AdamwMlpIdeal.τ) (Cert.AdamwMlpIdeal.main (F := Ideal))) ⟨m, fun _ => 0, g⟩ (fun r => (∀ c : Dev Cert.AdamwMlpIdeal.nD,
      r.2.mem ((c.tc : Thread Cert.AdamwMlpIdeal.nD Cert.AdamwMlpIdeal.τ).loc Cert.AdamwMlpIdeal.main_arg0) = m ((c.tc : Thread Cert.AdamwMlpIdeal.nD Cert.AdamwMlpIdeal.τ).loc Cert.AdamwMlpIdeal.main_arg0)
      ∧ r.2.mem ((c.tc : Thread Cert.AdamwMlpIdeal.nD Cert.AdamwMlpIdeal.τ).loc Cert.AdamwMlpIdeal.main_arg1) = m ((c.tc : Thread Cert.AdamwMlpIdeal.nD Cert.AdamwMlpIdeal.τ).loc Cert.AdamwMlpIdeal.main_arg1)
      ∧ r.2.mem ((c.tc : Thread Cert.AdamwMlpIdeal.nD Cert.AdamwMlpIdeal.τ).loc Cert.AdamwMlpIdeal.main_arg2) = m ((c.tc : Thread Cert.AdamwMlpIdeal.nD Cert.AdamwMlpIdeal.τ).loc Cert.AdamwMlpIdeal.main_arg2)
      ∧ r.2.mem ((c.tc : Thread Cert.AdamwMlpIdeal.nD Cert.AdamwMlpIdeal.τ).loc Cert.AdamwMlpIdeal.main_arg3) = m ((c.tc : Thread Cert.AdamwMlpIdeal.nD Cert.AdamwMlpIdeal.τ).loc Cert.AdamwMlpIdeal.main_arg3))
      ∧ r.2.sem = fun _ => 0)

def quiescent_AdamwMlpReferenceIdeal [hAdamwMlpReferenceIdeal : Cert.AdamwMlpReferenceIdeal.Facts] : Prop :=
  ∀ (m : (ℓ : Loc Cert.AdamwMlpReferenceIdeal.nD Cert.AdamwMlpReferenceIdeal.τ Cert.AdamwMlpReferenceIdeal.sig) → Buf (Elt Ideal) ℓ) (g : Dev Cert.AdamwMlpReferenceIdeal.nD → PrngReg), Pre_AdamwMlpReferenceIdeal m →
    θ_run (Cert.AdamwMlpReferenceIdeal.defs (F := Ideal)) (onTc (τ := Cert.AdamwMlpReferenceIdeal.τ) (Cert.AdamwMlpReferenceIdeal.main (F := Ideal))) ⟨m, fun _ => 0, g⟩ (fun r => (∀ c : Dev Cert.AdamwMlpReferenceIdeal.nD,
      r.2.mem ((c.tc : Thread Cert.AdamwMlpReferenceIdeal.nD Cert.AdamwMlpReferenceIdeal.τ).loc Cert.AdamwMlpReferenceIdeal.main_arg0) = m ((c.tc : Thread Cert.AdamwMlpReferenceIdeal.nD Cert.AdamwMlpReferenceIdeal.τ).loc Cert.AdamwMlpReferenceIdeal.main_arg0)
      ∧ r.2.mem ((c.tc : Thread Cert.AdamwMlpReferenceIdeal.nD Cert.AdamwMlpReferenceIdeal.τ).loc Cert.AdamwMlpReferenceIdeal.main_arg1) = m ((c.tc : Thread Cert.AdamwMlpReferenceIdeal.nD Cert.AdamwMlpReferenceIdeal.τ).loc Cert.AdamwMlpReferenceIdeal.main_arg1)
      ∧ r.2.mem ((c.tc : Thread Cert.AdamwMlpReferenceIdeal.nD Cert.AdamwMlpReferenceIdeal.τ).loc Cert.AdamwMlpReferenceIdeal.main_arg2) = m ((c.tc : Thread Cert.AdamwMlpReferenceIdeal.nD Cert.AdamwMlpReferenceIdeal.τ).loc Cert.AdamwMlpReferenceIdeal.main_arg2)
      ∧ r.2.mem ((c.tc : Thread Cert.AdamwMlpReferenceIdeal.nD Cert.AdamwMlpReferenceIdeal.τ).loc Cert.AdamwMlpReferenceIdeal.main_arg3) = m ((c.tc : Thread Cert.AdamwMlpReferenceIdeal.nD Cert.AdamwMlpReferenceIdeal.τ).loc Cert.AdamwMlpReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwSsd [hAdamwSsd : Cert.AdamwSsd.Facts] : Prop :=
  ∀ (m : (ℓ : Loc Cert.AdamwSsd.nD Cert.AdamwSsd.τ Cert.AdamwSsd.sig) → Buf (Elt Bits) ℓ) (g : Dev Cert.AdamwSsd.nD → PrngReg), Pre_AdamwSsd m →
    θ_run (Cert.AdamwSsd.defs (F := Bits)) (onTc (τ := Cert.AdamwSsd.τ) (Cert.AdamwSsd.main (F := Bits))) ⟨m, fun _ => 0, g⟩ (fun r => (∀ c : Dev Cert.AdamwSsd.nD,
      r.2.mem ((c.tc : Thread Cert.AdamwSsd.nD Cert.AdamwSsd.τ).loc Cert.AdamwSsd.main_arg0) = m ((c.tc : Thread Cert.AdamwSsd.nD Cert.AdamwSsd.τ).loc Cert.AdamwSsd.main_arg0)
      ∧ r.2.mem ((c.tc : Thread Cert.AdamwSsd.nD Cert.AdamwSsd.τ).loc Cert.AdamwSsd.main_arg1) = m ((c.tc : Thread Cert.AdamwSsd.nD Cert.AdamwSsd.τ).loc Cert.AdamwSsd.main_arg1)
      ∧ r.2.mem ((c.tc : Thread Cert.AdamwSsd.nD Cert.AdamwSsd.τ).loc Cert.AdamwSsd.main_arg2) = m ((c.tc : Thread Cert.AdamwSsd.nD Cert.AdamwSsd.τ).loc Cert.AdamwSsd.main_arg2)
      ∧ r.2.mem ((c.tc : Thread Cert.AdamwSsd.nD Cert.AdamwSsd.τ).loc Cert.AdamwSsd.main_arg3) = m ((c.tc : Thread Cert.AdamwSsd.nD Cert.AdamwSsd.τ).loc Cert.AdamwSsd.main_arg3))
      ∧ r.2.sem = fun _ => 0)

def quiescent_AdamwSsdIdeal [hAdamwSsdIdeal : Cert.AdamwSsdIdeal.Facts] : Prop :=
  ∀ (m : (ℓ : Loc Cert.AdamwSsdIdeal.nD Cert.AdamwSsdIdeal.τ Cert.AdamwSsdIdeal.sig) → Buf (Elt Ideal) ℓ) (g : Dev Cert.AdamwSsdIdeal.nD → PrngReg), Pre_AdamwSsdIdeal m →
    θ_run (Cert.AdamwSsdIdeal.defs (F := Ideal)) (onTc (τ := Cert.AdamwSsdIdeal.τ) (Cert.AdamwSsdIdeal.main (F := Ideal))) ⟨m, fun _ => 0, g⟩ (fun r => (∀ c : Dev Cert.AdamwSsdIdeal.nD,
      r.2.mem ((c.tc : Thread Cert.AdamwSsdIdeal.nD Cert.AdamwSsdIdeal.τ).loc Cert.AdamwSsdIdeal.main_arg0) = m ((c.tc : Thread Cert.AdamwSsdIdeal.nD Cert.AdamwSsdIdeal.τ).loc Cert.AdamwSsdIdeal.main_arg0)
      ∧ r.2.mem ((c.tc : Thread Cert.AdamwSsdIdeal.nD Cert.AdamwSsdIdeal.τ).loc Cert.AdamwSsdIdeal.main_arg1) = m ((c.tc : Thread Cert.AdamwSsdIdeal.nD Cert.AdamwSsdIdeal.τ).loc Cert.AdamwSsdIdeal.main_arg1)
      ∧ r.2.mem ((c.tc : Thread Cert.AdamwSsdIdeal.nD Cert.AdamwSsdIdeal.τ).loc Cert.AdamwSsdIdeal.main_arg2) = m ((c.tc : Thread Cert.AdamwSsdIdeal.nD Cert.AdamwSsdIdeal.τ).loc Cert.AdamwSsdIdeal.main_arg2)
      ∧ r.2.mem ((c.tc : Thread Cert.AdamwSsdIdeal.nD Cert.AdamwSsdIdeal.τ).loc Cert.AdamwSsdIdeal.main_arg3) = m ((c.tc : Thread Cert.AdamwSsdIdeal.nD Cert.AdamwSsdIdeal.τ).loc Cert.AdamwSsdIdeal.main_arg3))
      ∧ r.2.sem = fun _ => 0)

def quiescent_AdamwSsdReferenceIdeal [hAdamwSsdReferenceIdeal : Cert.AdamwSsdReferenceIdeal.Facts] : Prop :=
  ∀ (m : (ℓ : Loc Cert.AdamwSsdReferenceIdeal.nD Cert.AdamwSsdReferenceIdeal.τ Cert.AdamwSsdReferenceIdeal.sig) → Buf (Elt Ideal) ℓ) (g : Dev Cert.AdamwSsdReferenceIdeal.nD → PrngReg), Pre_AdamwSsdReferenceIdeal m →
    θ_run (Cert.AdamwSsdReferenceIdeal.defs (F := Ideal)) (onTc (τ := Cert.AdamwSsdReferenceIdeal.τ) (Cert.AdamwSsdReferenceIdeal.main (F := Ideal))) ⟨m, fun _ => 0, g⟩ (fun r => (∀ c : Dev Cert.AdamwSsdReferenceIdeal.nD,
      r.2.mem ((c.tc : Thread Cert.AdamwSsdReferenceIdeal.nD Cert.AdamwSsdReferenceIdeal.τ).loc Cert.AdamwSsdReferenceIdeal.main_arg0) = m ((c.tc : Thread Cert.AdamwSsdReferenceIdeal.nD Cert.AdamwSsdReferenceIdeal.τ).loc Cert.AdamwSsdReferenceIdeal.main_arg0)
      ∧ r.2.mem ((c.tc : Thread Cert.AdamwSsdReferenceIdeal.nD Cert.AdamwSsdReferenceIdeal.τ).loc Cert.AdamwSsdReferenceIdeal.main_arg1) = m ((c.tc : Thread Cert.AdamwSsdReferenceIdeal.nD Cert.AdamwSsdReferenceIdeal.τ).loc Cert.AdamwSsdReferenceIdeal.main_arg1)
      ∧ r.2.mem ((c.tc : Thread Cert.AdamwSsdReferenceIdeal.nD Cert.AdamwSsdReferenceIdeal.τ).loc Cert.AdamwSsdReferenceIdeal.main_arg2) = m ((c.tc : Thread Cert.AdamwSsdReferenceIdeal.nD Cert.AdamwSsdReferenceIdeal.τ).loc Cert.AdamwSsdReferenceIdeal.main_arg2)
      ∧ r.2.mem ((c.tc : Thread Cert.AdamwSsdReferenceIdeal.nD Cert.AdamwSsdReferenceIdeal.τ).loc Cert.AdamwSsdReferenceIdeal.main_arg3) = m ((c.tc : Thread Cert.AdamwSsdReferenceIdeal.nD Cert.AdamwSsdReferenceIdeal.τ).loc Cert.AdamwSsdReferenceIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwAda [hAdamwAda : Cert.AdamwAda.Facts] : Prop :=
  ∀ (m : (ℓ : Loc Cert.AdamwAda.nD Cert.AdamwAda.τ Cert.AdamwAda.sig) → Buf (Elt Bits) ℓ) (g : Dev Cert.AdamwAda.nD → PrngReg), Pre_AdamwAda m →
    θ_run (Cert.AdamwAda.defs (F := Bits)) (onTc (τ := Cert.AdamwAda.τ) (Cert.AdamwAda.main (F := Bits))) ⟨m, fun _ => 0, g⟩ (fun r => (∀ c : Dev Cert.AdamwAda.nD,
      r.2.mem ((c.tc : Thread Cert.AdamwAda.nD Cert.AdamwAda.τ).loc Cert.AdamwAda.main_arg0) = m ((c.tc : Thread Cert.AdamwAda.nD Cert.AdamwAda.τ).loc Cert.AdamwAda.main_arg0)
      ∧ r.2.mem ((c.tc : Thread Cert.AdamwAda.nD Cert.AdamwAda.τ).loc Cert.AdamwAda.main_arg1) = m ((c.tc : Thread Cert.AdamwAda.nD Cert.AdamwAda.τ).loc Cert.AdamwAda.main_arg1)
      ∧ r.2.mem ((c.tc : Thread Cert.AdamwAda.nD Cert.AdamwAda.τ).loc Cert.AdamwAda.main_arg2) = m ((c.tc : Thread Cert.AdamwAda.nD Cert.AdamwAda.τ).loc Cert.AdamwAda.main_arg2)
      ∧ r.2.mem ((c.tc : Thread Cert.AdamwAda.nD Cert.AdamwAda.τ).loc Cert.AdamwAda.main_arg3) = m ((c.tc : Thread Cert.AdamwAda.nD Cert.AdamwAda.τ).loc Cert.AdamwAda.main_arg3))
      ∧ r.2.sem = fun _ => 0)

def quiescent_AdamwAdaIdeal [hAdamwAdaIdeal : Cert.AdamwAdaIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg), Pre_AdamwAdaIdeal m →
    θ_run (Cert.AdamwAdaIdeal.defs (F := Ideal)) (onTc (τ := Cert.AdamwAdaIdeal.τ) (Cert.AdamwAdaIdeal.main (F := Ideal))) ⟨m, fun _ => 0, g⟩ (fun r => (∀ c : Dev Cert.AdamwAdaIdeal.nD,
      r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
      ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
      ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
      ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ r.2.sem = fun _ => 0)

def quiescent_AdamwAdaReferenceIdeal [hAdamwAdaReferenceIdeal : Cert.AdamwAdaReferenceIdeal.Facts] : Prop :=
  ∀ (m : (ℓ : Loc Cert.AdamwAdaReferenceIdeal.nD Cert.AdamwAdaReferenceIdeal.τ Cert.AdamwAdaReferenceIdeal.sig) → Buf (Elt Ideal) ℓ) (g : Dev Cert.AdamwAdaReferenceIdeal.nD → PrngReg), Pre_AdamwAdaReferenceIdeal m →
    θ_run (Cert.AdamwAdaReferenceIdeal.defs (F := Ideal)) (onTc (τ := Cert.AdamwAdaReferenceIdeal.τ) (Cert.AdamwAdaReferenceIdeal.main (F := Ideal))) ⟨m, fun _ => 0, g⟩ (fun r => (∀ c : Dev Cert.AdamwAdaReferenceIdeal.nD,
      r.2.mem ((c.tc : Thread Cert.AdamwAdaReferenceIdeal.nD Cert.AdamwAdaReferenceIdeal.τ).loc Cert.AdamwAdaReferenceIdeal.main_arg0) = m ((c.tc : Thread Cert.AdamwAdaReferenceIdeal.nD Cert.AdamwAdaReferenceIdeal.τ).loc Cert.AdamwAdaReferenceIdeal.main_arg0)
      ∧ r.2.mem ((c.tc : Thread Cert.AdamwAdaReferenceIdeal.nD Cert.AdamwAdaReferenceIdeal.τ).loc Cert.AdamwAdaReferenceIdeal.main_arg1) = m ((c.tc : Thread Cert.AdamwAdaReferenceIdeal.nD Cert.AdamwAdaReferenceIdeal.τ).loc Cert.AdamwAdaReferenceIdeal.main_arg1)
      ∧ r.2.mem ((c.tc : Thread Cert.AdamwAdaReferenceIdeal.nD Cert.AdamwAdaReferenceIdeal.τ).loc Cert.AdamwAdaReferenceIdeal.main_arg2) = m ((c.tc : Thread Cert.AdamwAdaReferenceIdeal.nD Cert.AdamwAdaReferenceIdeal.τ).loc Cert.AdamwAdaReferenceIdeal.main_arg2)
      ∧ r.2.mem ((c.tc : Thread Cert.AdamwAdaReferenceIdeal.nD Cert.AdamwAdaReferenceIdeal.τ).loc Cert.AdamwAdaReferenceIdeal.main_arg3) = m ((c.tc : Thread Cert.AdamwAdaReferenceIdeal.nD Cert.AdamwAdaReferenceIdeal.τ).loc Cert.AdamwAdaReferenceIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvReferenceIdeal [hAdamwConvReferenceIdeal : Cert.AdamwConvReferenceIdeal.Facts] : Prop :=
  ∀ (m : (ℓ : Loc Cert.AdamwConvReferenceIdeal.nD Cert.AdamwConvReferenceIdeal.τ Cert.AdamwConvReferenceIdeal.sig) → Buf (Elt Ideal) ℓ) (g : Dev Cert.AdamwConvReferenceIdeal.nD → PrngReg), Pre_AdamwConvReferenceIdeal m →
    θ_run (Cert.AdamwConvReferenceIdeal.defs (F := Ideal)) (onTc (τ := Cert.AdamwConvReferenceIdeal.τ) (Cert.AdamwConvReferenceIdeal.main (F := Ideal))) ⟨m, fun _ => 0, g⟩ (fun r => (∀ c : Dev Cert.AdamwConvReferenceIdeal.nD,
      r.2.mem ((c.tc : Thread Cert.AdamwConvReferenceIdeal.nD Cert.AdamwConvReferenceIdeal.τ).loc Cert.AdamwConvReferenceIdeal.main_arg0) = m ((c.tc : Thread Cert.AdamwConvReferenceIdeal.nD Cert.AdamwConvReferenceIdeal.τ).loc Cert.AdamwConvReferenceIdeal.main_arg0)
      ∧ r.2.mem ((c.tc : Thread Cert.AdamwConvReferenceIdeal.nD Cert.AdamwConvReferenceIdeal.τ).loc Cert.AdamwConvReferenceIdeal.main_arg1) = m ((c.tc : Thread Cert.AdamwConvReferenceIdeal.nD Cert.AdamwConvReferenceIdeal.τ).loc Cert.AdamwConvReferenceIdeal.main_arg1)
      ∧ r.2.mem ((c.tc : Thread Cert.AdamwConvReferenceIdeal.nD Cert.AdamwConvReferenceIdeal.τ).loc Cert.AdamwConvReferenceIdeal.main_arg2) = m ((c.tc : Thread Cert.AdamwConvReferenceIdeal.nD Cert.AdamwConvReferenceIdeal.τ).loc Cert.AdamwConvReferenceIdeal.main_arg2)
      ∧ r.2.mem ((c.tc : Thread Cert.AdamwConvReferenceIdeal.nD Cert.AdamwConvReferenceIdeal.τ).loc Cert.AdamwConvReferenceIdeal.main_arg3) = m ((c.tc : Thread Cert.AdamwConvReferenceIdeal.nD Cert.AdamwConvReferenceIdeal.τ).loc Cert.AdamwConvReferenceIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FlashFwd_FlashFwdIdeal : Prop :=
  IdealRules.named_const.Statement Cert.FlashFwdIdeal.κ "log2e" .f32 0x3FB8AA3B#32 (((Real.log 2)⁻¹ : ℝ) : EReal)

def algebraic_FlashFwdIdeal_FlashFwdReferenceIdeal_pre_finite_qk [hFlashFwdIdeal : Cert.FlashFwdIdeal.Facts] [hFlashFwdReferenceIdeal : Cert.FlashFwdReferenceIdeal.Facts] [hPre_finite_qk : Cert.Pre_finite_qk.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdReferenceIdeal.nD Cert.FlashFwdReferenceIdeal.τ Cert.FlashFwdReferenceIdeal.sig) → Buf (Elt Ideal) ℓ) (g' : Dev Cert.FlashFwdReferenceIdeal.nD → PrngReg), Pre_FlashFwdIdeal_finite_qk m →
    (∀ c : Dev Cert.FlashFwdIdeal.nD,
      m' ((c.tc : Thread Cert.FlashFwdReferenceIdeal.nD Cert.FlashFwdReferenceIdeal.τ).loc Cert.FlashFwdReferenceIdeal.main_arg0) = m ((c.tc : Thread Cert.FlashFwdIdeal.nD Cert.FlashFwdIdeal.τ).loc Cert.FlashFwdIdeal.main_arg0)
      ∧ m' ((c.tc : Thread Cert.FlashFwdReferenceIdeal.nD Cert.FlashFwdReferenceIdeal.τ).loc Cert.FlashFwdReferenceIdeal.main_arg1) = m ((c.tc : Thread Cert.FlashFwdIdeal.nD Cert.FlashFwdIdeal.τ).loc Cert.FlashFwdIdeal.main_arg1)
      ∧ m' ((c.tc : Thread Cert.FlashFwdReferenceIdeal.nD Cert.FlashFwdReferenceIdeal.τ).loc Cert.FlashFwdReferenceIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v12_0)) (v1 : (c : Dev Cert.FlashFwdIdeal.nD) → Buf (Elt Ideal) ((c.tc : Thread Cert.FlashFwdIdeal.nD Cert.FlashFwdIdeal.τ).loc Cert.FlashFwdIdeal.main_v12_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v12_0) = v0 c
          ∧ r.2.mem ((c.tc : Thread Cert.FlashFwdIdeal.nD Cert.FlashFwdIdeal.τ).loc Cert.FlashFwdIdeal.main_v12_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdReferenceIdeal.defs (F := Ideal)) (onTc (τ := Cert.FlashFwdReferenceIdeal.τ) (Cert.FlashFwdReferenceIdeal.main (F := Ideal))) ⟨m', fun _ => 0, g'⟩ (fun r => ∀ c : Dev Cert.FlashFwdReferenceIdeal.nD,
          r.2.mem ((c.tc : Thread Cert.FlashFwdReferenceIdeal.nD Cert.FlashFwdReferenceIdeal.τ).loc Cert.FlashFwdReferenceIdeal.main_v23) = v0 c
          ∧ r.2.mem ((c.tc : Thread Cert.FlashFwdReferenceIdeal.nD Cert.FlashFwdReferenceIdeal.τ).loc Cert.FlashFwdReferenceIdeal.main_v22) = v1 c
          ∧ r.2.mem ((c.tc : Thread Cert.FlashFwdReferenceIdeal.nD Cert.FlashFwdReferenceIdeal.τ).loc Cert.FlashFwdReferenceIdeal.main_arg0) = m' ((c.tc : Thread Cert.FlashFwdReferenceIdeal.nD Cert.FlashFwdReferenceIdeal.τ).loc Cert.FlashFwdReferenceIdeal.main_arg0)
          ∧ r.2.mem ((c.tc : Thread Cert.FlashFwdReferenceIdeal.nD Cert.FlashFwdReferenceIdeal.τ).loc Cert.FlashFwdReferenceIdeal.main_arg1) = m' ((c.tc : Thread Cert.FlashFwdReferenceIdeal.nD Cert.FlashFwdReferenceIdeal.τ).loc Cert.FlashFwdReferenceIdeal.main_arg1)
          ∧ r.2.mem ((c.tc : Thread Cert.FlashFwdReferenceIdeal.nD Cert.FlashFwdReferenceIdeal.τ).loc Cert.FlashFwdReferenceIdeal.main_arg2) = m' ((c.tc : Thread Cert.FlashFwdReferenceIdeal.nD Cert.FlashFwdReferenceIdeal.τ).loc Cert.FlashFwdReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v6)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v6) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v13) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_ProjDw_ProjDwIdeal : Prop :=
  True

def algebraic_ProjDwIdeal_ProjDwReferenceIdeal [hProjDwIdeal : Cert.ProjDwIdeal.Facts] [hProjDwReferenceIdeal : Cert.ProjDwReferenceIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwReferenceIdeal.nD Cert.ProjDwReferenceIdeal.τ Cert.ProjDwReferenceIdeal.sig) → Buf (Elt Ideal) ℓ) (g' : Dev Cert.ProjDwReferenceIdeal.nD → PrngReg), Pre_ProjDwIdeal m →
    (∀ c : Dev Cert.ProjDwIdeal.nD,
      m' ((c.tc : Thread Cert.ProjDwReferenceIdeal.nD Cert.ProjDwReferenceIdeal.τ).loc Cert.ProjDwReferenceIdeal.main_arg0) = m ((c.tc : Thread Cert.ProjDwIdeal.nD Cert.ProjDwIdeal.τ).loc Cert.ProjDwIdeal.main_arg0)
      ∧ m' ((c.tc : Thread Cert.ProjDwReferenceIdeal.nD Cert.ProjDwReferenceIdeal.τ).loc Cert.ProjDwReferenceIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v2)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v2) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwReferenceIdeal.defs (F := Ideal)) (onTc (τ := Cert.ProjDwReferenceIdeal.τ) (Cert.ProjDwReferenceIdeal.main (F := Ideal))) ⟨m', fun _ => 0, g'⟩ (fun r => ∀ c : Dev Cert.ProjDwReferenceIdeal.nD,
          r.2.mem ((c.tc : Thread Cert.ProjDwReferenceIdeal.nD Cert.ProjDwReferenceIdeal.τ).loc Cert.ProjDwReferenceIdeal.main_v3) = v0 c
          ∧ r.2.mem ((c.tc : Thread Cert.ProjDwReferenceIdeal.nD Cert.ProjDwReferenceIdeal.τ).loc Cert.ProjDwReferenceIdeal.main_arg0) = m' ((c.tc : Thread Cert.ProjDwReferenceIdeal.nD Cert.ProjDwReferenceIdeal.τ).loc Cert.ProjDwReferenceIdeal.main_arg0)
          ∧ r.2.mem ((c.tc : Thread Cert.ProjDwReferenceIdeal.nD Cert.ProjDwReferenceIdeal.τ).loc Cert.ProjDwReferenceIdeal.main_arg1) = m' ((c.tc : Thread Cert.ProjDwReferenceIdeal.nD Cert.ProjDwReferenceIdeal.τ).loc Cert.ProjDwReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)) (v1 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_v5) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v1) = v0 c
          ∧ r.2.mem ((c.tc : Thread Cert.ProjReferenceIdeal.nD Cert.ProjReferenceIdeal.τ).loc Cert.ProjReferenceIdeal.main_v2) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MlpDwTwo_MlpDwTwoIdeal : Prop :=
  True

def algebraic_MlpDwTwoIdeal_MlpDwTwoReferenceIdeal [hMlpDwTwoIdeal : Cert.MlpDwTwoIdeal.Facts] [hMlpDwTwoReferenceIdeal : Cert.MlpDwTwoReferenceIdeal.Facts] : Prop :=
  ∀ (m : (ℓ : Loc Cert.MlpDwTwoIdeal.nD Cert.MlpDwTwoIdeal.τ Cert.MlpDwTwoIdeal.sig) → Buf (Elt Ideal) ℓ) (g : Dev Cert.MlpDwTwoIdeal.nD → PrngReg)
    (m' : (ℓ : Loc Cert.MlpDwTwoReferenceIdeal.nD Cert.MlpDwTwoReferenceIdeal.τ Cert.MlpDwTwoReferenceIdeal.sig) → Buf (Elt Ideal) ℓ) (g' : Dev Cert.MlpDwTwoReferenceIdeal.nD → PrngReg), Pre_MlpDwTwoIdeal m →
    (∀ c : Dev Cert.MlpDwTwoIdeal.nD,
      m' ((c.tc : Thread Cert.MlpDwTwoReferenceIdeal.nD Cert.MlpDwTwoReferenceIdeal.τ).loc Cert.MlpDwTwoReferenceIdeal.main_arg0) = m ((c.tc : Thread Cert.MlpDwTwoIdeal.nD Cert.MlpDwTwoIdeal.τ).loc Cert.MlpDwTwoIdeal.main_arg0)
      ∧ m' ((c.tc : Thread Cert.MlpDwTwoReferenceIdeal.nD Cert.MlpDwTwoReferenceIdeal.τ).loc Cert.MlpDwTwoReferenceIdeal.main_arg1) = m ((c.tc : Thread Cert.MlpDwTwoIdeal.nD Cert.MlpDwTwoIdeal.τ).loc Cert.MlpDwTwoIdeal.main_arg1)
      ∧ m' ((c.tc : Thread Cert.MlpDwTwoReferenceIdeal.nD Cert.MlpDwTwoReferenceIdeal.τ).loc Cert.MlpDwTwoReferenceIdeal.main_arg2) = m ((c.tc : Thread Cert.MlpDwTwoIdeal.nD Cert.MlpDwTwoIdeal.τ).loc Cert.MlpDwTwoIdeal.main_arg2)) →
    ∃ (v0 : (c : Dev Cert.MlpDwTwoIdeal.nD) → Buf (Elt Ideal) ((c.tc : Thread Cert.MlpDwTwoIdeal.nD Cert.MlpDwTwoIdeal.τ).loc Cert.MlpDwTwoIdeal.main_v5)),
      θ_run (Cert.MlpDwTwoIdeal.defs (F := Ideal)) (onTc (τ := Cert.MlpDwTwoIdeal.τ) (Cert.MlpDwTwoIdeal.main (F := Ideal))) ⟨m, fun _ => 0, g⟩ (fun r => ∀ c : Dev Cert.MlpDwTwoIdeal.nD,
          r.2.mem ((c.tc : Thread Cert.MlpDwTwoIdeal.nD Cert.MlpDwTwoIdeal.τ).loc Cert.MlpDwTwoIdeal.main_v5) = v0 c
          ∧ r.2.mem ((c.tc : Thread Cert.MlpDwTwoIdeal.nD Cert.MlpDwTwoIdeal.τ).loc Cert.MlpDwTwoIdeal.main_arg0) = m ((c.tc : Thread Cert.MlpDwTwoIdeal.nD Cert.MlpDwTwoIdeal.τ).loc Cert.MlpDwTwoIdeal.main_arg0)
          ∧ r.2.mem ((c.tc : Thread Cert.MlpDwTwoIdeal.nD Cert.MlpDwTwoIdeal.τ).loc Cert.MlpDwTwoIdeal.main_arg1) = m ((c.tc : Thread Cert.MlpDwTwoIdeal.nD Cert.MlpDwTwoIdeal.τ).loc Cert.MlpDwTwoIdeal.main_arg1)
          ∧ r.2.mem ((c.tc : Thread Cert.MlpDwTwoIdeal.nD Cert.MlpDwTwoIdeal.τ).loc Cert.MlpDwTwoIdeal.main_arg2) = m ((c.tc : Thread Cert.MlpDwTwoIdeal.nD Cert.MlpDwTwoIdeal.τ).loc Cert.MlpDwTwoIdeal.main_arg2))
      ∧ θ_run (Cert.MlpDwTwoReferenceIdeal.defs (F := Ideal)) (onTc (τ := Cert.MlpDwTwoReferenceIdeal.τ) (Cert.MlpDwTwoReferenceIdeal.main (F := Ideal))) ⟨m', fun _ => 0, g'⟩ (fun r => ∀ c : Dev Cert.MlpDwTwoReferenceIdeal.nD,
          r.2.mem ((c.tc : Thread Cert.MlpDwTwoReferenceIdeal.nD Cert.MlpDwTwoReferenceIdeal.τ).loc Cert.MlpDwTwoReferenceIdeal.main_v6) = v0 c
          ∧ r.2.mem ((c.tc : Thread Cert.MlpDwTwoReferenceIdeal.nD Cert.MlpDwTwoReferenceIdeal.τ).loc Cert.MlpDwTwoReferenceIdeal.main_arg0) = m' ((c.tc : Thread Cert.MlpDwTwoReferenceIdeal.nD Cert.MlpDwTwoReferenceIdeal.τ).loc Cert.MlpDwTwoReferenceIdeal.main_arg0)
          ∧ r.2.mem ((c.tc : Thread Cert.MlpDwTwoReferenceIdeal.nD Cert.MlpDwTwoReferenceIdeal.τ).loc Cert.MlpDwTwoReferenceIdeal.main_arg1) = m' ((c.tc : Thread Cert.MlpDwTwoReferenceIdeal.nD Cert.MlpDwTwoReferenceIdeal.τ).loc Cert.MlpDwTwoReferenceIdeal.main_arg1)
          ∧ r.2.mem ((c.tc : Thread Cert.MlpDwTwoReferenceIdeal.nD Cert.MlpDwTwoReferenceIdeal.τ).loc Cert.MlpDwTwoReferenceIdeal.main_arg2) = m' ((c.tc : Thread Cert.MlpDwTwoReferenceIdeal.nD Cert.MlpDwTwoReferenceIdeal.τ).loc Cert.MlpDwTwoReferenceIdeal.main_arg2))

def preserves_MlpDwOne_MlpDwOneIdeal : Prop :=
  True

def algebraic_MlpDwOneIdeal_MlpDwOneReferenceIdeal [hMlpDwOneIdeal : Cert.MlpDwOneIdeal.Facts] [hMlpDwOneReferenceIdeal : Cert.MlpDwOneReferenceIdeal.Facts] : Prop :=
  ∀ (m : (ℓ : Loc Cert.MlpDwOneIdeal.nD Cert.MlpDwOneIdeal.τ Cert.MlpDwOneIdeal.sig) → Buf (Elt Ideal) ℓ) (g : Dev Cert.MlpDwOneIdeal.nD → PrngReg)
    (m' : (ℓ : Loc Cert.MlpDwOneReferenceIdeal.nD Cert.MlpDwOneReferenceIdeal.τ Cert.MlpDwOneReferenceIdeal.sig) → Buf (Elt Ideal) ℓ) (g' : Dev Cert.MlpDwOneReferenceIdeal.nD → PrngReg), Pre_MlpDwOneIdeal m →
    (∀ c : Dev Cert.MlpDwOneIdeal.nD,
      m' ((c.tc : Thread Cert.MlpDwOneReferenceIdeal.nD Cert.MlpDwOneReferenceIdeal.τ).loc Cert.MlpDwOneReferenceIdeal.main_arg0) = m ((c.tc : Thread Cert.MlpDwOneIdeal.nD Cert.MlpDwOneIdeal.τ).loc Cert.MlpDwOneIdeal.main_arg0)
      ∧ m' ((c.tc : Thread Cert.MlpDwOneReferenceIdeal.nD Cert.MlpDwOneReferenceIdeal.τ).loc Cert.MlpDwOneReferenceIdeal.main_arg1) = m ((c.tc : Thread Cert.MlpDwOneIdeal.nD Cert.MlpDwOneIdeal.τ).loc Cert.MlpDwOneIdeal.main_arg1)) →
    ∃ (v0 : (c : Dev Cert.MlpDwOneIdeal.nD) → Buf (Elt Ideal) ((c.tc : Thread Cert.MlpDwOneIdeal.nD Cert.MlpDwOneIdeal.τ).loc Cert.MlpDwOneIdeal.main_v2)),
      θ_run (Cert.MlpDwOneIdeal.defs (F := Ideal)) (onTc (τ := Cert.MlpDwOneIdeal.τ) (Cert.MlpDwOneIdeal.main (F := Ideal))) ⟨m, fun _ => 0, g⟩ (fun r => ∀ c : Dev Cert.MlpDwOneIdeal.nD,
          r.2.mem ((c.tc : Thread Cert.MlpDwOneIdeal.nD Cert.MlpDwOneIdeal.τ).loc Cert.MlpDwOneIdeal.main_v2) = v0 c
          ∧ r.2.mem ((c.tc : Thread Cert.MlpDwOneIdeal.nD Cert.MlpDwOneIdeal.τ).loc Cert.MlpDwOneIdeal.main_arg0) = m ((c.tc : Thread Cert.MlpDwOneIdeal.nD Cert.MlpDwOneIdeal.τ).loc Cert.MlpDwOneIdeal.main_arg0)
          ∧ r.2.mem ((c.tc : Thread Cert.MlpDwOneIdeal.nD Cert.MlpDwOneIdeal.τ).loc Cert.MlpDwOneIdeal.main_arg1) = m ((c.tc : Thread Cert.MlpDwOneIdeal.nD Cert.MlpDwOneIdeal.τ).loc Cert.MlpDwOneIdeal.main_arg1))
      ∧ θ_run (Cert.MlpDwOneReferenceIdeal.defs (F := Ideal)) (onTc (τ := Cert.MlpDwOneReferenceIdeal.τ) (Cert.MlpDwOneReferenceIdeal.main (F := Ideal))) ⟨m', fun _ => 0, g'⟩ (fun r => ∀ c : Dev Cert.MlpDwOneReferenceIdeal.nD,
          r.2.mem ((c.tc : Thread Cert.MlpDwOneReferenceIdeal.nD Cert.MlpDwOneReferenceIdeal.τ).loc Cert.MlpDwOneReferenceIdeal.main_v3) = v0 c
          ∧ r.2.mem ((c.tc : Thread Cert.MlpDwOneReferenceIdeal.nD Cert.MlpDwOneReferenceIdeal.τ).loc Cert.MlpDwOneReferenceIdeal.main_arg0) = m' ((c.tc : Thread Cert.MlpDwOneReferenceIdeal.nD Cert.MlpDwOneReferenceIdeal.τ).loc Cert.MlpDwOneReferenceIdeal.main_arg0)
          ∧ r.2.mem ((c.tc : Thread Cert.MlpDwOneReferenceIdeal.nD Cert.MlpDwOneReferenceIdeal.τ).loc Cert.MlpDwOneReferenceIdeal.main_arg1) = m' ((c.tc : Thread Cert.MlpDwOneReferenceIdeal.nD Cert.MlpDwOneReferenceIdeal.τ).loc Cert.MlpDwOneReferenceIdeal.main_arg1))

def preserves_SsdOutDw_SsdOutDwIdeal : Prop :=
  True

def algebraic_SsdOutDwIdeal_SsdOutDwReferenceIdeal [hSsdOutDwIdeal : Cert.SsdOutDwIdeal.Facts] [hSsdOutDwReferenceIdeal : Cert.SsdOutDwReferenceIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg)
    (m' : (ℓ : Loc Cert.SsdOutDwReferenceIdeal.nD Cert.SsdOutDwReferenceIdeal.τ Cert.SsdOutDwReferenceIdeal.sig) → Buf (Elt Ideal) ℓ) (g' : Dev Cert.SsdOutDwReferenceIdeal.nD → PrngReg), Pre_SsdOutDwIdeal m →
    (∀ c : Dev Cert.SsdOutDwIdeal.nD,
      m' ((c.tc : Thread Cert.SsdOutDwReferenceIdeal.nD Cert.SsdOutDwReferenceIdeal.τ).loc Cert.SsdOutDwReferenceIdeal.main_arg0) = m ((c.tc : Thread Cert.SsdOutDwIdeal.nD Cert.SsdOutDwIdeal.τ).loc Cert.SsdOutDwIdeal.main_arg0)
      ∧ m' ((c.tc : Thread Cert.SsdOutDwReferenceIdeal.nD Cert.SsdOutDwReferenceIdeal.τ).loc Cert.SsdOutDwReferenceIdeal.main_arg1) = m ((c.tc : Thread Cert.SsdOutDwIdeal.nD Cert.SsdOutDwIdeal.τ).loc Cert.SsdOutDwIdeal.main_arg1)) →
    ∃ (v0 : (c : Dev Cert.SsdOutDwIdeal.nD) → Buf (Elt Ideal) ((c.tc : Thread Cert.SsdOutDwIdeal.nD Cert.SsdOutDwIdeal.τ).loc Cert.SsdOutDwIdeal.main_v2)),
      θ_run (Cert.SsdOutDwIdeal.defs (F := Ideal)) (onTc (τ := Cert.SsdOutDwIdeal.τ) (Cert.SsdOutDwIdeal.main (F := Ideal))) ⟨m, fun _ => 0, g⟩ (fun r => ∀ c : Dev Cert.SsdOutDwIdeal.nD,
          r.2.mem ((c.tc : Thread Cert.SsdOutDwIdeal.nD Cert.SsdOutDwIdeal.τ).loc Cert.SsdOutDwIdeal.main_v2) = v0 c
          ∧ r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
          ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ θ_run (Cert.SsdOutDwReferenceIdeal.defs (F := Ideal)) (onTc (τ := Cert.SsdOutDwReferenceIdeal.τ) (Cert.SsdOutDwReferenceIdeal.main (F := Ideal))) ⟨m', fun _ => 0, g'⟩ (fun r => ∀ c : Dev Cert.SsdOutDwReferenceIdeal.nD,
          r.2.mem ((c.tc : Thread Cert.SsdOutDwReferenceIdeal.nD Cert.SsdOutDwReferenceIdeal.τ).loc Cert.SsdOutDwReferenceIdeal.main_v3) = v0 c
          ∧ r.2.mem ((c.tc : Thread Cert.SsdOutDwReferenceIdeal.nD Cert.SsdOutDwReferenceIdeal.τ).loc Cert.SsdOutDwReferenceIdeal.main_arg0) = m' ((c.tc : Thread Cert.SsdOutDwReferenceIdeal.nD Cert.SsdOutDwReferenceIdeal.τ).loc Cert.SsdOutDwReferenceIdeal.main_arg0)
          ∧ r.2.mem ((c.tc : Thread Cert.SsdOutDwReferenceIdeal.nD Cert.SsdOutDwReferenceIdeal.τ).loc Cert.SsdOutDwReferenceIdeal.main_arg1) = m' ((c.tc : Thread Cert.SsdOutDwReferenceIdeal.nD Cert.SsdOutDwReferenceIdeal.τ).loc Cert.SsdOutDwReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v6)) (v1 : (c : Dev Cert.LossIdeal.nD) → Buf (Elt Ideal) ((c.tc : Thread Cert.LossIdeal.nD Cert.LossIdeal.τ).loc Cert.LossIdeal.main_v2_0)) (v2 : (c : Dev Cert.LossIdeal.nD) → Buf (Elt Ideal) ((c.tc : Thread Cert.LossIdeal.nD Cert.LossIdeal.τ).loc Cert.LossIdeal.main_v2_1)) (v3 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6) = v0 c
          ∧ r.2.mem ((c.tc : Thread Cert.LossIdeal.nD Cert.LossIdeal.τ).loc Cert.LossIdeal.main_v2_0) = v1 c
          ∧ r.2.mem ((c.tc : Thread Cert.LossIdeal.nD Cert.LossIdeal.τ).loc Cert.LossIdeal.main_v2_1) = v2 c
          ∧ r.2.mem ((c.tc : Thread Cert.LossIdeal.nD Cert.LossIdeal.τ).loc Cert.LossIdeal.main_v2_2) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v24) = v0 c
          ∧ r.2.mem ((c.tc : Thread Cert.LossReferenceIdeal.nD Cert.LossReferenceIdeal.τ).loc Cert.LossReferenceIdeal.main_v18) = v1 c
          ∧ r.2.mem ((c.tc : Thread Cert.LossReferenceIdeal.nD Cert.LossReferenceIdeal.τ).loc Cert.LossReferenceIdeal.main_v25) = v2 c
          ∧ r.2.mem ((c.tc : Thread Cert.LossReferenceIdeal.nD Cert.LossReferenceIdeal.τ).loc Cert.LossReferenceIdeal.main_v23) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_AdamwMlp_AdamwMlpIdeal : Prop :=
  True

def algebraic_AdamwMlpIdeal_AdamwMlpReferenceIdeal [hAdamwMlpIdeal : Cert.AdamwMlpIdeal.Facts] [hAdamwMlpReferenceIdeal : Cert.AdamwMlpReferenceIdeal.Facts] : Prop :=
  ∀ (m : (ℓ : Loc Cert.AdamwMlpIdeal.nD Cert.AdamwMlpIdeal.τ Cert.AdamwMlpIdeal.sig) → Buf (Elt Ideal) ℓ) (g : Dev Cert.AdamwMlpIdeal.nD → PrngReg)
    (m' : (ℓ : Loc Cert.AdamwMlpReferenceIdeal.nD Cert.AdamwMlpReferenceIdeal.τ Cert.AdamwMlpReferenceIdeal.sig) → Buf (Elt Ideal) ℓ) (g' : Dev Cert.AdamwMlpReferenceIdeal.nD → PrngReg), Pre_AdamwMlpIdeal m →
    (∀ c : Dev Cert.AdamwMlpIdeal.nD,
      m' ((c.tc : Thread Cert.AdamwMlpReferenceIdeal.nD Cert.AdamwMlpReferenceIdeal.τ).loc Cert.AdamwMlpReferenceIdeal.main_arg0) = m ((c.tc : Thread Cert.AdamwMlpIdeal.nD Cert.AdamwMlpIdeal.τ).loc Cert.AdamwMlpIdeal.main_arg0)
      ∧ m' ((c.tc : Thread Cert.AdamwMlpReferenceIdeal.nD Cert.AdamwMlpReferenceIdeal.τ).loc Cert.AdamwMlpReferenceIdeal.main_arg1) = m ((c.tc : Thread Cert.AdamwMlpIdeal.nD Cert.AdamwMlpIdeal.τ).loc Cert.AdamwMlpIdeal.main_arg1)
      ∧ m' ((c.tc : Thread Cert.AdamwMlpReferenceIdeal.nD Cert.AdamwMlpReferenceIdeal.τ).loc Cert.AdamwMlpReferenceIdeal.main_arg2) = m ((c.tc : Thread Cert.AdamwMlpIdeal.nD Cert.AdamwMlpIdeal.τ).loc Cert.AdamwMlpIdeal.main_arg2)
      ∧ m' ((c.tc : Thread Cert.AdamwMlpReferenceIdeal.nD Cert.AdamwMlpReferenceIdeal.τ).loc Cert.AdamwMlpReferenceIdeal.main_arg3) = m ((c.tc : Thread Cert.AdamwMlpIdeal.nD Cert.AdamwMlpIdeal.τ).loc Cert.AdamwMlpIdeal.main_arg3)) →
    ∃ (v0 : (c : Dev Cert.AdamwMlpIdeal.nD) → Buf (Elt Ideal) ((c.tc : Thread Cert.AdamwMlpIdeal.nD Cert.AdamwMlpIdeal.τ).loc Cert.AdamwMlpIdeal.main_v0_0)) (v1 : (c : Dev Cert.AdamwMlpIdeal.nD) → Buf (Elt Ideal) ((c.tc : Thread Cert.AdamwMlpIdeal.nD Cert.AdamwMlpIdeal.τ).loc Cert.AdamwMlpIdeal.main_v0_1)) (v2 : (c : Dev Cert.AdamwMlpIdeal.nD) → Buf (Elt Ideal) ((c.tc : Thread Cert.AdamwMlpIdeal.nD Cert.AdamwMlpIdeal.τ).loc Cert.AdamwMlpIdeal.main_v0_2)),
      θ_run (Cert.AdamwMlpIdeal.defs (F := Ideal)) (onTc (τ := Cert.AdamwMlpIdeal.τ) (Cert.AdamwMlpIdeal.main (F := Ideal))) ⟨m, fun _ => 0, g⟩ (fun r => ∀ c : Dev Cert.AdamwMlpIdeal.nD,
          r.2.mem ((c.tc : Thread Cert.AdamwMlpIdeal.nD Cert.AdamwMlpIdeal.τ).loc Cert.AdamwMlpIdeal.main_v0_0) = v0 c
          ∧ r.2.mem ((c.tc : Thread Cert.AdamwMlpIdeal.nD Cert.AdamwMlpIdeal.τ).loc Cert.AdamwMlpIdeal.main_v0_1) = v1 c
          ∧ r.2.mem ((c.tc : Thread Cert.AdamwMlpIdeal.nD Cert.AdamwMlpIdeal.τ).loc Cert.AdamwMlpIdeal.main_v0_2) = v2 c
          ∧ r.2.mem ((c.tc : Thread Cert.AdamwMlpIdeal.nD Cert.AdamwMlpIdeal.τ).loc Cert.AdamwMlpIdeal.main_arg0) = m ((c.tc : Thread Cert.AdamwMlpIdeal.nD Cert.AdamwMlpIdeal.τ).loc Cert.AdamwMlpIdeal.main_arg0)
          ∧ r.2.mem ((c.tc : Thread Cert.AdamwMlpIdeal.nD Cert.AdamwMlpIdeal.τ).loc Cert.AdamwMlpIdeal.main_arg1) = m ((c.tc : Thread Cert.AdamwMlpIdeal.nD Cert.AdamwMlpIdeal.τ).loc Cert.AdamwMlpIdeal.main_arg1)
          ∧ r.2.mem ((c.tc : Thread Cert.AdamwMlpIdeal.nD Cert.AdamwMlpIdeal.τ).loc Cert.AdamwMlpIdeal.main_arg2) = m ((c.tc : Thread Cert.AdamwMlpIdeal.nD Cert.AdamwMlpIdeal.τ).loc Cert.AdamwMlpIdeal.main_arg2)
          ∧ r.2.mem ((c.tc : Thread Cert.AdamwMlpIdeal.nD Cert.AdamwMlpIdeal.τ).loc Cert.AdamwMlpIdeal.main_arg3) = m ((c.tc : Thread Cert.AdamwMlpIdeal.nD Cert.AdamwMlpIdeal.τ).loc Cert.AdamwMlpIdeal.main_arg3))
      ∧ θ_run (Cert.AdamwMlpReferenceIdeal.defs (F := Ideal)) (onTc (τ := Cert.AdamwMlpReferenceIdeal.τ) (Cert.AdamwMlpReferenceIdeal.main (F := Ideal))) ⟨m', fun _ => 0, g'⟩ (fun r => ∀ c : Dev Cert.AdamwMlpReferenceIdeal.nD,
          r.2.mem ((c.tc : Thread Cert.AdamwMlpReferenceIdeal.nD Cert.AdamwMlpReferenceIdeal.τ).loc Cert.AdamwMlpReferenceIdeal.main_v23) = v0 c
          ∧ r.2.mem ((c.tc : Thread Cert.AdamwMlpReferenceIdeal.nD Cert.AdamwMlpReferenceIdeal.τ).loc Cert.AdamwMlpReferenceIdeal.main_v4) = v1 c
          ∧ r.2.mem ((c.tc : Thread Cert.AdamwMlpReferenceIdeal.nD Cert.AdamwMlpReferenceIdeal.τ).loc Cert.AdamwMlpReferenceIdeal.main_v10) = v2 c
          ∧ r.2.mem ((c.tc : Thread Cert.AdamwMlpReferenceIdeal.nD Cert.AdamwMlpReferenceIdeal.τ).loc Cert.AdamwMlpReferenceIdeal.main_arg0) = m' ((c.tc : Thread Cert.AdamwMlpReferenceIdeal.nD Cert.AdamwMlpReferenceIdeal.τ).loc Cert.AdamwMlpReferenceIdeal.main_arg0)
          ∧ r.2.mem ((c.tc : Thread Cert.AdamwMlpReferenceIdeal.nD Cert.AdamwMlpReferenceIdeal.τ).loc Cert.AdamwMlpReferenceIdeal.main_arg1) = m' ((c.tc : Thread Cert.AdamwMlpReferenceIdeal.nD Cert.AdamwMlpReferenceIdeal.τ).loc Cert.AdamwMlpReferenceIdeal.main_arg1)
          ∧ r.2.mem ((c.tc : Thread Cert.AdamwMlpReferenceIdeal.nD Cert.AdamwMlpReferenceIdeal.τ).loc Cert.AdamwMlpReferenceIdeal.main_arg2) = m' ((c.tc : Thread Cert.AdamwMlpReferenceIdeal.nD Cert.AdamwMlpReferenceIdeal.τ).loc Cert.AdamwMlpReferenceIdeal.main_arg2)
          ∧ r.2.mem ((c.tc : Thread Cert.AdamwMlpReferenceIdeal.nD Cert.AdamwMlpReferenceIdeal.τ).loc Cert.AdamwMlpReferenceIdeal.main_arg3) = m' ((c.tc : Thread Cert.AdamwMlpReferenceIdeal.nD Cert.AdamwMlpReferenceIdeal.τ).loc Cert.AdamwMlpReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v23) = v0 c
          ∧ r.2.mem ((c.tc : Thread Cert.AdamwOutReferenceIdeal.nD Cert.AdamwOutReferenceIdeal.τ).loc Cert.AdamwOutReferenceIdeal.main_v4) = v1 c
          ∧ r.2.mem ((c.tc : Thread Cert.AdamwOutReferenceIdeal.nD Cert.AdamwOutReferenceIdeal.τ).loc Cert.AdamwOutReferenceIdeal.main_v10) = v2 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwSsd_AdamwSsdIdeal : Prop :=
  True

def algebraic_AdamwSsdIdeal_AdamwSsdReferenceIdeal [hAdamwSsdIdeal : Cert.AdamwSsdIdeal.Facts] [hAdamwSsdReferenceIdeal : Cert.AdamwSsdReferenceIdeal.Facts] : Prop :=
  ∀ (m : (ℓ : Loc Cert.AdamwSsdIdeal.nD Cert.AdamwSsdIdeal.τ Cert.AdamwSsdIdeal.sig) → Buf (Elt Ideal) ℓ) (g : Dev Cert.AdamwSsdIdeal.nD → PrngReg)
    (m' : (ℓ : Loc Cert.AdamwSsdReferenceIdeal.nD Cert.AdamwSsdReferenceIdeal.τ Cert.AdamwSsdReferenceIdeal.sig) → Buf (Elt Ideal) ℓ) (g' : Dev Cert.AdamwSsdReferenceIdeal.nD → PrngReg), Pre_AdamwSsdIdeal m →
    (∀ c : Dev Cert.AdamwSsdIdeal.nD,
      m' ((c.tc : Thread Cert.AdamwSsdReferenceIdeal.nD Cert.AdamwSsdReferenceIdeal.τ).loc Cert.AdamwSsdReferenceIdeal.main_arg0) = m ((c.tc : Thread Cert.AdamwSsdIdeal.nD Cert.AdamwSsdIdeal.τ).loc Cert.AdamwSsdIdeal.main_arg0)
      ∧ m' ((c.tc : Thread Cert.AdamwSsdReferenceIdeal.nD Cert.AdamwSsdReferenceIdeal.τ).loc Cert.AdamwSsdReferenceIdeal.main_arg1) = m ((c.tc : Thread Cert.AdamwSsdIdeal.nD Cert.AdamwSsdIdeal.τ).loc Cert.AdamwSsdIdeal.main_arg1)
      ∧ m' ((c.tc : Thread Cert.AdamwSsdReferenceIdeal.nD Cert.AdamwSsdReferenceIdeal.τ).loc Cert.AdamwSsdReferenceIdeal.main_arg2) = m ((c.tc : Thread Cert.AdamwSsdIdeal.nD Cert.AdamwSsdIdeal.τ).loc Cert.AdamwSsdIdeal.main_arg2)
      ∧ m' ((c.tc : Thread Cert.AdamwSsdReferenceIdeal.nD Cert.AdamwSsdReferenceIdeal.τ).loc Cert.AdamwSsdReferenceIdeal.main_arg3) = m ((c.tc : Thread Cert.AdamwSsdIdeal.nD Cert.AdamwSsdIdeal.τ).loc Cert.AdamwSsdIdeal.main_arg3)) →
    ∃ (v0 : (c : Dev Cert.AdamwSsdIdeal.nD) → Buf (Elt Ideal) ((c.tc : Thread Cert.AdamwSsdIdeal.nD Cert.AdamwSsdIdeal.τ).loc Cert.AdamwSsdIdeal.main_v0_0)) (v1 : (c : Dev Cert.AdamwSsdIdeal.nD) → Buf (Elt Ideal) ((c.tc : Thread Cert.AdamwSsdIdeal.nD Cert.AdamwSsdIdeal.τ).loc Cert.AdamwSsdIdeal.main_v0_1)) (v2 : (c : Dev Cert.AdamwSsdIdeal.nD) → Buf (Elt Ideal) ((c.tc : Thread Cert.AdamwSsdIdeal.nD Cert.AdamwSsdIdeal.τ).loc Cert.AdamwSsdIdeal.main_v0_2)),
      θ_run (Cert.AdamwSsdIdeal.defs (F := Ideal)) (onTc (τ := Cert.AdamwSsdIdeal.τ) (Cert.AdamwSsdIdeal.main (F := Ideal))) ⟨m, fun _ => 0, g⟩ (fun r => ∀ c : Dev Cert.AdamwSsdIdeal.nD,
          r.2.mem ((c.tc : Thread Cert.AdamwSsdIdeal.nD Cert.AdamwSsdIdeal.τ).loc Cert.AdamwSsdIdeal.main_v0_0) = v0 c
          ∧ r.2.mem ((c.tc : Thread Cert.AdamwSsdIdeal.nD Cert.AdamwSsdIdeal.τ).loc Cert.AdamwSsdIdeal.main_v0_1) = v1 c
          ∧ r.2.mem ((c.tc : Thread Cert.AdamwSsdIdeal.nD Cert.AdamwSsdIdeal.τ).loc Cert.AdamwSsdIdeal.main_v0_2) = v2 c
          ∧ r.2.mem ((c.tc : Thread Cert.AdamwSsdIdeal.nD Cert.AdamwSsdIdeal.τ).loc Cert.AdamwSsdIdeal.main_arg0) = m ((c.tc : Thread Cert.AdamwSsdIdeal.nD Cert.AdamwSsdIdeal.τ).loc Cert.AdamwSsdIdeal.main_arg0)
          ∧ r.2.mem ((c.tc : Thread Cert.AdamwSsdIdeal.nD Cert.AdamwSsdIdeal.τ).loc Cert.AdamwSsdIdeal.main_arg1) = m ((c.tc : Thread Cert.AdamwSsdIdeal.nD Cert.AdamwSsdIdeal.τ).loc Cert.AdamwSsdIdeal.main_arg1)
          ∧ r.2.mem ((c.tc : Thread Cert.AdamwSsdIdeal.nD Cert.AdamwSsdIdeal.τ).loc Cert.AdamwSsdIdeal.main_arg2) = m ((c.tc : Thread Cert.AdamwSsdIdeal.nD Cert.AdamwSsdIdeal.τ).loc Cert.AdamwSsdIdeal.main_arg2)
          ∧ r.2.mem ((c.tc : Thread Cert.AdamwSsdIdeal.nD Cert.AdamwSsdIdeal.τ).loc Cert.AdamwSsdIdeal.main_arg3) = m ((c.tc : Thread Cert.AdamwSsdIdeal.nD Cert.AdamwSsdIdeal.τ).loc Cert.AdamwSsdIdeal.main_arg3))
      ∧ θ_run (Cert.AdamwSsdReferenceIdeal.defs (F := Ideal)) (onTc (τ := Cert.AdamwSsdReferenceIdeal.τ) (Cert.AdamwSsdReferenceIdeal.main (F := Ideal))) ⟨m', fun _ => 0, g'⟩ (fun r => ∀ c : Dev Cert.AdamwSsdReferenceIdeal.nD,
          r.2.mem ((c.tc : Thread Cert.AdamwSsdReferenceIdeal.nD Cert.AdamwSsdReferenceIdeal.τ).loc Cert.AdamwSsdReferenceIdeal.main_v23) = v0 c
          ∧ r.2.mem ((c.tc : Thread Cert.AdamwSsdReferenceIdeal.nD Cert.AdamwSsdReferenceIdeal.τ).loc Cert.AdamwSsdReferenceIdeal.main_v4) = v1 c
          ∧ r.2.mem ((c.tc : Thread Cert.AdamwSsdReferenceIdeal.nD Cert.AdamwSsdReferenceIdeal.τ).loc Cert.AdamwSsdReferenceIdeal.main_v10) = v2 c
          ∧ r.2.mem ((c.tc : Thread Cert.AdamwSsdReferenceIdeal.nD Cert.AdamwSsdReferenceIdeal.τ).loc Cert.AdamwSsdReferenceIdeal.main_arg0) = m' ((c.tc : Thread Cert.AdamwSsdReferenceIdeal.nD Cert.AdamwSsdReferenceIdeal.τ).loc Cert.AdamwSsdReferenceIdeal.main_arg0)
          ∧ r.2.mem ((c.tc : Thread Cert.AdamwSsdReferenceIdeal.nD Cert.AdamwSsdReferenceIdeal.τ).loc Cert.AdamwSsdReferenceIdeal.main_arg1) = m' ((c.tc : Thread Cert.AdamwSsdReferenceIdeal.nD Cert.AdamwSsdReferenceIdeal.τ).loc Cert.AdamwSsdReferenceIdeal.main_arg1)
          ∧ r.2.mem ((c.tc : Thread Cert.AdamwSsdReferenceIdeal.nD Cert.AdamwSsdReferenceIdeal.τ).loc Cert.AdamwSsdReferenceIdeal.main_arg2) = m' ((c.tc : Thread Cert.AdamwSsdReferenceIdeal.nD Cert.AdamwSsdReferenceIdeal.τ).loc Cert.AdamwSsdReferenceIdeal.main_arg2)
          ∧ r.2.mem ((c.tc : Thread Cert.AdamwSsdReferenceIdeal.nD Cert.AdamwSsdReferenceIdeal.τ).loc Cert.AdamwSsdReferenceIdeal.main_arg3) = m' ((c.tc : Thread Cert.AdamwSsdReferenceIdeal.nD Cert.AdamwSsdReferenceIdeal.τ).loc Cert.AdamwSsdReferenceIdeal.main_arg3))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v23) = v0 c
          ∧ r.2.mem ((c.tc : Thread Cert.AdamwInReferenceIdeal.nD Cert.AdamwInReferenceIdeal.τ).loc Cert.AdamwInReferenceIdeal.main_v4) = v1 c
          ∧ r.2.mem ((c.tc : Thread Cert.AdamwInReferenceIdeal.nD Cert.AdamwInReferenceIdeal.τ).loc Cert.AdamwInReferenceIdeal.main_v10) = v2 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwAda_AdamwAdaIdeal : Prop :=
  True

def algebraic_AdamwAdaIdeal_AdamwAdaReferenceIdeal [hAdamwAdaIdeal : Cert.AdamwAdaIdeal.Facts] [hAdamwAdaReferenceIdeal : Cert.AdamwAdaReferenceIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg)
    (m' : (ℓ : Loc Cert.AdamwAdaReferenceIdeal.nD Cert.AdamwAdaReferenceIdeal.τ Cert.AdamwAdaReferenceIdeal.sig) → Buf (Elt Ideal) ℓ) (g' : Dev Cert.AdamwAdaReferenceIdeal.nD → PrngReg), Pre_AdamwAdaIdeal m →
    (∀ c : Dev Cert.AdamwAdaIdeal.nD,
      m' ((c.tc : Thread Cert.AdamwAdaReferenceIdeal.nD Cert.AdamwAdaReferenceIdeal.τ).loc Cert.AdamwAdaReferenceIdeal.main_arg0) = m ((c.tc : Thread Cert.AdamwAdaIdeal.nD Cert.AdamwAdaIdeal.τ).loc Cert.AdamwAdaIdeal.main_arg0)
      ∧ m' ((c.tc : Thread Cert.AdamwAdaReferenceIdeal.nD Cert.AdamwAdaReferenceIdeal.τ).loc Cert.AdamwAdaReferenceIdeal.main_arg1) = m ((c.tc : Thread Cert.AdamwAdaIdeal.nD Cert.AdamwAdaIdeal.τ).loc Cert.AdamwAdaIdeal.main_arg1)
      ∧ m' ((c.tc : Thread Cert.AdamwAdaReferenceIdeal.nD Cert.AdamwAdaReferenceIdeal.τ).loc Cert.AdamwAdaReferenceIdeal.main_arg2) = m ((c.tc : Thread Cert.AdamwAdaIdeal.nD Cert.AdamwAdaIdeal.τ).loc Cert.AdamwAdaIdeal.main_arg2)
      ∧ m' ((c.tc : Thread Cert.AdamwAdaReferenceIdeal.nD Cert.AdamwAdaReferenceIdeal.τ).loc Cert.AdamwAdaReferenceIdeal.main_arg3) = m ((c.tc : Thread Cert.AdamwAdaIdeal.nD Cert.AdamwAdaIdeal.τ).loc Cert.AdamwAdaIdeal.main_arg3)) →
    ∃ (v0 : (c : Dev Cert.AdamwAdaIdeal.nD) → Buf (Elt Ideal) ((c.tc : Thread Cert.AdamwAdaIdeal.nD Cert.AdamwAdaIdeal.τ).loc Cert.AdamwAdaIdeal.main_v0_0)) (v1 : (c : Dev Cert.AdamwAdaIdeal.nD) → Buf (Elt Ideal) ((c.tc : Thread Cert.AdamwAdaIdeal.nD Cert.AdamwAdaIdeal.τ).loc Cert.AdamwAdaIdeal.main_v0_1)) (v2 : (c : Dev Cert.AdamwAdaIdeal.nD) → Buf (Elt Ideal) ((c.tc : Thread Cert.AdamwAdaIdeal.nD Cert.AdamwAdaIdeal.τ).loc Cert.AdamwAdaIdeal.main_v0_2)),
      θ_run (Cert.AdamwAdaIdeal.defs (F := Ideal)) (onTc (τ := Cert.AdamwAdaIdeal.τ) (Cert.AdamwAdaIdeal.main (F := Ideal))) ⟨m, fun _ => 0, g⟩ (fun r => ∀ c : Dev Cert.AdamwAdaIdeal.nD,
          r.2.mem ((c.tc : Thread Cert.AdamwAdaIdeal.nD Cert.AdamwAdaIdeal.τ).loc Cert.AdamwAdaIdeal.main_v0_0) = v0 c
          ∧ r.2.mem ((c.tc : Thread Cert.AdamwAdaIdeal.nD Cert.AdamwAdaIdeal.τ).loc Cert.AdamwAdaIdeal.main_v0_1) = v1 c
          ∧ r.2.mem ((c.tc : Thread Cert.AdamwAdaIdeal.nD Cert.AdamwAdaIdeal.τ).loc Cert.AdamwAdaIdeal.main_v0_2) = v2 c
          ∧ r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
          ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
          ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
          ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ θ_run (Cert.AdamwAdaReferenceIdeal.defs (F := Ideal)) (onTc (τ := Cert.AdamwAdaReferenceIdeal.τ) (Cert.AdamwAdaReferenceIdeal.main (F := Ideal))) ⟨m', fun _ => 0, g'⟩ (fun r => ∀ c : Dev Cert.AdamwAdaReferenceIdeal.nD,
          r.2.mem ((c.tc : Thread Cert.AdamwAdaReferenceIdeal.nD Cert.AdamwAdaReferenceIdeal.τ).loc Cert.AdamwAdaReferenceIdeal.main_v23) = v0 c
          ∧ r.2.mem ((c.tc : Thread Cert.AdamwAdaReferenceIdeal.nD Cert.AdamwAdaReferenceIdeal.τ).loc Cert.AdamwAdaReferenceIdeal.main_v4) = v1 c
          ∧ r.2.mem ((c.tc : Thread Cert.AdamwAdaReferenceIdeal.nD Cert.AdamwAdaReferenceIdeal.τ).loc Cert.AdamwAdaReferenceIdeal.main_v10) = v2 c
          ∧ r.2.mem ((c.tc : Thread Cert.AdamwAdaReferenceIdeal.nD Cert.AdamwAdaReferenceIdeal.τ).loc Cert.AdamwAdaReferenceIdeal.main_arg0) = m' ((c.tc : Thread Cert.AdamwAdaReferenceIdeal.nD Cert.AdamwAdaReferenceIdeal.τ).loc Cert.AdamwAdaReferenceIdeal.main_arg0)
          ∧ r.2.mem ((c.tc : Thread Cert.AdamwAdaReferenceIdeal.nD Cert.AdamwAdaReferenceIdeal.τ).loc Cert.AdamwAdaReferenceIdeal.main_arg1) = m' ((c.tc : Thread Cert.AdamwAdaReferenceIdeal.nD Cert.AdamwAdaReferenceIdeal.τ).loc Cert.AdamwAdaReferenceIdeal.main_arg1)
          ∧ r.2.mem ((c.tc : Thread Cert.AdamwAdaReferenceIdeal.nD Cert.AdamwAdaReferenceIdeal.τ).loc Cert.AdamwAdaReferenceIdeal.main_arg2) = m' ((c.tc : Thread Cert.AdamwAdaReferenceIdeal.nD Cert.AdamwAdaReferenceIdeal.τ).loc Cert.AdamwAdaReferenceIdeal.main_arg2)
          ∧ r.2.mem ((c.tc : Thread Cert.AdamwAdaReferenceIdeal.nD Cert.AdamwAdaReferenceIdeal.τ).loc Cert.AdamwAdaReferenceIdeal.main_arg3) = m' ((c.tc : Thread Cert.AdamwAdaReferenceIdeal.nD Cert.AdamwAdaReferenceIdeal.τ).loc Cert.AdamwAdaReferenceIdeal.main_arg3))

def preserves_AdamwConv_AdamwConvIdeal : Prop :=
  True

def algebraic_AdamwConvIdeal_AdamwConvReferenceIdeal [hAdamwConvIdeal : Cert.AdamwConvIdeal.Facts] [hAdamwConvReferenceIdeal : Cert.AdamwConvReferenceIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvReferenceIdeal.nD Cert.AdamwConvReferenceIdeal.τ Cert.AdamwConvReferenceIdeal.sig) → Buf (Elt Ideal) ℓ) (g' : Dev Cert.AdamwConvReferenceIdeal.nD → PrngReg), Pre_AdamwConvIdeal m →
    (∀ c : Dev Cert.AdamwConvIdeal.nD,
      m' ((c.tc : Thread Cert.AdamwConvReferenceIdeal.nD Cert.AdamwConvReferenceIdeal.τ).loc Cert.AdamwConvReferenceIdeal.main_arg0) = m ((c.tc : Thread Cert.AdamwConvIdeal.nD Cert.AdamwConvIdeal.τ).loc Cert.AdamwConvIdeal.main_arg0)
      ∧ m' ((c.tc : Thread Cert.AdamwConvReferenceIdeal.nD Cert.AdamwConvReferenceIdeal.τ).loc Cert.AdamwConvReferenceIdeal.main_arg1) = m ((c.tc : Thread Cert.AdamwConvIdeal.nD Cert.AdamwConvIdeal.τ).loc Cert.AdamwConvIdeal.main_arg1)
      ∧ m' ((c.tc : Thread Cert.AdamwConvReferenceIdeal.nD Cert.AdamwConvReferenceIdeal.τ).loc Cert.AdamwConvReferenceIdeal.main_arg2) = m ((c.tc : Thread Cert.AdamwConvIdeal.nD Cert.AdamwConvIdeal.τ).loc Cert.AdamwConvIdeal.main_arg2)
      ∧ m' ((c.tc : Thread Cert.AdamwConvReferenceIdeal.nD Cert.AdamwConvReferenceIdeal.τ).loc Cert.AdamwConvReferenceIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v0_0)) (v1 : (c : Dev Cert.AdamwConvIdeal.nD) → Buf (Elt Ideal) ((c.tc : Thread Cert.AdamwConvIdeal.nD Cert.AdamwConvIdeal.τ).loc Cert.AdamwConvIdeal.main_v0_1)) (v2 : (c : Dev Cert.AdamwConvIdeal.nD) → Buf (Elt Ideal) ((c.tc : Thread Cert.AdamwConvIdeal.nD Cert.AdamwConvIdeal.τ).loc Cert.AdamwConvIdeal.main_v0_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v0_0) = v0 c
          ∧ r.2.mem ((c.tc : Thread Cert.AdamwConvIdeal.nD Cert.AdamwConvIdeal.τ).loc Cert.AdamwConvIdeal.main_v0_1) = v1 c
          ∧ r.2.mem ((c.tc : Thread Cert.AdamwConvIdeal.nD Cert.AdamwConvIdeal.τ).loc Cert.AdamwConvIdeal.main_v0_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvReferenceIdeal.defs (F := Ideal)) (onTc (τ := Cert.AdamwConvReferenceIdeal.τ) (Cert.AdamwConvReferenceIdeal.main (F := Ideal))) ⟨m', fun _ => 0, g'⟩ (fun r => ∀ c : Dev Cert.AdamwConvReferenceIdeal.nD,
          r.2.mem ((c.tc : Thread Cert.AdamwConvReferenceIdeal.nD Cert.AdamwConvReferenceIdeal.τ).loc Cert.AdamwConvReferenceIdeal.main_v23) = v0 c
          ∧ r.2.mem ((c.tc : Thread Cert.AdamwConvReferenceIdeal.nD Cert.AdamwConvReferenceIdeal.τ).loc Cert.AdamwConvReferenceIdeal.main_v4) = v1 c
          ∧ r.2.mem ((c.tc : Thread Cert.AdamwConvReferenceIdeal.nD Cert.AdamwConvReferenceIdeal.τ).loc Cert.AdamwConvReferenceIdeal.main_v10) = v2 c
          ∧ r.2.mem ((c.tc : Thread Cert.AdamwConvReferenceIdeal.nD Cert.AdamwConvReferenceIdeal.τ).loc Cert.AdamwConvReferenceIdeal.main_arg0) = m' ((c.tc : Thread Cert.AdamwConvReferenceIdeal.nD Cert.AdamwConvReferenceIdeal.τ).loc Cert.AdamwConvReferenceIdeal.main_arg0)
          ∧ r.2.mem ((c.tc : Thread Cert.AdamwConvReferenceIdeal.nD Cert.AdamwConvReferenceIdeal.τ).loc Cert.AdamwConvReferenceIdeal.main_arg1) = m' ((c.tc : Thread Cert.AdamwConvReferenceIdeal.nD Cert.AdamwConvReferenceIdeal.τ).loc Cert.AdamwConvReferenceIdeal.main_arg1)
          ∧ r.2.mem ((c.tc : Thread Cert.AdamwConvReferenceIdeal.nD Cert.AdamwConvReferenceIdeal.τ).loc Cert.AdamwConvReferenceIdeal.main_arg2) = m' ((c.tc : Thread Cert.AdamwConvReferenceIdeal.nD Cert.AdamwConvReferenceIdeal.τ).loc Cert.AdamwConvReferenceIdeal.main_arg2)
          ∧ r.2.mem ((c.tc : Thread Cert.AdamwConvReferenceIdeal.nD Cert.AdamwConvReferenceIdeal.τ).loc Cert.AdamwConvReferenceIdeal.main_arg3) = m' ((c.tc : Thread Cert.AdamwConvReferenceIdeal.nD Cert.AdamwConvReferenceIdeal.τ).loc Cert.AdamwConvReferenceIdeal.main_arg3))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v11_2)) (v2 : (c : Dev Cert.MergeIdeal.nD) → Buf (Elt Ideal) ((c.tc : Thread Cert.MergeIdeal.nD Cert.MergeIdeal.τ).loc Cert.MergeIdeal.main_v11_3)) (v3 : (c : Dev Cert.MergeIdeal.nD) → Buf (Elt Ideal) ((c.tc : Thread Cert.MergeIdeal.nD Cert.MergeIdeal.τ).loc Cert.MergeIdeal.main_v12)) (v4 : (c : Dev Cert.MergeIdeal.nD) → Buf (Elt Ideal) ((c.tc : Thread Cert.MergeIdeal.nD Cert.MergeIdeal.τ).loc Cert.MergeIdeal.main_v13)) (v5 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v11_2) = v1 c
          ∧ r.2.mem ((c.tc : Thread Cert.MergeIdeal.nD Cert.MergeIdeal.τ).loc Cert.MergeIdeal.main_v11_3) = v2 c
          ∧ r.2.mem ((c.tc : Thread Cert.MergeIdeal.nD Cert.MergeIdeal.τ).loc Cert.MergeIdeal.main_v12) = v3 c
          ∧ r.2.mem ((c.tc : Thread Cert.MergeIdeal.nD Cert.MergeIdeal.τ).loc Cert.MergeIdeal.main_v13) = v4 c
          ∧ r.2.mem ((c.tc : Thread Cert.MergeIdeal.nD Cert.MergeIdeal.τ).loc Cert.MergeIdeal.main_v14) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v42) = v0 c
          ∧ r.2.mem ((c.tc : Thread Cert.MergeReferenceIdeal.nD Cert.MergeReferenceIdeal.τ).loc Cert.MergeReferenceIdeal.main_v44) = v1 c
          ∧ r.2.mem ((c.tc : Thread Cert.MergeReferenceIdeal.nD Cert.MergeReferenceIdeal.τ).loc Cert.MergeReferenceIdeal.main_v46) = v2 c
          ∧ r.2.mem ((c.tc : Thread Cert.MergeReferenceIdeal.nD Cert.MergeReferenceIdeal.τ).loc Cert.MergeReferenceIdeal.main_v48) = v3 c
          ∧ r.2.mem ((c.tc : Thread Cert.MergeReferenceIdeal.nD Cert.MergeReferenceIdeal.τ).loc Cert.MergeReferenceIdeal.main_v33) = v4 c
          ∧ r.2.mem ((c.tc : Thread Cert.MergeReferenceIdeal.nD Cert.MergeReferenceIdeal.τ).loc Cert.MergeReferenceIdeal.main_v49) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def Claim : Prop :=
  ∃ (hKernel : Cert.Kernel.Facts) (hKernelIdeal : Cert.KernelIdeal.Facts) (hReferenceIdeal : Cert.ReferenceIdeal.Facts) (hFlashFwd : Cert.FlashFwd.Facts) (hFlashFwdIdeal : Cert.FlashFwdIdeal.Facts) (hFlashFwdReferenceIdeal : Cert.FlashFwdReferenceIdeal.Facts) (hMlp : Cert.Mlp.Facts) (hMlpIdeal : Cert.MlpIdeal.Facts) (hMlpReferenceIdeal : Cert.MlpReferenceIdeal.Facts) (hProjDw : Cert.ProjDw.Facts) (hProjDwIdeal : Cert.ProjDwIdeal.Facts) (hProjDwReferenceIdeal : Cert.ProjDwReferenceIdeal.Facts) (hProj : Cert.Proj.Facts) (hProjIdeal : Cert.ProjIdeal.Facts) (hProjReferenceIdeal : Cert.ProjReferenceIdeal.Facts) (hMlpDwTwo : Cert.MlpDwTwo.Facts) (hMlpDwTwoIdeal : Cert.MlpDwTwoIdeal.Facts) (hMlpDwTwoReferenceIdeal : Cert.MlpDwTwoReferenceIdeal.Facts) (hMlpDwOne : Cert.MlpDwOne.Facts) (hMlpDwOneIdeal : Cert.MlpDwOneIdeal.Facts) (hMlpDwOneReferenceIdeal : Cert.MlpDwOneReferenceIdeal.Facts) (hSsdOutDw : Cert.SsdOutDw.Facts) (hSsdOutDwIdeal : Cert.SsdOutDwIdeal.Facts) (hSsdOutDwReferenceIdeal : Cert.SsdOutDwReferenceIdeal.Facts) (hOutDw : Cert.OutDw.Facts) (hOutDwIdeal : Cert.OutDwIdeal.Facts) (hOutDwReferenceIdeal : Cert.OutDwReferenceIdeal.Facts) (hLoss : Cert.Loss.Facts) (hLossIdeal : Cert.LossIdeal.Facts) (hLossReferenceIdeal : Cert.LossReferenceIdeal.Facts) (hAdamwMlp : Cert.AdamwMlp.Facts) (hAdamwMlpIdeal : Cert.AdamwMlpIdeal.Facts) (hAdamwMlpReferenceIdeal : Cert.AdamwMlpReferenceIdeal.Facts) (hAdamwOut : Cert.AdamwOut.Facts) (hAdamwOutIdeal : Cert.AdamwOutIdeal.Facts) (hAdamwOutReferenceIdeal : Cert.AdamwOutReferenceIdeal.Facts) (hAdamwSsd : Cert.AdamwSsd.Facts) (hAdamwSsdIdeal : Cert.AdamwSsdIdeal.Facts) (hAdamwSsdReferenceIdeal : Cert.AdamwSsdReferenceIdeal.Facts) (hAdamwIn : Cert.AdamwIn.Facts) (hAdamwInIdeal : Cert.AdamwInIdeal.Facts) (hAdamwInReferenceIdeal : Cert.AdamwInReferenceIdeal.Facts) (hAdamwAda : Cert.AdamwAda.Facts) (hAdamwAdaIdeal : Cert.AdamwAdaIdeal.Facts) (hAdamwAdaReferenceIdeal : Cert.AdamwAdaReferenceIdeal.Facts) (hAdamwConv : Cert.AdamwConv.Facts) (hAdamwConvIdeal : Cert.AdamwConvIdeal.Facts) (hAdamwConvReferenceIdeal : Cert.AdamwConvReferenceIdeal.Facts) (hAdamwSmall : Cert.AdamwSmall.Facts) (hAdamwSmallIdeal : Cert.AdamwSmallIdeal.Facts) (hAdamwSmallReferenceIdeal : Cert.AdamwSmallReferenceIdeal.Facts) (hMerge : Cert.Merge.Facts) (hMergeIdeal : Cert.MergeIdeal.Facts) (hMergeReferenceIdeal : Cert.MergeReferenceIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FlashFwd (hFlashFwd := hFlashFwd)
    ∧ quiescent_FlashFwdIdeal (hFlashFwdIdeal := hFlashFwdIdeal)
    ∧ quiescent_FlashFwdIdeal_pre_finite_qk (hFlashFwdIdeal := hFlashFwdIdeal) (hPre_finite_qk := hPre_finite_qk)
    ∧ quiescent_FlashFwdReferenceIdeal (hFlashFwdReferenceIdeal := hFlashFwdReferenceIdeal)
    ∧ quiescent_FlashFwdReferenceIdeal_pre_finite_qk (hFlashFwdReferenceIdeal := hFlashFwdReferenceIdeal) (hPre_finite_qk := hPre_finite_qk)
    ∧ quiescent_Mlp (hMlp := hMlp)
    ∧ quiescent_MlpIdeal (hMlpIdeal := hMlpIdeal)
    ∧ quiescent_MlpReferenceIdeal (hMlpReferenceIdeal := hMlpReferenceIdeal)
    ∧ quiescent_ProjDw (hProjDw := hProjDw)
    ∧ quiescent_ProjDwIdeal (hProjDwIdeal := hProjDwIdeal)
    ∧ quiescent_ProjDwReferenceIdeal (hProjDwReferenceIdeal := hProjDwReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_MlpDwTwo (hMlpDwTwo := hMlpDwTwo)
    ∧ quiescent_MlpDwTwoIdeal (hMlpDwTwoIdeal := hMlpDwTwoIdeal)
    ∧ quiescent_MlpDwTwoReferenceIdeal (hMlpDwTwoReferenceIdeal := hMlpDwTwoReferenceIdeal)
    ∧ quiescent_MlpDwOne (hMlpDwOne := hMlpDwOne)
    ∧ quiescent_MlpDwOneIdeal (hMlpDwOneIdeal := hMlpDwOneIdeal)
    ∧ quiescent_MlpDwOneReferenceIdeal (hMlpDwOneReferenceIdeal := hMlpDwOneReferenceIdeal)
    ∧ quiescent_SsdOutDw (hSsdOutDw := hSsdOutDw)
    ∧ quiescent_SsdOutDwIdeal (hSsdOutDwIdeal := hSsdOutDwIdeal)
    ∧ quiescent_SsdOutDwReferenceIdeal (hSsdOutDwReferenceIdeal := hSsdOutDwReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamwMlp (hAdamwMlp := hAdamwMlp)
    ∧ quiescent_AdamwMlpIdeal (hAdamwMlpIdeal := hAdamwMlpIdeal)
    ∧ quiescent_AdamwMlpReferenceIdeal (hAdamwMlpReferenceIdeal := hAdamwMlpReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwSsd (hAdamwSsd := hAdamwSsd)
    ∧ quiescent_AdamwSsdIdeal (hAdamwSsdIdeal := hAdamwSsdIdeal)
    ∧ quiescent_AdamwSsdReferenceIdeal (hAdamwSsdReferenceIdeal := hAdamwSsdReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwAda (hAdamwAda := hAdamwAda)
    ∧ quiescent_AdamwAdaIdeal (hAdamwAdaIdeal := hAdamwAdaIdeal)
    ∧ quiescent_AdamwAdaReferenceIdeal (hAdamwAdaReferenceIdeal := hAdamwAdaReferenceIdeal)
    ∧ quiescent_AdamwConv (hAdamwConv := hAdamwConv)
    ∧ quiescent_AdamwConvIdeal (hAdamwConvIdeal := hAdamwConvIdeal)
    ∧ quiescent_AdamwConvReferenceIdeal (hAdamwConvReferenceIdeal := hAdamwConvReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FlashFwd_FlashFwdIdeal
    ∧ algebraic_FlashFwdIdeal_FlashFwdReferenceIdeal_pre_finite_qk (hFlashFwdIdeal := hFlashFwdIdeal) (hFlashFwdReferenceIdeal := hFlashFwdReferenceIdeal) (hPre_finite_qk := hPre_finite_qk)
    ∧ preserves_Mlp_MlpIdeal
    ∧ algebraic_MlpIdeal_MlpReferenceIdeal (hMlpIdeal := hMlpIdeal) (hMlpReferenceIdeal := hMlpReferenceIdeal)
    ∧ preserves_ProjDw_ProjDwIdeal
    ∧ algebraic_ProjDwIdeal_ProjDwReferenceIdeal (hProjDwIdeal := hProjDwIdeal) (hProjDwReferenceIdeal := hProjDwReferenceIdeal)
    ∧ preserves_Proj_ProjIdeal
    ∧ algebraic_ProjIdeal_ProjReferenceIdeal (hProjIdeal := hProjIdeal) (hProjReferenceIdeal := hProjReferenceIdeal)
    ∧ preserves_MlpDwTwo_MlpDwTwoIdeal
    ∧ algebraic_MlpDwTwoIdeal_MlpDwTwoReferenceIdeal (hMlpDwTwoIdeal := hMlpDwTwoIdeal) (hMlpDwTwoReferenceIdeal := hMlpDwTwoReferenceIdeal)
    ∧ preserves_MlpDwOne_MlpDwOneIdeal
    ∧ algebraic_MlpDwOneIdeal_MlpDwOneReferenceIdeal (hMlpDwOneIdeal := hMlpDwOneIdeal) (hMlpDwOneReferenceIdeal := hMlpDwOneReferenceIdeal)
    ∧ preserves_SsdOutDw_SsdOutDwIdeal
    ∧ algebraic_SsdOutDwIdeal_SsdOutDwReferenceIdeal (hSsdOutDwIdeal := hSsdOutDwIdeal) (hSsdOutDwReferenceIdeal := hSsdOutDwReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Loss_LossIdeal
    ∧ algebraic_LossIdeal_LossReferenceIdeal (hLossIdeal := hLossIdeal) (hLossReferenceIdeal := hLossReferenceIdeal)
    ∧ preserves_AdamwMlp_AdamwMlpIdeal
    ∧ algebraic_AdamwMlpIdeal_AdamwMlpReferenceIdeal (hAdamwMlpIdeal := hAdamwMlpIdeal) (hAdamwMlpReferenceIdeal := hAdamwMlpReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwSsd_AdamwSsdIdeal
    ∧ algebraic_AdamwSsdIdeal_AdamwSsdReferenceIdeal (hAdamwSsdIdeal := hAdamwSsdIdeal) (hAdamwSsdReferenceIdeal := hAdamwSsdReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwAda_AdamwAdaIdeal
    ∧ algebraic_AdamwAdaIdeal_AdamwAdaReferenceIdeal (hAdamwAdaIdeal := hAdamwAdaIdeal) (hAdamwAdaReferenceIdeal := hAdamwAdaReferenceIdeal)
    ∧ preserves_AdamwConv_AdamwConvIdeal
    ∧ algebraic_AdamwConvIdeal_AdamwConvReferenceIdeal (hAdamwConvIdeal := hAdamwConvIdeal) (hAdamwConvReferenceIdeal := hAdamwConvReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S8192x16x64 : Shape := ⟨3, ![8192, 16, 64]⟩
abbrev S8192x4x64 : Shape := ⟨3, ![8192, 4, 64]⟩
abbrev S8192x1024 : Shape := ⟨2, ![8192, 1024]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x16x64 .f32) (main_arg1 : FVec F S8192x4x64 .f32) (main_arg2 : FVec F S8192x4x64 .f32) (main_arg3 : FVec F S8192x1024 .f32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x4x64 .f32 := Host.absf main_arg1
  let main_cst_0 : FVec F S_ .f32 := constant S_ .f32 0x7F800000#32
  let main_v5 : FVec F S8192x4x64 .f32 := broadcastInDim S8192x4x64 ![] bcast_S_S8192x4x64 main_cst_0
  let main_v6 : IVec S8192x4x64 1 := cmpf .olt main_v4 main_v5
  let main_c_1 : IVec S_ 1 := constantI S_ 1 1#1
  let main_v7 : IVec S_ 1 := (fun x v => Host.reduce IntOp.andi x v reducesTo_S8192x4x64_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_qk.lean ====
abbrev S8192x16x64 : Shape := ⟨3, ![8192, 16, 64]⟩
abbrev S8192x4x64 : Shape := ⟨3, ![8192, 4, 64]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_

variable [Facts]

def fn {F : FTy → Type} [FloatOps F] (main_arg0 : FVec F S8192x16x64 .f32) (main_arg1 : FVec F S8192x4x64 .f32) (main_arg2 : FVec F S8192x4x64 .f32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x4x64 .f32 := Host.absf main_arg1
  let main_cst_0 : FVec F S_ .f32 := constant S_ .f32 0x7F800000#32
  let main_v5 : FVec F S8192x4x64 .f32 := broadcastInDim S8192x4x64 ![] bcast_S_S8192x4x64 main_cst_0
  let main_v6 : IVec S8192x4x64 1 := cmpf .olt main_v4 main_v5
  let main_c_1 : IVec S_ 1 := constantI S_ 1 1#1
  let main_v7 : IVec S_ 1 := (fun x v => Host.reduce IntOp.andi x v reducesTo_S8192x4x64_S_d0_1_2 h_S_) main_v6 main_c_1
  let main_v8 : IVec S_ 1 := andi main_v3 main_v7
  main_v8
-- ==== Kernel.lean ====
abbrev S8192x16x64 : Shape := ⟨3, ![8192, 16, 64]⟩
abbrev S8192x4x64 : Shape := ⟨3, ![8192, 4, 64]⟩
abbrev S8192x1024 : Shape := ⟨2, ![8192, 1024]⟩
abbrev S_ : Shape := ⟨0, ![]⟩
abbrev S16x64x8192 : Shape := ⟨3, ![16, 64, 8192]⟩
abbrev S4x64x8192 : Shape := ⟨3, ![4, 64, 8192]⟩
abbrev S20x64x8192 : Shape := ⟨3, ![20, 64, 8192]⟩
abbrev S4x8x8192 : Shape := ⟨3, ![4, 8, 8192]⟩
abbrev S4x72x8192 : Shape := ⟨3, ![4, 72, 8192]⟩
abbrev S1024x8192 : Shape := ⟨2, ![1024, 8192]⟩
abbrev S8192x4x4x64 : Shape := ⟨4, ![8192, 4, 4, 64]⟩
abbrev S4x8192x8192x4 : Shape := ⟨4, ![4, 8192, 8192, 4]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S16x1x8192 : Shape := ⟨3, ![16, 1, 8192]⟩
abbrev S4x64x4x8192 : Shape := ⟨4, ![4, 64, 4, 8192]⟩
abbrev S4x4x64x8192 : Shape := ⟨4, ![4, 4, 64, 8192]⟩
abbrev S4x8192x64 : Shape := ⟨3, ![4, 8192, 64]⟩
abbrev S4x64x512 : Shape := ⟨3, ![4, 64, 512]⟩
abbrev S1x64x1024 : Shape := ⟨3, ![1, 64, 1024]⟩
abbrev S1x72x1024 : Shape := ⟨3, ![1, 72, 1024]⟩
abbrev S4x1x512 : Shape := ⟨3, ![4, 1, 512]⟩
abbrev S1x8192x64 : Shape := ⟨3, ![1, 8192, 64]⟩
abbrev S64x2048 : Shape := ⟨2, ![64, 2048]⟩
abbrev S1x64x512 : Shape := ⟨3, ![1, 64, 512]⟩
abbrev S64x512 : Shape := ⟨2, ![64, 512]⟩
abbrev S2048 : Shape := ⟨1, ![2048]⟩
abbrev S1x2048 : Shape := ⟨2, ![1, 2048]⟩
abbrev S64x1024 : Shape := ⟨2, ![64, 1024]⟩
abbrev S1024x2048 : Shape := ⟨2, ![1024, 2048]⟩
abbrev S1x1x512 : Shape := ⟨3, ![1, 1, 512]⟩
abbrev S1x512 : Shape := ⟨2, ![1, 512]⟩
abbrev S1024x64 : Shape := ⟨2, ![1024, 64]⟩
abbrev S1x1024x64 : Shape := ⟨3, ![1, 1024, 64]⟩

abbrev nBuf : Space → Nat
  | .hbm => 51
  | .vmem => 19
  | .smem => 0
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S16x64x8192, .f32⟩
  | .hbm, ⟨7, _⟩ => ⟨S4x64x8192, .f32⟩
  | .hbm, ⟨8, _⟩ => ⟨S_, .f32⟩
  | .hbm, ⟨9, _⟩ => ⟨S_, .f32⟩
  | .hbm, ⟨10, _⟩ => ⟨S16x64x8192, .f32⟩
  | .hbm, ⟨11, _⟩ => ⟨S16x64x8192, .f32⟩
  | .hbm, ⟨12, _⟩ => ⟨S20x64x8192, .f32⟩
  | .hbm, ⟨13, _⟩ => ⟨S20x64x8192, .bf16⟩
  | .hbm, ⟨14, _⟩ => ⟨S4x64x8192, .f32⟩
  | .hbm, ⟨15, _⟩ => ⟨S_, .f32⟩
  | .hbm, ⟨16, _⟩ => ⟨S4x8x8192, .f32⟩
  | .hbm, ⟨17, _⟩ => ⟨S4x72x8192, .f32⟩
  | .hbm, ⟨18, _⟩ => ⟨S4x72x8192, .bf16⟩
  | .hbm, ⟨19, _⟩ => ⟨S1024x8192, .f32⟩
  | .hbm, ⟨20, _⟩ => ⟨S16x64x8192, .f32⟩
  | .hbm, ⟨21, _⟩ => ⟨S16x64x8192, .bf16⟩
  | .hbm, ⟨22, _⟩ => ⟨S_, .f32⟩
  | .hbm, ⟨23, _⟩ => ⟨S8192x16x64, .f32⟩
  | .hbm, ⟨24, _⟩ => ⟨S8192x16x64, .f32⟩
  | .hbm, ⟨25, _⟩ => ⟨S8192x4x4x64, .f32⟩
  | .hbm, ⟨26, _⟩ => ⟨S4x8192x8192x4, .f32⟩
  | .hbm, ⟨27, _⟩ => ⟨S4x4x8192x8192, .f32⟩
  | .hbm, ⟨28, _⟩ => ⟨S_, .f32⟩
  | .hbm, ⟨29, _⟩ => ⟨S4x4x8192, .f32⟩
  | .hbm, ⟨30, _⟩ => ⟨S4x4x8192x1, .f32⟩
  | .hbm, ⟨31, _⟩ => ⟨S4x4x8192x8192, .f32⟩
  | .hbm, ⟨32, _⟩ => ⟨S4x4x8192x8192, .f32⟩
  | .hbm, ⟨33, _⟩ => ⟨S4x4x8192x8192, .f32⟩
  | .hbm, ⟨34, _⟩ => ⟨S_, .f32⟩
  | .hbm, ⟨35, _⟩ => ⟨S4x4x8192, .f32⟩
  | .hbm, ⟨36, _⟩ => ⟨S4x4x8192x1, .f32⟩
  | .hbm, ⟨37, _⟩ => ⟨S4x4x8192x1, .f32⟩
  | .hbm, ⟨38, _⟩ => ⟨S4x4x8192x1, .f32⟩
  | .hbm, ⟨39, _⟩ => ⟨S4x4x8192x1, .f32⟩
  | .hbm, ⟨40, _⟩ => ⟨S4x4x8192x1, .f32⟩
  | .hbm, ⟨41, _⟩ => ⟨S16x1x8192, .f32⟩
  | .hbm, ⟨42, _⟩ => ⟨S4x4x8192x8192, .f32⟩
  | .hbm, ⟨43, _⟩ => ⟨S4x4x8192x8192, .f32⟩
  | .hbm, ⟨44, _⟩ => ⟨S4x64x4x8192, .f32⟩
  | .hbm, ⟨45, _⟩ => ⟨S4x4x64x8192, .f32⟩
  | .hbm, ⟨46, _⟩ => ⟨S16x64x8192, .f32⟩
  | .hbm, ⟨47, _⟩ => ⟨S16x64x8192, .bf16⟩
  | .hbm, ⟨48, _⟩ => ⟨S16x64x8192, .f32⟩
  | .hbm, ⟨49, _⟩ => ⟨S4x8192x64, .f32⟩
  | .hbm, ⟨50, _⟩ => ⟨S4x8192x64, .f32⟩
  | .local _ .vmem, ⟨0, _⟩ => ⟨S4x64x512, .bf16⟩
  | .local _ .vmem, ⟨1, _⟩ => ⟨S4x64x512, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x72x1024, .bf16⟩
  | .local _ .vmem, ⟨5, _⟩ => ⟨S1x72x1024, .bf16⟩
  | .local _ .vmem, ⟨6, _⟩ => ⟨S4x64x512, .bf16⟩
  | .local _ .vmem, ⟨7, _⟩ => ⟨S4x64x512, .bf16⟩
  | .local _ .vmem, ⟨8, _⟩ => ⟨S4x64x512, .bf16⟩
  | .local _ .vmem, ⟨9, _⟩ => ⟨S4x64x512, .bf16⟩
  | .local _ .vmem, ⟨10, _⟩ => ⟨S4x1x512, .f32⟩
  | .local _ .vmem, ⟨11, _⟩ => ⟨S4x1x512, .f32⟩
  | .local _ .vmem, ⟨12, _⟩ => ⟨S4x64x512, .f32⟩
  | .local _ .vmem, ⟨13, _⟩ => ⟨S4x64x512, .f32⟩
  | .local _ .vmem, ⟨14, _⟩ => ⟨S1x8192x64, .f32⟩
  | .local _ .vmem, ⟨15, _⟩ => ⟨S1x8192x64, .f32⟩
  | .local _ .vmem, ⟨16, _⟩ => ⟨S1x8192x64, .f32⟩
  | .local _ .vmem, ⟨17, _⟩ => ⟨S1x8192x64, .f32⟩
  | .local _ .vmem, ⟨18, _⟩ => ⟨S64x2048, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 16, 8], ![false, false, false]⟩

def k0_mult1 (i : grid0.Coords) : BitVec 32 :=
  let arg2 : BitVec 32 := BitVec.ofNat 32 (i 2).val
  let c1024_i32 : BitVec 32 := 1024#32
  let v60 : BitVec 32 := Scalar.muli arg2 c1024_i32
  v60
def k0_cond1 (i : grid0.Coords) : BitVec 1 :=
  let arg1 : BitVec 32 := BitVec.ofNat 32 (i 1).val
  let c0_i32 : BitVec 32 := 0#32
  let v62 : BitVec 1 := Scalar.cmpi .eq arg1 c0_i32
  let v63 : BitVec 32 := Scalar.extui v62
  let c0_i32_56 : BitVec 32 := 0#32
  let v64 : BitVec 1 := Scalar.cmpi .ne v63 c0_i32_56
  v64

def k0_off1 (i : grid0.Coords) : Fin 3 → Nat :=
  let c0_64 : Index := 0#32
  let arg2 : BitVec 32 := BitVec.ofNat 32 (i 2).val
  let c1024_i32 : BitVec 32 := 1024#32
  let v60 : BitVec 32 := Scalar.muli arg2 c1024_i32
  let v61 : BitVec 32 := v60
  let v77 : Index := Scalar.indexCast v61
  let c0_65 : Index := 0#32
  ![0, v77.toNat, 0]
def k0_cond2 (i : grid0.Coords) : BitVec 1 :=
  let arg1 : BitVec 32 := BitVec.ofNat 32 (i 1).val
  let c0_i32_57 : BitVec 32 := 0#32
  let v65 : BitVec 1 := Scalar.cmpi .sgt arg1 c0_i32_57
  let v66 : BitVec 32 := Scalar.extui v65
  let c0_i32_58 : BitVec 32 := 0#32
  let v67 : BitVec 1 := Scalar.cmpi .ne v66 c0_i32_58
  v67

def k0_off2 (i : grid0.Coords) : Fin 3 → Nat :=
  let c0_64 : Index := 0#32
  let arg2 : BitVec 32 := BitVec.ofNat 32 (i 2).val
  let c1024_i32 : BitVec 32 := 1024#32
  let v60 : BitVec 32 := Scalar.muli arg2 c1024_i32
  let v61 : BitVec 32 := v60
  let v77 : Index := Scalar.indexCast v61
  let c0_65 : Index := 0#32
  ![0, v77.toNat, 0]
def k0_cond5 (i : grid0.Coords) : BitVec 1 :=
  let arg2 : BitVec 32 := BitVec.ofNat 32 (i 2).val
  let c7_i32 : BitVec 32 := 7#32
  let v74 : BitVec 1 := Scalar.cmpi .eq arg2 c7_i32
  let v75 : BitVec 32 := Scalar.extui v74
  let c0_i32_63 : BitVec 32 := 0#32
  let v76 : BitVec 1 := Scalar.cmpi .ne v75 c0_i32_63
  v76

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![v0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x72x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x16x64 : Shape := ⟨3, ![8192, 16, 64]⟩
abbrev S8192x4x64 : Shape := ⟨3, ![8192, 4, 64]⟩
abbrev S8192x1024 : Shape := ⟨2, ![8192, 1024]⟩
abbrev S_ : Shape := ⟨0, ![]⟩
abbrev S8192x4x4x64 : Shape := ⟨4, ![8192, 4, 4, 64]⟩
abbrev S4x8192x8192x4 : Shape := ⟨4, ![4, 8192, 8192, 4]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S4x64x8192 : Shape := ⟨3, ![4, 64, 8192]⟩
abbrev S4x8192x4x64 : Shape := ⟨4, ![4, 8192, 4, 64]⟩
abbrev S4x8192x64 : Shape := ⟨3, ![4, 8192, 64]⟩
abbrev S16x64x8192 : Shape := ⟨3, ![16, 64, 8192]⟩

abbrev nBuf : Space → Nat
  | .hbm => 79
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S8192x1024, .f32⟩
  | .hbm, ⟨4, _⟩ => ⟨S_, .f32⟩
  | .hbm, ⟨5, _⟩ => ⟨S8192x16x64, .f32⟩
  | .hbm, ⟨6, _⟩ => ⟨S8192x16x64, .f32⟩
  | .hbm, ⟨7, _⟩ => ⟨S8192x4x4x64, .f32⟩
  | .hbm, ⟨8, _⟩ => ⟨S4x8192x8192x4, .f32⟩
  | .hbm, ⟨9, _⟩ => ⟨S4x4x8192x8192, .f32⟩
  | .hbm, ⟨10, _⟩ => ⟨S_, .f32⟩
  | .hbm, ⟨11, _⟩ => ⟨S4x4x8192, .f32⟩
  | .hbm, ⟨12, _⟩ => ⟨S4x4x8192x1, .f32⟩
  | .hbm, ⟨13, _⟩ => ⟨S4x4x8192x8192, .f32⟩
  | .hbm, ⟨14, _⟩ => ⟨S4x4x8192x8192, .i1⟩
  | .hbm, ⟨15, _⟩ => ⟨S4x4x8192x8192, .f32⟩
  | .hbm, ⟨16, _⟩ => ⟨S_, .f32⟩
  | .hbm, ⟨17, _⟩ => ⟨S4x4x8192, .f32⟩
  | .hbm, ⟨18, _⟩ => ⟨S_, .f32⟩
  | .hbm, ⟨19, _⟩ => ⟨S4x4x8192, .f32⟩
  | .hbm, ⟨20, _⟩ => ⟨S4x4x8192, .f32⟩
  | .hbm, ⟨21, _⟩ => ⟨S_, .f32⟩
  | .hbm, ⟨22, _⟩ => ⟨S4x4x8192, .f32⟩
  | .hbm, ⟨23, _⟩ => ⟨S4x4x8192, .i1⟩
  | .hbm, ⟨24, _⟩ => ⟨S_, .f32⟩
  | .hbm, ⟨25, _⟩ => ⟨S4x4x8192, .f32⟩
  | .hbm, ⟨26, _⟩ => ⟨S4x4x8192, .i1⟩
  | .hbm, ⟨27, _⟩ => ⟨S_, .f32⟩
  | .hbm, ⟨28, _⟩ => ⟨S4x4x8192, .f32⟩
  | .hbm, ⟨29, _⟩ => ⟨S_, .f32⟩
  | .hbm, ⟨30, _⟩ => ⟨S4x4x8192, .f32⟩
  | .hbm, ⟨31, _⟩ => ⟨S_, .f32⟩
  | .hbm, ⟨32, _⟩ => ⟨S4x4x8192, .f32⟩
  | .hbm, ⟨33, _⟩ => ⟨S4x4x8192, .f32⟩
  | .hbm, ⟨34, _⟩ => ⟨S4x4x8192, .f32⟩
  | .hbm, ⟨35, _⟩ => ⟨S4x4x8192x1, .f32⟩
  | .hbm, ⟨36, _⟩ => ⟨S4x4x8192x8192, .f32⟩
  | .hbm, ⟨37, _⟩ => ⟨S4x4x8192x8192, .f32⟩
  | .hbm, ⟨38, _⟩ => ⟨S4x4x8192x8192, .f32⟩
  | .hbm, ⟨39, _⟩ => ⟨S_, .f32⟩
  | .hbm, ⟨40, _⟩ => ⟨S4x4x8192, .f32⟩
  | .hbm, ⟨41, _⟩ => ⟨S4x4x8192x1, .f32⟩
  | .hbm, ⟨42, _⟩ => ⟨S4x4x8192x8192, .f32⟩
  | .hbm, ⟨43, _⟩ => ⟨S4x4x8192x8192, .f32⟩
  | .hbm, ⟨44, _⟩ => ⟨S4x4x8192x1, .f32⟩
  | .hbm, ⟨45, _⟩ => ⟨S_, .f32⟩
  | .hbm, ⟨46, _⟩ => ⟨S4x4x8192x1, .f32⟩
  | .hbm, ⟨47, _⟩ => ⟨S4x4x8192x1, .f32⟩
  | .hbm, ⟨48, _⟩ => ⟨S4x64x4x8192, .f32⟩
  | .hbm, ⟨49, _⟩ => ⟨S8192x4x4x64, .f32⟩
  | .hbm, ⟨50, _⟩ => ⟨S8192x1024, .f32⟩
  | .hbm, ⟨51, _⟩ => ⟨S8192x4x4x64, .f32⟩
  | .hbm, ⟨52, _⟩ => ⟨S4x64x4x8192, .f32⟩
  | .hbm, ⟨53, _⟩ => ⟨S4x4x8192x8192, .f32⟩
  | .hbm, ⟨54, _⟩ => ⟨S4x64x8192, .f32⟩
  | .hbm, ⟨55, _⟩ => ⟨S8192x4x64, .f32⟩
  | .hbm, ⟨56, _⟩ => ⟨S4x4x8192x8192, .f32⟩
  | .hbm, ⟨57, _⟩ => ⟨S4x4x8192x8192, .f32⟩
  | .hbm, ⟨58, _⟩ => ⟨S4x4x8192x8192, .f32⟩
  | .hbm, ⟨59, _⟩ => ⟨S_, .f32⟩
  | .hbm, ⟨60, _⟩ => ⟨S4x4x8192, .f32⟩
  | .hbm, ⟨61, _⟩ => ⟨S4x4x8192x1, .f32⟩
  | .hbm, ⟨62, _⟩ => ⟨S4x4x8192x1, .f32⟩
  | .hbm, ⟨63, _⟩ => ⟨S4x4x8192x8192, .f32⟩
  | .hbm, ⟨64, _⟩ => ⟨S4x4x8192x8192, .f32⟩
  | .hbm, ⟨65, _⟩ => ⟨S_, .f32⟩
  | .hbm, ⟨66, _⟩ => ⟨S4x4x8192, .f32⟩
  | .hbm, ⟨67, _⟩ => ⟨S4x4x8192x8192, .f32⟩
  | .hbm, ⟨68, _⟩ => ⟨S4x4x8192x8192, .f32⟩
  | .hbm, ⟨69, _⟩ => ⟨S4x4x8192x8192, .f32⟩
  | .hbm, ⟨70, _⟩ => ⟨S4x8192x8192x4, .f32⟩
  | .hbm, ⟨71, _⟩ => ⟨S4x8192x4x64, .f32⟩
  | .hbm, ⟨72, _⟩ => ⟨S8192x4x4x64, .f32⟩
  | .hbm, ⟨73, _⟩ => ⟨S4x8192x64, .f32⟩
  | .hbm, ⟨74, _⟩ => ⟨S8192x4x64, .f32⟩
  | .hbm, ⟨75, _⟩ => ⟨S8192x16x64, .f32⟩
  | .hbm, ⟨76, _⟩ => ⟨S16x64x8192, .f32⟩
  | .hbm, ⟨77, _⟩ => ⟨S4x8192x64, .f32⟩
  | .hbm, ⟨78, _⟩ => ⟨S4x8192x64, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== FlashFwd.lean ====
abbrev S8192x16x64 : Shape := ⟨3, ![8192, 16, 64]⟩
abbrev S8192x4x64 : Shape := ⟨3, ![8192, 4, 64]⟩
abbrev S_ : Shape := ⟨0, ![]⟩
abbrev S16x64x8192 : Shape := ⟨3, ![16, 64, 8192]⟩
abbrev S4x64x8192 : Shape := ⟨3, ![4, 64, 8192]⟩
abbrev S20x64x8192 : Shape := ⟨3, ![20, 64, 8192]⟩
abbrev S4x8x8192 : Shape := ⟨3, ![4, 8, 8192]⟩
abbrev S4x72x8192 : Shape := ⟨3, ![4, 72, 8192]⟩
abbrev S16x1x8192 : Shape := ⟨3, ![16, 1, 8192]⟩
abbrev S4x64x1024 : Shape := ⟨3, ![4, 64, 1024]⟩
abbrev S1x64x512 : Shape := ⟨3, ![1, 64, 512]⟩
abbrev S1x72x512 : Shape := ⟨3, ![1, 72, 512]⟩
abbrev S4x1x1024 : Shape := ⟨3, ![4, 1, 1024]⟩
abbrev S1x4096 : Shape := ⟨2, ![1, 4096]⟩
abbrev S72x4096 : Shape := ⟨2, ![72, 4096]⟩
abbrev S64x512 : Shape := ⟨2, ![64, 512]⟩
abbrev S1x64x1024 : Shape := ⟨3, ![1, 64, 1024]⟩
abbrev S64x1024 : Shape := ⟨2, ![64, 1024]⟩
abbrev S64x4096 : Shape := ⟨2, ![64, 4096]⟩
abbrev S512x4096 : Shape := ⟨2, ![512, 4096]⟩
abbrev S4096 : Shape := ⟨1, ![4096]⟩
abbrev S72x512 : Shape := ⟨2, ![72, 512]⟩
abbrev S1x1024 : Shape := ⟨2, ![1, 1024]⟩
abbrev S1x1x1024 : Shape := ⟨3, ![1, 1, 1024]⟩

abbrev nBuf : Space → Nat
  | .hbm => 20
  | .vmem => 12
  | .smem => 0
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S_, .f32⟩
  | .hbm, ⟨4, _⟩ => ⟨S_, .f32⟩
  | .hbm, ⟨5, _⟩ => ⟨S16x64x8192, .f32⟩
  | .hbm, ⟨6, _⟩ => ⟨S4x64x8192, .f32⟩
  | .hbm, ⟨7, _⟩ => ⟨S_, .f32⟩
  | .hbm, ⟨8, _⟩ => ⟨S_, .f32⟩
  | .hbm, ⟨9, _⟩ => ⟨S16x64x8192, .f32⟩
  | .hbm, ⟨10, _⟩ => ⟨S16x64x8192, .f32⟩
  | .hbm, ⟨11, _⟩ => ⟨S20x64x8192, .f32⟩
  | .hbm, ⟨12, _⟩ => ⟨S20x64x8192, .bf16⟩
  | .hbm, ⟨13, _⟩ => ⟨S4x64x8192, .f32⟩
  | .hbm, ⟨14, _⟩ => ⟨S_, .f32⟩
  | .hbm, ⟨15, _⟩ => ⟨S4x8x8192, .f32⟩
  | .hbm, ⟨16, _⟩ => ⟨S4x72x8192, .f32⟩
  | .hbm, ⟨17, _⟩ => ⟨S4x72x8192, .bf16⟩
  | .hbm, ⟨18, _⟩ => ⟨S16x64x8192, .bf16⟩
  | .hbm, ⟨19, _⟩ => ⟨S16x1x8192, .f32⟩
  | .local _ .vmem, ⟨0, _⟩ => ⟨S4x64x1024, .bf16⟩
  | .local _ .vmem, ⟨1, _⟩ => ⟨S4x64x1024, .bf16⟩
  | .local _ .vmem, ⟨2, _⟩ => ⟨S1x64x512, .bf16⟩
  | .local _ .vmem, ⟨3, _⟩ => ⟨S1x64x512, .bf16⟩
  | .local _ .vmem, ⟨4, _⟩ => ⟨S1x72x512, .bf16⟩
  | .local _ .vmem, ⟨5, _⟩ => ⟨S1x72x512, .bf16⟩
  | .local _ .vmem, ⟨6, _⟩ => ⟨S4x64x1024, .bf16⟩
  | .local _ .vmem, ⟨7, _⟩ => ⟨S4x64x1024, .bf16⟩
  | .local _ .vmem, ⟨8, _⟩ => ⟨S4x1x1024, .f32⟩
  | .local _ .vmem, ⟨9, _⟩ => ⟨S4x1x1024, .f32⟩
  | .local _ .vmem, ⟨10, _⟩ => ⟨S1x4096, .f32⟩
  | .local _ .vmem, ⟨11, _⟩ => ⟨S72x4096, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v38 : BitVec 1 := Scalar.cmpi .eq arg2 c15_i32
  let v39 : BitVec 32 := Scalar.extui v38
  let c0_i32_25 : BitVec 32 := 0#32
  let v40 : BitVec 1 := Scalar.cmpi .ne v39 c0_i32_25
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![v0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x72x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FlashFwdIdeal.lean ====
variable {F : FTy → Type} [FloatOps F] [Named F]
def κ : String → Option EReal := fun
  | "log2e" => some (((Real.log 2)⁻¹ : ℝ) : EReal)
  | _ => none
-- ==== FlashFwdReferenceIdeal.lean ====
abbrev S8192x16x64 : Shape := ⟨3, ![8192, 16, 64]⟩
abbrev S8192x4x64 : Shape := ⟨3, ![8192, 4, 64]⟩
abbrev S8192x4x4x64 : Shape := ⟨4, ![8192, 4, 4, 64]⟩
abbrev S4x8192x8192x4 : Shape := ⟨4, ![4, 8192, 8192, 4]⟩
abbrev S4x4x8192x8192 : Shape := ⟨4, ![4, 4, 8192, 8192]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S4x4x64x8192 : Shape := ⟨4, ![4, 4, 64, 8192]⟩
abbrev S16x64x8192 : Shape := ⟨3, ![16, 64, 8192]⟩
abbrev S16x1x8192 : Shape := ⟨3, ![16, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S8192x4x4x64, .f32⟩
  | .hbm, ⟨4, _⟩ => ⟨S4x8192x8192x4, .f32⟩
  | .hbm, ⟨5, _⟩ => ⟨S4x4x8192x8192, .f32⟩
  | .hbm, ⟨6, _⟩ => ⟨S_, .f32⟩
  | .hbm, ⟨7, _⟩ => ⟨S4x4x8192x8192, .f32⟩
  | .hbm, ⟨8, _⟩ => ⟨S4x4x8192x8192, .f32⟩
  | .hbm, ⟨9, _⟩ => ⟨S_, .f32⟩
  | .hbm, ⟨10, _⟩ => ⟨S4x4x8192, .f32⟩
  | .hbm, ⟨11, _⟩ => ⟨S4x4x8192x1, .f32⟩
  | .hbm, ⟨12, _⟩ => ⟨S4x4x8192x8192, .f32⟩
  | .hbm, ⟨13, _⟩ => ⟨S4x4x8192x8192, .f32⟩
  | .hbm, ⟨14, _⟩ => ⟨S4x4x8192x8192, .f32⟩
  | .hbm, ⟨15, _⟩ => ⟨S_, .f32⟩
  | .hbm, ⟨16, _⟩ => ⟨S4x4x8192, .f32⟩
  | .hbm, ⟨17, _⟩ => ⟨S4x4x8192x1, .f32⟩
  | .hbm, ⟨18, _⟩ => ⟨S4x4x8192x8192, .f32⟩
  | .hbm, ⟨19, _⟩ => ⟨S4x4x8192x8192, .f32⟩
  | .hbm, ⟨20, _⟩ => ⟨S4x64x4x8192, .f32⟩
  | .hbm, ⟨21, _⟩ => ⟨S4x4x64x8192, .f32⟩
  | .hbm, ⟨22, _⟩ => ⟨S16x64x8192, .f32⟩
  | .hbm, ⟨23, _⟩ => ⟨S4x4x8192x1, .f32⟩
  | .hbm, ⟨24, _⟩ => ⟨S4x4x8192x1, .f32⟩
  | .hbm, ⟨25, _⟩ => ⟨S_, .f32⟩
  | .hbm, ⟨26, _⟩ => ⟨S_, .f32⟩
  | .hbm, ⟨27, _⟩ => ⟨S4x4x8192x1, .f32⟩
  | .hbm, ⟨28, _⟩ => ⟨S4x4x8192x1, .f32⟩
  | .hbm, ⟨29, _⟩ => ⟨S16x1x8192, .f32⟩
  | .hbm, ⟨30, _⟩ => ⟨S16x64x8192, .bf16⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Mlp.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 12
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S4096x1024, .bf16⟩
  | .hbm, ⟨7, _⟩ => ⟨S8192x1024, .bf16⟩
  | .hbm, ⟨8, _⟩ => ⟨S8192x4096, .bf16⟩
  | .hbm, ⟨9, _⟩ => ⟨S8192x4096, .bf16⟩
  | .hbm, ⟨10, _⟩ => ⟨S8192x4096, .bf16⟩
  | .hbm, ⟨11, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x4096, .bf16⟩
  | .local _ .vmem, ⟨17, _⟩ => ⟨S1024x4096, .bf16⟩
  | .local _ .vmem, ⟨18, _⟩ => ⟨S1024x4096, .bf16⟩
  | .local _ .vmem, ⟨19, _⟩ => ⟨S1024x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== MlpReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== ProjDw.lean ====
abbrev S8192x1024 : Shape := ⟨2, ![8192, 1024]⟩
abbrev S8192x8832 : Shape := ⟨2, ![8192, 8832]⟩
abbrev S1024x8832 : Shape := ⟨2, ![1024, 8832]⟩
abbrev S2048x512 : Shape := ⟨2, ![2048, 512]⟩
abbrev S2048x2944 : Shape := ⟨2, ![2048, 2944]⟩
abbrev S512x2944 : Shape := ⟨2, ![512, 2944]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x8832, .f32⟩
  | .hbm, ⟨2, _⟩ => ⟨S8192x1024, .bf16⟩
  | .hbm, ⟨3, _⟩ => ⟨S8192x8832, .bf16⟩
  | .hbm, ⟨4, _⟩ => ⟨S1024x8832, .f32⟩
  | .local _ .vmem, ⟨0, _⟩ => ⟨S2048x512, .bf16⟩
  | .local _ .vmem, ⟨1, _⟩ => ⟨S2048x512, .bf16⟩
  | .local _ .vmem, ⟨2, _⟩ => ⟨S2048x2944, .bf16⟩
  | .local _ .vmem, ⟨3, _⟩ => ⟨S2048x2944, .bf16⟩
  | .local _ .vmem, ⟨4, _⟩ => ⟨S512x2944, .f32⟩
  | .local _ .vmem, ⟨5, _⟩ => ⟨S512x2944, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwReferenceIdeal.lean ====
abbrev S8192x1024 : Shape := ⟨2, ![8192, 1024]⟩
abbrev S8192x8832 : Shape := ⟨2, ![8192, 8832]⟩
abbrev S_ : Shape := ⟨0, ![]⟩
abbrev S1024x8832 : Shape := ⟨2, ![1024, 8832]⟩
abbrev S8832x1024 : Shape := ⟨2, ![8832, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8832, .f32⟩
  | .hbm, ⟨2, _⟩ => ⟨S_, .f32⟩
  | .hbm, ⟨3, _⟩ => ⟨S1024x8832, .f32⟩
  | .hbm, ⟨4, _⟩ => ⟨S8192x8832, .f32⟩
  | .hbm, ⟨5, _⟩ => ⟨S8832x1024, .f32⟩
  | .hbm, ⟨6, _⟩ => ⟨S1024x8832, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S8192x1024 : Shape := ⟨2, ![8192, 1024]⟩
abbrev S1024x8832 : Shape := ⟨2, ![1024, 8832]⟩
abbrev S8192x8832 : Shape := ⟨2, ![8192, 8832]⟩
abbrev S512x1024 : Shape := ⟨2, ![512, 1024]⟩
abbrev S1024x2944 : Shape := ⟨2, ![1024, 2944]⟩
abbrev S512x2944 : Shape := ⟨2, ![512, 2944]⟩
abbrev S_ : Shape := ⟨0, ![]⟩
abbrev S1x1024 : Shape := ⟨2, ![1, 1024]⟩
abbrev S256x8832 : Shape := ⟨2, ![256, 8832]⟩
abbrev S256x1024 : Shape := ⟨2, ![256, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x8832, .f32⟩
  | .hbm, ⟨2, _⟩ => ⟨S8192x8832, .f32⟩
  | .hbm, ⟨3, _⟩ => ⟨S8192x1024, .bf16⟩
  | .hbm, ⟨4, _⟩ => ⟨S1024x8832, .bf16⟩
  | .hbm, ⟨5, _⟩ => ⟨S8192x8832, .bf16⟩
  | .hbm, ⟨6, _⟩ => ⟨S8192x8832, .bf16⟩
  | .hbm, ⟨7, _⟩ => ⟨S_, .f32⟩
  | .hbm, ⟨8, _⟩ => ⟨S1x1024, .f32⟩
  | .hbm, ⟨9, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2944, .bf16⟩
  | .local _ .vmem, ⟨3, _⟩ => ⟨S1024x2944, .bf16⟩
  | .local _ .vmem, ⟨4, _⟩ => ⟨S512x2944, .bf16⟩
  | .local _ .vmem, ⟨5, _⟩ => ⟨S512x2944, .bf16⟩
  | .local _ .vmem, ⟨6, _⟩ => ⟨S256x8832, .bf16⟩
  | .local _ .vmem, ⟨7, _⟩ => ⟨S256x8832, .bf16⟩
  | .local _ .vmem, ⟨8, _⟩ => ⟨S1024x8832, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x8832 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x8832 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ProjReferenceIdeal.lean ====
abbrev S8192x1024 : Shape := ⟨2, ![8192, 1024]⟩
abbrev S1024x8832 : Shape := ⟨2, ![1024, 8832]⟩
abbrev S8192x8832 : Shape := ⟨2, ![8192, 8832]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x8832, .f32⟩
  | .hbm, ⟨2, _⟩ => ⟨S8192x8832, .f32⟩
  | .hbm, ⟨3, _⟩ => ⟨S8192x8832, .f32⟩
  | .hbm, ⟨4, _⟩ => ⟨S8192x8832, .bf16⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpDwTwo.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 11
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S8192x1024, .bf16⟩
  | .hbm, ⟨10, _⟩ => ⟨S4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwTwoReferenceIdeal.lean ====
abbrev S8192x1024 : Shape := ⟨2, ![8192, 1024]⟩
abbrev S1024x4096 : Shape := ⟨2, ![1024, 4096]⟩
abbrev S_ : Shape := ⟨0, ![]⟩
abbrev S4096x1024 : Shape := ⟨2, ![4096, 1024]⟩
abbrev S8192x4096 : Shape := ⟨2, ![8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .f32⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== MlpDwOne.lean ====
abbrev S8192x1024 : Shape := ⟨2, ![8192, 1024]⟩
abbrev S8192x4096 : Shape := ⟨2, ![8192, 4096]⟩
abbrev S1024x4096 : Shape := ⟨2, ![1024, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDwOneReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsdOutDw.lean ====
abbrev S8192x2048 : Shape := ⟨2, ![8192, 2048]⟩
abbrev S8192x1024 : Shape := ⟨2, ![8192, 1024]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDwReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S1024 : Shape := ⟨1, ![1024]⟩
abbrev S_ : Shape := ⟨0, ![]⟩
abbrev S1 : Shape := ⟨1, ![1]⟩
abbrev S1x1 : Shape := ⟨2, ![1, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x4096, .bf16⟩
  | .hbm, ⟨6, _⟩ => ⟨S4096x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_16 : BitVec 32 := 0#32
  let v27 : BitVec 1 := Scalar.cmpi .ne v26 c0_i32_16
  v27

def k0_cond2 (i : grid0.Coords) : BitVec 1 :=
  let arg0 : BitVec 32 := BitVec.ofNat 32 (i 0).val
  let c0_i32 : BitVec 32 := 0#32
  let v25 : BitVec 1 := Scalar.cmpi .eq arg0 c0_i32
  let v_true : BitVec 1 := 1#1
  let v28 : BitVec 1 := Scalar.xori v25 v_true
  let v29 : BitVec 32 := Scalar.extui v28
  let c0_i32_17 : BitVec 32 := 0#32
  let v30 : BitVec 1 := Scalar.cmpi .ne v29 c0_i32_17
  v30

def k0_cond3 (i : grid0.Coords) : BitVec 1 :=
  let arg0 : BitVec 32 := BitVec.ofNat 32 (i 0).val
  let c0_i32_18 : BitVec 32 := 0#32
  let v31 : BitVec 1 := Scalar.cmpi .eq arg0 c0_i32_18
  let v32 : BitVec 32 := Scalar.extui v31
  let c0_i32_19 : BitVec 32 := 0#32
  let v33 : BitVec 1 := Scalar.cmpi .ne v32 c0_i32_19
  v33

def k0_cond4 (i : grid0.Coords) : BitVec 1 :=
  let arg0 : BitVec 32 := BitVec.ofNat 32 (i 0).val
  let c0_i32_18 : BitVec 32 := 0#32
  let v31 : BitVec 1 := Scalar.cmpi .eq arg0 c0_i32_18
  let true_20 : BitVec 1 := 1#1
  let v34 : BitVec 1 := Scalar.xori v31 true_20
  let v35 : BitVec 32 := Scalar.extui v34
  let c0_i32_21 : BitVec 32 := 0#32
  let v36 : BitVec 1 := Scalar.cmpi .ne v35 c0_i32_21
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossReferenceIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S1024 : Shape := ⟨1, ![1024]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S1x1, .f32⟩
  | .hbm, ⟨39, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_cst_4 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwMlp.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwMlpIdeal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwMlpReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSsd.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSsdIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSsdReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwIn.lean ====
abbrev S1024x2192 : Shape := ⟨2, ![1024, 2192]⟩
abbrev S256x2192 : Shape := ⟨2, ![256, 2192]⟩

abbrev nBuf : Space → Nat
  | .hbm => 7
  | .vmem => 14
  | .smem => 0
  | _ => 0

abbrev bufTy : (tb : Table) → Fin (tcTables nBuf tb) → BufTy
  | .hbm, ⟨0, _⟩ => ⟨S1024x2192, .f32⟩
  | .hbm, ⟨1, _⟩ => ⟨S1024x2192, .f32⟩
  | .hbm, ⟨2, _⟩ => ⟨S1024x2192, .f32⟩
  | .hbm, ⟨3, _⟩ => ⟨S1024x2192, .f32⟩
  | .hbm, ⟨4, _⟩ => ⟨S1024x2192, .f32⟩
  | .hbm, ⟨5, _⟩ => ⟨S1024x2192, .f32⟩
  | .hbm, ⟨6, _⟩ => ⟨S1024x2192, .f32⟩
  | .local _ .vmem, ⟨0, _⟩ => ⟨S256x2192, .f32⟩
  | .local _ .vmem, ⟨1, _⟩ => ⟨S256x2192, .f32⟩
  | .local _ .vmem, ⟨2, _⟩ => ⟨S256x2192, .f32⟩
  | .local _ .vmem, ⟨3, _⟩ => ⟨S256x2192, .f32⟩
  | .local _ .vmem, ⟨4, _⟩ => ⟨S256x2192, .f32⟩
  | .local _ .vmem, ⟨5, _⟩ => ⟨S256x2192, .f32⟩
  | .local _ .vmem, ⟨6, _⟩ => ⟨S256x2192, .f32⟩
  | .local _ .vmem, ⟨7, _⟩ => ⟨S256x2192, .f32⟩
  | .local _ .vmem, ⟨8, _⟩ => ⟨S256x2192, .f32⟩
  | .local _ .vmem, ⟨9, _⟩ => ⟨S256x2192, .f32⟩
  | .local _ .vmem, ⟨10, _⟩ => ⟨S256x2192, .f32⟩
  | .local _ .vmem, ⟨11, _⟩ => ⟨S256x2192, .f32⟩
  | .local _ .vmem, ⟨12, _⟩ => ⟨S256x2192, .f32⟩
  | .local _ .vmem, ⟨13, _⟩ => ⟨S256x2192, .f32⟩
  | _, _ => ⟨S1024x2192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S1024x2192 : Shape := ⟨2, ![1024, 2192]⟩
abbrev S256x2192 : Shape := ⟨2, ![256, 2192]⟩

abbrev nBuf : Space → Nat
  | .hbm => 7
  | .vmem => 14
  | .smem => 0
  | _ => 0

abbrev bufTy : (tb : Table) → Fin (tcTables nBuf tb) → BufTy
  | .hbm, ⟨0, _⟩ => ⟨S1024x2192, .f32⟩
  | .hbm, ⟨1, _⟩ => ⟨S1024x2192, .f32⟩
  | .hbm, ⟨2, _⟩ => ⟨S1024x2192, .f32⟩
  | .hbm, ⟨3, _⟩ => ⟨S1024x2192, .f32⟩
  | .hbm, ⟨4, _⟩ => ⟨S1024x2192, .f32⟩
  | .hbm, ⟨5, _⟩ => ⟨S1024x2192, .f32⟩
  | .hbm, ⟨6, _⟩ => ⟨S1024x2192, .f32⟩
  | .local _ .vmem, ⟨0, _⟩ => ⟨S256x2192, .f32⟩
  | .local _ .vmem, ⟨1, _⟩ => ⟨S256x2192, .f32⟩
  | .local _ .vmem, ⟨2, _⟩ => ⟨S256x2192, .f32⟩
  | .local _ .vmem, ⟨3, _⟩ => ⟨S256x2192, .f32⟩
  | .local _ .vmem, ⟨4, _⟩ => ⟨S256x2192, .f32⟩
  | .local _ .vmem, ⟨5, _⟩ => ⟨S256x2192, .f32⟩
  | .local _ .vmem, ⟨6, _⟩ => ⟨S256x2192, .f32⟩
  | .local _ .vmem, ⟨7, _⟩ => ⟨S256x2192, .f32⟩
  | .local _ .vmem, ⟨8, _⟩ => ⟨S256x2192, .f32⟩
  | .local _ .vmem, ⟨9, _⟩ => ⟨S256x2192, .f32⟩
  | .local _ .vmem, ⟨10, _⟩ => ⟨S256x2192, .f32⟩
  | .local _ .vmem, ⟨11, _⟩ => ⟨S256x2192, .f32⟩
  | .local _ .vmem, ⟨12, _⟩ => ⟨S256x2192, .f32⟩
  | .local _ .vmem, ⟨13, _⟩ => ⟨S256x2192, .f32⟩
  | _, _ => ⟨S1024x2192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInReferenceIdeal.lean ====
abbrev S1024x2192 : Shape := ⟨2, ![1024, 2192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2192, .f32⟩
  | .hbm, ⟨1, _⟩ => ⟨S1024x2192, .f32⟩
  | .hbm, ⟨2, _⟩ => ⟨S1024x2192, .f32⟩
  | .hbm, ⟨3, _⟩ => ⟨S1024x2192, .f32⟩
  | .hbm, ⟨4, _⟩ => ⟨S_, .f32⟩
  | .hbm, ⟨5, _⟩ => ⟨S1024x2192, .f32⟩
  | .hbm, ⟨6, _⟩ => ⟨S1024x2192, .f32⟩
  | .hbm, ⟨7, _⟩ => ⟨S_, .f32⟩
  | .hbm, ⟨8, _⟩ => ⟨S1024x2192, .f32⟩
  | .hbm, ⟨9, _⟩ => ⟨S1024x2192, .f32⟩
  | .hbm, ⟨10, _⟩ => ⟨S1024x2192, .f32⟩
  | .hbm, ⟨11, _⟩ => ⟨S_, .f32⟩
  | .hbm, ⟨12, _⟩ => ⟨S1024x2192, .f32⟩
  | .hbm, ⟨13, _⟩ => ⟨S1024x2192, .f32⟩
  | .hbm, ⟨14, _⟩ => ⟨S1024x2192, .f32⟩
  | .hbm, ⟨15, _⟩ => ⟨S_, .f32⟩
  | .hbm, ⟨16, _⟩ => ⟨S1024x2192, .f32⟩
  | .hbm, ⟨17, _⟩ => ⟨S1024x2192, .f32⟩
  | .hbm, ⟨18, _⟩ => ⟨S1024x2192, .f32⟩
  | .hbm, ⟨19, _⟩ => ⟨S_, .f32⟩
  | .hbm, ⟨20, _⟩ => ⟨S1024x2192, .f32⟩
  | .hbm, ⟨21, _⟩ => ⟨S1024x2192, .f32⟩
  | .hbm, ⟨22, _⟩ => ⟨S_, .f32⟩
  | .hbm, ⟨23, _⟩ => ⟨S1024x2192, .f32⟩
  | .hbm, ⟨24, _⟩ => ⟨S1024x2192, .f32⟩
  | .hbm, ⟨25, _⟩ => ⟨S1024x2192, .f32⟩
  | .hbm, ⟨26, _⟩ => ⟨S_, .f32⟩
  | .hbm, ⟨27, _⟩ => ⟨S1024x2192, .f32⟩
  | .hbm, ⟨28, _⟩ => ⟨S1024x2192, .f32⟩
  | .hbm, ⟨29, _⟩ => ⟨S1024x2192, .f32⟩
  | .hbm, ⟨30, _⟩ => ⟨S_, .f32⟩
  | .hbm, ⟨31, _⟩ => ⟨S1024x2192, .f32⟩
  | .hbm, ⟨32, _⟩ => ⟨S1024x2192, .f32⟩
  | .hbm, ⟨33, _⟩ => ⟨S1024x2192, .f32⟩
  | .hbm, ⟨34, _⟩ => ⟨S_, .f32⟩
  | .hbm, ⟨35, _⟩ => ⟨S1024x2192, .f32⟩
  | .hbm, ⟨36, _⟩ => ⟨S1024x2192, .f32⟩
  | _, _ => ⟨S1024x2192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAda.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaIdeal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaReferenceIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwConv.lean ====
abbrev S5x768 : Shape := ⟨2, ![5, 768]⟩

abbrev nBuf : Space → Nat
  | .hbm => 7
  | .vmem => 7
  | .smem => 0
  | _ => 0

abbrev bufTy : (tb : Table) → Fin (tcTables nBuf tb) → BufTy
  | .hbm, ⟨0, _⟩ => ⟨S5x768, .f32⟩
  | .hbm, ⟨1, _⟩ => ⟨S5x768, .f32⟩
  | .hbm, ⟨2, _⟩ => ⟨S5x768, .f32⟩
  | .hbm, ⟨3, _⟩ => ⟨S5x768, .f32⟩
  | .hbm, ⟨4, _⟩ => ⟨S5x768, .f32⟩
  | .hbm, ⟨5, _⟩ => ⟨S5x768, .f32⟩
  | .hbm, ⟨6, _⟩ => ⟨S5x768, .f32⟩
  | .local _ .vmem, ⟨0, _⟩ => ⟨S5x768, .f32⟩
  | .local _ .vmem, ⟨1, _⟩ => ⟨S5x768, .f32⟩
  | .local _ .vmem, ⟨2, _⟩ => ⟨S5x768, .f32⟩
  | .local _ .vmem, ⟨3, _⟩ => ⟨S5x768, .f32⟩
  | .local _ .vmem, ⟨4, _⟩ => ⟨S5x768, .f32⟩
  | .local _ .vmem, ⟨5, _⟩ => ⟨S5x768, .f32⟩
  | .local _ .vmem, ⟨6, _⟩ => ⟨S5x768, .f32⟩
  | _, _ => ⟨S5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvIdeal.lean ====
abbrev S5x768 : Shape := ⟨2, ![5, 768]⟩

abbrev nBuf : Space → Nat
  | .hbm => 7
  | .vmem => 7
  | .smem => 0
  | _ => 0

abbrev bufTy : (tb : Table) → Fin (tcTables nBuf tb) → BufTy
  | .hbm, ⟨0, _⟩ => ⟨S5x768, .f32⟩
  | .hbm, ⟨1, _⟩ => ⟨S5x768, .f32⟩
  | .hbm, ⟨2, _⟩ => ⟨S5x768, .f32⟩
  | .hbm, ⟨3, _⟩ => ⟨S5x768, .f32⟩
  | .hbm, ⟨4, _⟩ => ⟨S5x768, .f32⟩
  | .hbm, ⟨5, _⟩ => ⟨S5x768, .f32⟩
  | .hbm, ⟨6, _⟩ => ⟨S5x768, .f32⟩
  | .local _ .vmem, ⟨0, _⟩ => ⟨S5x768, .f32⟩
  | .local _ .vmem, ⟨1, _⟩ => ⟨S5x768, .f32⟩
  | .local _ .vmem, ⟨2, _⟩ => ⟨S5x768, .f32⟩
  | .local _ .vmem, ⟨3, _⟩ => ⟨S5x768, .f32⟩
  | .local _ .vmem, ⟨4, _⟩ => ⟨S5x768, .f32⟩
  | .local _ .vmem, ⟨5, _⟩ => ⟨S5x768, .f32⟩
  | .local _ .vmem, ⟨6, _⟩ => ⟨S5x768, .f32⟩
  | _, _ => ⟨S5x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S5x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S5x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S5x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S5x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S5x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S5x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvReferenceIdeal.lean ====
abbrev S5x768 : Shape := ⟨2, ![5, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5x768, .f32⟩
  | .hbm, ⟨1, _⟩ => ⟨S5x768, .f32⟩
  | .hbm, ⟨2, _⟩ => ⟨S5x768, .f32⟩
  | .hbm, ⟨3, _⟩ => ⟨S5x768, .f32⟩
  | .hbm, ⟨4, _⟩ => ⟨S_, .f32⟩
  | .hbm, ⟨5, _⟩ => ⟨S5x768, .f32⟩
  | .hbm, ⟨6, _⟩ => ⟨S5x768, .f32⟩
  | .hbm, ⟨7, _⟩ => ⟨S_, .f32⟩
  | .hbm, ⟨8, _⟩ => ⟨S5x768, .f32⟩
  | .hbm, ⟨9, _⟩ => ⟨S5x768, .f32⟩
  | .hbm, ⟨10, _⟩ => ⟨S5x768, .f32⟩
  | .hbm, ⟨11, _⟩ => ⟨S_, .f32⟩
  | .hbm, ⟨12, _⟩ => ⟨S5x768, .f32⟩
  | .hbm, ⟨13, _⟩ => ⟨S5x768, .f32⟩
  | .hbm, ⟨14, _⟩ => ⟨S5x768, .f32⟩
  | .hbm, ⟨15, _⟩ => ⟨S_, .f32⟩
  | .hbm, ⟨16, _⟩ => ⟨S5x768, .f32⟩
  | .hbm, ⟨17, _⟩ => ⟨S5x768, .f32⟩
  | .hbm, ⟨18, _⟩ => ⟨S5x768, .f32⟩
  | .hbm, ⟨19, _⟩ => ⟨S_, .f32⟩
  | .hbm, ⟨20, _⟩ => ⟨S5x768, .f32⟩
  | .hbm, ⟨21, _⟩ => ⟨S5x768, .f32⟩
  | .hbm, ⟨22, _⟩ => ⟨S_, .f32⟩
  | .hbm, ⟨23, _⟩ => ⟨S5x768, .f32⟩
  | .hbm, ⟨24, _⟩ => ⟨S5x768, .f32⟩
  | .hbm, ⟨25, _⟩ => ⟨S5x768, .f32⟩
  | .hbm, ⟨26, _⟩ => ⟨S_, .f32⟩
  | .hbm, ⟨27, _⟩ => ⟨S5x768, .f32⟩
  | .hbm, ⟨28, _⟩ => ⟨S5x768, .f32⟩
  | .hbm, ⟨29, _⟩ => ⟨S5x768, .f32⟩
  | .hbm, ⟨30, _⟩ => ⟨S_, .f32⟩
  | .hbm, ⟨31, _⟩ => ⟨S5x768, .f32⟩
  | .hbm, ⟨32, _⟩ => ⟨S5x768, .f32⟩
  | .hbm, ⟨33, _⟩ => ⟨S5x768, .f32⟩
  | .hbm, ⟨34, _⟩ => ⟨S_, .f32⟩
  | .hbm, ⟨35, _⟩ => ⟨S5x768, .f32⟩
  | .hbm, ⟨36, _⟩ => ⟨S5x768, .f32⟩
  | _, _ => ⟨S5x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S1x13600 : Shape := ⟨2, ![1, 13600]⟩

abbrev nBuf : Space → Nat
  | .hbm => 7
  | .vmem => 7
  | .smem => 0
  | _ => 0

abbrev bufTy : (tb : Table) → Fin (tcTables nBuf tb) → BufTy
  | .hbm, ⟨0, _⟩ => ⟨S1x13600, .f32⟩
  | .hbm, ⟨1, _⟩ => ⟨S1x13600, .f32⟩
  | .hbm, ⟨2, _⟩ => ⟨S1x13600, .f32⟩
  | .hbm, ⟨3, _⟩ => ⟨S1x13600, .f32⟩
  | .hbm, ⟨4, _⟩ => ⟨S1x13600, .f32⟩
  | .hbm, ⟨5, _⟩ => ⟨S1x13600, .f32⟩
  | .hbm, ⟨6, _⟩ => ⟨S1x13600, .f32⟩
  | .local _ .vmem, ⟨0, _⟩ => ⟨S1x13600, .f32⟩
  | .local _ .vmem, ⟨1, _⟩ => ⟨S1x13600, .f32⟩
  | .local _ .vmem, ⟨2, _⟩ => ⟨S1x13600, .f32⟩
  | .local _ .vmem, ⟨3, _⟩ => ⟨S1x13600, .f32⟩
  | .local _ .vmem, ⟨4, _⟩ => ⟨S1x13600, .f32⟩
  | .local _ .vmem, ⟨5, _⟩ => ⟨S1x13600, .f32⟩
  | .local _ .vmem, ⟨6, _⟩ => ⟨S1x13600, .f32⟩
  | _, _ => ⟨S1x13600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x13600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x13600 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x13600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x13600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x13600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x13600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x13600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallReferenceIdeal.lean ====
abbrev S1x13600 : Shape := ⟨2, ![1, 13600]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x13600, .f32⟩
  | .hbm, ⟨1, _⟩ => ⟨S1x13600, .f32⟩
  | .hbm, ⟨2, _⟩ => ⟨S1x13600, .f32⟩
  | .hbm, ⟨3, _⟩ => ⟨S1x13600, .f32⟩
  | .hbm, ⟨4, _⟩ => ⟨S_, .f32⟩
  | .hbm, ⟨5, _⟩ => ⟨S1x13600, .f32⟩
  | .hbm, ⟨6, _⟩ => ⟨S1x13600, .f32⟩
  | .hbm, ⟨7, _⟩ => ⟨S_, .f32⟩
  | .hbm, ⟨8, _⟩ => ⟨S1x13600, .f32⟩
  | .hbm, ⟨9, _⟩ => ⟨S1x13600, .f32⟩
  | .hbm, ⟨10, _⟩ => ⟨S1x13600, .f32⟩
  | .hbm, ⟨11, _⟩ => ⟨S_, .f32⟩
  | .hbm, ⟨12, _⟩ => ⟨S1x13600, .f32⟩
  | .hbm, ⟨13, _⟩ => ⟨S1x13600, .f32⟩
  | .hbm, ⟨14, _⟩ => ⟨S1x13600, .f32⟩
  | .hbm, ⟨15, _⟩ => ⟨S_, .f32⟩
  | .hbm, ⟨16, _⟩ => ⟨S1x13600, .f32⟩
  | .hbm, ⟨17, _⟩ => ⟨S1x13600, .f32⟩
  | .hbm, ⟨18, _⟩ => ⟨S1x13600, .f32⟩
  | .hbm, ⟨19, _⟩ => ⟨S_, .f32⟩
  | .hbm, ⟨20, _⟩ => ⟨S1x13600, .f32⟩
  | .hbm, ⟨21, _⟩ => ⟨S1x13600, .f32⟩
  | .hbm, ⟨22, _⟩ => ⟨S_, .f32⟩
  | .hbm, ⟨23, _⟩ => ⟨S1x13600, .f32⟩
  | .hbm, ⟨24, _⟩ => ⟨S1x13600, .f32⟩
  | .hbm, ⟨25, _⟩ => ⟨S1x13600, .f32⟩
  | .hbm, ⟨26, _⟩ => ⟨S_, .f32⟩
  | .hbm, ⟨27, _⟩ => ⟨S1x13600, .f32⟩
  | .hbm, ⟨28, _⟩ => ⟨S1x13600, .f32⟩
  | .hbm, ⟨29, _⟩ => ⟨S1x13600, .f32⟩
  | .hbm, ⟨30, _⟩ => ⟨S_, .f32⟩
  | .hbm, ⟨31, _⟩ => ⟨S1x13600, .f32⟩
  | .hbm, ⟨32, _⟩ => ⟨S1x13600, .f32⟩
  | .hbm, ⟨33, _⟩ => ⟨S1x13600, .f32⟩
  | .hbm, ⟨34, _⟩ => ⟨S_, .f32⟩
  | .hbm, ⟨35, _⟩ => ⟨S1x13600, .f32⟩
  | .hbm, ⟨36, _⟩ => ⟨S1x13600, .f32⟩
  | _, _ => ⟨S1x13600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Merge.lean ====
abbrev S8192x1024 : Shape := ⟨2, ![8192, 1024]⟩
abbrev S1x1024 : Shape := ⟨2, ![1, 1024]⟩
abbrev S8192x2048 : Shape := ⟨2, ![8192, 2048]⟩
abbrev S1024x1024 : Shape := ⟨2, ![1024, 1024]⟩
abbrev S2048x1024 : Shape := ⟨2, ![2048, 1024]⟩
abbrev S1024x8192 : Shape := ⟨2, ![1024, 8192]⟩
abbrev S1024x512 : Shape := ⟨2, ![1024, 512]⟩
abbrev S512x1024 : Shape := ⟨2, ![512, 1024]⟩
abbrev S512x2048 : Shape := ⟨2, ![512, 2048]⟩
abbrev S256x8192 : Shape := ⟨2, ![256, 8192]⟩
abbrev S8192x512 : Shape := ⟨2, ![8192, 512]⟩
abbrev S256x512 : Shape := ⟨2, ![256, 512]⟩

abbrev nBuf : Space → Nat
  | .hbm => 29
  | .vmem => 63
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S8192x1024, .f32⟩
  | .hbm, ⟨9, _⟩ => ⟨S1024x8192, .f32⟩
  | .hbm, ⟨10, _⟩ => ⟨S1024x8192, .bf16⟩
  | .hbm, ⟨11, _⟩ => ⟨S8192x2048, .bf16⟩
  | .hbm, ⟨12, _⟩ => ⟨S8192x2048, .bf16⟩
  | .hbm, ⟨13, _⟩ => ⟨S8192x1024, .bf16⟩
  | .hbm, ⟨14, _⟩ => ⟨S1024x1024, .bf16⟩
  | .hbm, ⟨15, _⟩ => ⟨S2048x1024, .bf16⟩
  | .hbm, ⟨16, _⟩ => ⟨S1024x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S1024x8192, .bf16⟩
  | .hbm, ⟨27, _⟩ => ⟨S1024x1024, .f32⟩
  | .hbm, ⟨28, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S1024x1024, .bf16⟩
  | .local _ .vmem, ⟨51, _⟩ => ⟨S1024x1024, .bf16⟩
  | .local _ .vmem, ⟨52, _⟩ => ⟨S256x8192, .bf16⟩
  | .local _ .vmem, ⟨53, _⟩ => ⟨S256x8192, .bf16⟩
  | .local _ .vmem, ⟨54, _⟩ => ⟨S8192x512, .bf16⟩
  | .local _ .vmem, ⟨55, _⟩ => ⟨S8192x512, .bf16⟩
  | .local _ .vmem, ⟨56, _⟩ => ⟨S256x512, .f32⟩
  | .local _ .vmem, ⟨57, _⟩ => ⟨S256x512, .f32⟩
  | .local _ .vmem, ⟨58, _⟩ => ⟨S512x1024, .bf16⟩
  | .local _ .vmem, ⟨59, _⟩ => ⟨S512x1024, .bf16⟩
  | .local _ .vmem, ⟨60, _⟩ => ⟨S2048x1024, .bf16⟩
  | .local _ .vmem, ⟨61, _⟩ => ⟨S512x2048, .bf16⟩
  | .local _ .vmem, ⟨62, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10_0 : Ref sig .tc := ⟨.hbm, 20, rfl⟩
abbrev main_v10_1 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc3_stg7_1 : Ref sig .tc := ⟨.vmem, 42, rfl⟩
abbrev cc3_stg8_0 : Ref sig .tc := ⟨.vmem, 43, rfl⟩
abbrev cc3_stg8_1 : Ref sig .tc := ⟨.vmem, 44, rfl⟩
abbrev cc3_stg9_0 : Ref sig .tc := ⟨.vmem, 45, rfl⟩
abbrev cc3_stg9_1 : Ref sig .tc := ⟨.vmem, 46, rfl⟩
abbrev cc4_stg0_0 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg2_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem5_1 : DmaSem sig := 38
abbrev cc3_sem6_0 : DmaSem sig := 39
abbrev cc3_sem6_1 : DmaSem sig := 40
abbrev cc3_sem7_0 : DmaSem sig := 41
abbrev cc3_sem7_1 : DmaSem sig := 42
abbrev cc3_sem8_0 : DmaSem sig := 43
abbrev cc3_sem8_1 : DmaSem sig := 44
abbrev cc3_sem9_0 : DmaSem sig := 45
abbrev cc3_sem9_1 : DmaSem sig := 46
abbrev cc4_sem0_0 : DmaSem sig := 47
abbrev cc4_sem1_0 : DmaSem sig := 48
abbrev cc4_sem1_1 : DmaSem sig := 49
abbrev cc4_sem2_0 : DmaSem sig := 50
abbrev cc4_sem2_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem2_1 : DmaSem sig := 62

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc3_transform_5 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S512x1024 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S512x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S512x1024 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S1024x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S8192x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![16, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S512x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== MergeReferenceIdeal.lean ====
abbrev S8192x1024 : Shape := ⟨2, ![8192, 1024]⟩
abbrev S1x1024 : Shape := ⟨2, ![1, 1024]⟩
abbrev S8192x2048 : Shape := ⟨2, ![8192, 2048]⟩
abbrev S1024x1024 : Shape := ⟨2, ![1024, 1024]⟩
abbrev S2048x1024 : Shape := ⟨2, ![2048, 1024]⟩
abbrev S_ : Shape := ⟨0, ![]⟩
abbrev S1024x8192 : Shape := ⟨2, ![1024, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2048, .f32⟩
  | .hbm, ⟨45, _⟩ => ⟨S8192x1024, .f32⟩
  | .hbm, ⟨46, _⟩ => ⟨S8192x1024, .f32⟩
  | .hbm, ⟨47, _⟩ => ⟨S1024x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x2048, .f32⟩
  | .hbm, ⟨53, _⟩ => ⟨S8192x1024, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S8192x1024, .f32⟩
  | .hbm, ⟨63, _⟩ => ⟨S8192x1024, .bf16⟩
  | .hbm, ⟨64, _⟩ => ⟨S1024x8192, .f32⟩
  | .hbm, ⟨65, _⟩ => ⟨S1024x8192, .bf16⟩
  | .hbm, ⟨66, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Proof.AdamwMlp.lean ====
/- AdamW's step on the channel mixer's two weights, at exact arithmetic: the kernel's three arrays are the reference's, entry by entry. -/
module

public import proofs.«01_k».proof.Proof.Gen.AdamwMlpIdeal.Value
public import proofs.«01_k».proof.Proof.Gen.AdamwMlpReferenceIdeal.Run
public import Idealize.ShloMosaic.Lib.Pointwise

@[expose] public section

set_option maxRecDepth 16384

noncomputable section

namespace Cert.AdamwMlpReferenceIdeal.Hand

open Cert.AdamwMlpReferenceIdeal Cert.AdamwMlpReferenceIdeal.Gen
open Idealize.ShloMosaic Idealize.ShloMosaic.TcCoe
open Cert.AdamwMlpIdeal.Value (G4 G5 G6)

variable (w g m v : FVec Ideal S1024x1024 .f32)

/-- The reference's new moments, and its step. -/
abbrev rFirst : FVec Ideal S1024x1024 .f32 :=
  addf (mulf (broadcastInDim S1024x1024 ![] bcast_S_S1024x1024 (constant S_ .f32 0x3F666666#32)) m)
    (mulf (broadcastInDim S1024x1024 ![] bcast_S_S1024x1024 (constant S_ .f32 0x3DCCCCCD#32)) g)
abbrev rSecond : FVec Ideal S1024x1024 .f32 :=
  addf (mulf (broadcastInDim S1024x1024 ![] bcast_S_S1024x1024 (constant S_ .f32 0x3F7FBE77#32)) v)
    (mulf (broadcastInDim S1024x1024 ![] bcast_S_S1024x1024 (constant S_ .f32 0x3A83126F#32)) (mulf g g))
abbrev rDelta : FVec Ideal S1024x1024 .f32 :=
  mulf (broadcastInDim S1024x1024 ![] bcast_S_S1024x1024 (constant S_ .f32 0xBA83126F#32))
    (addf (Host.divf (Host.divf (rFirst g m) (broadcastInDim S1024x1024 ![] bcast_S_S1024x1024 (constant S_ .f32 0x3F26BD02#32)))
        (addf (Host.sqrt (Host.divf (rSecond g v) (broadcastInDim S1024x1024 ![] bcast_S_S1024x1024 (constant S_ .f32 0x3C231ACC#32))))
          (broadcastInDim S1024x1024 ![] bcast_S_S1024x1024 (constant S_ .f32 0x322BCC77#32))))
      (mulf (broadcastInDim S1024x1024 ![] bcast_S_S1024x1024 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwMlpReferenceIdeal.Hand

end
-- ==== Proof.AdamwOut.lean ====
/- AdamW's step on the output weights of the attention and of the merge, at exact arithmetic: the kernel's three arrays are the reference's, entry by entry. -/
module

public import proofs.«01_k».proof.Proof.Gen.AdamwOutIdeal.Value
public import proofs.«01_k».proof.Proof.Gen.AdamwOutReferenceIdeal.Run
public import Idealize.ShloMosaic.Lib.Pointwise

@[expose] public section

set_option maxRecDepth 16384

noncomputable section

namespace Cert.AdamwOutReferenceIdeal.Hand

open Cert.AdamwOutReferenceIdeal Cert.AdamwOutReferenceIdeal.Gen
open Idealize.ShloMosaic Idealize.ShloMosaic.TcCoe
open Cert.AdamwOutIdeal.Value (G4 G5 G6)

variable (w g m v : FVec Ideal S256x1024 .f32)

/-- The reference's new moments, and its step. -/
abbrev rFirst : FVec Ideal S256x1024 .f32 :=
  addf (mulf (broadcastInDim S256x1024 ![] bcast_S_S256x1024 (constant S_ .f32 0x3F666666#32)) m)
    (mulf (broadcastInDim S256x1024 ![] bcast_S_S256x1024 (constant S_ .f32 0x3DCCCCCD#32)) g)
abbrev rSecond : FVec Ideal S256x1024 .f32 :=
  addf (mulf (broadcastInDim S256x1024 ![] bcast_S_S256x1024 (constant S_ .f32 0x3F7FBE77#32)) v)
    (mulf (broadcastInDim S256x1024 ![] bcast_S_S256x1024 (constant S_ .f32 0x3A83126F#32)) (mulf g g))
abbrev rDelta : FVec Ideal S256x1024 .f32 :=
  mulf (broadcastInDim S256x1024 ![] bcast_S_S256x1024 (constant S_ .f32 0xBA83126F#32))
    (addf (Host.divf (Host.divf (rFirst g m) (broadcastInDim S256x1024 ![] bcast_S_S256x1024 (constant S_ .f32 0x3F26BD02#32)))
        (addf (Host.sqrt (Host.divf (rSecond g v) (broadcastInDim S256x1024 ![] bcast_S_S256x1024 (constant S_ .f32 0x3C231ACC#32))))
          (broadcastInDim S256x1024 ![] bcast_S_S256x1024 (constant S_ .f32 0x322BCC77#32))))
      (mulf (broadcastInDim S256x1024 ![] bcast_S_S256x1024 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwOutReferenceIdeal.Hand

end
-- ==== Proof.AdamwSsd.lean ====
/- AdamW's step on the state-space branch's output weight, at exact arithmetic: the kernel's three arrays are the reference's, entry by entry. -/
module

public import proofs.«01_k».proof.Proof.Gen.AdamwSsdIdeal.Value
public import proofs.«01_k».proof.Proof.Gen.AdamwSsdReferenceIdeal.Run
public import Idealize.ShloMosaic.Lib.Pointwise

@[expose] public section

set_option maxRecDepth 16384

noncomputable section

namespace Cert.AdamwSsdReferenceIdeal.Hand

open Cert.AdamwSsdReferenceIdeal Cert.AdamwSsdReferenceIdeal.Gen
open Idealize.ShloMosaic Idealize.ShloMosaic.TcCoe
open Cert.AdamwSsdIdeal.Value (G4 G5 G6)

variable (w g m v : FVec Ideal S512x1024 .f32)

/-- The reference's new moments, and its step. -/
abbrev rFirst : FVec Ideal S512x1024 .f32 :=
  addf (mulf (broadcastInDim S512x1024 ![] bcast_S_S512x1024 (constant S_ .f32 0x3F666666#32)) m)
    (mulf (broadcastInDim S512x1024 ![] bcast_S_S512x1024 (constant S_ .f32 0x3DCCCCCD#32)) g)
abbrev rSecond : FVec Ideal S512x1024 .f32 :=
  addf (mulf (broadcastInDim S512x1024 ![] bcast_S_S512x1024 (constant S_ .f32 0x3F7FBE77#32)) v)
    (mulf (broadcastInDim S512x1024 ![] bcast_S_S512x1024 (constant S_ .f32 0x3A83126F#32)) (mulf g g))
abbrev rDelta : FVec Ideal S512x1024 .f32 :=
  mulf (broadcastInDim S512x1024 ![] bcast_S_S512x1024 (constant S_ .f32 0xBA83126F#32))
    (addf (Host.divf (Host.divf (rFirst g m) (broadcastInDim S512x1024 ![] bcast_S_S512x1024 (constant S_ .f32 0x3F26BD02#32)))
        (addf (Host.sqrt (Host.divf (rSecond g v) (broadcastInDim S512x1024 ![] bcast_S_S512x1024 (constant S_ .f32 0x3C231ACC#32))))
          (broadcastInDim S512x1024 ![] bcast_S_S512x1024 (constant S_ .f32 0x322BCC77#32))))
      (mulf (broadcastInDim S512x1024 ![] bcast_S_S512x1024 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwSsdReferenceIdeal.Hand

end
-- ==== Proof.AdamwIn.lean ====
/- AdamW's step on the input projection's weight, at exact arithmetic: the kernel's three arrays are the reference's, entry by entry. -/
module

public import proofs.«01_k».proof.Proof.Gen.AdamwInIdeal.Value
public import proofs.«01_k».proof.Proof.Gen.AdamwInReferenceIdeal.Run
public import Idealize.ShloMosaic.Lib.Pointwise

@[expose] public section

set_option maxRecDepth 16384

noncomputable section

namespace Cert.AdamwInReferenceIdeal.Hand

open Cert.AdamwInReferenceIdeal Cert.AdamwInReferenceIdeal.Gen
open Idealize.ShloMosaic Idealize.ShloMosaic.TcCoe
open Cert.AdamwInIdeal.Value (G4 G5 G6)

variable (w g m v : FVec Ideal S1024x2192 .f32)

/-- The reference's new moments, and its step. -/
abbrev rFirst : FVec Ideal S1024x2192 .f32 :=
  addf (mulf (broadcastInDim S1024x2192 ![] bcast_S_S1024x2192 (constant S_ .f32 0x3F666666#32)) m)
    (mulf (broadcastInDim S1024x2192 ![] bcast_S_S1024x2192 (constant S_ .f32 0x3DCCCCCD#32)) g)
abbrev rSecond : FVec Ideal S1024x2192 .f32 :=
  addf (mulf (broadcastInDim S1024x2192 ![] bcast_S_S1024x2192 (constant S_ .f32 0x3F7FBE77#32)) v)
    (mulf (broadcastInDim S1024x2192 ![] bcast_S_S1024x2192 (constant S_ .f32 0x3A83126F#32)) (mulf g g))
abbrev rDelta : FVec Ideal S1024x2192 .f32 :=
  mulf (broadcastInDim S1024x2192 ![] bcast_S_S1024x2192 (constant S_ .f32 0xBA83126F#32))
    (addf (Host.divf (Host.divf (rFirst g m) (broadcastInDim S1024x2192 ![] bcast_S_S1024x2192 (constant S_ .f32 0x3F26BD02#32)))
        (addf (Host.sqrt (Host.divf (rSecond g v) (broadcastInDim S1024x2192 ![] bcast_S_S1024x2192 (constant S_ .f32 0x3C231ACC#32))))
          (broadcastInDim S1024x2192 ![] bcast_S_S1024x2192 (constant S_ .f32 0x322BCC77#32))))
      (mulf (broadcastInDim S1024x2192 ![] bcast_S_S1024x2192 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwInReferenceIdeal.Hand

end
-- ==== Proof.AdamwAda.lean ====
/- AdamW's step on the modulation's weight, at exact arithmetic: the kernel's three arrays are the reference's, entry by entry. -/
module

public import proofs.«01_k».proof.Proof.Gen.AdamwAdaIdeal.Value
public import proofs.«01_k».proof.Proof.Gen.AdamwAdaReferenceIdeal.Run
public import Idealize.ShloMosaic.Lib.Pointwise

@[expose] public section

set_option maxRecDepth 16384

noncomputable section

namespace Cert.AdamwAdaReferenceIdeal.Hand

open Cert.AdamwAdaReferenceIdeal Cert.AdamwAdaReferenceIdeal.Gen
open Idealize.ShloMosaic Idealize.ShloMosaic.TcCoe
open Cert.AdamwAdaIdeal.Value (G4 G5 G6)

variable (w g m v : FVec Ideal S1024x1536 .f32)

/-- The reference's new moments, and its step. -/
abbrev rFirst : FVec Ideal S1024x1536 .f32 :=
  addf (mulf (broadcastInDim S1024x1536 ![] bcast_S_S1024x1536 (constant S_ .f32 0x3F666666#32)) m)
    (mulf (broadcastInDim S1024x1536 ![] bcast_S_S1024x1536 (constant S_ .f32 0x3DCCCCCD#32)) g)
abbrev rSecond : FVec Ideal S1024x1536 .f32 :=
  addf (mulf (broadcastInDim S1024x1536 ![] bcast_S_S1024x1536 (constant S_ .f32 0x3F7FBE77#32)) v)
    (mulf (broadcastInDim S1024x1536 ![] bcast_S_S1024x1536 (constant S_ .f32 0x3A83126F#32)) (mulf g g))
abbrev rDelta : FVec Ideal S1024x1536 .f32 :=
  mulf (broadcastInDim S1024x1536 ![] bcast_S_S1024x1536 (constant S_ .f32 0xBA83126F#32))
    (addf (Host.divf (Host.divf (rFirst g m) (broadcastInDim S1024x1536 ![] bcast_S_S1024x1536 (constant S_ .f32 0x3F26BD02#32)))
        (addf (Host.sqrt (Host.divf (rSecond g v) (broadcastInDim S1024x1536 ![] bcast_S_S1024x1536 (constant S_ .f32 0x3C231ACC#32))))
          (broadcastInDim S1024x1536 ![] bcast_S_S1024x1536 (constant S_ .f32 0x322BCC77#32))))
      (mulf (broadcastInDim S1024x1536 ![] bcast_S_S1024x1536 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwAdaReferenceIdeal.Hand

end
-- ==== Proof.AdamwConv.lean ====
/- AdamW's step on the convolution's weight, at exact arithmetic: the kernel's three arrays are the reference's, entry by entry. -/
module

public import proofs.«01_k».proof.Proof.Gen.AdamwConvIdeal.Value
public import proofs.«01_k».proof.Proof.Gen.AdamwConvReferenceIdeal.Run
public import Idealize.ShloMosaic.Lib.Pointwise

@[expose] public section

set_option maxRecDepth 16384

noncomputable section

namespace Cert.AdamwConvReferenceIdeal.Hand

open Cert.AdamwConvReferenceIdeal Cert.AdamwConvReferenceIdeal.Gen
open Idealize.ShloMosaic Idealize.ShloMosaic.TcCoe
open Cert.AdamwConvIdeal.Value (G4 G5 G6)

variable (w g m v : FVec Ideal S5x768 .f32)

/-- The reference's new moments, and its step. -/
abbrev rFirst : FVec Ideal S5x768 .f32 :=
  addf (mulf (broadcastInDim S5x768 ![] bcast_S_S5x768 (constant S_ .f32 0x3F666666#32)) m)
    (mulf (broadcastInDim S5x768 ![] bcast_S_S5x768 (constant S_ .f32 0x3DCCCCCD#32)) g)
abbrev rSecond : FVec Ideal S5x768 .f32 :=
  addf (mulf (broadcastInDim S5x768 ![] bcast_S_S5x768 (constant S_ .f32 0x3F7FBE77#32)) v)
    (mulf (broadcastInDim S5x768 ![] bcast_S_S5x768 (constant S_ .f32 0x3A83126F#32)) (mulf g g))
abbrev rDelta : FVec Ideal S5x768 .f32 :=
  mulf (broadcastInDim S5x768 ![] bcast_S_S5x768 (constant S_ .f32 0xBA83126F#32))
    (addf (Host.divf (Host.divf (rFirst g m) (broadcastInDim S5x768 ![] bcast_S_S5x768 (constant S_ .f32 0x3F26BD02#32)))
        (addf (Host.sqrt (Host.divf (rSecond g v) (broadcastInDim S5x768 ![] bcast_S_S5x768 (constant S_ .f32 0x3C231ACC#32))))
          (broadcastInDim S5x768 ![] bcast_S_S5x768 (constant S_ .f32 0x322BCC77#32))))
      (mulf (broadcastInDim S5x768 ![] bcast_S_S5x768 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwConvReferenceIdeal.Hand

end
-- ==== Proof.AdamwSmall.lean ====
/- AdamW's step on the small weights in one row, at exact arithmetic: the kernel's three arrays are the reference's, entry by entry. -/
module

public import proofs.«01_k».proof.Proof.Gen.AdamwSmallIdeal.Value
public import proofs.«01_k».proof.Proof.Gen.AdamwSmallReferenceIdeal.Run
public import Idealize.ShloMosaic.Lib.Pointwise

@[expose] public section

set_option maxRecDepth 16384

noncomputable section

namespace Cert.AdamwSmallReferenceIdeal.Hand

open Cert.AdamwSmallReferenceIdeal Cert.AdamwSmallReferenceIdeal.Gen
open Idealize.ShloMosaic Idealize.ShloMosaic.TcCoe
open Cert.AdamwSmallIdeal.Value (G4 G5 G6)

variable (w g m v : FVec Ideal S1x13600 .f32)

/-- The reference's new moments, and its step. -/
abbrev rFirst : FVec Ideal S1x13600 .f32 :=
  addf (mulf (broadcastInDim S1x13600 ![] bcast_S_S1x13600 (constant S_ .f32 0x3F666666#32)) m)
    (mulf (broadcastInDim S1x13600 ![] bcast_S_S1x13600 (constant S_ .f32 0x3DCCCCCD#32)) g)
abbrev rSecond : FVec Ideal S1x13600 .f32 :=
  addf (mulf (broadcastInDim S1x13600 ![] bcast_S_S1x13600 (constant S_ .f32 0x3F7FBE77#32)) v)
    (mulf (broadcastInDim S1x13600 ![] bcast_S_S1x13600 (constant S_ .f32 0x3A83126F#32)) (mulf g g))
abbrev rDelta : FVec Ideal S1x13600 .f32 :=
  mulf (broadcastInDim S1x13600 ![] bcast_S_S1x13600 (constant S_ .f32 0xBA83126F#32))
    (addf (Host.divf (Host.divf (rFirst g m) (broadcastInDim S1x13600 ![] bcast_S_S1x13600 (constant S_ .f32 0x3F26BD02#32)))
        (addf (Host.sqrt (Host.divf (rSecond g v) (broadcastInDim S1x13600 ![] bcast_S_S1x13600 (constant S_ .f32 0x3C231ACC#32))))
          (broadcastInDim S1x13600 ![] bcast_S_S1x13600 (constant S_ .f32 0x322BCC77#32))))
      (mulf (broadcastInDim S1x13600 ![] bcast_S_S1x13600 (constant S_ .f32 0x3C23D70A#32)) w))

theorem first : rFirst g m = G5 (F := Ideal) g m := by
  funext y
  rfl
theorem second : rSecond g v = G6 (F := Ideal) g v := by
  funext y
  rfl
theorem delta : rDelta w g m v = G4 (F := Ideal) g m v w := by
  funext y
  rfl

end Cert.AdamwSmallReferenceIdeal.Hand

end
-- ==== Proof.ProjDw.lean ====
/- The in-projection's weight gradient, at exact arithmetic: the kernel's four partial products add up to the product over
   all tokens, which is what the reference computes. -/
module

public import proofs.«01_k».proof.Proof.Gen.ProjDwIdeal.Value
public import proofs.«01_k».proof.Proof.Gen.ProjDwReferenceIdeal.Run
public import Idealize.ShloMosaic.Lib.Pointwise
public import Idealize.ShloMosaic.Lib.Pipeline.ValueKit

@[expose] public section

set_option maxRecDepth 16384

noncomputable section

namespace Cert.ProjDwIdeal.Hand

open Cert.ProjDwIdeal Cert.ProjDwIdeal.Gen
open Idealize.ShloMosaic Idealize.ShloMosaic.TcCoe

/-- One step's partial product. -/
theorem part_entry (x0 : FVec Ideal S2048x512 .bf16) (x1 : FVec Ideal S2048x2944 .bf16) (k : Fin 512) (n : Fin 2944) :
    k0_pay1 (F := Ideal) x0 x1 (ix2 k n) = ∑ r : Fin 2048, x0 (ix2 r k) * x1 (ix2 r n) := by
  pointwise [k0_pay1]

theorem step_entry (x0 : FVec Ideal S2048x512 .bf16) (x1 : FVec Ideal S2048x2944 .bf16) (acc : FVec Ideal S512x2944 .f32) (k : Fin 512) (n : Fin 2944) :
    k0_pay2 (F := Ideal) x0 x1 acc (ix2 k n) = acc (ix2 k n) + ∑ r : Fin 2048, x0 (ix2 r k) * x1 (ix2 r n) := by
  pointwise [k0_pay2, k0_pay1]

theorem idx0_0 : ∀ t : Fin cfg0.N, win0_0.index t 0 = t.val % 4 := by
  exact (by decide +kernel : ∀ t : Fin grid0.N, win0_0.index t 0 = t.val % 4)
theorem idx0_1 : ∀ t : Fin cfg0.N, win0_0.index t 1 = t.val / 12 := by
  exact (by decide +kernel : ∀ t : Fin grid0.N, win0_0.index t 1 = t.val / 12)
theorem idx1_0 : ∀ t : Fin cfg0.N, win0_1.index t 0 = t.val % 4 := by
  exact (by decide +kernel : ∀ t : Fin grid0.N, win0_1.index t 0 = t.val % 4)
theorem idx1_1 : ∀ t : Fin cfg0.N, win0_1.index t 1 = t.val / 4 % 3 := by
  exact (by decide +kernel : ∀ t : Fin grid0.N, win0_1.index t 1 = t.val / 4 % 3)
theorem idx2_0 : ∀ t : Fin cfg0.N, win0_2.index t 0 = t.val / 12 := by
  exact (by decide +kernel : ∀ t : Fin grid0.N, win0_2.index t 0 = t.val / 12)
theorem idx2_1 : ∀ t : Fin cfg0.N, win0_2.index t 1 = t.val / 4 % 3 := by
  exact (by decide +kernel : ∀ t : Fin grid0.N, win0_2.index t 1 = t.val / 4 % 3)

/-- The product over all tokens. -/
def tokenProduct (h : FVec Ideal S8192x1024 .f32) (ct : FVec Ideal S8192x8832 .f32) : FVec Ideal S1024x8832 .f32 :=
  fun y => ∑ r : Fin 8192, h (ix2 (n0 := 8192) (n1 := 1024) r (y 0)) * ct (ix2 (n0 := 8192) (n1 := 8832) r (y 1))

variable (m : (ℓ : Loc nD τ sig) → Buf (Elt Ideal) ℓ) (c : Dev nD)

abbrev argH : FVec Ideal S8192x1024 .f32 := m ((c.tc : Thread nD τ).loc main_arg0)
abbrev argC : FVec Ideal S8192x8832 .f32 := m ((c.tc : Thread nD τ).loc main_arg1)

theorem V_h : (V m c main_v0 : FVec Ideal S8192x1024 .bf16) = argH m c := by
  unfold V
  after_results_simp
  rfl
theorem V_ct : (V m c main_v1 : FVec Ideal S8192x8832 .bf16) = argC m c := by
  unfold V
  after_results_simp
  rfl

/-- The blocks a point reads. -/
abbrev rowsH (t : Fin cfg0.N) : FVec Ideal S2048x512 .bf16 := iblk m c 0 t
abbrev rowsC (t : Fin cfg0.N) : FVec Ideal S2048x2944 .bf16 := iblk m c 1 t

theorem blk0_entry (t : Fin cfg0.N) (r : Fin 2048) (k : Fin 512) (R : Fin 8192) (K : Fin 1024)
    (hR : R.val = t.val % 4 * 2048 + r.val) (hK : K.val = t.val / 12 * 512 + k.val) :
    (rowsH m c t (ix2 r k) : EReal) = argH m c (ix2 R K) := by
  rw [← V_h m c]
  show (V m c main_v0 : FVec Ideal S8192x1024 .bf16) (((cfg0.win 0).blk t).view.emb (ix2 r k)) = _
  congr 1
  funext a
  apply Fin.ext
  match a with
  | ⟨0, _⟩ =>
    show ((win0_0.rect t).emb (ix2 r k) 0 : ℕ) = R.val
    rw [Pipeline.Window.rect_emb_val win0_0 t (ix2 r k) 0, idx0_0, hR]; rfl
  | ⟨1, _⟩ =>
    show ((win0_0.rect t).emb (ix2 r k) 1 : ℕ) = K.val
    rw [Pipeline.Window.rect_emb_val win0_0 t (ix2 r k) 1, idx0_1, hK]; rfl

theorem blk1_entry (t : Fin cfg0.N) (r : Fin 2048) (n : Fin 2944) (R : Fin 8192) (C : Fin 8832)
    (hR : R.val = t.val % 4 * 2048 + r.val) (hC : C.val = t.val / 4 % 3 * 2944 + n.val) :
    (rowsC m c t (ix2 r n) : EReal) = argC m c (ix2 R C) := by
  rw [← V_ct m c]
  show (V m c main_v1 : FVec Ideal S8192x8832 .bf16) (((cfg0.win 1).blk t).view.emb (ix2 r n)) = _
  congr 1
  funext a
  apply Fin.ext
  match a with
  | ⟨0, _⟩ =>
    show ((win0_1.rect t).emb (ix2 r n) 0 : ℕ) = R.val
    rw [Pipeline.Window.rect_emb_val win0_1 t (ix2 r n) 0, idx1_0, hR]; rfl
  | ⟨1, _⟩ =>
    show ((win0_1.rect t).emb (ix2 r n) 1 : ℕ) = C.val
    rw [Pipeline.Window.rect_emb_val win0_1 t (ix2 r n) 1, idx1_1, hC]; rfl

/-- What a point adds, entry by entry. -/
def addend (t : Fin cfg0.N) (y : S512x2944.Idx) : EReal :=
  ∑ r : Fin 2048, rowsH m c t (ix2 (n0 := 2048) (n1 := 512) r (y 0)) * rowsC m c t (ix2 (n0 := 2048) (n1 := 2944) r (y 1))

theorem outs_entry (t : Fin cfg0.N) (hr : t.val % 4 = 3) (y : S512x2944.Idx) :
    (outsAt0 m c t.val t.isLt y : EReal) = 0 + ∑ s : Fin 4, addend m c ⟨4 * (t.val / 4) + s.val, Pipeline.run_point_lt_of_flush t hr s⟩ y := by
  refine Pipeline.eq_sum_fin_of_reset_step_apply_of_flush (M := EReal) (fun n h => (outsAt0 m c n h : S512x2944.Idx → EReal)) 4 (fun _ => 0) (addend m c)
    (fun t h y => ?_) (fun t h y => ?_) t hr y
  · show (outsAt0 m c t.val t.isLt y : EReal) = 0 + addend m c t y
    rw [outsAt0_A m c t h (by omega)]
    frame_out
    rw [zero_add, eq_ix2 (n0 := 512) (n1 := 2944) y]
    exact part_entry _ _ _ _
  · show (outsAt0 m c t.val t.isLt y : EReal) = outsAt0 m c (t.val - 1) _ y + addend m c t y
    rw [outsAt0_B m c t h (by omega)]
    frame_out
    rw [eq_ix2 (n0 := 512) (n1 := 2944) y]
    exact step_entry _ _ _ _ _

theorem result : (dats m 0 c).arrAt 2 cfg0.N = tokenProduct (argH m c) (argC m c) := by
  refine (dats m 0 c).arrAt_eq_of_covers 2 _ (by decide +kernel) fun t hf y => ?_
  have ht : t.val < 24 := Nat.lt_of_lt_of_eq t.isLt N_0
  have h3 := (flush0_2 t).mp hf
  have hy0 : (y 0).val < 512 := (y 0).isLt
  have hy1 : (y 1).val < 2944 := (y 1).isLt
  show ((dats m 0 c).after 2 t : FVec Ideal S512x2944 .f32) y = _
  rw [after0_2]
  refine (outs_entry m c t h3 y).trans ?_
  have c0 : ((((cfg0.win 2).blk t).view.emb y) 0).val = t.val / 12 * 512 + (y 0).val := by
    show ((win0_2.rect t).emb y 0 : ℕ) = _
    rw [Pipeline.Window.rect_emb_val win0_2 t y 0, idx2_0 t]; rfl
  have c1 : ((((cfg0.win 2).blk t).view.emb y) 1).val = t.val / 4 % 3 * 2944 + (y 1).val := by
    show ((win0_2.rect t).emb y 1 : ℕ) = _
    rw [Pipeline.Window.rect_emb_val win0_2 t y 1, idx2_1 t]; rfl
  rw [zero_add]
  unfold tokenProduct addend
  refine Fin.sum_mul_add_congr (S := 4) (n := 2048) fun s k hl => ?_
  have hs := s.isLt
  have hk := k.isLt
  refine congrArg₂ (· * ·) (blk0_entry m c _ _ _ _ _ ?_ ?_) (blk1_entry m c _ _ _ _ _ ?_ ?_)
  · show s.val * 2048 + k.val = (4 * (t.val / 4) + s.val) % 4 * 2048 + k.val; omega
  · rw [c0]; show _ = (4 * (t.val / 4) + s.val) / 12 * 512 + (y 0).val; omega
  · show s.val * 2048 + k.val = (4 * (t.val / 4) + s.val) % 4 * 2048 + k.val; omega
  · rw [c1]; show _ = (4 * (t.val / 4) + s.val) / 4 % 3 * 2944 + (y 1).val; omega

end Cert.ProjDwIdeal.Hand

namespace Cert.ProjDwReferenceIdeal.Hand

open Cert.ProjDwReferenceIdeal Cert.ProjDwReferenceIdeal.Gen
open Idealize.ShloMosaic Idealize.ShloMosaic.TcCoe

theorem result (h : FVec Ideal S8192x1024 .f32) (ct : FVec Ideal S8192x8832 .f32) :
    (transpose S1024x8832 [1, 0] (Host.dotGeneral dot_S8192x8832_S8192x1024_S8832x1024_0_0_1_1_n_n none ct h : FVec Ideal S8832x1024 .f32) transposes_S8832x1024_S1024x8832_1_0 : FVec Ideal S1024x8832 .f32)
      = Cert.ProjDwIdeal.Hand.tokenProduct h ct := by
  funext y
  obtain ⟨k, n, rfl⟩ : ∃ k n, y = ix2 k n := ⟨y 0, y 1, eq_ix2 y⟩
  show _ = ∑ r : Fin 8192, h (ix2 r k) * ct (ix2 r n)
  pointwise []
  exact Finset.sum_congr rfl fun r _ => mul_comm _ _

end Cert.ProjDwReferenceIdeal.Hand

end
-- ==== Proof.MlpRun.lean ====
/- What every run of the feed-forward kernels ends in: the last kernel's result array, the arguments as they were, every
   counter at zero. -/
module

public import proofs.«01_k».proof.Proof.Gen.MlpIdeal.Frame

@[expose] public section

set_option maxRecDepth 16384

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every array of the last boundary kept. -/
theorem run_arrays : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The result array and the arguments after the run. -/
theorem run_results : θ_run defs (onTc (τ := τ) (main (F := F))) ⟨m, fun _ => 0, ρ⟩ (fun r => ∀ c : Dev nD,
      r.2.mem ((c.tc : Thread nD τ).loc main_v6) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h.1 c _ (mem_uc main_v6 (by decide))).trans (W4_arr m ρ c 2),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c)⟩) (run_arrays m ρ)

end Cert.MlpIdeal.Hand

end
-- ==== Proof.MlpVals.lean ====
/- The feed-forward gradient, at exact arithmetic: what the three kernels compute and what the reference computes are the
   same sums. -/
module

public import proofs.«01_k».proof.Proof.MlpRun
public import proofs.«01_k».proof.Proof.Gen.MlpReferenceIdeal.Run
public import Idealize.ShloMosaic.Lib.Pointwise
public import Idealize.ShloMosaic.Lib.Pipeline.ValueKit

@[expose] public section

set_option maxRecDepth 16384

noncomputable section

namespace Cert.MlpIdeal.Hand

open Cert.MlpIdeal Cert.MlpIdeal.Gen
open Idealize.ShloMosaic Idealize.ShloMosaic.TcCoe

/-! ## The blocks' products -/

theorem relu_entry (x0 x1 : FVec Ideal S1024x1024 .bf16) (r n : Fin 1024) :
    k0_pay3 (F := Ideal) x0 x1 (ix2 r n) = max (∑ d : Fin 1024, x0 (ix2 r d) * x1 (ix2 d n)) 0 := by
  pointwise [k0_pay3, k0_pay1]

theorem gated_entry (x0 x1 x2 : FVec Ideal S1024x1024 .bf16) (r n : Fin 1024) :
    k1_pay1 (F := Ideal) x0 x1 x2 (ix2 r n) = (∑ d : Fin 1024, x0 (ix2 r d) * x1 (ix2 n d)) * (Ideal.ofBits .f32 0x40000000#32 * x2 (ix2 r n)) := by
  pointwise [k1_pay1]

theorem back_entry (x0 x1 : FVec Ideal S1024x4096 .bf16) (r n : Fin 1024) :
    k2_pay1 (F := Ideal) x0 x1 (ix2 r n) = ∑ f : Fin 4096, x0 (ix2 r f) * x1 (ix2 n f) := by
  pointwise [k2_pay1]

/-! ## The whole arrays -/

/-- The positive part of the first product; the hidden layer's cotangent; the input's cotangent. -/
def relus (h : FVec Ideal S8192x1024 .bf16) (w1 : FVec Ideal S1024x4096 .bf16) : FVec Ideal S8192x4096 .bf16 :=
  fun y => max (∑ d : Fin 1024, h (ix2 (n0 := 8192) (n1 := 1024) (y 0) d) * w1 (ix2 (n0 := 1024) (n1 := 4096) d (y 1))) 0
def hiddenCot (g : FVec Ideal S8192x1024 .bf16) (w2 : FVec Ideal S4096x1024 .bf16) (r : FVec Ideal S8192x4096 .bf16) : FVec Ideal S8192x4096 .bf16 :=
  fun y => (∑ d : Fin 1024, g (ix2 (n0 := 8192) (n1 := 1024) (y 0) d) * w2 (ix2 (n0 := 4096) (n1 := 1024) (y 1) d)) * (Ideal.ofBits .f32 0x40000000#32 * r y)
def inputCot (p : FVec Ideal S8192x4096 .bf16) (w1 : FVec Ideal S1024x4096 .bf16) : FVec Ideal S8192x1024 .f32 :=
  fun y => ∑ f : Fin 4096, p (ix2 (n0 := 8192) (n1 := 4096) (y 0) f) * w1 (ix2 (n0 := 1024) (n1 := 4096) (y 1) f)

variable (V : (c : Dev nD) → (b : Ref sig .tc) → Buf (Elt Ideal) ((c : Thread nD τ).loc b)) (c : Dev nD)

theorem i00 : ∀ t : Fin cfg0.N, win0_0.index t 0 = t.val % 8 := by
  exact (by decide +kernel : ∀ t : Fin grid0.N, win0_0.index t 0 = t.val % 8)
theorem i01 : ∀ t : Fin cfg0.N, win0_0.index t 1 = 0 := by
  exact (by decide +kernel : ∀ t : Fin grid0.N, win0_0.index t 1 = 0)
theorem i02 : ∀ t : Fin cfg0.N, win0_1.index t 0 = 0 := by
  exact (by decide +kernel : ∀ t : Fin grid0.N, win0_1.index t 0 = 0)
theorem i03 : ∀ t : Fin cfg0.N, win0_1.index t 1 = t.val / 8 := by
  exact (by decide +kernel : ∀ t : Fin grid0.N, win0_1.index t 1 = t.val / 8)
theorem i04 : ∀ t : Fin cfg0.N, win0_3.index t 0 = t.val % 8 := by
  exact (by decide +kernel : ∀ t : Fin grid0.N, win0_3.index t 0 = t.val % 8)
theorem i05 : ∀ t : Fin cfg0.N, win0_3.index t 1 = t.val / 8 := by
  exact (by decide +kernel : ∀ t : Fin grid0.N, win0_3.index t 1 = t.val / 8)

theorem relus_array : (dat0 V c).arrAt 3 cfg0.N = relus (V c main_v0) (V c main_v1) := by
  refine (dat0 V c).arrAt_eq_of_covers 3 _ (by decide +kernel) fun t hf y => ?_
  show ((dat0 V c).after 3 t : FVec Ideal S1024x1024 .bf16) y = _
  rw [after0_3]
  frame_out
  obtain ⟨r, n, rfl⟩ : ∃ (r n : Fin 1024), y = ix2 r n := ⟨y 0, y 1, eq_ix2 y⟩
  refine (relu_entry _ _ r n).trans ?_
  unfold relus
  refine congrArg (max · 0) (Finset.sum_congr rfl fun d _ => congrArg₂ (· * ·) ?_ ?_)
  · blk_ext [iblk0, i00 t, i01 t, i04 t]
  · blk_ext [iblk0, i02 t, i03 t, i05 t]

theorem i10 : ∀ t : Fin cfg1.N, win1_0.index t 0 = t.val % 8 := by
  exact (by decide +kernel : ∀ t : Fin grid1.N, win1_0.index t 0 = t.val % 8)
theorem i11 : ∀ t : Fin cfg1.N, win1_0.index t 1 = 0 := by
  exact (by decide +kernel : ∀ t : Fin grid1.N, win1_0.index t 1 = 0)
theorem i12 : ∀ t : Fin cfg1.N, win1_1.index t 0 = t.val / 8 := by
  exact (by decide +kernel : ∀ t : Fin grid1.N, win1_1.index t 0 = t.val / 8)
theorem i13 : ∀ t : Fin cfg1.N, win1_1.index t 1 = 0 := by
  exact (by decide +kernel : ∀ t : Fin grid1.N, win1_1.index t 1 = 0)
theorem i14 : ∀ t : Fin cfg1.N, win1_2.index t 0 = t.val % 8 := by
  exact (by decide +kernel : ∀ t : Fin grid1.N, win1_2.index t 0 = t.val % 8)
theorem i15 : ∀ t : Fin cfg1.N, win1_2.index t 1 = t.val / 8 := by
  exact (by decide +kernel : ∀ t : Fin grid1.N, win1_2.index t 1 = t.val / 8)
theorem i16 : ∀ t : Fin cfg1.N, win1_3.index t 0 = t.val % 8 := by
  exact (by decide +kernel : ∀ t : Fin grid1.N, win1_3.index t 0 = t.val % 8)
theorem i17 : ∀ t : Fin cfg1.N, win1_3.index t 1 = t.val / 8 := by
  exact (by decide +kernel : ∀ t : Fin grid1.N, win1_3.index t 1 = t.val / 8)

theorem hidden_array : (dat1 V c).arrAt 3 cfg1.N = hiddenCot (V c main_v3) (V c main_v2) (V c main_v4_1) := by
  refine (dat1 V c).arrAt_eq_of_covers 3 _ (by decide +kernel) fun t hf y => ?_
  show ((dat1 V c).after 3 t : FVec Ideal S1024x1024 .bf16) y = _
  rw [after1_3]
  frame_out
  obtain ⟨r, n, rfl⟩ : ∃ (r n : Fin 1024), y = ix2 r n := ⟨y 0, y 1, eq_ix2 y⟩
  refine (gated_entry _ _ _ r n).trans ?_
  unfold hiddenCot
  refine congrArg₂ (· * ·) (Finset.sum_congr rfl fun d _ => congrArg₂ (· * ·) ?_ ?_) (congrArg (Ideal.ofBits .f32 0x40000000#32 * ·) ?_)
  · blk_ext [iblk1, i10 t, i11 t, i16 t]
  · blk_ext [iblk1, i12 t, i13 t, i17 t]
  · blk_ext [iblk1, i14 t, i15 t, i16 t, i17 t]

theorem i20 : ∀ t : Fin cfg2.N, win2_0.index t 0 = t.val := by
  exact (by decide +kernel : ∀ t : Fin grid2.N, win2_0.index t 0 = t.val)
theorem i21 : ∀ t : Fin cfg2.N, win2_0.index t 1 = 0 := by
  exact (by decide +kernel : ∀ t : Fin grid2.N, win2_0.index t 1 = 0)
theorem i22 : ∀ t : Fin cfg2.N, win2_1.index t 0 = 0 := by
  exact (by decide +kernel : ∀ t : Fin grid2.N, win2_1.index t 0 = 0)
theorem i23 : ∀ t : Fin cfg2.N, win2_1.index t 1 = 0 := by
  exact (by decide +kernel : ∀ t : Fin grid2.N, win2_1.index t 1 = 0)
theorem i24 : ∀ t : Fin cfg2.N, win2_2.index t 0 = t.val := by
  exact (by decide +kernel : ∀ t : Fin grid2.N, win2_2.index t 0 = t.val)
theorem i25 : ∀ t : Fin cfg2.N, win2_2.index t 1 = 0 := by
  exact (by decide +kernel : ∀ t : Fin grid2.N, win2_2.index t 1 = 0)

theorem input_array : (dat2 V c).arrAt 2 cfg2.N = inputCot (V c main_v5) (V c main_v1) := by
  refine (dat2 V c).arrAt_eq_of_covers 2 _ (by decide +kernel) fun t hf y => ?_
  show ((dat2 V c).after 2 t : FVec Ideal S1024x1024 .f32) y = _
  rw [after2_2]
  frame_out
  obtain ⟨r, n, rfl⟩ : ∃ (r n : Fin 1024), y = ix2 r n := ⟨y 0, y 1, eq_ix2 y⟩
  refine (back_entry _ _ r n).trans ?_
  unfold inputCot
  refine Finset.sum_congr rfl fun d _ => congrArg₂ (· * ·) ?_ ?_
  · blk_ext [iblk2, i20 t, i21 t, i24 t]
  · blk_ext [iblk2, i22 t, i23 t, i25 t]

/-! ## The three kernels in a row -/

variable (m : (ℓ : Loc nD τ sig) → Buf (Elt Ideal) ℓ) (ρ : Dev nD → PrngReg)

abbrev argH : FVec Ideal S8192x1024 .f32 := m ((c.tc : Thread nD τ).loc main_arg0)
abbrev argW1 : FVec Ideal S1024x4096 .f32 := m ((c.tc : Thread nD τ).loc main_arg1)
abbrev argW2 : FVec Ideal S4096x1024 .f32 := m ((c.tc : Thread nD τ).loc main_arg2)
abbrev argC : FVec Ideal S8192x1024 .f32 := m ((c.tc : Thread nD τ).loc main_arg3)

theorem V1_h : (V1 m ρ c main_v0 : FVec Ideal S8192x1024 .bf16) = argH c m := by
  show StableHlo.after hostOps0 (W0 m ρ c) (Proc.devRef .tc main_v0) = _
  after_results_simp
  rfl
theorem V1_w1 : (V1 m ρ c main_v1 : FVec Ideal S1024x4096 .bf16) = argW1 c m := by
  show StableHlo.after hostOps0 (W0 m ρ c) (Proc.devRef .tc main_v1) = _
  after_results_simp
  rfl
theorem V1_w2 : (V1 m ρ c main_v2 : FVec Ideal S4096x1024 .bf16) = argW2 c m := by
  show StableHlo.after hostOps0 (W0 m ρ c) (Proc.devRef .tc main_v2) = _
  after_results_simp
  rfl
theorem V1_ct : (V1 m ρ c main_v3 : FVec Ideal S8192x1024 .bf16) = argC c m := by
  show StableHlo.after hostOps0 (W0 m ρ c) (Proc.devRef .tc main_v3) = _
  after_results_simp
  rfl

theorem result : (dat2 (V3 m ρ) c).arrAt 2 cfg2.N
    = inputCot (hiddenCot (argC c m) (argW2 c m) (relus (argH c m) (argW1 c m))) (argW1 c m) := by
  have e5 : (V3 m ρ c main_v5 : FVec Ideal S8192x4096 .bf16) = hiddenCot (V2 m ρ c main_v3) (V2 m ρ c main_v2) (V2 m ρ c main_v4_1) :=
    (W3_arr m ρ c 3).trans (hidden_array (V2 m ρ) c)
  have e4 : (V2 m ρ c main_v4_1 : FVec Ideal S8192x4096 .bf16) = relus (V1 m ρ c main_v0) (V1 m ρ c main_v1) :=
    (W2_arr m ρ c 3).trans (relus_array (V1 m ρ) c)
  have e3 : V2 m ρ c main_v3 = V1 m ρ c main_v3 := W2_of m ρ c main_v3 (by decide)
  have e2 : V2 m ρ c main_v2 = V1 m ρ c main_v2 := W2_of m ρ c main_v2 (by decide)
  have e1 : V3 m ρ c main_v1 = V1 m ρ c main_v1 := (W3_of m ρ c main_v1 (by decide)).trans (W2_of m ρ c main_v1 (by decide))
  rw [input_array, e5, e4, e3, e2, e1, V1_h, V1_w1, V1_w2, V1_ct]

end Cert.MlpIdeal.Hand

namespace Cert.MlpReferenceIdeal.Hand

open Cert.MlpReferenceIdeal Cert.MlpReferenceIdeal.Gen
open Idealize.ShloMosaic Idealize.ShloMosaic.TcCoe

variable (h : FVec Ideal S8192x1024 .f32) (w1 : FVec Ideal S1024x4096 .f32) (w2 : FVec Ideal S4096x1024 .f32) (ct : FVec Ideal S8192x1024 .f32)

/-- The first product; its cotangent. -/
def pre : FVec Ideal S8192x4096 .f32 := Host.dotGeneral dot_S8192x1024_S1024x4096_S8192x4096_1_0_0_1_n_n none h w1
def cot (x : FVec Ideal S8192x4096 .f32) : FVec Ideal S8192x4096 .f32 :=
  select (cmpf .ogt x (broadcastInDim S8192x4096 ![] bcast_S_S8192x4096 (constant S_ .f32 0x00000000#32)))
    (mulf (Host.dotGeneral dot_S8192x1024_S4096x1024_S8192x4096_1_1_0_0_n_n none ct w2)
      (mulf (broadcastInDim S8192x4096 ![] bcast_S_S8192x4096 (constant S_ .f32 0x40000000#32))
        (maximumf x (broadcastInDim S8192x4096 ![] bcast_S_S8192x4096 (constant S_ .f32 0x00000000#32)))))
    (broadcastInDim S8192x4096 ![] bcast_S_S8192x4096 (constant S_ .f32 0x00000000#32))

theorem pre_entry (r : Fin 8192) (f : Fin 4096) : (pre h w1 (ix2 r f) : EReal) = ∑ d : Fin 1024, h (ix2 r d) * w1 (ix2 d f) := by
  pointwise [pre]

theorem cot_entry (x : FVec Ideal S8192x4096 .f32) (r : Fin 8192) (f : Fin 4096) :
    (cot w2 ct x (ix2 r f) : EReal) = (∑ d : Fin 1024, ct (ix2 r d) * w2 (ix2 f d)) * (Ideal.ofBits .f32 0x40000000#32 * max (x (ix2 r f)) 0) := by
  pointwise [cot]
  split_ifs with hx
  · rfl
  · rw [max_eq_right (not_lt.mp hx), mul_zero, mul_zero]

theorem result : (Host.dotGeneral dot_S8192x4096_S1024x4096_S8192x1024_1_1_0_0_n_n none (cot w2 ct (pre h w1)) w1 : FVec Ideal S8192x1024 .f32)
    = Cert.MlpIdeal.Hand.inputCot (Cert.MlpIdeal.Hand.hiddenCot ct w2 (Cert.MlpIdeal.Hand.relus h w1)) w1 := by
  funext y
  obtain ⟨r, n, rfl⟩ : ∃ r n, y = ix2 r n := ⟨y 0, y 1, eq_ix2 y⟩
  have e : (Host.dotGeneral dot_S8192x4096_S1024x4096_S8192x1024_1_1_0_0_n_n none (cot w2 ct (pre h w1)) w1 : FVec Ideal S8192x1024 .f32) (ix2 r n)
      = ∑ f : Fin 4096, cot w2 ct (pre h w1) (ix2 r f) * w1 (ix2 n f) := by
    generalize cot w2 ct (pre h w1) = X
    pointwise []
  rw [e]
  unfold Cert.MlpIdeal.Hand.inputCot Cert.MlpIdeal.Hand.hiddenCot Cert.MlpIdeal.Hand.relus
  refine Finset.sum_congr rfl fun f _ => ?_
  rw [cot_entry, pre_entry]
  rfl

end Cert.MlpReferenceIdeal.Hand

end
-- ==== Proof.ProjRun.lean ====
/- What every run of the input projection's kernels ends in: both result arrays, the arguments as they were, every
   counter at zero. -/
module

public import proofs.«01_k».proof.Proof.Gen.ProjIdeal.Frame

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every array of the last boundary kept. -/
theorem run_arrays : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The result arrays and the arguments after the run. -/
theorem run_results : θ_run defs (onTc (τ := τ) (main (F := F))) ⟨m, fun _ => 0, ρ⟩ (fun r => ∀ c : Dev nD,
      r.2.mem ((c.tc : Thread nD τ).loc main_v3) = (dat0 (V1 m ρ) c).arrAt 2 cfg0.N
      ∧ r.2.mem ((c.tc : Thread nD τ).loc main_v5) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h.1 c _ (mem_uc main_v3 (by decide))).trans ((W4_of m ρ c main_v3 (by decide)).trans ((W3_of m ρ c main_v3 (by decide)).trans (W2_arr m ρ c 2))),
      (h.1 c _ (mem_uc main_v5 (by decide))).trans (W4_arr m ρ c 3),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c)⟩) (run_arrays m ρ)

end Cert.ProjIdeal.Hand

end
-- ==== Proof.ProjVals.lean ====
/- The input projection and the gradient of its input, at exact arithmetic: what the two kernels compute and what the
   reference computes are the same sums. -/
module

public import proofs.«01_k».proof.Proof.ProjRun
public import proofs.«01_k».proof.Proof.Gen.ProjReferenceIdeal.Run
public import Idealize.ShloMosaic.Lib.Pointwise
public import Idealize.ShloMosaic.Lib.Pipeline.ValueKit

@[expose] public section

set_option maxRecDepth 16384

noncomputable section

namespace Cert.ProjIdeal.Hand

open Cert.ProjIdeal Cert.ProjIdeal.Gen
open Idealize.ShloMosaic Idealize.ShloMosaic.TcCoe

/-! ## The blocks' products -/

theorem product_entry (x0 : FVec Ideal S512x1024 .bf16) (x1 : FVec Ideal S1024x2944 .bf16) (r : Fin 512) (n : Fin 2944) :
    k0_pay1 (F := Ideal) x0 x1 (ix2 r n) = ∑ d : Fin 1024, x0 (ix2 r d) * x1 (ix2 d n) := by
  pointwise [k0_pay1]

theorem back_entry (x0 : FVec Ideal S256x8832 .bf16) (x1 : FVec Ideal S1024x8832 .bf16) (x2 : FVec Ideal S1x1024 .f32) (r : Fin 256) (n : Fin 1024) :
    k1_pay1 (F := Ideal) x0 x1 x2 (ix2 r n) = (∑ f : Fin 8832, x0 (ix2 r f) * x1 (ix2 n f)) + x2 (ix2 (0 : Fin 1) n) := by
  pointwise [k1_pay1]

/-! ## The whole arrays -/

/-- The projection; the input's cotangent. -/
def projected (h : FVec Ideal S8192x1024 .bf16) (w : FVec Ideal S1024x8832 .bf16) : FVec Ideal S8192x8832 .bf16 :=
  fun y => ∑ d : Fin 1024, h (ix2 (n0 := 8192) (n1 := 1024) (y 0) d) * w (ix2 (n0 := 1024) (n1 := 8832) d (y 1))
def inputCot (g : FVec Ideal S8192x8832 .bf16) (w : FVec Ideal S1024x8832 .bf16) (z : FVec Ideal S1x1024 .f32) : FVec Ideal S8192x1024 .f32 :=
  fun y => (∑ f : Fin 8832, g (ix2 (n0 := 8192) (n1 := 8832) (y 0) f) * w (ix2 (n0 := 1024) (n1 := 8832) (y 1) f)) + z (ix2 (n0 := 1) (n1 := 1024) 0 (y 1))

variable (V : (c : Dev nD) → (b : Ref sig .tc) → Buf (Elt Ideal) ((c : Thread nD τ).loc b)) (c : Dev nD)

theorem i00 : ∀ t : Fin cfg0.N, win0_0.index t 0 = t.val % 16 := by
  exact (by decide +kernel : ∀ t : Fin grid0.N, win0_0.index t 0 = t.val % 16)
theorem i01 : ∀ t : Fin cfg0.N, win0_0.index t 1 = 0 := by
  exact (by decide +kernel : ∀ t : Fin grid0.N, win0_0.index t 1 = 0)
theorem i02 : ∀ t : Fin cfg0.N, win0_1.index t 0 = 0 := by
  exact (by decide +kernel : ∀ t : Fin grid0.N, win0_1.index t 0 = 0)
theorem i03 : ∀ t : Fin cfg0.N, win0_1.index t 1 = t.val / 16 := by
  exact (by decide +kernel : ∀ t : Fin grid0.N, win0_1.index t 1 = t.val / 16)
theorem i04 : ∀ t : Fin cfg0.N, win0_2.index t 0 = t.val % 16 := by
  exact (by decide +kernel : ∀ t : Fin grid0.N, win0_2.index t 0 = t.val % 16)
theorem i05 : ∀ t : Fin cfg0.N, win0_2.index t 1 = t.val / 16 := by
  exact (by decide +kernel : ∀ t : Fin grid0.N, win0_2.index t 1 = t.val / 16)

theorem projected_array : (dat0 V c).arrAt 2 cfg0.N = projected (V c main_v0) (V c main_v1) := by
  refine (dat0 V c).arrAt_eq_of_covers 2 _ (by decide +kernel) fun t hf y => ?_
  show ((dat0 V c).after 2 t : FVec Ideal S512x2944 .bf16) y = _
  rw [after0_2]
  frame_out
  obtain ⟨r, n, rfl⟩ : ∃ (r : Fin 512) (n : Fin 2944), y = ix2 r n := ⟨y 0, y 1, eq_ix2 y⟩
  refine (product_entry _ _ r n).trans ?_
  unfold projected
  refine Finset.sum_congr rfl fun d _ => congrArg₂ (· * ·) ?_ ?_
  · blk_ext [iblk0, i00 t, i01 t, i04 t]
  · blk_ext [iblk0, i02 t, i03 t, i05 t]

theorem i10 : ∀ t : Fin cfg1.N, win1_0.index t 0 = t.val := by
  exact (by decide +kernel : ∀ t : Fin grid1.N, win1_0.index t 0 = t.val)
theorem i11 : ∀ t : Fin cfg1.N, win1_0.index t 1 = 0 := by
  exact (by decide +kernel : ∀ t : Fin grid1.N, win1_0.index t 1 = 0)
theorem i12 : ∀ t : Fin cfg1.N, win1_1.index t 0 = 0 := by
  exact (by decide +kernel : ∀ t : Fin grid1.N, win1_1.index t 0 = 0)
theorem i13 : ∀ t : Fin cfg1.N, win1_1.index t 1 = 0 := by
  exact (by decide +kernel : ∀ t : Fin grid1.N, win1_1.index t 1 = 0)
theorem i14 : ∀ t : Fin cfg1.N, win1_2.index t 0 = 0 := by
  exact (by decide +kernel : ∀ t : Fin grid1.N, win1_2.index t 0 = 0)
theorem i15 : ∀ t : Fin cfg1.N, win1_2.index t 1 = 0 := by
  exact (by decide +kernel : ∀ t : Fin grid1.N, win1_2.index t 1 = 0)
theorem i16 : ∀ t : Fin cfg1.N, win1_3.index t 0 = t.val := by
  exact (by decide +kernel : ∀ t : Fin grid1.N, win1_3.index t 0 = t.val)
theorem i17 : ∀ t : Fin cfg1.N, win1_3.index t 1 = 0 := by
  exact (by decide +kernel : ∀ t : Fin grid1.N, win1_3.index t 1 = 0)

theorem input_array : (dat1 V c).arrAt 3 cfg1.N = inputCot (V c main_v2) (V c main_v1) (V c main_v4) := by
  refine (dat1 V c).arrAt_eq_of_covers 3 _ (by decide +kernel) fun t hf y => ?_
  show ((dat1 V c).after 3 t : FVec Ideal S256x1024 .f32) y = _
  rw [after1_3]
  frame_out
  obtain ⟨r, n, rfl⟩ : ∃ (r : Fin 256) (n : Fin 1024), y = ix2 r n := ⟨y 0, y 1, eq_ix2 y⟩
  refine (back_entry _ _ _ r n).trans ?_
  unfold inputCot
  refine congrArg₂ (· + ·) (Finset.sum_congr rfl fun d _ => congrArg₂ (· * ·) ?_ ?_) ?_
  · blk_ext [iblk1, i10 t, i11 t, i16 t]
  · blk_ext [iblk1, i12 t, i13 t, i17 t]
  · blk_ext [iblk1, i14 t, i15 t, i17 t]

/-! ## The two kernels in a row -/

variable (m : (ℓ : Loc nD τ sig) → Buf (Elt Ideal) ℓ) (ρ : Dev nD → PrngReg)

abbrev argH : FVec Ideal S8192x1024 .f32 := m ((c.tc : Thread nD τ).loc main_arg0)
abbrev argW : FVec Ideal S1024x8832 .f32 := m ((c.tc : Thread nD τ).loc main_arg1)
abbrev argC : FVec Ideal S8192x8832 .f32 := m ((c.tc : Thread nD τ).loc main_arg2)

theorem V1_h : (V1 m ρ c main_v0 : FVec Ideal S8192x1024 .bf16) = argH c m := by
  show StableHlo.after hostOps0 (W0 m ρ c) (Proc.devRef .tc main_v0) = _
  after_results_simp
  rfl
theorem V1_w : (V1 m ρ c main_v1 : FVec Ideal S1024x8832 .bf16) = argW c m := by
  show StableHlo.after hostOps0 (W0 m ρ c) (Proc.devRef .tc main_v1) = _
  after_results_simp
  rfl
theorem V1_ct : (V1 m ρ c main_v2 : FVec Ideal S8192x8832 .bf16) = argC c m := by
  show StableHlo.after hostOps0 (W0 m ρ c) (Proc.devRef .tc main_v2) = _
  after_results_simp
  rfl
theorem V3_zero : (V3 m ρ c main_v4 : FVec Ideal S1x1024 .f32) = fun _ => (0 : EReal) := by
  have e : (V3 m ρ c main_v4 : FVec Ideal S1x1024 .f32) = broadcastInDim S1x1024 ![] bcast_S_S1x1024 (constant (F := Ideal) S_ .f32 0x00000000#32) := by
    show StableHlo.after hostOps1 (W2 m ρ c) (Proc.devRef .tc main_v4) = _
    after_results_simp
  rw [e]
  funext y
  obtain ⟨r, n, rfl⟩ : ∃ (r : Fin 1) (n : Fin 1024), y = ix2 r n := ⟨y 0, y 1, eq_ix2 y⟩
  pointwise []

theorem result_proj : (dat0 (V1 m ρ) c).arrAt 2 cfg0.N = projected (argH c m) (argW c m) := by
  rw [projected_array, V1_h, V1_w]

theorem result_back : (dat1 (V3 m ρ) c).arrAt 3 cfg1.N = inputCot (argC c m) (argW c m) (fun _ => 0) := by
  have e2 : V3 m ρ c main_v2 = V1 m ρ c main_v2 := (W3_of m ρ c main_v2 (by decide)).trans (W2_of m ρ c main_v2 (by decide))
  have e1 : V3 m ρ c main_v1 = V1 m ρ c main_v1 := (W3_of m ρ c main_v1 (by decide)).trans (W2_of m ρ c main_v1 (by decide))
  rw [input_array, e2, e1, V1_ct, V1_w, V3_zero]
  rfl

end Cert.ProjIdeal.Hand

namespace Cert.ProjReferenceIdeal.Hand

open Cert.ProjReferenceIdeal Cert.ProjReferenceIdeal.Gen
open Idealize.ShloMosaic Idealize.ShloMosaic.TcCoe

variable (h : FVec Ideal S8192x1024 .f32) (w : FVec Ideal S1024x8832 .f32) (ct : FVec Ideal S8192x8832 .f32)

theorem result_proj : (truncf .bf16 (Host.dotGeneral dot_S8192x1024_S1024x8832_S8192x8832_1_0_0_1_n_n none h w) bitsLt_bf16_f32 : FVec Ideal S8192x8832 .bf16)
    = Cert.ProjIdeal.Hand.projected h w := by
  funext y
  obtain ⟨r, n, rfl⟩ : ∃ r n, y = ix2 r n := ⟨y 0, y 1, eq_ix2 y⟩
  show _ = ∑ d : Fin 1024, h (ix2 r d) * w (ix2 d n)
  pointwise []

theorem result_back : (Host.dotGeneral dot_S8192x8832_S1024x8832_S8192x1024_1_1_0_0_n_n none ct w : FVec Ideal S8192x1024 .f32)
    = Cert.ProjIdeal.Hand.inputCot ct w (fun _ => 0) := by
  funext y
  obtain ⟨r, n, rfl⟩ : ∃ r n, y = ix2 r n := ⟨y 0, y 1, eq_ix2 y⟩
  show _ = (∑ f : Fin 8832, ct (ix2 r f) * w (ix2 n f)) + 0
  rw [add_zero]
  pointwise []

end Cert.ProjReferenceIdeal.Hand

end
-- ==== Proof.MlpDwTwo.lean ====
/- The gradient of the channel mixer's second weight, at exact arithmetic: the kernel's two partial products add up to the
   product over all tokens, which is what the reference computes. -/
module

public import proofs.«01_k».proof.Proof.Gen.MlpDwTwoIdeal.Value
public import proofs.«01_k».proof.Proof.Gen.MlpDwTwoReferenceIdeal.Run
public import Idealize.ShloMosaic.Lib.Pointwise
public import Idealize.ShloMosaic.Lib.Pipeline.ValueKit

@[expose] public section

set_option maxRecDepth 16384

noncomputable section

namespace Cert.MlpDwTwoIdeal.Hand

open Cert.MlpDwTwoIdeal Cert.MlpDwTwoIdeal.Gen
open Idealize.ShloMosaic Idealize.ShloMosaic.TcCoe

/-- One step's partial product. -/
theorem part_entry (x0 : FVec Ideal S4096x512 .bf16) (x1 : FVec Ideal S4096x1024 .bf16) (k : Fin 512) (n : Fin 1024) :
    k0_pay1 (F := Ideal) x0 x1 (ix2 k n) = ∑ r : Fin 4096, x0 (ix2 r k) * x1 (ix2 r n) := by
  pointwise [k0_pay1]

theorem step_entry (x0 : FVec Ideal S4096x512 .bf16) (x1 : FVec Ideal S4096x1024 .bf16) (acc : FVec Ideal S512x1024 .f32) (k : Fin 512) (n : Fin 1024) :
    k0_pay2 (F := Ideal) x0 x1 acc (ix2 k n) = acc (ix2 k n) + ∑ r : Fin 4096, x0 (ix2 r k) * x1 (ix2 r n) := by
  pointwise [k0_pay2, k0_pay1]

theorem idx0_0 : ∀ t : Fin cfg0.N, win0_0.index t 0 = t.val % 2 := by
  exact (by decide +kernel : ∀ t : Fin grid0.N, win0_0.index t 0 = t.val % 2)
theorem idx0_1 : ∀ t : Fin cfg0.N, win0_0.index t 1 = t.val / 2 := by
  exact (by decide +kernel : ∀ t : Fin grid0.N, win0_0.index t 1 = t.val / 2)
theorem idx1_0 : ∀ t : Fin cfg0.N, win0_1.index t 0 = t.val % 2 := by
  exact (by decide +kernel : ∀ t : Fin grid0.N, win0_1.index t 0 = t.val % 2)
theorem idx1_1 : ∀ t : Fin cfg0.N, win0_1.index t 1 = 0 := by
  exact (by decide +kernel : ∀ t : Fin grid0.N, win0_1.index t 1 = 0)
theorem idx2_0 : ∀ t : Fin cfg0.N, win0_2.index t 0 = t.val / 2 := by
  exact (by decide +kernel : ∀ t : Fin grid0.N, win0_2.index t 0 = t.val / 2)
theorem idx2_1 : ∀ t : Fin cfg0.N, win0_2.index t 1 = 0 := by
  exact (by decide +kernel : ∀ t : Fin grid0.N, win0_2.index t 1 = 0)

/-- The product over all tokens. -/
def tokenProduct (h : FVec Ideal S8192x4096 .f32) (ct : FVec Ideal S8192x1024 .f32) : FVec Ideal S4096x1024 .f32 :=
  fun y => ∑ r : Fin 8192, h (ix2 (n0 := 8192) (n1 := 4096) r (y 0)) * ct (ix2 (n0 := 8192) (n1 := 1024) r (y 1))

variable (m : (ℓ : Loc nD τ sig) → Buf (Elt Ideal) ℓ) (c : Dev nD)

/-- The hidden layer, the square of the first product's positive part, as the host computes it; the output's cotangent. -/
abbrev hidden (h : FVec Ideal S8192x1024 .f32) (w1 : FVec Ideal S1024x4096 .f32) : FVec Ideal S8192x4096 .f32 :=
  mulf (maximumf (Host.dotGeneral dot_S8192x1024_S1024x4096_S8192x4096_1_0_0_1_n_n none h w1) (broadcastInDim S8192x4096 ![] bcast_S_S8192x4096 (constant S_ .f32 0x00000000#32)))
    (maximumf (Host.dotGeneral dot_S8192x1024_S1024x4096_S8192x4096_1_0_0_1_n_n none h w1) (broadcastInDim S8192x4096 ![] bcast_S_S8192x4096 (constant S_ .f32 0x00000000#32)))
abbrev argH : FVec Ideal S8192x4096 .f32 := hidden (m ((c.tc : Thread nD τ).loc main_arg0)) (m ((c.tc : Thread nD τ).loc main_arg1))
abbrev argC : FVec Ideal S8192x1024 .f32 := m ((c.tc : Thread nD τ).loc main_arg2)

theorem V_h : (V m c main_v3 : FVec Ideal S8192x4096 .bf16) = argH m c := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl
theorem V_ct : (V m c main_v4 : FVec Ideal S8192x1024 .bf16) = argC m c := by
  unfold V
  simp only [hostOps0, hostOps0_1, hostOps0_2, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

/-- The blocks a point reads. -/
abbrev rowsH (t : Fin cfg0.N) : FVec Ideal S4096x512 .bf16 := iblk m c 0 t
abbrev rowsC (t : Fin cfg0.N) : FVec Ideal S4096x1024 .bf16 := iblk m c 1 t

theorem blk0_entry (t : Fin cfg0.N) (r : Fin 4096) (k : Fin 512) (R : Fin 8192) (K : Fin 4096)
    (hR : R.val = t.val % 2 * 4096 + r.val) (hK : K.val = t.val / 2 * 512 + k.val) :
    (rowsH m c t (ix2 r k) : EReal) = argH m c (ix2 R K) := by
  rw [← V_h m c]
  show (V m c main_v3 : FVec Ideal S8192x4096 .bf16) (((cfg0.win 0).blk t).view.emb (ix2 r k)) = _
  congr 1
  funext a
  apply Fin.ext
  match a with
  | ⟨0, _⟩ =>
    show ((win0_0.rect t).emb (ix2 r k) 0 : ℕ) = R.val
    rw [Pipeline.Window.rect_emb_val win0_0 t (ix2 r k) 0, idx0_0, hR]; rfl
  | ⟨1, _⟩ =>
    show ((win0_0.rect t).emb (ix2 r k) 1 : ℕ) = K.val
    rw [Pipeline.Window.rect_emb_val win0_0 t (ix2 r k) 1, idx0_1, hK]; rfl

theorem blk1_entry (t : Fin cfg0.N) (r : Fin 4096) (n : Fin 1024) (R : Fin 8192) (C : Fin 1024)
    (hR : R.val = t.val % 2 * 4096 + r.val) (hC : C.val = 0 * 1024 + n.val) :
    (rowsC m c t (ix2 r n) : EReal) = argC m c (ix2 R C) := by
  rw [← V_ct m c]
  show (V m c main_v4 : FVec Ideal S8192x1024 .bf16) (((cfg0.win 1).blk t).view.emb (ix2 r n)) = _
  congr 1
  funext a
  apply Fin.ext
  match a with
  | ⟨0, _⟩ =>
    show ((win0_1.rect t).emb (ix2 r n) 0 : ℕ) = R.val
    rw [Pipeline.Window.rect_emb_val win0_1 t (ix2 r n) 0, idx1_0, hR]; rfl
  | ⟨1, _⟩ =>
    show ((win0_1.rect t).emb (ix2 r n) 1 : ℕ) = C.val
    rw [Pipeline.Window.rect_emb_val win0_1 t (ix2 r n) 1, idx1_1, hC]; rfl

/-- What a point adds, entry by entry. -/
def addend (t : Fin cfg0.N) (y : S512x1024.Idx) : EReal :=
  ∑ r : Fin 4096, rowsH m c t (ix2 (n0 := 4096) (n1 := 512) r (y 0)) * rowsC m c t (ix2 (n0 := 4096) (n1 := 1024) r (y 1))

theorem outs_entry (t : Fin cfg0.N) (hr : t.val % 2 = 1) (y : S512x1024.Idx) :
    (outsAt0 m c t.val t.isLt y : EReal) = 0 + ∑ s : Fin 2, addend m c ⟨2 * (t.val / 2) + s.val, Pipeline.run_point_lt_of_flush t hr s⟩ y := by
  refine Pipeline.eq_sum_fin_of_reset_step_apply_of_flush (M := EReal) (fun n h => (outsAt0 m c n h : S512x1024.Idx → EReal)) 2 (fun _ => 0) (addend m c)
    (fun t h y => ?_) (fun t h y => ?_) t hr y
  · show (outsAt0 m c t.val t.isLt y : EReal) = 0 + addend m c t y
    rw [outsAt0_A m c t h (by omega)]
    frame_out
    rw [zero_add, eq_ix2 (n0 := 512) (n1 := 1024) y]
    exact part_entry _ _ _ _
  · show (outsAt0 m c t.val t.isLt y : EReal) = outsAt0 m c (t.val - 1) _ y + addend m c t y
    rw [outsAt0_B m c t h (by omega)]
    frame_out
    rw [eq_ix2 (n0 := 512) (n1 := 1024) y]
    exact step_entry _ _ _ _ _

theorem result : (dats m 0 c).arrAt 2 cfg0.N = tokenProduct (argH m c) (argC m c) := by
  refine (dats m 0 c).arrAt_eq_of_covers 2 _ (by decide +kernel) fun t hf y => ?_
  have ht : t.val < 16 := Nat.lt_of_lt_of_eq t.isLt N_0
  have h3 := (flush0_2 t).mp hf
  have hy0 : (y 0).val < 512 := (y 0).isLt
  have hy1 : (y 1).val < 1024 := (y 1).isLt
  show ((dats m 0 c).after 2 t : FVec Ideal S512x1024 .f32) y = _
  rw [after0_2]
  refine (outs_entry m c t h3 y).trans ?_
  have c0 : ((((cfg0.win 2).blk t).view.emb y) 0).val = t.val / 2 * 512 + (y 0).val := by
    show ((win0_2.rect t).emb y 0 : ℕ) = _
    rw [Pipeline.Window.rect_emb_val win0_2 t y 0, idx2_0 t]; rfl
  have c1 : ((((cfg0.win 2).blk t).view.emb y) 1).val = 0 * 1024 + (y 1).val := by
    show ((win0_2.rect t).emb y 1 : ℕ) = _
    rw [Pipeline.Window.rect_emb_val win0_2 t y 1, idx2_1 t]; rfl
  rw [zero_add]
  unfold tokenProduct addend
  refine Fin.sum_mul_add_congr (S := 2) (n := 4096) fun s k hl => ?_
  have hs := s.isLt
  have hk := k.isLt
  refine congrArg₂ (· * ·) (blk0_entry m c _ _ _ _ _ ?_ ?_) (blk1_entry m c _ _ _ _ _ ?_ ?_)
  · show s.val * 4096 + k.val = (2 * (t.val / 2) + s.val) % 2 * 4096 + k.val; omega
  · rw [c0]; show _ = (2 * (t.val / 2) + s.val) / 2 * 512 + (y 0).val; omega
  · show s.val * 4096 + k.val = (2 * (t.val / 2) + s.val) % 2 * 4096 + k.val; omega
  · exact c1

end Cert.MlpDwTwoIdeal.Hand

namespace Cert.MlpDwTwoReferenceIdeal.Hand

open Cert.MlpDwTwoReferenceIdeal Cert.MlpDwTwoReferenceIdeal.Gen
open Idealize.ShloMosaic Idealize.ShloMosaic.TcCoe

theorem result (h : FVec Ideal S8192x1024 .f32) (w1 : FVec Ideal S1024x4096 .f32) (ct : FVec Ideal S8192x1024 .f32) :
    (transpose S4096x1024 [1, 0] (Host.dotGeneral dot_S8192x1024_S8192x4096_S1024x4096_0_0_1_1_n_n none ct (Cert.MlpDwTwoIdeal.Hand.hidden h w1) : FVec Ideal S1024x4096 .f32) transposes_S1024x4096_S4096x1024_1_0 : FVec Ideal S4096x1024 .f32)
      = Cert.MlpDwTwoIdeal.Hand.tokenProduct (Cert.MlpDwTwoIdeal.Hand.hidden h w1) ct := by
  generalize Cert.MlpDwTwoIdeal.Hand.hidden h w1 = a
  funext y
  obtain ⟨k, n, rfl⟩ : ∃ k n, y = ix2 k n := ⟨y 0, y 1, eq_ix2 y⟩
  show _ = ∑ r : Fin 8192, a (ix2 r k) * ct (ix2 r n)
  pointwise []
  exact Finset.sum_congr rfl fun r _ => mul_comm _ _

end Cert.MlpDwTwoReferenceIdeal.Hand

end
-- ==== Proof.MergeRun.lean ====
/- What every run of the gated merge's kernels ends in: the six result arrays, the arguments as they were, every
   counter at zero. -/
module

public import proofs.«01_k».proof.Proof.Gen.MergeIdeal.Frame

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with every array of the last boundary kept. -/
theorem run_arrays : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The result arrays and the arguments after the run. -/
theorem run_results : θ_run defs (onTc (τ := τ) (main (F := F))) ⟨m, fun _ => 0, ρ⟩ (fun r => ∀ c : Dev nD,
      r.2.mem ((c.tc : Thread nD τ).loc main_v10_0) = (dat2 (V3 m ρ) c).arrAt 4 cfg2.N
      ∧ r.2.mem ((c.tc : Thread nD τ).loc main_v11_2) = (dat3 (V4 m ρ) c).arrAt 8 cfg3.N
      ∧ r.2.mem ((c.tc : Thread nD τ).loc main_v11_3) = (dat3 (V4 m ρ) c).arrAt 9 cfg3.N
      ∧ r.2.mem ((c.tc : Thread nD τ).loc main_v12) = (dat4 (V5 m ρ) c).arrAt 2 cfg4.N
      ∧ r.2.mem ((c.tc : Thread nD τ).loc main_v13) = (dat5 (V6 m ρ) c).arrAt 2 cfg5.N
      ∧ r.2.mem ((c.tc : Thread nD τ).loc main_v14) = (dat6 (V7 m ρ) c).arrAt 2 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h.1 c _ (mem_uc main_v10_0 (by decide))).trans ((W8_of m ρ c main_v10_0 (by decide)).trans ((W7_of m ρ c main_v10_0 (by decide)).trans ((W6_of m ρ c main_v10_0 (by decide)).trans ((W5_of m ρ c main_v10_0 (by decide)).trans (W4_arr m ρ c 4))))),
      (h.1 c _ (mem_uc main_v11_2 (by decide))).trans ((W8_of m ρ c main_v11_2 (by decide)).trans ((W7_of m ρ c main_v11_2 (by decide)).trans ((W6_of m ρ c main_v11_2 (by decide)).trans (W5_arr m ρ c 8)))),
      (h.1 c _ (mem_uc main_v11_3 (by decide))).trans ((W8_of m ρ c main_v11_3 (by decide)).trans ((W7_of m ρ c main_v11_3 (by decide)).trans ((W6_of m ρ c main_v11_3 (by decide)).trans (W5_arr m ρ c 9)))),
      (h.1 c _ (mem_uc main_v12 (by decide))).trans ((W8_of m ρ c main_v12 (by decide)).trans ((W7_of m ρ c main_v12 (by decide)).trans (W6_arr m ρ c 2))),
      (h.1 c _ (mem_uc main_v13 (by decide))).trans ((W8_of m ρ c main_v13 (by decide)).trans (W7_arr m ρ c 2)),
      (h.1 c _ (mem_uc main_v14 (by decide))).trans (W8_arr m ρ c 2),
      (h.1 c _ (mem_uc main_arg0 (by decide))).trans (W8_main_arg0 m ρ c),
      (h.1 c _ (mem_uc main_arg1 (by decide))).trans (W8_main_arg1 m ρ c),
      (h.1 c _ (mem_uc main_arg2 (by decide))).trans (W8_main_arg2 m ρ c),
      (h.1 c _ (mem_uc main_arg3 (by decide))).trans (W8_main_arg3 m ρ c),
      (h.1 c _ (mem_uc main_arg4 (by decide))).trans (W8_main_arg4 m ρ c),
      (h.1 c _ (mem_uc main_arg5 (by decide))).trans (W8_main_arg5 m ρ c),
      (h.1 c _ (mem_uc main_arg6 (by decide))).trans (W8_main_arg6 m ρ c),
      (h.1 c _ (mem_uc main_arg7 (by decide))).trans (W8_main_arg7 m ρ c),
      (h.1 c _ (mem_uc main_arg8 (by decide))).trans (W8_main_arg8 m ρ c)⟩) (run_arrays m ρ)

end Cert.MergeIdeal.Hand

end
-- ==== Proof.MergeVals.lean ====
/- The gated merge and its gradients, at exact arithmetic: what the seven kernels compute and what the reference computes
   are the same sums, gated alike. -/
module

public import proofs.«01_k».proof.Proof.MergeRun
public import Idealize.ShloMosaic.Lib.Pointwise
public import Idealize.ShloMosaic.Lib.Pipeline.ValueKit

@[expose] public section

set_option maxRecDepth 16384

noncomputable section

namespace Cert.MergeIdeal.Hand

open Cert.MergeIdeal Cert.MergeIdeal.Gen
open Idealize.ShloMosaic Idealize.ShloMosaic.TcCoe

/-! ## The blocks' products -/

theorem attn_entry (x0 : FVec Ideal S1024x512 .bf16) (x1 : FVec Ideal S1024x1024 .bf16) (r : Fin 512) (n : Fin 1024) :
    k0_pay1 (F := Ideal) x0 x1 (ix2 r n) = ∑ d : Fin 1024, x0 (ix2 d r) * x1 (ix2 d n) := by
  pointwise [k0_pay1]

theorem merged_entry (x0 : FVec Ideal S512x2048 .bf16) (x1 : FVec Ideal S2048x1024 .bf16) (x2 x3 x4 : FVec Ideal S512x1024 .bf16) (r : Fin 512) (n : Fin 1024) :
    k1_pay2 (F := Ideal) x0 x1 x2 x3 x4 (ix2 r n)
      = Ideal.logistic (x3 (ix2 r n)) * x2 (ix2 r n) + Ideal.logistic (x4 (ix2 r n)) * ∑ d : Fin 2048, x0 (ix2 r d) * x1 (ix2 d n) := by
  pointwise [k1_pay2, k1_pay1]

theorem ssd_entry (x0 : FVec Ideal S512x2048 .bf16) (x1 : FVec Ideal S2048x1024 .bf16) (r : Fin 512) (n : Fin 1024) :
    k1_pay3 (F := Ideal) x0 x1 (ix2 r n) = ∑ d : Fin 2048, x0 (ix2 r d) * x1 (ix2 d n) := by
  pointwise [k1_pay3, k1_pay1]

theorem residual_entry (x0 : FVec Ideal S512x1024 .bf16) (x1 : FVec Ideal S1024x1024 .bf16) (x2 : FVec Ideal S512x1024 .f32) (x3 : FVec Ideal S1x1024 .f32) (r : Fin 512) (n : Fin 1024) :
    k2_pay2 (F := Ideal) x0 x1 x2 x3 (ix2 r n) = x2 (ix2 r n) + x3 (ix2 (0 : Fin 1) n) * ∑ d : Fin 1024, x0 (ix2 r d) * x1 (ix2 d n) := by
  pointwise [k2_pay2, k2_pay1]

theorem gatedA_entry (x0 : FVec Ideal S512x1024 .bf16) (x1 : FVec Ideal S1024x1024 .bf16) (x4 : FVec Ideal S512x1024 .bf16) (r : Fin 512) (n : Fin 1024) :
    k3_pay6 (F := Ideal) x0 x1 x4 (ix2 r n) = (∑ d : Fin 1024, x0 (ix2 r d) * x1 (ix2 n d)) * Ideal.logistic (x4 (ix2 r n)) := by
  pointwise [k3_pay6, k3_pay2, k3_pay3]

theorem gatedS_entry (x0 : FVec Ideal S512x1024 .bf16) (x1 : FVec Ideal S1024x1024 .bf16) (x5 : FVec Ideal S512x1024 .bf16) (r : Fin 512) (n : Fin 1024) :
    k3_pay7 (F := Ideal) x0 x1 x5 (ix2 r n) = (∑ d : Fin 1024, x0 (ix2 r d) * x1 (ix2 n d)) * Ideal.logistic (x5 (ix2 r n)) := by
  pointwise [k3_pay7, k3_pay2, k3_pay4]

theorem gateA_entry (x0 : FVec Ideal S512x1024 .bf16) (x1 : FVec Ideal S1024x1024 .bf16) (x2 x4 : FVec Ideal S512x1024 .bf16) (r : Fin 512) (n : Fin 1024) :
    k3_pay8 (F := Ideal) x0 x1 x2 x4 (ix2 r n)
      = (∑ d : Fin 1024, x0 (ix2 r d) * x1 (ix2 n d)) * x2 (ix2 r n) * Ideal.logistic (x4 (ix2 r n)) * (1 - Ideal.logistic (x4 (ix2 r n))) := by
  pointwise [k3_pay8, k3_pay2, k3_pay3]

theorem gateS_entry (x0 : FVec Ideal S512x1024 .bf16) (x1 : FVec Ideal S1024x1024 .bf16) (x3 x5 : FVec Ideal S512x1024 .bf16) (r : Fin 512) (n : Fin 1024) :
    k3_pay1 (F := Ideal) (k3_pay5 (F := Ideal) x0 x1 x3 x5) (ix2 r n)
      = (∑ d : Fin 1024, x0 (ix2 r d) * x1 (ix2 n d)) * x3 (ix2 r n) * Ideal.logistic (x5 (ix2 r n)) * (1 - Ideal.logistic (x5 (ix2 r n))) := by
  pointwise [k3_pay1, k3_pay5, k3_pay2, k3_pay4]

theorem attnBack_entry (x0 x1 : FVec Ideal S1024x1024 .bf16) (r n : Fin 1024) :
    k4_pay1 (F := Ideal) x0 x1 (ix2 r n) = ∑ d : Fin 1024, x0 (ix2 r d) * x1 (ix2 n d) := by
  pointwise [k4_pay1]

theorem attnDw_entry (x0 : FVec Ideal S256x8192 .bf16) (x1 : FVec Ideal S8192x512 .bf16) (r : Fin 256) (n : Fin 512) :
    k5_pay1 (F := Ideal) x0 x1 (ix2 r n) = ∑ t : Fin 8192, x0 (ix2 r t) * x1 (ix2 t n) := by
  pointwise [k5_pay1]

theorem ssdBack_entry (x0 : FVec Ideal S512x1024 .bf16) (x1 : FVec Ideal S2048x1024 .bf16) (r : Fin 512) (n : Fin 2048) :
    k6_pay1 (F := Ideal) x0 x1 (ix2 r n) = ∑ d : Fin 1024, x0 (ix2 r d) * x1 (ix2 n d) := by
  pointwise [k6_pay1]

/-! ## The whole arrays -/

/-- A column of the first half of the gates, and of the second. -/
abbrev lo (n : Fin 1024) : Fin 2048 := ⟨n.val, by omega⟩
abbrev hi (n : Fin 1024) : Fin 2048 := ⟨1024 + n.val, by omega⟩
def gA (g : FVec Ideal S8192x2048 .bf16) : FVec Ideal S8192x1024 .bf16 :=
  fun y => Ideal.logistic (g (ix2 (n0 := 8192) (n1 := 2048) (y 0) (lo (y 1))))
def gS (g : FVec Ideal S8192x2048 .bf16) : FVec Ideal S8192x1024 .bf16 :=
  fun y => Ideal.logistic (g (ix2 (n0 := 8192) (n1 := 2048) (y 0) (hi (y 1))))

/-- The two branches' outputs, their gated sum, the step's output; the merge's cotangent, gated for each branch; the
    gates' cotangents; what goes back to the two branches and to the attention's output weight. -/
def attnOut (a : FVec Ideal S1024x8192 .bf16) (w : FVec Ideal S1024x1024 .bf16) : FVec Ideal S8192x1024 .bf16 :=
  fun y => ∑ d : Fin 1024, a (ix2 (n0 := 1024) (n1 := 8192) d (y 0)) * w (ix2 (n0 := 1024) (n1 := 1024) d (y 1))
def ssdOut (a : FVec Ideal S8192x2048 .bf16) (w : FVec Ideal S2048x1024 .bf16) : FVec Ideal S8192x1024 .bf16 :=
  fun y => ∑ d : Fin 2048, a (ix2 (n0 := 8192) (n1 := 2048) (y 0) d) * w (ix2 (n0 := 2048) (n1 := 1024) d (y 1))
def merged (ao bo : FVec Ideal S8192x1024 .bf16) (g : FVec Ideal S8192x2048 .bf16) : FVec Ideal S8192x1024 .bf16 :=
  fun y => gA g y * ao y + gS g y * bo y
def residual (u : FVec Ideal S8192x1024 .bf16) (w : FVec Ideal S1024x1024 .bf16) (x : FVec Ideal S8192x1024 .f32) (g : FVec Ideal S1x1024 .f32) : FVec Ideal S8192x1024 .f32 :=
  fun y => x y + g (ix2 (n0 := 1) (n1 := 1024) 0 (y 1)) * ∑ d : Fin 1024, u (ix2 (n0 := 8192) (n1 := 1024) (y 0) d) * w (ix2 (n0 := 1024) (n1 := 1024) d (y 1))
def mergeCot (ct : FVec Ideal S8192x1024 .bf16) (w : FVec Ideal S1024x1024 .bf16) : FVec Ideal S8192x1024 .bf16 :=
  fun y => ∑ d : Fin 1024, ct (ix2 (n0 := 8192) (n1 := 1024) (y 0) d) * w (ix2 (n0 := 1024) (n1 := 1024) (y 1) d)
def gated (p u : FVec Ideal S8192x1024 .bf16) : FVec Ideal S8192x1024 .bf16 := fun y => p y * u y
def gateCot (p o u : FVec Ideal S8192x1024 .bf16) : FVec Ideal S8192x1024 .bf16 := fun y => p y * o y * u y * (1 - u y)
def attnBack (w : FVec Ideal S1024x1024 .bf16) (p : FVec Ideal S8192x1024 .bf16) : FVec Ideal S1024x8192 .bf16 :=
  fun y => ∑ d : Fin 1024, w (ix2 (n0 := 1024) (n1 := 1024) (y 0) d) * p (ix2 (n0 := 8192) (n1 := 1024) (y 1) d)
def attnDw (a : FVec Ideal S1024x8192 .bf16) (p : FVec Ideal S8192x1024 .bf16) : FVec Ideal S1024x1024 .f32 :=
  fun y => ∑ t : Fin 8192, a (ix2 (n0 := 1024) (n1 := 8192) (y 0) t) * p (ix2 (n0 := 8192) (n1 := 1024) t (y 1))
def ssdBack (p : FVec Ideal S8192x1024 .bf16) (w : FVec Ideal S2048x1024 .bf16) : FVec Ideal S8192x2048 .bf16 :=
  fun y => ∑ d : Fin 1024, p (ix2 (n0 := 8192) (n1 := 1024) (y 0) d) * w (ix2 (n0 := 2048) (n1 := 1024) (y 1) d)

variable (V : (c : Dev nD) → (b : Ref sig .tc) → Buf (Elt Ideal) ((c : Thread nD τ).loc b)) (c : Dev nD)

/-! Kernel 0: where each window lies. -/

theorem i0_0_0 : ∀ t : Fin cfg0.N, win0_0.index t 0 = 0 := by
  exact (by decide +kernel : ∀ t : Fin grid0.N, win0_0.index t 0 = 0)
theorem i0_0_1 : ∀ t : Fin cfg0.N, win0_0.index t 1 = t.val := by
  exact (by decide +kernel : ∀ t : Fin grid0.N, win0_0.index t 1 = t.val)
theorem i0_1_0 : ∀ t : Fin cfg0.N, win0_1.index t 0 = 0 := by
  exact (by decide +kernel : ∀ t : Fin grid0.N, win0_1.index t 0 = 0)
theorem i0_1_1 : ∀ t : Fin cfg0.N, win0_1.index t 1 = 0 := by
  exact (by decide +kernel : ∀ t : Fin grid0.N, win0_1.index t 1 = 0)
theorem i0_2_0 : ∀ t : Fin cfg0.N, win0_2.index t 0 = t.val := by
  exact (by decide +kernel : ∀ t : Fin grid0.N, win0_2.index t 0 = t.val)
theorem i0_2_1 : ∀ t : Fin cfg0.N, win0_2.index t 1 = 0 := by
  exact (by decide +kernel : ∀ t : Fin grid0.N, win0_2.index t 1 = 0)

/-! Kernel 1: where each window lies. -/

theorem i1_0_0 : ∀ t : Fin cfg1.N, win1_0.index t 0 = t.val := by
  exact (by decide +kernel : ∀ t : Fin grid1.N, win1_0.index t 0 = t.val)
theorem i1_0_1 : ∀ t : Fin cfg1.N, win1_0.index t 1 = 0 := by
  exact (by decide +kernel : ∀ t : Fin grid1.N, win1_0.index t 1 = 0)
theorem i1_1_0 : ∀ t : Fin cfg1.N, win1_1.index t 0 = 0 := by
  exact (by decide +kernel : ∀ t : Fin grid1.N, win1_1.index t 0 = 0)
theorem i1_1_1 : ∀ t : Fin cfg1.N, win1_1.index t 1 = 0 := by
  exact (by decide +kernel : ∀ t : Fin grid1.N, win1_1.index t 1 = 0)
theorem i1_2_0 : ∀ t : Fin cfg1.N, win1_2.index t 0 = t.val := by
  exact (by decide +kernel : ∀ t : Fin grid1.N, win1_2.index t 0 = t.val)
theorem i1_2_1 : ∀ t : Fin cfg1.N, win1_2.index t 1 = 0 := by
  exact (by decide +kernel : ∀ t : Fin grid1.N, win1_2.index t 1 = 0)
theorem i1_3_0 : ∀ t : Fin cfg1.N, win1_3.index t 0 = t.val := by
  exact (by decide +kernel : ∀ t : Fin grid1.N, win1_3.index t 0 = t.val)
theorem i1_3_1 : ∀ t : Fin cfg1.N, win1_3.index t 1 = 0 := by
  exact (by decide +kernel : ∀ t : Fin grid1.N, win1_3.index t 1 = 0)
theorem i1_4_0 : ∀ t : Fin cfg1.N, win1_4.index t 0 = t.val := by
  exact (by decide +kernel : ∀ t : Fin grid1.N, win1_4.index t 0 = t.val)
theorem i1_4_1 : ∀ t : Fin cfg1.N, win1_4.index t 1 = 1 := by
  exact (by decide +kernel : ∀ t : Fin grid1.N, win1_4.index t 1 = 1)
theorem i1_5_0 : ∀ t : Fin cfg1.N, win1_5.index t 0 = t.val := by
  exact (by decide +kernel : ∀ t : Fin grid1.N, win1_5.index t 0 = t.val)
theorem i1_5_1 : ∀ t : Fin cfg1.N, win1_5.index t 1 = 0 := by
  exact (by decide +kernel : ∀ t : Fin grid1.N, win1_5.index t 1 = 0)
theorem i1_6_0 : ∀ t : Fin cfg1.N, win1_6.index t 0 = t.val := by
  exact (by decide +kernel : ∀ t : Fin grid1.N, win1_6.index t 0 = t.val)
theorem i1_6_1 : ∀ t : Fin cfg1.N, win1_6.index t 1 = 0 := by
  exact (by decide +kernel : ∀ t : Fin grid1.N, win1_6.index t 1 = 0)

/-! Kernel 2: where each window lies. -/

theorem i2_0_0 : ∀ t : Fin cfg2.N, win2_0.index t 0 = t.val := by
  exact (by decide +kernel : ∀ t : Fin grid2.N, win2_0.index t 0 = t.val)
theorem i2_0_1 : ∀ t : Fin cfg2.N, win2_0.index t 1 = 0 := by
  exact (by decide +kernel : ∀ t : Fin grid2.N, win2_0.index t 1 = 0)
theorem i2_1_0 : ∀ t : Fin cfg2.N, win2_1.index t 0 = 0 := by
  exact (by decide +kernel : ∀ t : Fin grid2.N, win2_1.index t 0 = 0)
theorem i2_1_1 : ∀ t : Fin cfg2.N, win2_1.index t 1 = 0 := by
  exact (by decide +kernel : ∀ t : Fin grid2.N, win2_1.index t 1 = 0)
theorem i2_2_0 : ∀ t : Fin cfg2.N, win2_2.index t 0 = t.val := by
  exact (by decide +kernel : ∀ t : Fin grid2.N, win2_2.index t 0 = t.val)
theorem i2_2_1 : ∀ t : Fin cfg2.N, win2_2.index t 1 = 0 := by
  exact (by decide +kernel : ∀ t : Fin grid2.N, win2_2.index t 1 = 0)
theorem i2_3_0 : ∀ t : Fin cfg2.N, win2_3.index t 0 = 0 := by
  exact (by decide +kernel : ∀ t : Fin grid2.N, win2_3.index t 0 = 0)
theorem i2_3_1 : ∀ t : Fin cfg2.N, win2_3.index t 1 = 0 := by
  exact (by decide +kernel : ∀ t : Fin grid2.N, win2_3.index t 1 = 0)
theorem i2_4_0 : ∀ t : Fin cfg2.N, win2_4.index t 0 = t.val := by
  exact (by decide +kernel : ∀ t : Fin grid2.N, win2_4.index t 0 = t.val)
theorem i2_4_1 : ∀ t : Fin cfg2.N, win2_4.index t 1 = 0 := by
  exact (by decide +kernel : ∀ t : Fin grid2.N, win2_4.index t 1 = 0)

/-! Kernel 3: where each window lies. -/

theorem i3_0_0 : ∀ t : Fin cfg3.N, win3_0.index t 0 = t.val := by
  exact (by decide +kernel : ∀ t : Fin grid3.N, win3_0.index t 0 = t.val)
theorem i3_0_1 : ∀ t : Fin cfg3.N, win3_0.index t 1 = 0 := by
  exact (by decide +kernel : ∀ t : Fin grid3.N, win3_0.index t 1 = 0)
theorem i3_1_0 : ∀ t : Fin cfg3.N, win3_1.index t 0 = 0 := by
  exact (by decide +kernel : ∀ t : Fin grid3.N, win3_1.index t 0 = 0)
theorem i3_1_1 : ∀ t : Fin cfg3.N, win3_1.index t 1 = 0 := by
  exact (by decide +kernel : ∀ t : Fin grid3.N, win3_1.index t 1 = 0)
theorem i3_2_0 : ∀ t : Fin cfg3.N, win3_2.index t 0 = t.val := by
  exact (by decide +kernel : ∀ t : Fin grid3.N, win3_2.index t 0 = t.val)
theorem i3_2_1 : ∀ t : Fin cfg3.N, win3_2.index t 1 = 0 := by
  exact (by decide +kernel : ∀ t : Fin grid3.N, win3_2.index t 1 = 0)
theorem i3_3_0 : ∀ t : Fin cfg3.N, win3_3.index t 0 = t.val := by
  exact (by decide +kernel : ∀ t : Fin grid3.N, win3_3.index t 0 = t.val)
theorem i3_3_1 : ∀ t : Fin cfg3.N, win3_3.index t 1 = 0 := by
  exact (by decide +kernel : ∀ t : Fin grid3.N, win3_3.index t 1 = 0)
theorem i3_4_0 : ∀ t : Fin cfg3.N, win3_4.index t 0 = t.val := by
  exact (by decide +kernel : ∀ t : Fin grid3.N, win3_4.index t 0 = t.val)
theorem i3_4_1 : ∀ t : Fin cfg3.N, win3_4.index t 1 = 0 := by
  exact (by decide +kernel : ∀ t : Fin grid3.N, win3_4.index t 1 = 0)
theorem i3_5_0 : ∀ t : Fin cfg3.N, win3_5.index t 0 = t.val := by
  exact (by decide +kernel : ∀ t : Fin grid3.N, win3_5.index t 0 = t.val)
theorem i3_5_1 : ∀ t : Fin cfg3.N, win3_5.index t 1 = 1 := by
  exact (by decide +kernel : ∀ t : Fin grid3.N, win3_5.index t 1 = 1)
theorem i3_6_0 : ∀ t : Fin cfg3.N, win3_6.index t 0 = t.val := by
  exact (by decide +kernel : ∀ t : Fin grid3.N, win3_6.index t 0 = t.val)
theorem i3_6_1 : ∀ t : Fin cfg3.N, win3_6.index t 1 = 0 := by
  exact (by decide +kernel : ∀ t : Fin grid3.N, win3_6.index t 1 = 0)
theorem i3_7_0 : ∀ t : Fin cfg3.N, win3_7.index t 0 = t.val := by
  exact (by decide +kernel : ∀ t : Fin grid3.N, win3_7.index t 0 = t.val)
theorem i3_7_1 : ∀ t : Fin cfg3.N, win3_7.index t 1 = 0 := by
  exact (by decide +kernel : ∀ t : Fin grid3.N, win3_7.index t 1 = 0)
theorem i3_8_0 : ∀ t : Fin cfg3.N, win3_8.index t 0 = t.val := by
  exact (by decide +kernel : ∀ t : Fin grid3.N, win3_8.index t 0 = t.val)
theorem i3_8_1 : ∀ t : Fin cfg3.N, win3_8.index t 1 = 0 := by
  exact (by decide +kernel : ∀ t : Fin grid3.N, win3_8.index t 1 = 0)
theorem i3_9_0 : ∀ t : Fin cfg3.N, win3_9.index t 0 = t.val := by
  exact (by decide +kernel : ∀ t : Fin grid3.N, win3_9.index t 0 = t.val)
theorem i3_9_1 : ∀ t : Fin cfg3.N, win3_9.index t 1 = 0 := by
  exact (by decide +kernel : ∀ t : Fin grid3.N, win3_9.index t 1 = 0)

/-! Kernel 4: where each window lies. -/

theorem i4_0_0 : ∀ t : Fin cfg4.N, win4_0.index t 0 = 0 := by
  exact (by decide +kernel : ∀ t : Fin grid4.N, win4_0.index t 0 = 0)
theorem i4_0_1 : ∀ t : Fin cfg4.N, win4_0.index t 1 = 0 := by
  exact (by decide +kernel : ∀ t : Fin grid4.N, win4_0.index t 1 = 0)
theorem i4_1_0 : ∀ t : Fin cfg4.N, win4_1.index t 0 = t.val := by
  exact (by decide +kernel : ∀ t : Fin grid4.N, win4_1.index t 0 = t.val)
theorem i4_1_1 : ∀ t : Fin cfg4.N, win4_1.index t 1 = 0 := by
  exact (by decide +kernel : ∀ t : Fin grid4.N, win4_1.index t 1 = 0)
theorem i4_2_0 : ∀ t : Fin cfg4.N, win4_2.index t 0 = 0 := by
  exact (by decide +kernel : ∀ t : Fin grid4.N, win4_2.index t 0 = 0)
theorem i4_2_1 : ∀ t : Fin cfg4.N, win4_2.index t 1 = t.val := by
  exact (by decide +kernel : ∀ t : Fin grid4.N, win4_2.index t 1 = t.val)

/-! Kernel 5: where each window lies. -/

theorem i5_0_0 : ∀ t : Fin cfg5.N, win5_0.index t 0 = t.val / 2 := by
  exact (by decide +kernel : ∀ t : Fin grid5.N, win5_0.index t 0 = t.val / 2)
theorem i5_0_1 : ∀ t : Fin cfg5.N, win5_0.index t 1 = 0 := by
  exact (by decide +kernel : ∀ t : Fin grid5.N, win5_0.index t 1 = 0)
theorem i5_1_0 : ∀ t : Fin cfg5.N, win5_1.index t 0 = 0 := by
  exact (by decide +kernel : ∀ t : Fin grid5.N, win5_1.index t 0 = 0)
theorem i5_1_1 : ∀ t : Fin cfg5.N, win5_1.index t 1 = t.val % 2 := by
  exact (by decide +kernel : ∀ t : Fin grid5.N, win5_1.index t 1 = t.val % 2)
theorem i5_2_0 : ∀ t : Fin cfg5.N, win5_2.index t 0 = t.val / 2 := by
  exact (by decide +kernel : ∀ t : Fin grid5.N, win5_2.index t 0 = t.val / 2)
theorem i5_2_1 : ∀ t : Fin cfg5.N, win5_2.index t 1 = t.val % 2 := by
  exact (by decide +kernel : ∀ t : Fin grid5.N, win5_2.index t 1 = t.val % 2)

/-! Kernel 6: where each window lies. -/

theorem i6_0_0 : ∀ t : Fin cfg6.N, win6_0.index t 0 = t.val := by
  exact (by decide +kernel : ∀ t : Fin grid6.N, win6_0.index t 0 = t.val)
theorem i6_0_1 : ∀ t : Fin cfg6.N, win6_0.index t 1 = 0 := by
  exact (by decide +kernel : ∀ t : Fin grid6.N, win6_0.index t 1 = 0)
theorem i6_1_0 : ∀ t : Fin cfg6.N, win6_1.index t 0 = 0 := by
  exact (by decide +kernel : ∀ t : Fin grid6.N, win6_1.index t 0 = 0)
theorem i6_1_1 : ∀ t : Fin cfg6.N, win6_1.index t 1 = 0 := by
  exact (by decide +kernel : ∀ t : Fin grid6.N, win6_1.index t 1 = 0)
theorem i6_2_0 : ∀ t : Fin cfg6.N, win6_2.index t 0 = t.val := by
  exact (by decide +kernel : ∀ t : Fin grid6.N, win6_2.index t 0 = t.val)
theorem i6_2_1 : ∀ t : Fin cfg6.N, win6_2.index t 1 = 0 := by
  exact (by decide +kernel : ∀ t : Fin grid6.N, win6_2.index t 1 = 0)

theorem col1_5 (t : Fin cfg1.N) (r : Fin 512) (n : Fin 1024) : n.val = ((((View.whole main_v9_0).slice (win1_5.rect t)).emb (ix2 r n)) 1 : ℕ) := by
  refine Eq.symm ?_
  show ((win1_5.rect t).emb (ix2 (n0 := 512) (n1 := 1024) r n) 1 : ℕ) = _
  rw [Pipeline.Window.rect_emb_val win1_5 t (ix2 (n0 := 512) (n1 := 1024) r n) 1, i1_5_1 t]
  show 0 * 1024 + n.val = n.val
  omega
theorem col3_6 (t : Fin cfg3.N) (r : Fin 512) (n : Fin 1024) : n.val = ((((View.whole main_v11_0).slice (win3_6.rect t)).emb (ix2 r n)) 1 : ℕ) := by
  refine Eq.symm ?_
  show ((win3_6.rect t).emb (ix2 (n0 := 512) (n1 := 1024) r n) 1 : ℕ) = _
  rw [Pipeline.Window.rect_emb_val win3_6 t (ix2 (n0 := 512) (n1 := 1024) r n) 1, i3_6_1 t]
  show 0 * 1024 + n.val = n.val
  omega
theorem col3_7 (t : Fin cfg3.N) (r : Fin 512) (n : Fin 1024) : n.val = ((((View.whole main_v11_1).slice (win3_7.rect t)).emb (ix2 r n)) 1 : ℕ) := by
  refine Eq.symm ?_
  show ((win3_7.rect t).emb (ix2 (n0 := 512) (n1 := 1024) r n) 1 : ℕ) = _
  rw [Pipeline.Window.rect_emb_val win3_7 t (ix2 (n0 := 512) (n1 := 1024) r n) 1, i3_7_1 t]
  show 0 * 1024 + n.val = n.val
  omega
theorem col3_8 (t : Fin cfg3.N) (r : Fin 512) (n : Fin 1024) : n.val = ((((View.whole main_v11_2).slice (win3_8.rect t)).emb (ix2 r n)) 1 : ℕ) := by
  refine Eq.symm ?_
  show ((win3_8.rect t).emb (ix2 (n0 := 512) (n1 := 1024) r n) 1 : ℕ) = _
  rw [Pipeline.Window.rect_emb_val win3_8 t (ix2 (n0 := 512) (n1 := 1024) r n) 1, i3_8_1 t]
  show 0 * 1024 + n.val = n.val
  omega
theorem col3_9 (t : Fin cfg3.N) (r : Fin 512) (n : Fin 1024) : n.val = ((((View.whole main_v11_3).slice (win3_9.rect t)).emb (ix2 r n)) 1 : ℕ) := by
  refine Eq.symm ?_
  show ((win3_9.rect t).emb (ix2 (n0 := 512) (n1 := 1024) r n) 1 : ℕ) = _
  rw [Pipeline.Window.rect_emb_val win3_9 t (ix2 (n0 := 512) (n1 := 1024) r n) 1, i3_9_1 t]
  show 0 * 1024 + n.val = n.val
  omega

theorem attn_array : (dat0 V c).arrAt 2 cfg0.N = attnOut (V c main_v1) (V c main_v5) := by
  refine (dat0 V c).arrAt_eq_of_covers 2 _ (by decide +kernel) fun t hf y => ?_
  show ((dat0 V c).after 2 t : FVec Ideal S512x1024 .bf16) y = _
  rw [after0_2]
  frame_out
  obtain ⟨r, n, rfl⟩ : ∃ (r : Fin 512) (n : Fin 1024), y = ix2 r n := ⟨y 0, y 1, eq_ix2 y⟩
  refine (attn_entry _ _ r n).trans ?_
  unfold attnOut
  refine Finset.sum_congr rfl fun d _ => congrArg₂ (· * ·) ?_ ?_
  · blk_ext [iblk0, i0_0_0 t, i0_0_1 t, i0_2_0 t, i0_2_1 t]
  · blk_ext [iblk0, i0_1_0 t, i0_1_1 t, i0_2_0 t, i0_2_1 t]

set_option maxHeartbeats 1000000 in
theorem merged_array : (dat1 V c).arrAt 5 cfg1.N = merged (V c main_v8) (ssdOut (V c main_v2) (V c main_v6)) (V c main_v3) := by
  refine (dat1 V c).arrAt_eq_of_covers 5 _ (by decide +kernel) fun t hf y => ?_
  show ((dat1 V c).after 5 t : FVec Ideal S512x1024 .bf16) y = _
  rw [after1_5]
  frame_out
  obtain ⟨r, n, rfl⟩ : ∃ (r : Fin 512) (n : Fin 1024), y = ix2 r n := ⟨y 0, y 1, eq_ix2 y⟩
  refine (merged_entry _ _ _ _ _ r n).trans ?_
  unfold merged gA gS ssdOut
  refine congrArg₂ (· + ·) (congrArg₂ (· * ·) (congrArg Ideal.logistic ?_) ?_) (congrArg₂ (· * ·) (congrArg Ideal.logistic ?_) (Finset.sum_congr rfl fun d _ => congrArg₂ (· * ·) ?_ ?_))
  · blk_ext [iblk1, i1_3_0 t, i1_3_1 t, i1_5_0 t, i1_5_1 t]
    exact col1_5 t r n
  · blk_ext [iblk1, i1_2_0 t, i1_2_1 t, i1_5_0 t, i1_5_1 t]
  · blk_ext [iblk1, i1_4_0 t, i1_4_1 t, i1_5_0 t, i1_5_1 t]
    exact congrArg (1024 + ·) (col1_5 t r n)
  · blk_ext [iblk1, i1_0_0 t, i1_0_1 t, i1_5_0 t, i1_5_1 t]
  · blk_ext [iblk1, i1_1_0 t, i1_1_1 t, i1_5_0 t, i1_5_1 t]

theorem ssd_array : (dat1 V c).arrAt 6 cfg1.N = ssdOut (V c main_v2) (V c main_v6) := by
  refine (dat1 V c).arrAt_eq_of_covers 6 _ (by decide +kernel) fun t hf y => ?_
  show ((dat1 V c).after 6 t : FVec Ideal S512x1024 .bf16) y = _
  rw [after1_6]
  frame_out
  obtain ⟨r, n, rfl⟩ : ∃ (r : Fin 512) (n : Fin 1024), y = ix2 r n := ⟨y 0, y 1, eq_ix2 y⟩
  refine (ssd_entry _ _ r n).trans ?_
  unfold ssdOut
  refine Finset.sum_congr rfl fun d _ => congrArg₂ (· * ·) ?_ ?_
  · blk_ext [iblk1, i1_0_0 t, i1_0_1 t, i1_6_0 t, i1_6_1 t]
  · blk_ext [iblk1, i1_1_0 t, i1_1_1 t, i1_6_0 t, i1_6_1 t]

theorem residual_array : (dat2 V c).arrAt 4 cfg2.N = residual (V c main_v9_0) (V c main_v7) (V c main_arg0) (V c main_arg1) := by
  refine (dat2 V c).arrAt_eq_of_covers 4 _ (by decide +kernel) fun t hf y => ?_
  show ((dat2 V c).after 4 t : FVec Ideal S512x1024 .f32) y = _
  rw [after2_4]
  frame_out
  obtain ⟨r, n, rfl⟩ : ∃ (r : Fin 512) (n : Fin 1024), y = ix2 r n := ⟨y 0, y 1, eq_ix2 y⟩
  refine (residual_entry _ _ _ _ r n).trans ?_
  unfold residual
  refine congrArg₂ (· + ·) ?_ (congrArg₂ (· * ·) ?_ (Finset.sum_congr rfl fun d _ => congrArg₂ (· * ·) ?_ ?_))
  · blk_ext [iblk2, i2_2_0 t, i2_2_1 t, i2_4_0 t, i2_4_1 t]
  · blk_ext [iblk2, i2_3_0 t, i2_3_1 t, i2_4_0 t, i2_4_1 t]
  · blk_ext [iblk2, i2_0_0 t, i2_0_1 t, i2_4_0 t, i2_4_1 t]
  · blk_ext [iblk2, i2_1_0 t, i2_1_1 t, i2_4_0 t, i2_4_1 t]

theorem gatedA_array : (dat3 V c).arrAt 6 cfg3.N = gated (mergeCot (V c main_v4) (V c main_v7)) (gA (V c main_v3)) := by
  refine (dat3 V c).arrAt_eq_of_covers 6 _ (by decide +kernel) fun t hf y => ?_
  show ((dat3 V c).after 6 t : FVec Ideal S512x1024 .bf16) y = _
  rw [after3_6]
  frame_out
  obtain ⟨r, n, rfl⟩ : ∃ (r : Fin 512) (n : Fin 1024), y = ix2 r n := ⟨y 0, y 1, eq_ix2 y⟩
  refine (gatedA_entry _ _ _ r n).trans ?_
  unfold gated mergeCot gA
  refine congrArg₂ (· * ·) (Finset.sum_congr rfl fun d _ => congrArg₂ (· * ·) ?_ ?_) (congrArg Ideal.logistic ?_)
  · blk_ext [iblk3, i3_0_0 t, i3_0_1 t, i3_6_0 t, i3_6_1 t]
  · blk_ext [iblk3, i3_1_0 t, i3_1_1 t, i3_6_0 t, i3_6_1 t]
  · blk_ext [iblk3, i3_4_0 t, i3_4_1 t, i3_6_0 t, i3_6_1 t]
    exact col3_6 t r n

theorem gatedS_array : (dat3 V c).arrAt 7 cfg3.N = gated (mergeCot (V c main_v4) (V c main_v7)) (gS (V c main_v3)) := by
  refine (dat3 V c).arrAt_eq_of_covers 7 _ (by decide +kernel) fun t hf y => ?_
  show ((dat3 V c).after 7 t : FVec Ideal S512x1024 .bf16) y = _
  rw [after3_7]
  frame_out
  obtain ⟨r, n, rfl⟩ : ∃ (r : Fin 512) (n : Fin 1024), y = ix2 r n := ⟨y 0, y 1, eq_ix2 y⟩
  refine (gatedS_entry _ _ _ r n).trans ?_
  unfold gated mergeCot gS
  refine congrArg₂ (· * ·) (Finset.sum_congr rfl fun d _ => congrArg₂ (· * ·) ?_ ?_) (congrArg Ideal.logistic ?_)
  · blk_ext [iblk3, i3_0_0 t, i3_0_1 t, i3_7_0 t, i3_7_1 t]
  · blk_ext [iblk3, i3_1_0 t, i3_1_1 t, i3_7_0 t, i3_7_1 t]
  · blk_ext [iblk3, i3_5_0 t, i3_5_1 t, i3_7_0 t, i3_7_1 t]
    exact congrArg (1024 + ·) (col3_7 t r n)

set_option maxHeartbeats 1000000 in
theorem gateA_array : (dat3 V c).arrAt 8 cfg3.N = gateCot (mergeCot (V c main_v4) (V c main_v7)) (V c main_v8) (gA (V c main_v3)) := by
  refine (dat3 V c).arrAt_eq_of_covers 8 _ (by decide +kernel) fun t hf y => ?_
  show ((dat3 V c).after 8 t : FVec Ideal S512x1024 .bf16) y = _
  rw [after3_8]
  frame_out
  obtain ⟨r, n, rfl⟩ : ∃ (r : Fin 512) (n : Fin 1024), y = ix2 r n := ⟨y 0, y 1, eq_ix2 y⟩
  refine (gateA_entry _ _ _ _ r n).trans ?_
  unfold gateCot mergeCot gA
  refine congrArg₂ (· * ·) (congrArg₂ (· * ·) (congrArg₂ (· * ·) (Finset.sum_congr rfl fun d _ => congrArg₂ (· * ·) ?_ ?_) ?_) (congrArg Ideal.logistic ?_)) (congrArg (fun u : EReal => 1 - Ideal.logistic u) ?_)
  · blk_ext [iblk3, i3_0_0 t, i3_0_1 t, i3_8_0 t, i3_8_1 t]
  · blk_ext [iblk3, i3_1_0 t, i3_1_1 t, i3_8_0 t, i3_8_1 t]
  · blk_ext [iblk3, i3_2_0 t, i3_2_1 t, i3_8_0 t, i3_8_1 t]
  · blk_ext [iblk3, i3_4_0 t, i3_4_1 t, i3_8_0 t, i3_8_1 t]
    exact col3_8 t r n
  · blk_ext [iblk3, i3_4_0 t, i3_4_1 t, i3_8_0 t, i3_8_1 t]
    exact col3_8 t r n

set_option maxHeartbeats 1000000 in
theorem gateS_array : (dat3 V c).arrAt 9 cfg3.N = gateCot (mergeCot (V c main_v4) (V c main_v7)) (V c main_v9_1) (gS (V c main_v3)) := by
  refine (dat3 V c).arrAt_eq_of_covers 9 _ (by decide +kernel) fun t hf y => ?_
  show ((dat3 V c).after 9 t : FVec Ideal S512x1024 .bf16) y = _
  rw [after3_9]
  frame_out
  obtain ⟨r, n, rfl⟩ : ∃ (r : Fin 512) (n : Fin 1024), y = ix2 r n := ⟨y 0, y 1, eq_ix2 y⟩
  refine (gateS_entry _ _ _ _ r n).trans ?_
  unfold gateCot mergeCot gS
  refine congrArg₂ (· * ·) (congrArg₂ (· * ·) (congrArg₂ (· * ·) (Finset.sum_congr rfl fun d _ => congrArg₂ (· * ·) ?_ ?_) ?_) (congrArg Ideal.logistic ?_)) (congrArg (fun u : EReal => 1 - Ideal.logistic u) ?_)
  · blk_ext [iblk3, i3_0_0 t, i3_0_1 t, i3_9_0 t, i3_9_1 t]
  · blk_ext [iblk3, i3_1_0 t, i3_1_1 t, i3_9_0 t, i3_9_1 t]
  · blk_ext [iblk3, i3_3_0 t, i3_3_1 t, i3_9_0 t, i3_9_1 t]
  · blk_ext [iblk3, i3_5_0 t, i3_5_1 t, i3_9_0 t, i3_9_1 t]
    exact congrArg (1024 + ·) (col3_9 t r n)
  · blk_ext [iblk3, i3_5_0 t, i3_5_1 t, i3_9_0 t, i3_9_1 t]
    exact congrArg (1024 + ·) (col3_9 t r n)

theorem attnBack_array : (dat4 V c).arrAt 2 cfg4.N = attnBack (V c main_v5) (V c main_v11_0) := by
  refine (dat4 V c).arrAt_eq_of_covers 2 _ (by decide +kernel) fun t hf y => ?_
  show ((dat4 V c).after 2 t : FVec Ideal S1024x1024 .bf16) y = _
  rw [after4_2]
  frame_out
  obtain ⟨r, n, rfl⟩ : ∃ (r : Fin 1024) (n : Fin 1024), y = ix2 r n := ⟨y 0, y 1, eq_ix2 y⟩
  refine (attnBack_entry _ _ r n).trans ?_
  unfold attnBack
  refine Finset.sum_congr rfl fun d _ => congrArg₂ (· * ·) ?_ ?_
  · blk_ext [iblk4, i4_0_0 t, i4_0_1 t, i4_2_0 t, i4_2_1 t]
  · blk_ext [iblk4, i4_1_0 t, i4_1_1 t, i4_2_0 t, i4_2_1 t]

theorem attnDw_array : (dat5 V c).arrAt 2 cfg5.N = attnDw (V c main_v1) (V c main_v11_0) := by
  refine (dat5 V c).arrAt_eq_of_covers 2 _ (by decide +kernel) fun t hf y => ?_
  show ((dat5 V c).after 2 t : FVec Ideal S256x512 .f32) y = _
  rw [after5_2]
  frame_out
  obtain ⟨r, n, rfl⟩ : ∃ (r : Fin 256) (n : Fin 512), y = ix2 r n := ⟨y 0, y 1, eq_ix2 y⟩
  refine (attnDw_entry _ _ r n).trans ?_
  unfold attnDw
  refine Finset.sum_congr rfl fun d _ => congrArg₂ (· * ·) ?_ ?_
  · blk_ext [iblk5, i5_0_0 t, i5_0_1 t, i5_2_0 t, i5_2_1 t]
  · blk_ext [iblk5, i5_1_0 t, i5_1_1 t, i5_2_0 t, i5_2_1 t]

theorem ssdBack_array : (dat6 V c).arrAt 2 cfg6.N = ssdBack (V c main_v11_1) (V c main_v6) := by
  refine (dat6 V c).arrAt_eq_of_covers 2 _ (by decide +kernel) fun t hf y => ?_
  show ((dat6 V c).after 2 t : FVec Ideal S512x2048 .bf16) y = _
  rw [after6_2]
  frame_out
  obtain ⟨r, n, rfl⟩ : ∃ (r : Fin 512) (n : Fin 2048), y = ix2 r n := ⟨y 0, y 1, eq_ix2 y⟩
  refine (ssdBack_entry _ _ r n).trans ?_
  unfold ssdBack
  refine Finset.sum_congr rfl fun d _ => congrArg₂ (· * ·) ?_ ?_
  · blk_ext [iblk6, i6_0_0 t, i6_0_1 t, i6_2_0 t, i6_2_1 t]
  · blk_ext [iblk6, i6_1_0 t, i6_1_1 t, i6_2_0 t, i6_2_1 t]

/-! ## The kernels in a row -/

variable (m : (ℓ : Loc nD τ sig) → Buf (Elt Ideal) ℓ) (ρ : Dev nD → PrngReg)

abbrev argX : FVec Ideal S8192x1024 .f32 := m ((c.tc : Thread nD τ).loc main_arg0)
abbrev argG : FVec Ideal S1x1024 .f32 := m ((c.tc : Thread nD τ).loc main_arg1)
abbrev argA : FVec Ideal S8192x1024 .f32 := m ((c.tc : Thread nD τ).loc main_arg2)
abbrev argS : FVec Ideal S8192x2048 .f32 := m ((c.tc : Thread nD τ).loc main_arg3)
abbrev argU : FVec Ideal S8192x2048 .f32 := m ((c.tc : Thread nD τ).loc main_arg4)
abbrev argWA : FVec Ideal S1024x1024 .f32 := m ((c.tc : Thread nD τ).loc main_arg5)
abbrev argWS : FVec Ideal S2048x1024 .f32 := m ((c.tc : Thread nD τ).loc main_arg6)
abbrev argWO : FVec Ideal S1024x1024 .f32 := m ((c.tc : Thread nD τ).loc main_arg7)
abbrev argC : FVec Ideal S8192x1024 .f32 := m ((c.tc : Thread nD τ).loc main_arg8)
/-- The attention's output with the tokens along the lanes. -/
def tr (a : FVec Ideal S8192x1024 .f32) : FVec Ideal S1024x8192 .bf16 := fun y => a (ix2 (n0 := 8192) (n1 := 1024) (y 1) (y 0))

theorem V1_a : (V1 m ρ c main_v1 : FVec Ideal S1024x8192 .bf16) = tr (argA c m) := by
  have e : (V1 m ρ c main_v1 : FVec Ideal S1024x8192 .bf16) = truncf .bf16 (transpose S1024x8192 [1, 0] (argA c m) transposes_S8192x1024_S1024x8192_1_0) bitsLt_bf16_f32 := by
    show StableHlo.after hostOps0 (W0 m ρ c) (Proc.devRef .tc main_v1) = _
    after_results_simp
  rw [e]
  generalize argA c m = X
  funext y
  obtain ⟨r, n, rfl⟩ : ∃ (r : Fin 1024) (n : Fin 8192), y = ix2 r n := ⟨y 0, y 1, eq_ix2 y⟩
  show _ = X (ix2 (n0 := 8192) (n1 := 1024) n r)
  pointwise []
theorem V1_s : (V1 m ρ c main_v2 : FVec Ideal S8192x2048 .bf16) = argS c m := by
  show StableHlo.after hostOps0 (W0 m ρ c) (Proc.devRef .tc main_v2) = _
  after_results_simp
  rfl
theorem V1_u : (V1 m ρ c main_v3 : FVec Ideal S8192x2048 .bf16) = argU c m := by
  show StableHlo.after hostOps0 (W0 m ρ c) (Proc.devRef .tc main_v3) = _
  after_results_simp
  rfl
theorem V1_ct : (V1 m ρ c main_v4 : FVec Ideal S8192x1024 .bf16) = argC c m := by
  show StableHlo.after hostOps0 (W0 m ρ c) (Proc.devRef .tc main_v4) = _
  after_results_simp
  rfl
theorem V1_wa : (V1 m ρ c main_v5 : FVec Ideal S1024x1024 .bf16) = argWA c m := by
  show StableHlo.after hostOps0 (W0 m ρ c) (Proc.devRef .tc main_v5) = _
  after_results_simp
  rfl
theorem V1_ws : (V1 m ρ c main_v6 : FVec Ideal S2048x1024 .bf16) = argWS c m := by
  show StableHlo.after hostOps0 (W0 m ρ c) (Proc.devRef .tc main_v6) = _
  after_results_simp
  rfl
theorem V1_wo : (V1 m ρ c main_v7 : FVec Ideal S1024x1024 .bf16) = argWO c m := by
  show StableHlo.after hostOps0 (W0 m ρ c) (Proc.devRef .tc main_v7) = _
  after_results_simp
  rfl

/-! What each kernel finds in the arrays it takes. -/

theorem V2_s : (V2 m ρ c main_v2 : FVec Ideal S8192x2048 .bf16) = argS c m :=
  (W2_of m ρ c main_v2 (by decide)).trans (V1_s c m ρ)
theorem V2_u : (V2 m ρ c main_v3 : FVec Ideal S8192x2048 .bf16) = argU c m :=
  (W2_of m ρ c main_v3 (by decide)).trans (V1_u c m ρ)
theorem V2_ws : (V2 m ρ c main_v6 : FVec Ideal S2048x1024 .bf16) = argWS c m :=
  (W2_of m ρ c main_v6 (by decide)).trans (V1_ws c m ρ)
theorem V3_wo : (V3 m ρ c main_v7 : FVec Ideal S1024x1024 .bf16) = argWO c m :=
  (W3_of m ρ c main_v7 (by decide)).trans ((W2_of m ρ c main_v7 (by decide)).trans (V1_wo c m ρ))
theorem V4_u : (V4 m ρ c main_v3 : FVec Ideal S8192x2048 .bf16) = argU c m :=
  (W4_of m ρ c main_v3 (by decide)).trans ((W3_of m ρ c main_v3 (by decide)).trans ((W2_of m ρ c main_v3 (by decide)).trans (V1_u c m ρ)))
theorem V4_ct : (V4 m ρ c main_v4 : FVec Ideal S8192x1024 .bf16) = argC c m :=
  (W4_of m ρ c main_v4 (by decide)).trans ((W3_of m ρ c main_v4 (by decide)).trans ((W2_of m ρ c main_v4 (by decide)).trans (V1_ct c m ρ)))
theorem V4_wo : (V4 m ρ c main_v7 : FVec Ideal S1024x1024 .bf16) = argWO c m :=
  (W4_of m ρ c main_v7 (by decide)).trans ((W3_of m ρ c main_v7 (by decide)).trans ((W2_of m ρ c main_v7 (by decide)).trans (V1_wo c m ρ)))
theorem V5_wa : (V5 m ρ c main_v5 : FVec Ideal S1024x1024 .bf16) = argWA c m :=
  (W5_of m ρ c main_v5 (by decide)).trans ((W4_of m ρ c main_v5 (by decide)).trans ((W3_of m ρ c main_v5 (by decide)).trans ((W2_of m ρ c main_v5 (by decide)).trans (V1_wa c m ρ))))
theorem V6_a : (V6 m ρ c main_v1 : FVec Ideal S1024x8192 .bf16) = tr (argA c m) :=
  (W6_of m ρ c main_v1 (by decide)).trans ((W5_of m ρ c main_v1 (by decide)).trans ((W4_of m ρ c main_v1 (by decide)).trans ((W3_of m ρ c main_v1 (by decide)).trans ((W2_of m ρ c main_v1 (by decide)).trans (V1_a c m ρ)))))
theorem V7_ws : (V7 m ρ c main_v6 : FVec Ideal S2048x1024 .bf16) = argWS c m :=
  (W7_of m ρ c main_v6 (by decide)).trans ((W6_of m ρ c main_v6 (by decide)).trans ((W5_of m ρ c main_v6 (by decide)).trans ((W4_of m ρ c main_v6 (by decide)).trans ((W3_of m ρ c main_v6 (by decide)).trans ((W2_of m ρ c main_v6 (by decide)).trans (V1_ws c m ρ))))))
theorem V3_x : (V3 m ρ c main_arg0 : FVec Ideal S8192x1024 .f32) = argX c m := (W3_of m ρ c main_arg0 (by decide)).trans ((W2_of m ρ c main_arg0 (by decide)).trans (W1_of m ρ c main_arg0 (by decide)))
theorem V3_g : (V3 m ρ c main_arg1 : FVec Ideal S1x1024 .f32) = argG c m := (W3_of m ρ c main_arg1 (by decide)).trans ((W2_of m ρ c main_arg1 (by decide)).trans (W1_of m ρ c main_arg1 (by decide)))

/-- The two branches' outputs, the merge's cotangent, and its two gated forms, of the arguments. -/
abbrev vAO : FVec Ideal S8192x1024 .bf16 := attnOut (tr (argA c m)) (argWA c m)
abbrev vBO : FVec Ideal S8192x1024 .bf16 := ssdOut (argS c m) (argWS c m)
abbrev vP : FVec Ideal S8192x1024 .bf16 := mergeCot (argC c m) (argWO c m)
abbrev vDA : FVec Ideal S8192x1024 .bf16 := gated (vP c m) (gA (argU c m))
abbrev vDB : FVec Ideal S8192x1024 .bf16 := gated (vP c m) (gS (argU c m))

theorem V2_ao : (V2 m ρ c main_v8 : FVec Ideal S8192x1024 .bf16) = vAO c m :=
  (W2_arr m ρ c 2).trans ((attn_array (V1 m ρ) c).trans (by rw [V1_a, V1_wa]))
theorem V4_ao : (V4 m ρ c main_v8 : FVec Ideal S8192x1024 .bf16) = vAO c m :=
  (W4_of m ρ c main_v8 (by decide)).trans ((W3_of m ρ c main_v8 (by decide)).trans (V2_ao c m ρ))
theorem V3_merged : (V3 m ρ c main_v9_0 : FVec Ideal S8192x1024 .bf16) = merged (vAO c m) (vBO c m) (argU c m) :=
  (W3_arr m ρ c 5).trans ((merged_array (V2 m ρ) c).trans (by rw [V2_ao, V2_s, V2_ws, V2_u]))
theorem V3_bo : (V3 m ρ c main_v9_1 : FVec Ideal S8192x1024 .bf16) = vBO c m :=
  (W3_arr m ρ c 6).trans ((ssd_array (V2 m ρ) c).trans (by rw [V2_s, V2_ws]))
theorem V4_bo : (V4 m ρ c main_v9_1 : FVec Ideal S8192x1024 .bf16) = vBO c m :=
  (W4_of m ρ c main_v9_1 (by decide)).trans (V3_bo c m ρ)
theorem V5_da : (V5 m ρ c main_v11_0 : FVec Ideal S8192x1024 .bf16) = vDA c m :=
  (W5_arr m ρ c 6).trans ((gatedA_array (V4 m ρ) c).trans (by rw [V4_ct, V4_wo, V4_u]))
theorem V5_db : (V5 m ρ c main_v11_1 : FVec Ideal S8192x1024 .bf16) = vDB c m :=
  (W5_arr m ρ c 7).trans ((gatedS_array (V4 m ρ) c).trans (by rw [V4_ct, V4_wo, V4_u]))
theorem V6_da : (V6 m ρ c main_v11_0 : FVec Ideal S8192x1024 .bf16) = vDA c m :=
  (W6_of m ρ c main_v11_0 (by decide)).trans (V5_da c m ρ)
theorem V7_db : (V7 m ρ c main_v11_1 : FVec Ideal S8192x1024 .bf16) = vDB c m :=
  (W7_of m ρ c main_v11_1 (by decide)).trans ((W6_of m ρ c main_v11_1 (by decide)).trans (V5_db c m ρ))

/-- The six results. -/
theorem result_x : (dat2 (V3 m ρ) c).arrAt 4 cfg2.N = residual (merged (vAO c m) (vBO c m) (argU c m)) (argWO c m) (argX c m) (argG c m) := by
  rw [residual_array, V3_merged, V3_wo, V3_x, V3_g]
theorem result_ga : (dat3 (V4 m ρ) c).arrAt 8 cfg3.N = gateCot (vP c m) (vAO c m) (gA (argU c m)) := by
  rw [gateA_array, V4_ct, V4_wo, V4_ao, V4_u]
theorem result_gs : (dat3 (V4 m ρ) c).arrAt 9 cfg3.N = gateCot (vP c m) (vBO c m) (gS (argU c m)) := by
  rw [gateS_array, V4_ct, V4_wo, V4_bo, V4_u]
theorem result_a : (dat4 (V5 m ρ) c).arrAt 2 cfg4.N = attnBack (argWA c m) (vDA c m) := by
  rw [attnBack_array, V5_wa, V5_da]
theorem result_wa : (dat5 (V6 m ρ) c).arrAt 2 cfg5.N = attnDw (tr (argA c m)) (vDA c m) := by
  rw [attnDw_array, V6_a, V6_da]
theorem result_s : (dat6 (V7 m ρ) c).arrAt 2 cfg6.N = ssdBack (vDB c m) (argWS c m) := by
  rw [ssdBack_array, V7_db, V7_ws]

end Cert.MergeIdeal.Hand

end
-- ==== Proof.MergeRef.lean ====
/- The reference's gated merge and gradients, as the same sums. -/
module

public import proofs.«01_k».proof.Proof.MergeVals
public import proofs.«01_k».proof.Proof.Gen.MergeReferenceIdeal.Run
public import Idealize.ShloMosaic.Lib.Pointwise
public import Idealize.ShloMosaic.Lib.Pipeline.ValueKit

@[expose] public section

set_option maxRecDepth 16384

noncomputable section

namespace Cert.MergeReferenceIdeal.Hand

open Cert.MergeReferenceIdeal Cert.MergeReferenceIdeal.Gen
open Idealize.ShloMosaic Idealize.ShloMosaic.TcCoe
open Cert.MergeIdeal.Hand (gA gS attnOut ssdOut merged residual mergeCot gated gateCot attnBack attnDw ssdBack tr lo hi)

variable (x : FVec Ideal S8192x1024 .f32) (g1 : FVec Ideal S1x1024 .f32) (a : FVec Ideal S8192x1024 .f32) (s : FVec Ideal S8192x2048 .f32) (u : FVec Ideal S8192x2048 .f32)
  (wa : FVec Ideal S1024x1024 .f32) (ws : FVec Ideal S2048x1024 .f32) (wo : FVec Ideal S1024x1024 .f32) (ct : FVec Ideal S8192x1024 .f32)

/-! ## The reference's arrays -/

abbrev ones : FVec Ideal S8192x1024 .f32 := broadcastInDim S8192x1024 ![] bcast_S_S8192x1024 (constant (F := Ideal) S_ .f32 0x3F800000#32)
abbrev sgm (z : FVec Ideal S8192x1024 .f32) : FVec Ideal S8192x1024 .f32 := Host.divf ones (addf ones (Host.exp (Host.negf z)))
abbrev first (z : FVec Ideal S8192x2048 .f32) : FVec Ideal S8192x1024 .f32 := extractStridedSlice S8192x1024 ![0, 0] z slices_S8192x2048_S8192x1024_0_0
abbrev second (z : FVec Ideal S8192x2048 .f32) : FVec Ideal S8192x1024 .f32 := extractStridedSlice S8192x1024 ![0, 1024] z slices_S8192x2048_S8192x1024_0_1024
abbrev rAO : FVec Ideal S8192x1024 .f32 := Host.dotGeneral dot_S8192x1024_S1024x1024_S8192x1024_1_0_0_1_n_n none a wa
abbrev rBO : FVec Ideal S8192x1024 .f32 := Host.dotGeneral dot_S8192x2048_S2048x1024_S8192x1024_1_0_0_1_n_n none s ws
abbrev rP : FVec Ideal S8192x1024 .f32 := Host.dotGeneral dot_S8192x1024_S1024x1024_S8192x1024_1_1_0_0_n_n none ct wo
abbrev cotOf (p o z : FVec Ideal S8192x1024 .f32) : FVec Ideal S8192x1024 .f32 := mulf (mulf p o) (mulf z (subf ones z))
/-- The gates' cotangents, each padded to the width of both, added. -/
abbrev both (l r : FVec Ideal S8192x1024 .f32) : FVec Ideal S8192x2048 .f32 :=
  addf (pad S8192x2048 ![0, 1024] ![0, 0] ![0, 0] r (constant (F := Ideal) S_ .f32 0x00000000#32) pads_S8192x1024_S8192x2048_000_102400 h_S_)
    (pad S8192x2048 ![0, 0] ![0, 1024] ![0, 0] l (constant (F := Ideal) S_ .f32 0x00000000#32) pads_S8192x1024_S8192x2048_000_010240 h_S_)

theorem gateA_eq : sgm (first u) = gA u := by
  funext y
  obtain ⟨r, n, rfl⟩ : ∃ (r : Fin 8192) (n : Fin 1024), y = ix2 r n := ⟨y 0, y 1, eq_ix2 y⟩
  show _ = Ideal.logistic (u (ix2 r (lo n)))
  unfold Ideal.logistic
  pointwise []
theorem gateS_eq : sgm (second u) = gS u := by
  funext y
  obtain ⟨r, n, rfl⟩ : ∃ (r : Fin 8192) (n : Fin 1024), y = ix2 r n := ⟨y 0, y 1, eq_ix2 y⟩
  show _ = Ideal.logistic (u (ix2 r (hi n)))
  unfold Ideal.logistic
  pointwise []
theorem rAO_eq : rAO a wa = attnOut (tr a) wa := by
  funext y
  obtain ⟨r, n, rfl⟩ : ∃ (r : Fin 8192) (n : Fin 1024), y = ix2 r n := ⟨y 0, y 1, eq_ix2 y⟩
  show _ = ∑ d : Fin 1024, a (ix2 r d) * wa (ix2 d n)
  pointwise []
theorem rBO_eq : rBO s ws = ssdOut s ws := by
  funext y
  obtain ⟨r, n, rfl⟩ : ∃ (r : Fin 8192) (n : Fin 1024), y = ix2 r n := ⟨y 0, y 1, eq_ix2 y⟩
  show _ = ∑ d : Fin 2048, s (ix2 r d) * ws (ix2 d n)
  pointwise []
theorem rP_eq : rP wo ct = mergeCot ct wo := by
  funext y
  obtain ⟨r, n, rfl⟩ : ∃ (r : Fin 8192) (n : Fin 1024), y = ix2 r n := ⟨y 0, y 1, eq_ix2 y⟩
  show _ = ∑ d : Fin 1024, ct (ix2 r d) * wo (ix2 n d)
  pointwise []
theorem gated_eq (z p : FVec Ideal S8192x1024 .f32) : mulf z p = gated p z := by
  funext y
  exact mul_comm (z y : EReal) (p y)
theorem cot_eq (p o z : FVec Ideal S8192x1024 .f32) : cotOf p o z = gateCot p o z := by
  funext y
  obtain ⟨r, n, rfl⟩ : ∃ (r : Fin 8192) (n : Fin 1024), y = ix2 r n := ⟨y 0, y 1, eq_ix2 y⟩
  show _ = (p (ix2 r n) : EReal) * o (ix2 r n) * z (ix2 r n) * (1 - z (ix2 r n))
  rw [mul_assoc ((p (ix2 r n) : EReal) * o (ix2 r n))]
  pointwise []
theorem first_both (l r : FVec Ideal S8192x1024 .f32) : first (both l r) = l := by
  funext y
  obtain ⟨i, n, rfl⟩ : ∃ (i : Fin 8192) (n : Fin 1024), y = ix2 i n := ⟨y 0, y 1, eq_ix2 y⟩
  pointwise []
  rw [dif_neg (fun h => h.1)]
  exact zero_add _
theorem second_both (l r : FVec Ideal S8192x1024 .f32) : second (both l r) = r := by
  funext y
  obtain ⟨i, n, rfl⟩ : ∃ (i : Fin 8192) (n : Fin 1024), y = ix2 i n := ⟨y 0, y 1, eq_ix2 y⟩
  pointwise []

/-! ## The six results -/

theorem result_x : addf x (mulf (broadcastInDim S8192x1024 ![0, 1] bcast_S1x1024_S8192x1024_0_1 g1) (Host.dotGeneral dot_S8192x1024_S1024x1024_S8192x1024_1_0_0_1_n_n none
      (addf (mulf (sgm (first u)) (rAO a wa)) (mulf (sgm (second u)) (rBO s ws))) wo))
    = residual (merged (attnOut (tr a) wa) (ssdOut s ws) u) wo x g1 := by
  rw [gateA_eq, gateS_eq, rAO_eq, rBO_eq]
  have key : ∀ X : FVec Ideal S8192x1024 .f32, addf x (mulf (broadcastInDim S8192x1024 ![0, 1] bcast_S1x1024_S8192x1024_0_1 g1)
      (Host.dotGeneral dot_S8192x1024_S1024x1024_S8192x1024_1_0_0_1_n_n none X wo)) = residual X wo x g1 := by
    intro X
    funext y
    obtain ⟨r, n, rfl⟩ : ∃ (r : Fin 8192) (n : Fin 1024), y = ix2 r n := ⟨y 0, y 1, eq_ix2 y⟩
    show _ = (x (ix2 r n) : EReal) + g1 (ix2 0 n) * ∑ d : Fin 1024, X (ix2 r d) * wo (ix2 d n)
    pointwise []
  exact key (merged (attnOut (tr a) wa) (ssdOut s ws) u)

theorem result_ga : (truncf .bf16 (first (both (cotOf (rP wo ct) (rAO a wa) (sgm (first u))) (cotOf (rP wo ct) (rBO s ws) (sgm (second u))))) bitsLt_bf16_f32 : FVec Ideal S8192x1024 .bf16)
    = gateCot (mergeCot ct wo) (attnOut (tr a) wa) (gA u) := by
  rw [first_both, gateA_eq, rAO_eq, rP_eq, cot_eq]
  rfl

theorem result_gs : (truncf .bf16 (second (both (cotOf (rP wo ct) (rAO a wa) (sgm (first u))) (cotOf (rP wo ct) (rBO s ws) (sgm (second u))))) bitsLt_bf16_f32 : FVec Ideal S8192x1024 .bf16)
    = gateCot (mergeCot ct wo) (ssdOut s ws) (gS u) := by
  rw [second_both, gateS_eq, rBO_eq, rP_eq, cot_eq]
  rfl

theorem result_a : (truncf .bf16 (transpose S1024x8192 [1, 0] (Host.dotGeneral dot_S8192x1024_S1024x1024_S8192x1024_1_1_0_0_n_n none (mulf (sgm (first u)) (rP wo ct)) wa : FVec Ideal S8192x1024 .f32) transposes_S8192x1024_S1024x8192_1_0) bitsLt_bf16_f32 : FVec Ideal S1024x8192 .bf16)
    = attnBack wa (gated (mergeCot ct wo) (gA u)) := by
  rw [gateA_eq, rP_eq, gated_eq]
  generalize gated (mergeCot ct wo) (gA u) = X
  funext y
  obtain ⟨r, n, rfl⟩ : ∃ (r : Fin 1024) (n : Fin 8192), y = ix2 r n := ⟨y 0, y 1, eq_ix2 y⟩
  show _ = ∑ d : Fin 1024, wa (ix2 r d) * X (ix2 n d)
  pointwise []
  exact Finset.sum_congr rfl fun d _ => mul_comm _ _

theorem result_wa : (transpose S1024x1024 [1, 0] (Host.dotGeneral dot_S8192x1024_S8192x1024_S1024x1024_0_0_1_1_n_n none (mulf (sgm (first u)) (rP wo ct)) a : FVec Ideal S1024x1024 .f32) transposes_S1024x1024_S1024x1024_1_0 : FVec Ideal S1024x1024 .f32)
    = attnDw (tr a) (gated (mergeCot ct wo) (gA u)) := by
  rw [gateA_eq, rP_eq, gated_eq]
  generalize gated (mergeCot ct wo) (gA u) = X
  funext y
  obtain ⟨r, n, rfl⟩ : ∃ (r : Fin 1024) (n : Fin 1024), y = ix2 r n := ⟨y 0, y 1, eq_ix2 y⟩
  show _ = ∑ t : Fin 8192, a (ix2 t r) * X (ix2 t n)
  pointwise []
  exact Finset.sum_congr rfl fun d _ => mul_comm _ _

theorem result_s : (truncf .bf16 (Host.dotGeneral dot_S8192x1024_S2048x1024_S8192x2048_1_1_0_0_n_n none (mulf (sgm (second u)) (rP wo ct)) ws : FVec Ideal S8192x2048 .f32) bitsLt_bf16_f32 : FVec Ideal S8192x2048 .bf16)
    = ssdBack (gated (mergeCot ct wo) (gS u)) ws := by
  rw [gateS_eq, rP_eq, gated_eq]
  generalize gated (mergeCot ct wo) (gS u) = X
  funext y
  obtain ⟨r, n, rfl⟩ : ∃ (r : Fin 8192) (n : Fin 2048), y = ix2 r n := ⟨y 0, y 1, eq_ix2 y⟩
  show _ = ∑ d : Fin 1024, X (ix2 r d) * ws (ix2 n d)
  pointwise []

end Cert.MergeReferenceIdeal.Hand

end
-- ==== Proof.MlpDwOne.lean ====
/- The gradient of the channel mixer's first weight, at exact arithmetic: the kernel's two partial products add up to the
   product over all tokens, which is what the reference computes. -/
module

public import proofs.«01_k».proof.Proof.Gen.MlpDwOneIdeal.Value
public import proofs.«01_k».proof.Proof.Gen.MlpDwOneReferenceIdeal.Run
public import Idealize.ShloMosaic.Lib.Pointwise
public import Idealize.ShloMosaic.Lib.Pipeline.ValueKit

@[expose] public section

set_option maxRecDepth 16384

noncomputable section

namespace Cert.MlpDwOneIdeal.Hand

open Cert.MlpDwOneIdeal Cert.MlpDwOneIdeal.Gen
open Idealize.ShloMosaic Idealize.ShloMosaic.TcCoe

/-- One step's partial product. -/
theorem part_entry (x0 : FVec Ideal S4096x512 .bf16) (x1 : FVec Ideal S4096x1024 .bf16) (k : Fin 512) (n : Fin 1024) :
    k0_pay1 (F := Ideal) x0 x1 (ix2 k n) = ∑ r : Fin 4096, x0 (ix2 r k) * x1 (ix2 r n) := by
  pointwise [k0_pay1]

theorem step_entry (x0 : FVec Ideal S4096x512 .bf16) (x1 : FVec Ideal S4096x1024 .bf16) (acc : FVec Ideal S512x1024 .f32) (k : Fin 512) (n : Fin 1024) :
    k0_pay2 (F := Ideal) x0 x1 acc (ix2 k n) = acc (ix2 k n) + ∑ r : Fin 4096, x0 (ix2 r k) * x1 (ix2 r n) := by
  pointwise [k0_pay2, k0_pay1]

theorem idx0_0 : ∀ t : Fin cfg0.N, win0_0.index t 0 = t.val % 2 := by
  exact (by decide +kernel : ∀ t : Fin grid0.N, win0_0.index t 0 = t.val % 2)
theorem idx0_1 : ∀ t : Fin cfg0.N, win0_0.index t 1 = t.val / 8 := by
  exact (by decide +kernel : ∀ t : Fin grid0.N, win0_0.index t 1 = t.val / 8)
theorem idx1_0 : ∀ t : Fin cfg0.N, win0_1.index t 0 = t.val % 2 := by
  exact (by decide +kernel : ∀ t : Fin grid0.N, win0_1.index t 0 = t.val % 2)
theorem idx1_1 : ∀ t : Fin cfg0.N, win0_1.index t 1 = t.val / 2 % 4 := by
  exact (by decide +kernel : ∀ t : Fin grid0.N, win0_1.index t 1 = t.val / 2 % 4)
theorem idx2_0 : ∀ t : Fin cfg0.N, win0_2.index t 0 = t.val / 8 := by
  exact (by decide +kernel : ∀ t : Fin grid0.N, win0_2.index t 0 = t.val / 8)
theorem idx2_1 : ∀ t : Fin cfg0.N, win0_2.index t 1 = t.val / 2 % 4 := by
  exact (by decide +kernel : ∀ t : Fin grid0.N, win0_2.index t 1 = t.val / 2 % 4)

/-- The product over all tokens. -/
def tokenProduct (h : FVec Ideal S8192x1024 .f32) (ct : FVec Ideal S8192x4096 .f32) : FVec Ideal S1024x4096 .f32 :=
  fun y => ∑ r : Fin 8192, h (ix2 (n0 := 8192) (n1 := 1024) r (y 0)) * ct (ix2 (n0 := 8192) (n1 := 4096) r (y 1))

variable (m : (ℓ : Loc nD τ sig) → Buf (Elt Ideal) ℓ) (c : Dev nD)

abbrev argH : FVec Ideal S8192x1024 .f32 := m ((c.tc : Thread nD τ).loc main_arg0)
abbrev argC : FVec Ideal S8192x4096 .f32 := m ((c.tc : Thread nD τ).loc main_arg1)

theorem V_h : (V m c main_v0 : FVec Ideal S8192x1024 .bf16) = argH m c := by
  unfold V
  after_results_simp
  rfl
theorem V_ct : (V m c main_v1 : FVec Ideal S8192x4096 .bf16) = argC m c := by
  unfold V
  after_results_simp
  rfl

/-- The blocks a point reads. -/
abbrev rowsH (t : Fin cfg0.N) : FVec Ideal S4096x512 .bf16 := iblk m c 0 t
abbrev rowsC (t : Fin cfg0.N) : FVec Ideal S4096x1024 .bf16 := iblk m c 1 t

theorem blk0_entry (t : Fin cfg0.N) (r : Fin 4096) (k : Fin 512) (R : Fin 8192) (K : Fin 1024)
    (hR : R.val = t.val % 2 * 4096 + r.val) (hK : K.val = t.val / 8 * 512 + k.val) :
    (rowsH m c t (ix2 r k) : EReal) = argH m c (ix2 R K) := by
  rw [← V_h m c]
  show (V m c main_v0 : FVec Ideal S8192x1024 .bf16) (((cfg0.win 0).blk t).view.emb (ix2 r k)) = _
  congr 1
  funext a
  apply Fin.ext
  match a with
  | ⟨0, _⟩ =>
    show ((win0_0.rect t).emb (ix2 r k) 0 : ℕ) = R.val
    rw [Pipeline.Window.rect_emb_val win0_0 t (ix2 r k) 0, idx0_0, hR]; rfl
  | ⟨1, _⟩ =>
    show ((win0_0.rect t).emb (ix2 r k) 1 : ℕ) = K.val
    rw [Pipeline.Window.rect_emb_val win0_0 t (ix2 r k) 1, idx0_1, hK]; rfl

theorem blk1_entry (t : Fin cfg0.N) (r : Fin 4096) (n : Fin 1024) (R : Fin 8192) (C : Fin 4096)
    (hR : R.val = t.val % 2 * 4096 + r.val) (hC : C.val = t.val / 2 % 4 * 1024 + n.val) :
    (rowsC m c t (ix2 r n) : EReal) = argC m c (ix2 R C) := by
  rw [← V_ct m c]
  show (V m c main_v1 : FVec Ideal S8192x4096 .bf16) (((cfg0.win 1).blk t).view.emb (ix2 r n)) = _
  congr 1
  funext a
  apply Fin.ext
  match a with
  | ⟨0, _⟩ =>
    show ((win0_1.rect t).emb (ix2 r n) 0 : ℕ) = R.val
    rw [Pipeline.Window.rect_emb_val win0_1 t (ix2 r n) 0, idx1_0, hR]; rfl
  | ⟨1, _⟩ =>
    show ((win0_1.rect t).emb (ix2 r n) 1 : ℕ) = C.val
    rw [Pipeline.Window.rect_emb_val win0_1 t (ix2 r n) 1, idx1_1, hC]; rfl

/-- What a point adds, entry by entry. -/
def addend (t : Fin cfg0.N) (y : S512x1024.Idx) : EReal :=
  ∑ r : Fin 4096, rowsH m c t (ix2 (n0 := 4096) (n1 := 512) r (y 0)) * rowsC m c t (ix2 (n0 := 4096) (n1 := 1024) r (y 1))

theorem outs_entry (t : Fin cfg0.N) (hr : t.val % 2 = 1) (y : S512x1024.Idx) :
    (outsAt0 m c t.val t.isLt y : EReal) = 0 + ∑ s : Fin 2, addend m c ⟨2 * (t.val / 2) + s.val, Pipeline.run_point_lt_of_flush t hr s⟩ y := by
  refine Pipeline.eq_sum_fin_of_reset_step_apply_of_flush (M := EReal) (fun n h => (outsAt0 m c n h : S512x1024.Idx → EReal)) 2 (fun _ => 0) (addend m c)
    (fun t h y => ?_) (fun t h y => ?_) t hr y
  · show (outsAt0 m c t.val t.isLt y : EReal) = 0 + addend m c t y
    rw [outsAt0_A m c t h (by omega)]
    frame_out
    rw [zero_add, eq_ix2 (n0 := 512) (n1 := 1024) y]
    exact part_entry _ _ _ _
  · show (outsAt0 m c t.val t.isLt y : EReal) = outsAt0 m c (t.val - 1) _ y + addend m c t y
    rw [outsAt0_B m c t h (by omega)]
    frame_out
    rw [eq_ix2 (n0 := 512) (n1 := 1024) y]
    exact step_entry _ _ _ _ _

theorem result : (dats m 0 c).arrAt 2 cfg0.N = tokenProduct (argH m c) (argC m c) := by
  refine (dats m 0 c).arrAt_eq_of_covers 2 _ (by decide +kernel) fun t hf y => ?_
  have ht : t.val < 16 := Nat.lt_of_lt_of_eq t.isLt N_0
  have h3 := (flush0_2 t).mp hf
  have hy0 : (y 0).val < 512 := (y 0).isLt
  have hy1 : (y 1).val < 1024 := (y 1).isLt
  show ((dats m 0 c).after 2 t : FVec Ideal S512x1024 .f32) y = _
  rw [after0_2]
  refine (outs_entry m c t h3 y).trans ?_
  have c0 : ((((cfg0.win 2).blk t).view.emb y) 0).val = t.val / 8 * 512 + (y 0).val := by
    show ((win0_2.rect t).emb y 0 : ℕ) = _
    rw [Pipeline.Window.rect_emb_val win0_2 t y 0, idx2_0 t]; rfl
  have c1 : ((((cfg0.win 2).blk t).view.emb y) 1).val = t.val / 2 % 4 * 1024 + (y 1).val := by
    show ((win0_2.rect t).emb y 1 : ℕ) = _
    rw [Pipeline.Window.rect_emb_val win0_2 t y 1, idx2_1 t]; rfl
  rw [zero_add]
  unfold tokenProduct addend
  refine Fin.sum_mul_add_congr (S := 2) (n := 4096) fun s k hl => ?_
  have hs := s.isLt
  have hk := k.isLt
  refine congrArg₂ (· * ·) (blk0_entry m c _ _ _ _ _ ?_ ?_) (blk1_entry m c _ _ _ _ _ ?_ ?_)
  · show s.val * 4096 + k.val = (2 * (t.val / 2) + s.val) % 2 * 4096 + k.val; omega
  · rw [c0]; show _ = (2 * (t.val / 2) + s.val) / 8 * 512 + (y 0).val; omega
  · show s.val * 4096 + k.val = (2 * (t.val / 2) + s.val) % 2 * 4096 + k.val; omega
  · rw [c1]; show _ = (2 * (t.val / 2) + s.val) / 2 % 4 * 1024 + (y 1).val; omega

end Cert.MlpDwOneIdeal.Hand

namespace Cert.MlpDwOneReferenceIdeal.Hand

open Cert.MlpDwOneReferenceIdeal Cert.MlpDwOneReferenceIdeal.Gen
open Idealize.ShloMosaic Idealize.ShloMosaic.TcCoe

theorem result (h : FVec Ideal S8192x1024 .f32) (ct : FVec Ideal S8192x4096 .f32) :
    (transpose S1024x4096 [1, 0] (Host.dotGeneral dot_S8192x4096_S8192x1024_S4096x1024_0_0_1_1_n_n none ct h : FVec Ideal S4096x1024 .f32) transposes_S4096x1024_S1024x4096_1_0 : FVec Ideal S1024x4096 .f32)
      = Cert.MlpDwOneIdeal.Hand.tokenProduct h ct := by
  funext y
  obtain ⟨k, n, rfl⟩ : ∃ k n, y = ix2 k n := ⟨y 0, y 1, eq_ix2 y⟩
  show _ = ∑ r : Fin 8192, h (ix2 r k) * ct (ix2 r n)
  pointwise []
  exact Finset.sum_congr rfl fun r _ => mul_comm _ _

end Cert.MlpDwOneReferenceIdeal.Hand

end
-- ==== Proof.SsdOutDw.lean ====
/- The gradient of the state-space branch's output weight, at exact arithmetic: the kernel's two partial products add up to the
   product over all tokens, which is what the reference computes. -/
module

public import proofs.«01_k».proof.Proof.Gen.SsdOutDwIdeal.Value
public import proofs.«01_k».proof.Proof.Gen.SsdOutDwReferenceIdeal.Run
public import Idealize.ShloMosaic.Lib.Pointwise
public import Idealize.ShloMosaic.Lib.Pipeline.ValueKit

@[expose] public section

set_option maxRecDepth 16384

noncomputable section

namespace Cert.SsdOutDwIdeal.Hand

open Cert.SsdOutDwIdeal Cert.SsdOutDwIdeal.Gen
open Idealize.ShloMosaic Idealize.ShloMosaic.TcCoe

/-- One step's partial product. -/
theorem part_entry (x0 : FVec Ideal S4096x512 .bf16) (x1 : FVec Ideal S4096x1024 .bf16) (k : Fin 512) (n : Fin 1024) :
    k0_pay1 (F := Ideal) x0 x1 (ix2 k n) = ∑ r : Fin 4096, x0 (ix2 r k) * x1 (ix2 r n) := by
  pointwise [k0_pay1]

theorem step_entry (x0 : FVec Ideal S4096x512 .bf16) (x1 : FVec Ideal S4096x1024 .bf16) (acc : FVec Ideal S512x1024 .f32) (k : Fin 512) (n : Fin 1024) :
    k0_pay2 (F := Ideal) x0 x1 acc (ix2 k n) = acc (ix2 k n) + ∑ r : Fin 4096, x0 (ix2 r k) * x1 (ix2 r n) := by
  pointwise [k0_pay2, k0_pay1]

theorem idx0_0 : ∀ t : Fin cfg0.N, win0_0.index t 0 = t.val % 2 := by
  exact (by decide +kernel : ∀ t : Fin grid0.N, win0_0.index t 0 = t.val % 2)
theorem idx0_1 : ∀ t : Fin cfg0.N, win0_0.index t 1 = t.val / 2 := by
  exact (by decide +kernel : ∀ t : Fin grid0.N, win0_0.index t 1 = t.val / 2)
theorem idx1_0 : ∀ t : Fin cfg0.N, win0_1.index t 0 = t.val % 2 := by
  exact (by decide +kernel : ∀ t : Fin grid0.N, win0_1.index t 0 = t.val % 2)
theorem idx1_1 : ∀ t : Fin cfg0.N, win0_1.index t 1 = 0 := by
  exact (by decide +kernel : ∀ t : Fin grid0.N, win0_1.index t 1 = 0)
theorem idx2_0 : ∀ t : Fin cfg0.N, win0_2.index t 0 = t.val / 2 := by
  exact (by decide +kernel : ∀ t : Fin grid0.N, win0_2.index t 0 = t.val / 2)
theorem idx2_1 : ∀ t : Fin cfg0.N, win0_2.index t 1 = 0 := by
  exact (by decide +kernel : ∀ t : Fin grid0.N, win0_2.index t 1 = 0)

/-- The product over all tokens. -/
def tokenProduct (h : FVec Ideal S8192x2048 .f32) (ct : FVec Ideal S8192x1024 .f32) : FVec Ideal S2048x1024 .f32 :=
  fun y => ∑ r : Fin 8192, h (ix2 (n0 := 8192) (n1 := 2048) r (y 0)) * ct (ix2 (n0 := 8192) (n1 := 1024) r (y 1))

variable (m : (ℓ : Loc nD τ sig) → Buf (Elt Ideal) ℓ) (c : Dev nD)

abbrev argH : FVec Ideal S8192x2048 .f32 := m ((c.tc : Thread nD τ).loc main_arg0)
abbrev argC : FVec Ideal S8192x1024 .f32 := m ((c.tc : Thread nD τ).loc main_arg1)

theorem V_h : (V m c main_v0 : FVec Ideal S8192x2048 .bf16) = argH m c := by
  unfold V
  after_results_simp
  rfl
theorem V_ct : (V m c main_v1 : FVec Ideal S8192x1024 .bf16) = argC m c := by
  unfold V
  after_results_simp
  rfl

/-- The blocks a point reads. -/
abbrev rowsH (t : Fin cfg0.N) : FVec Ideal S4096x512 .bf16 := iblk m c 0 t
abbrev rowsC (t : Fin cfg0.N) : FVec Ideal S4096x1024 .bf16 := iblk m c 1 t

theorem blk0_entry (t : Fin cfg0.N) (r : Fin 4096) (k : Fin 512) (R : Fin 8192) (K : Fin 2048)
    (hR : R.val = t.val % 2 * 4096 + r.val) (hK : K.val = t.val / 2 * 512 + k.val) :
    (rowsH m c t (ix2 r k) : EReal) = argH m c (ix2 R K) := by
  rw [← V_h m c]
  show (V m c main_v0 : FVec Ideal S8192x2048 .bf16) (((cfg0.win 0).blk t).view.emb (ix2 r k)) = _
  congr 1
  funext a
  apply Fin.ext
  match a with
  | ⟨0, _⟩ =>
    show ((win0_0.rect t).emb (ix2 r k) 0 : ℕ) = R.val
    rw [Pipeline.Window.rect_emb_val win0_0 t (ix2 r k) 0, idx0_0, hR]; rfl
  | ⟨1, _⟩ =>
    show ((win0_0.rect t).emb (ix2 r k) 1 : ℕ) = K.val
    rw [Pipeline.Window.rect_emb_val win0_0 t (ix2 r k) 1, idx0_1, hK]; rfl

theorem blk1_entry (t : Fin cfg0.N) (r : Fin 4096) (n : Fin 1024) (R : Fin 8192) (C : Fin 1024)
    (hR : R.val = t.val % 2 * 4096 + r.val) (hC : C.val = 0 * 1024 + n.val) :
    (rowsC m c t (ix2 r n) : EReal) = argC m c (ix2 R C) := by
  rw [← V_ct m c]
  show (V m c main_v1 : FVec Ideal S8192x1024 .bf16) (((cfg0.win 1).blk t).view.emb (ix2 r n)) = _
  congr 1
  funext a
  apply Fin.ext
  match a with
  | ⟨0, _⟩ =>
    show ((win0_1.rect t).emb (ix2 r n) 0 : ℕ) = R.val
    rw [Pipeline.Window.rect_emb_val win0_1 t (ix2 r n) 0, idx1_0, hR]; rfl
  | ⟨1, _⟩ =>
    show ((win0_1.rect t).emb (ix2 r n) 1 : ℕ) = C.val
    rw [Pipeline.Window.rect_emb_val win0_1 t (ix2 r n) 1, idx1_1, hC]; rfl

/-- What a point adds, entry by entry. -/
def addend (t : Fin cfg0.N) (y : S512x1024.Idx) : EReal :=
  ∑ r : Fin 4096, rowsH m c t (ix2 (n0 := 4096) (n1 := 512) r (y 0)) * rowsC m c t (ix2 (n0 := 4096) (n1 := 1024) r (y 1))

theorem outs_entry (t : Fin cfg0.N) (hr : t.val % 2 = 1) (y : S512x1024.Idx) :
    (outsAt0 m c t.val t.isLt y : EReal) = 0 + ∑ s : Fin 2, addend m c ⟨2 * (t.val / 2) + s.val, Pipeline.run_point_lt_of_flush t hr s⟩ y := by
  refine Pipeline.eq_sum_fin_of_reset_step_apply_of_flush (M := EReal) (fun n h => (outsAt0 m c n h : S512x1024.Idx → EReal)) 2 (fun _ => 0) (addend m c)
    (fun t h y => ?_) (fun t h y => ?_) t hr y
  · show (outsAt0 m c t.val t.isLt y : EReal) = 0 + addend m c t y
    rw [outsAt0_A m c t h (by omega)]
    frame_out
    rw [zero_add, eq_ix2 (n0 := 512) (n1 := 1024) y]
    exact part_entry _ _ _ _
  · show (outsAt0 m c t.val t.isLt y : EReal) = outsAt0 m c (t.val - 1) _ y + addend m c t y
    rw [outsAt0_B m c t h (by omega)]
    frame_out
    rw [eq_ix2 (n0 := 512) (n1 := 1024) y]
    exact step_entry _ _ _ _ _

theorem result : (dats m 0 c).arrAt 2 cfg0.N = tokenProduct (argH m c) (argC m c) := by
  refine (dats m 0 c).arrAt_eq_of_covers 2 _ (by decide +kernel) fun t hf y => ?_
  have ht : t.val < 8 := Nat.lt_of_lt_of_eq t.isLt N_0
  have h3 := (flush0_2 t).mp hf
  have hy0 : (y 0).val < 512 := (y 0).isLt
  have hy1 : (y 1).val < 1024 := (y 1).isLt
  show ((dats m 0 c).after 2 t : FVec Ideal S512x1024 .f32) y = _
  rw [after0_2]
  refine (outs_entry m c t h3 y).trans ?_
  have c0 : ((((cfg0.win 2).blk t).view.emb y) 0).val = t.val / 2 * 512 + (y 0).val := by
    show ((win0_2.rect t).emb y 0 : ℕ) = _
    rw [Pipeline.Window.rect_emb_val win0_2 t y 0, idx2_0 t]; rfl
  have c1 : ((((cfg0.win 2).blk t).view.emb y) 1).val = 0 * 1024 + (y 1).val := by
    show ((win0_2.rect t).emb y 1 : ℕ) = _
    rw [Pipeline.Window.rect_emb_val win0_2 t y 1, idx2_1 t]; rfl
  rw [zero_add]
  unfold tokenProduct addend
  refine Fin.sum_mul_add_congr (S := 2) (n := 4096) fun s k hl => ?_
  have hs := s.isLt
  have hk := k.isLt
  refine congrArg₂ (· * ·) (blk0_entry m c _ _ _ _ _ ?_ ?_) (blk1_entry m c _ _ _ _ _ ?_ ?_)
  · show s.val * 4096 + k.val = (2 * (t.val / 2) + s.val) % 2 * 4096 + k.val; omega
  · rw [c0]; show _ = (2 * (t.val / 2) + s.val) / 2 * 512 + (y 0).val; omega
  · show s.val * 4096 + k.val = (2 * (t.val / 2) + s.val) % 2 * 4096 + k.val; omega
  · exact c1

end Cert.SsdOutDwIdeal.Hand

namespace Cert.SsdOutDwReferenceIdeal.Hand

open Cert.SsdOutDwReferenceIdeal Cert.SsdOutDwReferenceIdeal.Gen
open Idealize.ShloMosaic Idealize.ShloMosaic.TcCoe

theorem result (h : FVec Ideal S8192x2048 .f32) (ct : FVec Ideal S8192x1024 .f32) :
    (transpose S2048x1024 [1, 0] (Host.dotGeneral dot_S8192x1024_S8192x2048_S1024x2048_0_0_1_1_n_n none ct h : FVec Ideal S1024x2048 .f32) transposes_S1024x2048_S2048x1024_1_0 : FVec Ideal S2048x1024 .f32)
      = Cert.SsdOutDwIdeal.Hand.tokenProduct h ct := by
  funext y
  obtain ⟨k, n, rfl⟩ : ∃ k n, y = ix2 k n := ⟨y 0, y 1, eq_ix2 y⟩
  show _ = ∑ r : Fin 8192, h (ix2 r k) * ct (ix2 r n)
  pointwise []
  exact Finset.sum_congr rfl fun r _ => mul_comm _ _

end Cert.SsdOutDwReferenceIdeal.Hand

end
-- ==== Proof.OutDw.lean ====
/- The gradient of the merge's output weight, at exact arithmetic: the kernel's two partial products add up to the
   product over all tokens, which is what the reference computes. -/
module

public import proofs.«01_k».proof.Proof.Gen.OutDwIdeal.Value
public import proofs.«01_k».proof.Proof.Gen.OutDwReferenceIdeal.Run
public import Idealize.ShloMosaic.Lib.Pointwise
public import Idealize.ShloMosaic.Lib.Pipeline.ValueKit

@[expose] public section

set_option maxRecDepth 16384

noncomputable section

namespace Cert.OutDwIdeal.Hand

open Cert.OutDwIdeal Cert.OutDwIdeal.Gen
open Idealize.ShloMosaic Idealize.ShloMosaic.TcCoe

/-- One step's partial product. -/
theorem part_entry (x0 : FVec Ideal S4096x512 .bf16) (x1 : FVec Ideal S4096x1024 .bf16) (k : Fin 512) (n : Fin 1024) :
    k0_pay1 (F := Ideal) x0 x1 (ix2 k n) = ∑ r : Fin 4096, x0 (ix2 r k) * x1 (ix2 r n) := by
  pointwise [k0_pay1]

theorem step_entry (x0 : FVec Ideal S4096x512 .bf16) (x1 : FVec Ideal S4096x1024 .bf16) (acc : FVec Ideal S512x1024 .f32) (k : Fin 512) (n : Fin 1024) :
    k0_pay2 (F := Ideal) x0 x1 acc (ix2 k n) = acc (ix2 k n) + ∑ r : Fin 4096, x0 (ix2 r k) * x1 (ix2 r n) := by
  pointwise [k0_pay2, k0_pay1]

theorem idx0_0 : ∀ t : Fin cfg0.N, win0_0.index t 0 = t.val % 2 := by
  exact (by decide +kernel : ∀ t : Fin grid0.N, win0_0.index t 0 = t.val % 2)
theorem idx0_1 : ∀ t : Fin cfg0.N, win0_0.index t 1 = t.val / 2 := by
  exact (by decide +kernel : ∀ t : Fin grid0.N, win0_0.index t 1 = t.val / 2)
theorem idx1_0 : ∀ t : Fin cfg0.N, win0_1.index t 0 = t.val % 2 := by
  exact (by decide +kernel : ∀ t : Fin grid0.N, win0_1.index t 0 = t.val % 2)
theorem idx1_1 : ∀ t : Fin cfg0.N, win0_1.index t 1 = 0 := by
  exact (by decide +kernel : ∀ t : Fin grid0.N, win0_1.index t 1 = 0)
theorem idx2_0 : ∀ t : Fin cfg0.N, win0_2.index t 0 = t.val / 2 := by
  exact (by decide +kernel : ∀ t : Fin grid0.N, win0_2.index t 0 = t.val / 2)
theorem idx2_1 : ∀ t : Fin cfg0.N, win0_2.index t 1 = 0 := by
  exact (by decide +kernel : ∀ t : Fin grid0.N, win0_2.index t 1 = 0)

/-- The product over all tokens. -/
def tokenProduct (h : FVec Ideal S8192x1024 .f32) (ct : FVec Ideal S8192x1024 .f32) : FVec Ideal S1024x1024 .f32 :=
  fun y => ∑ r : Fin 8192, h (ix2 (n0 := 8192) (n1 := 1024) r (y 0)) * ct (ix2 (n0 := 8192) (n1 := 1024) r (y 1))

variable (m : (ℓ : Loc nD τ sig) → Buf (Elt Ideal) ℓ) (c : Dev nD)

abbrev argH : FVec Ideal S8192x1024 .f32 := m ((c.tc : Thread nD τ).loc main_arg0)
abbrev argC : FVec Ideal S8192x1024 .f32 := m ((c.tc : Thread nD τ).loc main_arg1)

theorem V_h : (V m c main_v0 : FVec Ideal S8192x1024 .bf16) = argH m c := by
  unfold V
  after_results_simp
  rfl
theorem V_ct : (V m c main_v1 : FVec Ideal S8192x1024 .bf16) = argC m c := by
  unfold V
  after_results_simp
  rfl

/-- The blocks a point reads. -/
abbrev rowsH (t : Fin cfg0.N) : FVec Ideal S4096x512 .bf16 := iblk m c 0 t
abbrev rowsC (t : Fin cfg0.N) : FVec Ideal S4096x1024 .bf16 := iblk m c 1 t

theorem blk0_entry (t : Fin cfg0.N) (r : Fin 4096) (k : Fin 512) (R : Fin 8192) (K : Fin 1024)
    (hR : R.val = t.val % 2 * 4096 + r.val) (hK : K.val = t.val / 2 * 512 + k.val) :
    (rowsH m c t (ix2 r k) : EReal) = argH m c (ix2 R K) := by
  rw [← V_h m c]
  show (V m c main_v0 : FVec Ideal S8192x1024 .bf16) (((cfg0.win 0).blk t).view.emb (ix2 r k)) = _
  congr 1
  funext a
  apply Fin.ext
  match a with
  | ⟨0, _⟩ =>
    show ((win0_0.rect t).emb (ix2 r k) 0 : ℕ) = R.val
    rw [Pipeline.Window.rect_emb_val win0_0 t (ix2 r k) 0, idx0_0, hR]; rfl
  | ⟨1, _⟩ =>
    show ((win0_0.rect t).emb (ix2 r k) 1 : ℕ) = K.val
    rw [Pipeline.Window.rect_emb_val win0_0 t (ix2 r k) 1, idx0_1, hK]; rfl

theorem blk1_entry (t : Fin cfg0.N) (r : Fin 4096) (n : Fin 1024) (R : Fin 8192) (C : Fin 1024)
    (hR : R.val = t.val % 2 * 4096 + r.val) (hC : C.val = 0 * 1024 + n.val) :
    (rowsC m c t (ix2 r n) : EReal) = argC m c (ix2 R C) := by
  rw [← V_ct m c]
  show (V m c main_v1 : FVec Ideal S8192x1024 .bf16) (((cfg0.win 1).blk t).view.emb (ix2 r n)) = _
  congr 1
  funext a
  apply Fin.ext
  match a with
  | ⟨0, _⟩ =>
    show ((win0_1.rect t).emb (ix2 r n) 0 : ℕ) = R.val
    rw [Pipeline.Window.rect_emb_val win0_1 t (ix2 r n) 0, idx1_0, hR]; rfl
  | ⟨1, _⟩ =>
    show ((win0_1.rect t).emb (ix2 r n) 1 : ℕ) = C.val
    rw [Pipeline.Window.rect_emb_val win0_1 t (ix2 r n) 1, idx1_1, hC]; rfl

/-- What a point adds, entry by entry. -/
def addend (t : Fin cfg0.N) (y : S512x1024.Idx) : EReal :=
  ∑ r : Fin 4096, rowsH m c t (ix2 (n0 := 4096) (n1 := 512) r (y 0)) * rowsC m c t (ix2 (n0 := 4096) (n1 := 1024) r (y 1))

theorem outs_entry (t : Fin cfg0.N) (hr : t.val % 2 = 1) (y : S512x1024.Idx) :
    (outsAt0 m c t.val t.isLt y : EReal) = 0 + ∑ s : Fin 2, addend m c ⟨2 * (t.val / 2) + s.val, Pipeline.run_point_lt_of_flush t hr s⟩ y := by
  refine Pipeline.eq_sum_fin_of_reset_step_apply_of_flush (M := EReal) (fun n h => (outsAt0 m c n h : S512x1024.Idx → EReal)) 2 (fun _ => 0) (addend m c)
    (fun t h y => ?_) (fun t h y => ?_) t hr y
  · show (outsAt0 m c t.val t.isLt y : EReal) = 0 + addend m c t y
    rw [outsAt0_A m c t h (by omega)]
    frame_out
    rw [zero_add, eq_ix2 (n0 := 512) (n1 := 1024) y]
    exact part_entry _ _ _ _
  · show (outsAt0 m c t.val t.isLt y : EReal) = outsAt0 m c (t.val - 1) _ y + addend m c t y
    rw [outsAt0_B m c t h (by omega)]
    frame_out
    rw [eq_ix2 (n0 := 512) (n1 := 1024) y]
    exact step_entry _ _ _ _ _

theorem result : (dats m 0 c).arrAt 2 cfg0.N = tokenProduct (argH m c) (argC m c) := by
  refine (dats m 0 c).arrAt_eq_of_covers 2 _ (by decide +kernel) fun t hf y => ?_
  have ht : t.val < 4 := Nat.lt_of_lt_of_eq t.isLt N_0
  have h3 := (flush0_2 t).mp hf
  have hy0 : (y 0).val < 512 := (y 0).isLt
  have hy1 : (y 1).val < 1024 := (y 1).isLt
  show ((dats m 0 c).after 2 t : FVec Ideal S512x1024 .f32) y = _
  rw [after0_2]
  refine (outs_entry m c t h3 y).trans ?_
  have c0 : ((((cfg0.win 2).blk t).view.emb y) 0).val = t.val / 2 * 512 + (y 0).val := by
    show ((win0_2.rect t).emb y 0 : ℕ) = _
    rw [Pipeline.Window.rect_emb_val win0_2 t y 0, idx2_0 t]; rfl
  have c1 : ((((cfg0.win 2).blk t).view.emb y) 1).val = 0 * 1024 + (y 1).val := by
    show ((win0_2.rect t).emb y 1 : ℕ) = _
    rw [Pipeline.Window.rect_emb_val win0_2 t y 1, idx2_1 t]; rfl
  rw [zero_add]
  unfold tokenProduct addend
  refine Fin.sum_mul_add_congr (S := 2) (n := 4096) fun s k hl => ?_
  have hs := s.isLt
  have hk := k.isLt
  refine congrArg₂ (· * ·) (blk0_entry m c _ _ _ _ _ ?_ ?_) (blk1_entry m c _ _ _ _ _ ?_ ?_)
  · show s.val * 4096 + k.val = (2 * (t.val / 2) + s.val) % 2 * 4096 + k.val; omega
  · rw [c0]; show _ = (2 * (t.val / 2) + s.val) / 2 * 512 + (y 0).val; omega
  · show s.val * 4096 + k.val = (2 * (t.val / 2) + s.val) % 2 * 4096 + k.val; omega
  · exact c1

end Cert.OutDwIdeal.Hand

namespace Cert.OutDwReferenceIdeal.Hand

open Cert.OutDwReferenceIdeal Cert.OutDwReferenceIdeal.Gen
open Idealize.ShloMosaic Idealize.ShloMosaic.TcCoe

theorem result (h : FVec Ideal S8192x1024 .f32) (ct : FVec Ideal S8192x1024 .f32) :
    (transpose S1024x1024 [1, 0] (Host.dotGeneral dot_S8192x1024_S8192x1024_S1024x1024_0_0_1_1_n_n none ct h : FVec Ideal S1024x1024 .f32) transposes_S1024x1024_S1024x1024_1_0 : FVec Ideal S1024x1024 .f32)
      = Cert.OutDwIdeal.Hand.tokenProduct h ct := by
  funext y
  obtain ⟨k, n, rfl⟩ : ∃ k n, y = ix2 k n := ⟨y 0, y 1, eq_ix2 y⟩
  show _ = ∑ r : Fin 8192, h (ix2 r k) * ct (ix2 r n)
  pointwise []
  exact Finset.sum_congr rfl fun r _ => mul_comm _ _

end Cert.OutDwReferenceIdeal.Hand

end
-- ==== Proof.Loss.lean ====
/- The channel mixer's second product, the residual and the loss's gradients, at exact arithmetic: each block of 512 tokens
   gives its rows of the gradients, and the sixteen blocks' row sums add up to the sums over all tokens. -/
module

public import proofs.«01_k».proof.Proof.Gen.LossIdeal.Frame
public import Idealize.ShloMosaic.Lib.Pointwise
public import Idealize.ShloMosaic.Lib.Pipeline.ValueKit

@[expose] public section

set_option maxRecDepth 16384

noncomputable section

namespace Cert.LossIdeal.Hand

open Cert.LossIdeal Cert.LossIdeal.Gen
open Idealize.ShloMosaic Idealize.ShloMosaic.TcCoe Idealize.SL.Sem

/-! ## One block's values, entry by entry -/

section block

variable (a : FVec Ideal S512x4096 .bf16) (w : FVec Ideal S4096x1024 .bf16) (x : FVec Ideal S512x1024 .f32) (g : FVec Ideal S1x1024 .f32) (t : FVec Ideal S512x1024 .f32)

/-- The block's product, and the gradient of the loss in the block's output. -/
def bProd (r : Fin 512) (n : Fin 1024) : EReal := ∑ k : Fin 4096, a (ix2 r k) * w (ix2 k n)
def bDy (r : Fin 512) (n : Fin 1024) : EReal :=
  (x (ix2 r n) + g (ix2 0 n) * bProd a w r n - t (ix2 r n)) * Ideal.ofBits .f32 0x3A800000#32

theorem pay2_entry (r : Fin 512) (n : Fin 1024) : (k0_pay2 (F := Ideal) a w (ix2 r n) : EReal) = bProd a w r n := by
  unfold bProd
  pointwise [k0_pay2]
theorem pay3_entry (r : Fin 512) (n : Fin 1024) : (k0_pay3 (F := Ideal) a w x g t (ix2 r n) : EReal) = bDy a w x g t r n := by
  unfold bDy
  rw [← pay2_entry]
  unfold k0_pay3
  generalize k0_pay2 (F := Ideal) a w = p
  pointwise []
theorem pay6_entry (r : Fin 512) (n : Fin 1024) : (k0_pay6 (F := Ideal) a w x g t (ix2 r n) : EReal) = bDy a w x g t r n * g (ix2 0 n) := by
  rw [← pay3_entry]
  unfold k0_pay6
  generalize k0_pay3 (F := Ideal) a w x g t = p
  pointwise []
theorem pay4_entry (n : Fin 1024) : (k0_pay4 (F := Ideal) a w x g t (ix2 0 n) : EReal) = ∑ r : Fin 512, bDy a w x g t r n * bProd a w r n := by
  simp only [← pay3_entry, ← pay2_entry]
  unfold k0_pay4
  generalize k0_pay3 (F := Ideal) a w x g t = p
  generalize k0_pay2 (F := Ideal) a w = q
  pointwise []
theorem pay5_entry (n : Fin 1024) : (k0_pay5 (F := Ideal) a w x g t (ix2 0 n) : EReal) = ∑ r : Fin 512, bDy a w x g t r n * bDy a w x g t r n := by
  simp only [← pay3_entry]
  unfold k0_pay5
  generalize k0_pay3 (F := Ideal) a w x g t = p
  pointwise []
theorem pay7_entry (v : FVec Ideal S1x1024 .f32) (n : Fin 1024) :
    (k0_pay7 (F := Ideal) a w x g t v (ix2 0 n) : EReal) = v (ix2 0 n) + ∑ r : Fin 512, bDy a w x g t r n * bProd a w r n := by
  rw [← pay4_entry]
  unfold k0_pay7
  generalize k0_pay4 (F := Ideal) a w x g t = p
  pointwise []
theorem pay1_entry (p v : FVec Ideal S1x1024 .f32) (n : Fin 1024) :
    (k0_pay1 (F := Ideal) p v (ix2 0 n) : EReal) = v (ix2 0 n) + p (ix2 0 n) := by
  pointwise [k0_pay1]

end block

/-! ## The whole arrays -/

section whole

variable (a : FVec Ideal S8192x4096 .f32) (w : FVec Ideal S4096x1024 .f32) (x : FVec Ideal S8192x1024 .f32) (g : FVec Ideal S1x1024 .f32) (t : FVec Ideal S8192x1024 .f32)

/-- The product; the gradient of the loss in the output, in the product; the sums over the tokens. -/
def prod : FVec Ideal S8192x1024 .f32 := fun y => ∑ k : Fin 4096, a (ix2 (n0 := 8192) (n1 := 4096) (y 0) k) * w (ix2 (n0 := 4096) (n1 := 1024) k (y 1))
def dOut : FVec Ideal S8192x1024 .f32 := fun y =>
  ((x y : EReal) + g (ix2 (n0 := 1) (n1 := 1024) 0 (y 1)) * prod a w y - t y) * Ideal.ofBits .f32 0x3A800000#32
def dProd : FVec Ideal S8192x1024 .bf16 := fun y => (dOut a w x g t y : EReal) * g (ix2 (n0 := 1) (n1 := 1024) 0 (y 1))
def dGate : FVec Ideal S1x1024 .f32 := fun y =>
  ∑ r : Fin 8192, (dOut a w x g t (ix2 (n0 := 8192) (n1 := 1024) r (y 1)) : EReal) * prod a w (ix2 (n0 := 8192) (n1 := 1024) r (y 1))
def squares : FVec Ideal S1x1024 .f32 := fun y =>
  ∑ r : Fin 8192, (dOut a w x g t (ix2 (n0 := 8192) (n1 := 1024) r (y 1)) : EReal) * dOut a w x g t (ix2 (n0 := 8192) (n1 := 1024) r (y 1))

end whole

/-! ## The windows -/

theorem idx0_0 : ∀ t : Fin cfg0.N, win0_0.index t 0 = t.val := by exact (by decide +kernel : ∀ t : Fin grid0.N, win0_0.index t 0 = t.val)
theorem idx0_1 : ∀ t : Fin cfg0.N, win0_0.index t 1 = 0 := by exact (by decide +kernel : ∀ t : Fin grid0.N, win0_0.index t 1 = 0)
theorem idx1_0 : ∀ t : Fin cfg0.N, win0_1.index t 0 = 0 := by exact (by decide +kernel : ∀ t : Fin grid0.N, win0_1.index t 0 = 0)
theorem idx1_1 : ∀ t : Fin cfg0.N, win0_1.index t 1 = 0 := by exact (by decide +kernel : ∀ t : Fin grid0.N, win0_1.index t 1 = 0)
theorem idx2_0 : ∀ t : Fin cfg0.N, win0_2.index t 0 = t.val := by exact (by decide +kernel : ∀ t : Fin grid0.N, win0_2.index t 0 = t.val)
theorem idx2_1 : ∀ t : Fin cfg0.N, win0_2.index t 1 = 0 := by exact (by decide +kernel : ∀ t : Fin grid0.N, win0_2.index t 1 = 0)
theorem idx3_0 : ∀ t : Fin cfg0.N, win0_3.index t 0 = 0 := by exact (by decide +kernel : ∀ t : Fin grid0.N, win0_3.index t 0 = 0)
theorem idx3_1 : ∀ t : Fin cfg0.N, win0_3.index t 1 = 0 := by exact (by decide +kernel : ∀ t : Fin grid0.N, win0_3.index t 1 = 0)
theorem idx4_0 : ∀ t : Fin cfg0.N, win0_4.index t 0 = t.val := by exact (by decide +kernel : ∀ t : Fin grid0.N, win0_4.index t 0 = t.val)
theorem idx4_1 : ∀ t : Fin cfg0.N, win0_4.index t 1 = 0 := by exact (by decide +kernel : ∀ t : Fin grid0.N, win0_4.index t 1 = 0)
theorem idx5_0 : ∀ t : Fin cfg0.N, win0_5.index t 0 = t.val := by exact (by decide +kernel : ∀ t : Fin grid0.N, win0_5.index t 0 = t.val)
theorem idx5_1 : ∀ t : Fin cfg0.N, win0_5.index t 1 = 0 := by exact (by decide +kernel : ∀ t : Fin grid0.N, win0_5.index t 1 = 0)
theorem idx6_0 : ∀ t : Fin cfg0.N, win0_6.index t 0 = t.val := by exact (by decide +kernel : ∀ t : Fin grid0.N, win0_6.index t 0 = t.val)
theorem idx6_1 : ∀ t : Fin cfg0.N, win0_6.index t 1 = 0 := by exact (by decide +kernel : ∀ t : Fin grid0.N, win0_6.index t 1 = 0)
theorem idx7_1 : ∀ t : Fin cfg0.N, win0_7.index t 1 = 0 := by exact (by decide +kernel : ∀ t : Fin grid0.N, win0_7.index t 1 = 0)
theorem idx8_1 : ∀ t : Fin cfg0.N, win0_8.index t 1 = 0 := by exact (by decide +kernel : ∀ t : Fin grid0.N, win0_8.index t 1 = 0)

variable (m : (ℓ : Loc nD τ sig) → Buf (Elt Ideal) ℓ) (c : Dev nD)

abbrev argA : FVec Ideal S8192x4096 .f32 := m ((c.tc : Thread nD τ).loc main_arg0)
abbrev argW : FVec Ideal S4096x1024 .f32 := m ((c.tc : Thread nD τ).loc main_arg1)
abbrev argX : FVec Ideal S8192x1024 .f32 := m ((c.tc : Thread nD τ).loc main_arg2)
abbrev argG : FVec Ideal S1x1024 .f32 := m ((c.tc : Thread nD τ).loc main_arg3)
abbrev argT : FVec Ideal S8192x1024 .f32 := m ((c.tc : Thread nD τ).loc main_arg4)

theorem V_a : (V m c main_v0 : FVec Ideal S8192x4096 .bf16) = argA m c := by
  unfold V V0
  simp only [hostOps0, List.flatten_cons, List.flatten_nil, List.append_nil, List.cons_append, List.nil_append]
  after_results_simp
  rfl
theorem V_w : (V m c main_v1 : FVec Ideal S4096x1024 .bf16) = argW m c := by
  unfold V V0
  simp only [hostOps0, List.flatten_cons, List.flatten_nil, List.append_nil, List.cons_append, List.nil_append]
  after_results_simp
  rfl

/-- The blocks a point reads. -/
abbrev rowsA (t : Fin cfg0.N) : FVec Ideal S512x4096 .bf16 := iblk m c 0 t
abbrev rowsW (t : Fin cfg0.N) : FVec Ideal S4096x1024 .bf16 := iblk m c 1 t
abbrev rowsX (t : Fin cfg0.N) : FVec Ideal S512x1024 .f32 := iblk m c 2 t
abbrev rowsG (t : Fin cfg0.N) : FVec Ideal S1x1024 .f32 := iblk m c 3 t
abbrev rowsT (t : Fin cfg0.N) : FVec Ideal S512x1024 .f32 := iblk m c 4 t

theorem blk0_entry (t : Fin cfg0.N) (r : Fin 512) (k : Fin 4096) (R : Fin 8192) (hR : R.val = t.val * 512 + r.val) :
    (rowsA m c t (ix2 r k) : EReal) = argA m c (ix2 R k) := by
  rw [← V_a m c]
  show (V m c main_v0 : FVec Ideal S8192x4096 .bf16) (((cfg0.win 0).blk t).view.emb (ix2 r k)) = _
  congr 1
  funext a
  apply Fin.ext
  match a with
  | ⟨0, _⟩ =>
    show ((win0_0.rect t).emb (ix2 r k) 0 : ℕ) = R.val
    rw [Pipeline.Window.rect_emb_val win0_0 t (ix2 r k) 0, idx0_0, hR]; rfl
  | ⟨1, _⟩ =>
    show ((win0_0.rect t).emb (ix2 r k) 1 : ℕ) = k.val
    rw [Pipeline.Window.rect_emb_val win0_0 t (ix2 r k) 1, idx0_1]; exact (congrArg (· + k.val) (Nat.zero_mul 4096)).trans (Nat.zero_add _)

theorem blk1_entry (t : Fin cfg0.N) (k : Fin 4096) (n : Fin 1024) : (rowsW m c t (ix2 k n) : EReal) = argW m c (ix2 k n) := by
  rw [← V_w m c]
  show (V m c main_v1 : FVec Ideal S4096x1024 .bf16) (((cfg0.win 1).blk t).view.emb (ix2 k n)) = _
  congr 1
  funext a
  apply Fin.ext
  match a with
  | ⟨0, _⟩ =>
    show ((win0_1.rect t).emb (ix2 k n) 0 : ℕ) = k.val
    rw [Pipeline.Window.rect_emb_val win0_1 t (ix2 k n) 0, idx1_0]; exact (congrArg (· + k.val) (Nat.zero_mul 4096)).trans (Nat.zero_add _)
  | ⟨1, _⟩ =>
    show ((win0_1.rect t).emb (ix2 k n) 1 : ℕ) = n.val
    rw [Pipeline.Window.rect_emb_val win0_1 t (ix2 k n) 1, idx1_1]; exact (congrArg (· + n.val) (Nat.zero_mul 1024)).trans (Nat.zero_add _)

theorem blk2_entry (t : Fin cfg0.N) (r : Fin 512) (n : Fin 1024) (R : Fin 8192) (hR : R.val = t.val * 512 + r.val) :
    (rowsX m c t (ix2 r n) : EReal) = argX m c (ix2 R n) := by
  rw [show argX m c = V m c main_arg2 from (V_main_arg2 m c).symm]
  show (V m c main_arg2 : FVec Ideal S8192x1024 .f32) (((cfg0.win 2).blk t).view.emb (ix2 r n)) = _
  congr 1
  funext a
  apply Fin.ext
  match a with
  | ⟨0, _⟩ =>
    show ((win0_2.rect t).emb (ix2 r n) 0 : ℕ) = R.val
    rw [Pipeline.Window.rect_emb_val win0_2 t (ix2 r n) 0, idx2_0, hR]; rfl
  | ⟨1, _⟩ =>
    show ((win0_2.rect t).emb (ix2 r n) 1 : ℕ) = n.val
    rw [Pipeline.Window.rect_emb_val win0_2 t (ix2 r n) 1, idx2_1]; exact (congrArg (· + n.val) (Nat.zero_mul 1024)).trans (Nat.zero_add _)

theorem blk3_entry (t : Fin cfg0.N) (n : Fin 1024) : (rowsG m c t (ix2 0 n) : EReal) = argG m c (ix2 0 n) := by
  rw [show argG m c = V m c main_arg3 from (V_main_arg3 m c).symm]
  show (V m c main_arg3 : FVec Ideal S1x1024 .f32) (((cfg0.win 3).blk t).view.emb (ix2 0 n)) = _
  congr 1
  funext a
  apply Fin.ext
  match a with
  | ⟨0, _⟩ =>
    show ((win0_3.rect t).emb (ix2 0 n) 0 : ℕ) = 0
    rw [Pipeline.Window.rect_emb_val win0_3 t (ix2 0 n) 0, idx3_0]; rfl
  | ⟨1, _⟩ =>
    show ((win0_3.rect t).emb (ix2 0 n) 1 : ℕ) = n.val
    rw [Pipeline.Window.rect_emb_val win0_3 t (ix2 0 n) 1, idx3_1]; exact (congrArg (· + n.val) (Nat.zero_mul 1024)).trans (Nat.zero_add _)

theorem blk4_entry (t : Fin cfg0.N) (r : Fin 512) (n : Fin 1024) (R : Fin 8192) (hR : R.val = t.val * 512 + r.val) :
    (rowsT m c t (ix2 r n) : EReal) = argT m c (ix2 R n) := by
  rw [show argT m c = V m c main_arg4 from (V_main_arg4 m c).symm]
  show (V m c main_arg4 : FVec Ideal S8192x1024 .f32) (((cfg0.win 4).blk t).view.emb (ix2 r n)) = _
  congr 1
  funext a
  apply Fin.ext
  match a with
  | ⟨0, _⟩ =>
    show ((win0_4.rect t).emb (ix2 r n) 0 : ℕ) = R.val
    rw [Pipeline.Window.rect_emb_val win0_4 t (ix2 r n) 0, idx4_0, hR]; rfl
  | ⟨1, _⟩ =>
    show ((win0_4.rect t).emb (ix2 r n) 1 : ℕ) = n.val
    rw [Pipeline.Window.rect_emb_val win0_4 t (ix2 r n) 1, idx4_1]; exact (congrArg (· + n.val) (Nat.zero_mul 1024)).trans (Nat.zero_add _)

/-! ## A point's values in the arguments -/

theorem prod_entry (t : Fin cfg0.N) (r : Fin 512) (n : Fin 1024) (R : Fin 8192) (hR : R.val = t.val * 512 + r.val) :
    bProd (rowsA m c t) (rowsW m c t) r n = prod (argA m c) (argW m c) (ix2 R n) :=
  Finset.sum_congr rfl fun k _ => congrArg₂ (· * ·) (blk0_entry m c t r k R hR) (blk1_entry m c t k n)

theorem dOut_entry (t : Fin cfg0.N) (r : Fin 512) (n : Fin 1024) (R : Fin 8192) (hR : R.val = t.val * 512 + r.val) :
    bDy (rowsA m c t) (rowsW m c t) (rowsX m c t) (rowsG m c t) (rowsT m c t) r n
      = dOut (argA m c) (argW m c) (argX m c) (argG m c) (argT m c) (ix2 R n) := by
  unfold bDy dOut
  rw [prod_entry m c t r n R hR, blk2_entry m c t r n R hR, blk3_entry m c t n, blk4_entry m c t r n R hR]
  rfl

/-- What a point's run leaves for its four outputs. -/
theorem outs5 (t : Fin cfg0.N) : (outsAt0 m c t.val t.isLt).1 = k0_pay3 (F := Ideal) (rowsA m c t) (rowsW m c t) (rowsX m c t) (rowsG m c t) (rowsT m c t) := by
  have ht : t.val < 16 := Nat.lt_of_lt_of_eq t.isLt N_0
  by_cases h : t.val % 16 = 0
  · rw [outsAt0_A m c t h (by omega) h (by omega)]
    dsimp only
    frame_out
  · rw [outsAt0_B m c t h (by omega) h (by omega)]
    dsimp only
    frame_out
theorem outs6 (t : Fin cfg0.N) : (outsAt0 m c t.val t.isLt).2.1 = k0_pay6 (F := Ideal) (rowsA m c t) (rowsW m c t) (rowsX m c t) (rowsG m c t) (rowsT m c t) := by
  have ht : t.val < 16 := Nat.lt_of_lt_of_eq t.isLt N_0
  by_cases h : t.val % 16 = 0
  · rw [outsAt0_A m c t h (by omega) h (by omega)]
    dsimp only
    frame_out
  · rw [outsAt0_B m c t h (by omega) h (by omega)]
    dsimp only
    frame_out

/-- What a point adds to the two row sums. -/
def addGate (t : Fin cfg0.N) (y : S1x1024.Idx) : EReal :=
  ∑ r : Fin 512, bDy (rowsA m c t) (rowsW m c t) (rowsX m c t) (rowsG m c t) (rowsT m c t) r (y 1) * bProd (rowsA m c t) (rowsW m c t) r (y 1)
def addSq (t : Fin cfg0.N) (y : S1x1024.Idx) : EReal :=
  ∑ r : Fin 512, bDy (rowsA m c t) (rowsW m c t) (rowsX m c t) (rowsG m c t) (rowsT m c t) r (y 1)
    * bDy (rowsA m c t) (rowsW m c t) (rowsX m c t) (rowsG m c t) (rowsT m c t) r (y 1)

theorem row (y : S1x1024.Idx) : ∃ n : Fin 1024, y = ix2 0 n :=
  ⟨y 1, (eq_ix2 (n0 := 1) (n1 := 1024) y).trans (congrArg (fun z : Fin 1 => ix2 z (y 1)) (Subsingleton.elim _ _))⟩

theorem outs7 (t : Fin cfg0.N) (hr : t.val % 16 = 15) (y : S1x1024.Idx) :
    ((outsAt0 m c t.val t.isLt).2.2.1 y : EReal) = 0 + ∑ s : Fin 16, addGate m c ⟨16 * (t.val / 16) + s.val, Pipeline.run_point_lt_of_flush t hr s⟩ y := by
  refine Pipeline.eq_sum_fin_of_reset_step_apply_of_flush (M := EReal) (fun n h => ((outsAt0 m c n h).2.2.1 : S1x1024.Idx → EReal)) 16 (fun _ => 0) (addGate m c)
    (fun t h y => ?_) (fun t h y => ?_) t hr y
  all_goals have ht : t.val < 16 := Nat.lt_of_lt_of_eq t.isLt N_0
  · show ((outsAt0 m c t.val t.isLt).2.2.1 y : EReal) = 0 + addGate m c t y
    rw [outsAt0_A m c t h (by omega) h (by omega)]
    dsimp only
    frame_out
    obtain ⟨n, rfl⟩ := row y
    rw [zero_add]
    exact pay4_entry _ _ _ _ _ _
  · show ((outsAt0 m c t.val t.isLt).2.2.1 y : EReal) = (outsAt0 m c (t.val - 1) _).2.2.1 y + addGate m c t y
    rw [outsAt0_B m c t h (by omega) h (by omega)]
    dsimp only
    frame_out
    obtain ⟨n, rfl⟩ := row y
    exact pay7_entry _ _ _ _ _ _ _

theorem outs8 (t : Fin cfg0.N) (hr : t.val % 16 = 15) (y : S1x1024.Idx) :
    ((outsAt0 m c t.val t.isLt).2.2.2 y : EReal) = 0 + ∑ s : Fin 16, addSq m c ⟨16 * (t.val / 16) + s.val, Pipeline.run_point_lt_of_flush t hr s⟩ y := by
  refine Pipeline.eq_sum_fin_of_reset_step_apply_of_flush (M := EReal) (fun n h => ((outsAt0 m c n h).2.2.2 : S1x1024.Idx → EReal)) 16 (fun _ => 0) (addSq m c)
    (fun t h y => ?_) (fun t h y => ?_) t hr y
  all_goals have ht : t.val < 16 := Nat.lt_of_lt_of_eq t.isLt N_0
  · show ((outsAt0 m c t.val t.isLt).2.2.2 y : EReal) = 0 + addSq m c t y
    rw [outsAt0_A m c t h (by omega) h (by omega)]
    dsimp only
    frame_out
    obtain ⟨n, rfl⟩ := row y
    rw [zero_add]
    exact pay5_entry _ _ _ _ _ _
  · show ((outsAt0 m c t.val t.isLt).2.2.2 y : EReal) = (outsAt0 m c (t.val - 1) _).2.2.2 y + addSq m c t y
    rw [outsAt0_B m c t h (by omega) h (by omega)]
    dsimp only
    frame_out
    obtain ⟨n, rfl⟩ := row y
    exact (pay1_entry _ _ _).trans (congrArg _ (pay5_entry _ _ _ _ _ _))

/-! ## The four results -/

theorem result_out : (dats m 0 c).arrAt 5 cfg0.N = dOut (argA m c) (argW m c) (argX m c) (argG m c) (argT m c) := by
  refine (dats m 0 c).arrAt_eq_of_covers 5 _ (by decide +kernel) fun t hf y => ?_
  show ((dats m 0 c).after 5 t : FVec Ideal S512x1024 .f32) y = _
  rw [after0_5, outs5]
  obtain ⟨r, n, rfl⟩ : ∃ (r : Fin 512) (n : Fin 1024), y = ix2 r n := ⟨y 0, y 1, eq_ix2 y⟩
  rw [pay3_entry, dOut_entry m c t r n ((((cfg0.win 5).blk t).view.emb (ix2 r n)) 0) (by
    show ((win0_5.rect t).emb (ix2 r n) 0 : ℕ) = _
    rw [Pipeline.Window.rect_emb_val win0_5 t (ix2 r n) 0, idx5_0 t]; rfl)]
  refine congrArg (dOut _ _ _ _ _) ?_
  refine Eq.trans ?_ (eq_ix2 (n0 := 8192) (n1 := 1024) _).symm
  refine congrArg (ix2 _) (Fin.ext ?_)
  show n.val = ((win0_5.rect t).emb (ix2 r n) 1 : ℕ)
  rw [Pipeline.Window.rect_emb_val win0_5 t (ix2 r n) 1, idx5_1 t]
  exact ((congrArg (· + n.val) (Nat.zero_mul 1024)).trans (Nat.zero_add _)).symm

theorem result_prod : (dats m 0 c).arrAt 6 cfg0.N = dProd (argA m c) (argW m c) (argX m c) (argG m c) (argT m c) := by
  refine (dats m 0 c).arrAt_eq_of_covers 6 _ (by decide +kernel) fun t hf y => ?_
  show ((dats m 0 c).after 6 t : FVec Ideal S512x1024 .bf16) y = _
  rw [after0_6, outs6]
  obtain ⟨r, n, rfl⟩ : ∃ (r : Fin 512) (n : Fin 1024), y = ix2 r n := ⟨y 0, y 1, eq_ix2 y⟩
  refine (pay6_entry _ _ _ _ _ r n).trans ?_
  rw [dOut_entry m c t r n ((((cfg0.win 6).blk t).view.emb (ix2 r n)) 0) (by
    show ((win0_6.rect t).emb (ix2 r n) 0 : ℕ) = _
    rw [Pipeline.Window.rect_emb_val win0_6 t (ix2 r n) 0, idx6_0 t]; rfl), blk3_entry]
  refine Eq.trans (b := (dProd (argA m c) (argW m c) (argX m c) (argG m c) (argT m c) (ix2 (n0 := 8192) (n1 := 1024) ((((cfg0.win 6).blk t).view.emb (ix2 r n)) 0) n) : EReal)) rfl ?_
  refine congrArg (dProd _ _ _ _ _) ?_
  refine Eq.trans ?_ (eq_ix2 (n0 := 8192) (n1 := 1024) _).symm
  refine congrArg (ix2 _) (Fin.ext ?_)
  show n.val = ((win0_6.rect t).emb (ix2 r n) 1 : ℕ)
  rw [Pipeline.Window.rect_emb_val win0_6 t (ix2 r n) 1, idx6_1 t]
  exact ((congrArg (· + n.val) (Nat.zero_mul 1024)).trans (Nat.zero_add _)).symm

theorem result_gate : (dats m 0 c).arrAt 7 cfg0.N = dGate (argA m c) (argW m c) (argX m c) (argG m c) (argT m c) := by
  refine (dats m 0 c).arrAt_eq_of_covers 7 _ (by decide +kernel) fun t hf y => ?_
  have ht : t.val < 16 := Nat.lt_of_lt_of_eq t.isLt N_0
  have h3 := (flush0_7 t).mp hf
  show ((dats m 0 c).after 7 t : FVec Ideal S1x1024 .f32) y = _
  rw [after0_7]
  refine (outs7 m c t h3 y).trans ?_
  have c1 : ((((cfg0.win 7).blk t).view.emb y) 1 : Fin 1024) = y 1 := by
    refine Fin.ext ?_
    show ((win0_7.rect t).emb y 1 : ℕ) = _
    rw [Pipeline.Window.rect_emb_val win0_7 t y 1, idx7_1 t]
    exact (congrArg (· + (y 1).val) (Nat.zero_mul 1024)).trans (Nat.zero_add _)
  rw [zero_add]
  unfold dGate addGate
  rw [c1]
  refine Fin.sum_mul_add_congr (S := 16) (n := 512) fun s k hl => ?_
  have hs := s.isLt
  have hR : s.val * 512 + k.val = (16 * (t.val / 16) + s.val) * 512 + k.val := by omega
  exact congrArg₂ (· * ·) (dOut_entry m c _ k _ ⟨s.val * 512 + k.val, hl⟩ hR) (prod_entry m c _ k _ ⟨s.val * 512 + k.val, hl⟩ hR)

theorem result_squares : (dats m 0 c).arrAt 8 cfg0.N = squares (argA m c) (argW m c) (argX m c) (argG m c) (argT m c) := by
  refine (dats m 0 c).arrAt_eq_of_covers 8 _ (by decide +kernel) fun t hf y => ?_
  have ht : t.val < 16 := Nat.lt_of_lt_of_eq t.isLt N_0
  have h3 := (flush0_8 t).mp hf
  show ((dats m 0 c).after 8 t : FVec Ideal S1x1024 .f32) y = _
  rw [after0_8]
  refine (outs8 m c t h3 y).trans ?_
  have c1 : ((((cfg0.win 8).blk t).view.emb y) 1 : Fin 1024) = y 1 := by
    refine Fin.ext ?_
    show ((win0_8.rect t).emb y 1 : ℕ) = _
    rw [Pipeline.Window.rect_emb_val win0_8 t y 1, idx8_1 t]
    exact (congrArg (· + (y 1).val) (Nat.zero_mul 1024)).trans (Nat.zero_add _)
  rw [zero_add]
  unfold squares addSq
  rw [c1]
  refine Fin.sum_mul_add_congr (S := 16) (n := 512) fun s k hl => ?_
  have hs := s.isLt
  have hR : s.val * 512 + k.val = (16 * (t.val / 16) + s.val) * 512 + k.val := by omega
  exact congrArg₂ (· * ·) (dOut_entry m c _ k _ ⟨s.val * 512 + k.val, hl⟩ hR) (dOut_entry m c _ k _ ⟨s.val * 512 + k.val, hl⟩ hR)

/-! ## The loss, and the run -/

/-- The host's last line: the row of squares added up, times half the number of features. -/
def lossOf (q : FVec Ideal S1x1024 .f32) : FVec Ideal S1x1 .f32 :=
  mulf (broadcastInDim S1x1 ![0] bcast_S1_S1x1_0 (Host.reduceAdd q (constant (F := Ideal) S_ .f32 0x00000000#32) reducesTo_S1x1024_S1_d1 h_S_))
    (broadcastInDim S1x1 ![] bcast_S_S1x1 (constant (F := Ideal) S_ .f32 0x44000000#32))

theorem lossOf_entry (q : FVec Ideal S1x1024 .f32) : (lossOf q (ix2 0 0) : EReal) = (∑ n : Fin 1024, q (ix2 0 n)) * Ideal.ofBits .f32 0x44000000#32 := by
  pointwise [lossOf]

/-- No two windows stage the same array. -/
theorem arrays_ne : Function.Injective (Pipeline.arrRef spec0) := by
  have h : ∀ w w', Pipeline.arrRef spec0 w = Pipeline.arrRef spec0 w' → w = w' := by decide
  exact fun w w' e => h w w' e

theorem after_loss : (Pipeline.afterTail₀ cfgs (dats m) 0 (V0 m) [hostOps1] c main_v6 : FVec Ideal S1x1 .f32) = lossOf ((dats m 0 c).arrAt 8 cfg0.N) := by
  unfold Pipeline.afterTail₀
  simp only [hostOps1, List.flatten_cons, List.flatten_nil, List.append_nil, List.cons_append, List.nil_append]
  after_results_simp
  refine congrArg lossOf ?_
  exact Pipeline.withArrays_arr spec0 arrays_ne c _ _ 8

/-- Every run ends with the loss and the region's three other results, the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v6) = lossOf (squares (argA m c) (argW m c) (argX m c) (argG m c) (argT m c))
      ∧ r.2.mem ((c.tc : Thread nD τ).loc main_v2_0) = dOut (argA m c) (argW m c) (argX m c) (argG m c) (argT m c)
      ∧ r.2.mem ((c.tc : Thread nD τ).loc main_v2_1) = dProd (argA m c) (argW m c) (argX m c) (argG m c) (argT m c)
      ∧ r.2.mem ((c.tc : Thread nD τ).loc main_v2_2) = dGate (argA m c) (argW m c) (argX m c) (argG m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans ((after_loss m c).trans (congrArg lossOf (result_squares m c))),
      ((h c).1 5).trans (result_out m c), ((h c).1 6).trans (result_prod m c), ((h c).1 7).trans (result_gate m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.LossIdeal.Hand

end
-- ==== Proof.LossRef.lean ====
/- The reference's gradients of the loss, as the same sums. -/
module

public import proofs.«01_k».proof.Proof.Loss
public import proofs.«01_k».proof.Proof.Gen.LossReferenceIdeal.Run
public import Idealize.ShloMosaic.Lib.Pointwise

@[expose] public section

set_option maxRecDepth 16384

noncomputable section

namespace Cert.LossReferenceIdeal.Hand

open Cert.LossReferenceIdeal Cert.LossReferenceIdeal.Gen
open Idealize.ShloMosaic Idealize.ShloMosaic.TcCoe
open Cert.LossIdeal.Hand (prod dOut dProd dGate squares)

variable (a : FVec Ideal S8192x4096 .f32) (w : FVec Ideal S4096x1024 .f32) (x : FVec Ideal S8192x1024 .f32) (g : FVec Ideal S1x1024 .f32) (t : FVec Ideal S8192x1024 .f32)

/-! ## The reference's arrays -/

abbrev rProd : FVec Ideal S8192x1024 .f32 := Host.dotGeneral dot_S8192x4096_S4096x1024_S8192x1024_1_0_0_1_n_n none a w
abbrev rErr (p : FVec Ideal S8192x1024 .f32) : FVec Ideal S8192x1024 .f32 :=
  subf (addf x (mulf (broadcastInDim S8192x1024 ![0, 1] bcast_S1x1024_S8192x1024_0_1 g) p)) t
abbrev rScale (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant (F := Ideal) S_ .f32 0x44800000#32))))
    (mulf (broadcastInDim S8192x1024 ![] bcast_S_S8192x1024 (constant S_ .f32 0x40000000#32)) e)
abbrev rOut : FVec Ideal S8192x1024 .f32 := rScale (rErr x g t (rProd a w))
abbrev rSum (z : FVec Ideal S8192x1024 .f32) : FVec Ideal S1024 .f32 :=
  Host.reduceAdd z (constant (F := Ideal) S_ .f32 0x00000000#32) reducesTo_S8192x1024_S1024_d0 h_S_

/-! ## The constants -/

theorem half : Ideal.ofBits .f32 0x3F000000#32 = ((1 / 2 : ℝ) : EReal) := by
  simp [Ideal.ofBits, Ideal.ieee]
  exact_mod_cast (by norm_num : (8388608 : ℝ) * (2 ^ 24)⁻¹ = 2⁻¹)
theorem one : Ideal.ofBits .f32 0x3F800000#32 = ((1 : ℝ) : EReal) := by
  simp [Ideal.ofBits, Ideal.ieee]
  exact_mod_cast (by norm_num : (8388608 : ℝ) * (2 ^ 23)⁻¹ = 1)
theorem features : Ideal.ofBits .f32 0x44800000#32 = ((1024 : ℝ) : EReal) := by
  simp [Ideal.ofBits, Ideal.ieee]
  exact_mod_cast (by norm_num : (8388608 : ℝ) * (2 ^ 13)⁻¹ = 1024)
theorem two : Ideal.ofBits .f32 0x40000000#32 = ((2 : ℝ) : EReal) := by
  simp [Ideal.ofBits, Ideal.ieee]
  exact_mod_cast (by norm_num : (8388608 : ℝ) * (2 ^ 22)⁻¹ = 2)
theorem features_inv : Ideal.ofBits .f32 0x3A800000#32 = ((1 / 1024 : ℝ) : EReal) := by
  simp [Ideal.ofBits, Ideal.ieee]
  exact_mod_cast (by norm_num : (8388608 : ℝ) * (2 ^ 33)⁻¹ = 1024⁻¹)
theorem half_features : Ideal.ofBits .f32 0x44000000#32 = ((512 : ℝ) : EReal) := by
  simp [Ideal.ofBits, Ideal.ieee]
  exact_mod_cast (by norm_num : (8388608 : ℝ) * (2 ^ 14)⁻¹ = 512)

/-- Half of one, over the number of features, times two: one over the number of features. -/
theorem scale_eq (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  have hd : Ideal.div ((1 / 2 : ℝ) * (1 : ℝ) : EReal) ((1024 : ℝ) : EReal) = ((1 / 2048 : ℝ) : EReal) := by
    unfold Ideal.div
    rw [if_neg (by simp), ← EReal.coe_inv, ← EReal.coe_mul, ← EReal.coe_mul]
    norm_num
  rw [half, one, features, two, features_inv, hd, ← mul_assoc, ← EReal.coe_mul, mul_comm]
  norm_num

theorem rProd_eq : rProd a w = prod a w := by
  funext y
  obtain ⟨r, n, rfl⟩ : ∃ (r : Fin 8192) (n : Fin 1024), y = ix2 r n := ⟨y 0, y 1, eq_ix2 y⟩
  show _ = ∑ k : Fin 4096, a (ix2 r k) * w (ix2 k n)
  pointwise []
theorem rErr_entry (p : FVec Ideal S8192x1024 .f32) (r : Fin 8192) (n : Fin 1024) :
    (rErr x g t p (ix2 r n) : EReal) = x (ix2 r n) + g (ix2 0 n) * p (ix2 r n) - t (ix2 r n) := by
  pointwise []
theorem rScale_entry (e : FVec Ideal S8192x1024 .f32) (r : Fin 8192) (n : Fin 1024) :
    (rScale e (ix2 r n) : EReal) = e (ix2 r n) * Ideal.ofBits .f32 0x3A800000#32 := by
  rw [← scale_eq]
  pointwise []
theorem rOut_eq : rOut a w x g t = dOut a w x g t := by
  unfold rOut
  rw [rProd_eq]
  funext y
  obtain ⟨r, n, rfl⟩ : ∃ (r : Fin 8192) (n : Fin 1024), y = ix2 r n := ⟨y 0, y 1, eq_ix2 y⟩
  exact (rScale_entry _ r n).trans (congrArg (· * Ideal.ofBits .f32 0x3A800000#32) (rErr_entry x g t _ r n))
theorem rSum_entry (z : FVec Ideal S8192x1024 .f32) (n : Fin 1024) : (rSum z (ix1 n) : EReal) = ∑ r : Fin 8192, z (ix2 r n) := by
  pointwise []

/-! ## The four results -/

theorem result_prod : (truncf .bf16 (mulf (broadcastInDim S8192x1024 ![0, 1] bcast_S1x1024_S8192x1024_0_1 g) (rOut a w x g t)) bitsLt_bf16_f32 : FVec Ideal S8192x1024 .bf16)
    = dProd a w x g t := by
  rw [rOut_eq]
  funext y
  obtain ⟨r, n, rfl⟩ : ∃ (r : Fin 8192) (n : Fin 1024), y = ix2 r n := ⟨y 0, y 1, eq_ix2 y⟩
  show _ = (dOut a w x g t (ix2 r n) : EReal) * g (ix2 0 n)
  rw [mul_comm]
  generalize dOut a w x g t = d
  pointwise []

theorem result_gate : (shapeCast S1x1024 (rSum (mulf (rOut a w x g t) (rProd a w))) shapeCasts_S1024_S1x1024 : FVec Ideal S1x1024 .f32) = dGate a w x g t := by
  rw [rOut_eq, rProd_eq]
  funext y
  obtain ⟨n, rfl⟩ := Cert.LossIdeal.Hand.row y
  show _ = ∑ r : Fin 8192, (dOut a w x g t (ix2 r n) : EReal) * prod a w (ix2 r n)
  generalize dOut a w x g t = d
  generalize prod a w = p
  refine Eq.trans ?_ (rSum_entry (mulf d p) n)
  generalize rSum (mulf d p) = z
  pointwise []

/-- A positive number times a sum is the sum of the products, whatever the terms. -/
theorem mul_sum (c : ℝ) (hc : 0 ≤ c) {ι : Type} (u : Finset ι) (f : ι → EReal) : (c : EReal) * ∑ i ∈ u, f i = ∑ i ∈ u, (c : EReal) * f i := by
  classical
  induction u using Finset.induction_on with
  | empty => simp
  | insert i u h ih => rw [Finset.sum_insert h, Finset.sum_insert h, ← ih, EReal.left_distrib_of_nonneg_of_ne_top (by exact_mod_cast hc) (EReal.coe_ne_top c)]

/-- Half the sum of the rows' means of squares, from the squares of the scaled terms. -/
theorem loss_sums (e : Fin 8192 → Fin 1024 → EReal) :
    Ideal.ofBits .f32 0x3F000000#32 * ∑ r, Ideal.div (∑ n, e r n * e r n) (Ideal.ofBits .f32 0x44800000#32)
      = (∑ n, ∑ r, (e r n * Ideal.ofBits .f32 0x3A800000#32) * (e r n * Ideal.ofBits .f32 0x3A800000#32)) * Ideal.ofBits .f32 0x44000000#32 := by
  have hd (z : EReal) : Ideal.div z ((1024 : ℝ) : EReal) = ((1 / 1024 : ℝ) : EReal) * z := by
    unfold Ideal.div
    rw [if_neg (by simp), ← EReal.coe_inv, mul_comm]
    norm_num
  have hs (z : EReal) : (z * ((1 / 1024 : ℝ) : EReal)) * (z * ((1 / 1024 : ℝ) : EReal)) = (((1 / 1024) * (1 / 1024) : ℝ) : EReal) * (z * z) := by
    rw [EReal.coe_mul, mul_mul_mul_comm, mul_comm]
  rw [half, features, features_inv, half_features]
  simp only [hd, hs]
  simp only [← mul_sum _ (show (0 : ℝ) ≤ 1 / 1024 by norm_num), ← mul_sum _ (show (0 : ℝ) ≤ (1 / 1024) * (1 / 1024) by norm_num)]
  rw [Finset.sum_comm, mul_comm (_ * _) ((512 : ℝ) : EReal), ← mul_assoc, ← mul_assoc, ← EReal.coe_mul, ← EReal.coe_mul]
  norm_num

theorem rLoss_entry (e : FVec Ideal S8192x1024 .f32) :
    (shapeCast S1x1 (mulf (constant (F := Ideal) S_ .f32 0x3F000000#32) (Host.reduceAdd (Host.divf (Host.reduceAdd (mulf e e) (constant (F := Ideal) S_ .f32 0x00000000#32) reducesTo_S8192x1024_S8192_d1 h_S_)
        (broadcastInDim S8192 ![] bcast_S_S8192 (constant (F := Ideal) S_ .f32 0x44800000#32))) (constant (F := Ideal) S_ .f32 0x00000000#32) reducesTo_S8192_S_d0 h_S_)) shapeCasts_S_S1x1 (ix2 0 0) : EReal)
      = Ideal.ofBits .f32 0x3F000000#32 * ∑ r : Fin 8192, Ideal.div (∑ n : Fin 1024, e (ix2 r n) * e (ix2 r n)) (Ideal.ofBits .f32 0x44800000#32) := by
  pointwise []

abbrev rLoss (e : FVec Ideal S8192x1024 .f32) : FVec Ideal S1x1 .f32 :=
  shapeCast S1x1 (mulf (constant (F := Ideal) S_ .f32 0x3F000000#32) (Host.reduceAdd (Host.divf (Host.reduceAdd (mulf e e) (constant (F := Ideal) S_ .f32 0x00000000#32) reducesTo_S8192x1024_S8192_d1 h_S_)
    (broadcastInDim S8192 ![] bcast_S_S8192 (constant (F := Ideal) S_ .f32 0x44800000#32))) (constant (F := Ideal) S_ .f32 0x00000000#32) reducesTo_S8192_S_d0 h_S_)) shapeCasts_S_S1x1

theorem result_loss : rLoss (rErr x g t (rProd a w)) = Cert.LossIdeal.Hand.lossOf (squares a w x g t) := by
  rw [rProd_eq]
  funext y
  have hy : y = ix2 0 0 := (eq_ix2 (n0 := 1) (n1 := 1) y).trans (congrArg₂ (fun i j : Fin 1 => ix2 i j) (Subsingleton.elim _ _) (Subsingleton.elim _ _))
  rw [hy]
  refine (rLoss_entry _).trans ?_
  rw [Cert.LossIdeal.Hand.lossOf_entry]
  refine (loss_sums fun r n => rErr x g t (prod a w) (ix2 r n)).trans ?_
  refine congrArg (· * Ideal.ofBits .f32 0x44000000#32) (Finset.sum_congr rfl fun n _ => Finset.sum_congr rfl fun r _ => ?_)
  exact congrArg₂ (· * ·) (congrArg (· * Ideal.ofBits .f32 0x3A800000#32) (rErr_entry x g t _ r n)) (congrArg (· * Ideal.ofBits .f32 0x3A800000#32) (rErr_entry x g t _ r n))

end Cert.LossReferenceIdeal.Hand

end
-- ==== Proof.Step.lean ====
/- One grid point of the backward kernel: what it computes from the six input blocks, and what it leaves in the three
   result blocks and in the scratch, as plain functions of what they held before. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ (UR sig nD τ) ℕ

/-! ## The values of a point -/

/-- Head `0`, `1`, `2`, `3` of a block of four heads. -/
def head0 {e : EltTy} (x : Vec F S4x64x512 e) : Vec F S1x64x512 e := window x ![0, 0, 0] S1x64x512.size inb_S4x64x512_S1x64x512_0_0_0
def head1 {e : EltTy} (x : Vec F S4x64x512 e) : Vec F S1x64x512 e := window x ![1, 0, 0] S1x64x512.size inb_S4x64x512_S1x64x512_1_0_0
def head2 {e : EltTy} (x : Vec F S4x64x512 e) : Vec F S1x64x512 e := window x ![2, 0, 0] S1x64x512.size inb_S4x64x512_S1x64x512_2_0_0
def head3 {e : EltTy} (x : Vec F S4x64x512 e) : Vec F S1x64x512 e := window x ![3, 0, 0] S1x64x512.size inb_S4x64x512_S1x64x512_3_0_0
/-- The same of a block of four rows. -/
def lane0 (x : Vec F S4x1x512 .f32) : Vec F S1x1x512 .f32 := window x ![0, 0, 0] S1x1x512.size inb_S4x1x512_S1x1x512_0_0_0
def lane1 (x : Vec F S4x1x512 .f32) : Vec F S1x1x512 .f32 := window x ![1, 0, 0] S1x1x512.size inb_S4x1x512_S1x1x512_1_0_0
def lane2 (x : Vec F S4x1x512 .f32) : Vec F S1x1x512 .f32 := window x ![2, 0, 0] S1x1x512.size inb_S4x1x512_S1x1x512_2_0_0
def lane3 (x : Vec F S4x1x512 .f32) : Vec F S1x1x512 .f32 := window x ![3, 0, 0] S1x1x512.size inb_S4x1x512_S1x1x512_3_0_0
/-- The values' rows without the rows of ones. -/
def valRows (x : Vec F S1x72x1024 .bf16) : Vec F S1x64x1024 .bf16 := window x ![0, 0, 0] S1x64x1024.size inb_S1x72x1024_S1x64x1024_0_0_0

/-- The four heads of queries side by side. -/
def qAll (x0 : Vec F S4x64x512 .bf16) : FVec F S64x2048 .bf16 := k0_pay13 (head0 x0) (head1 x0) (head2 x0) (head3 x0)
/-- The four heads of the output's cotangent side by side. -/
def doAll (x3 : Vec F S4x64x512 .bf16) : FVec F S64x2048 .bf16 := k0_pay14 (head0 x3) (head1 x3) (head2 x3) (head3 x3)
/-- This point's share of the values' gradient. -/
def dvPart (x0 : Vec F S4x64x512 .bf16) (x1 : Vec F S1x64x1024 .bf16) (x3 : Vec F S4x64x512 .bf16) (x5 : Vec F S4x1x512 .f32) : FVec F S1024x64 .f32 :=
  k0_pay20 (qAll x0) (doAll x3) x1 (lane0 x5) (lane1 x5) (lane2 x5) (lane3 x5)
/-- The gradient of the scores at this point. -/
def dsPart (x0 : Vec F S4x64x512 .bf16) (x1 : Vec F S1x64x1024 .bf16) (x2 : Vec F S1x72x1024 .bf16) (x3 x4 : Vec F S4x64x512 .bf16) (x5 : Vec F S4x1x512 .f32) : FVec F S1024x2048 .bf16 :=
  k0_pay21 (qAll x0) (doAll x3) (k0_pay15 (head0 x3) (head1 x3) (head2 x3) (head3 x3)) (k0_pay16 (head0 x4)) (k0_pay17 (head1 x4)) (head2 x4) (head3 x4)
    x1 (valRows x2) (lane0 x5) (lane1 x5) (lane2 x5) (lane3 x5)
/-- This point's share of the keys' gradient, before the scale. -/
def dkPart (x0 : Vec F S4x64x512 .bf16) (x1 : Vec F S1x64x1024 .bf16) (x2 : Vec F S1x72x1024 .bf16) (x3 x4 : Vec F S4x64x512 .bf16) (x5 : Vec F S4x1x512 .f32) : FVec F S1024x64 .f32 :=
  k0_pay22 (qAll x0) (doAll x3) (k0_pay15 (head0 x3) (head1 x3) (head2 x3) (head3 x3)) (k0_pay16 (head0 x4)) (k0_pay17 (head1 x4)) (head2 x4) (head3 x4)
    x1 (valRows x2) (lane0 x5) (lane1 x5) (lane2 x5) (lane3 x5)

/-- The scale of the keys' gradient. -/
def scaleK : F .f32 := Named.named κ "ln2" 0x3F317218#32

/-- The offset of the rows a point stores. -/
abbrev rowOff (i : grid0.Coords) : Fin 3 → ℕ := ![0, 1024 * (i 2).val, 0]

theorem rowOff_inb (i : grid0.Coords) : ∀ a, rowOff i a + S1x1024x64.size a ≤ S1x8192x64.size a := by
  have h : (i 2).val < 8 := (i 2).isLt
  intro a; fin_cases a
  · show 0 + 1 ≤ 1; omega
  · show 1024 * (i 2).val + 1024 ≤ 8192; omega
  · show 0 + 64 ≤ 64; omega

/-- The keys' gradient block after a point. -/
def leftK (i : grid0.Coords) (y : Vec F S1x8192x64 .f32) (d : FVec F S1024x64 .f32) : Vec F S1x8192x64 .f32 :=
  if k0_cond1 i = 1#1 then put y (rowOff i) S1x1024x64.size (k0_pay3 d scaleK)
  else put y (rowOff i) S1x1024x64.size (k0_pay5 d scaleK (window y (rowOff i) S1x1024x64.size (rowOff_inb i)))
/-- The values' gradient block after a point. -/
def leftV (i : grid0.Coords) (y : Vec F S1x8192x64 .f32) (d : FVec F S1024x64 .f32) : Vec F S1x8192x64 .f32 :=
  if k0_cond1 i = 1#1 then put y (rowOff i) S1x1024x64.size (k0_pay4 d)
  else put y (rowOff i) S1x1024x64.size (k0_pay6 d (window y (rowOff i) S1x1024x64.size (rowOff_inb i)))

/-- Which branch of the accumulation of the queries' gradient is taken. -/
abbrev condA (i : grid0.Coords) : Prop := (Scalar.cmpi .ne (Scalar.extui (Scalar.cmpi .eq (BitVec.ofNat 32 (i 2).val) 0#32)) 0#32) = 1#1
abbrev condB (i : grid0.Coords) : Prop := (Scalar.cmpi .ne (Scalar.extui (Scalar.cmpi .sgt (BitVec.ofNat 32 (i 2).val) 0#32)) 0#32) = 1#1

/-- The scratch after a point. -/
def leftS (i : grid0.Coords) (y : Vec F S64x2048 .f32) (k : FVec F S64x1024 .bf16) (d : FVec F S1024x2048 .bf16) : Vec F S64x2048 .f32 :=
  if condA i then k0_pay7 k d else k0_pay8 k d y
/-- The queries' gradient block after a point that leaves `z` in the scratch. -/
def leftQ (i : grid0.Coords) (y : Vec F S4x64x512 .f32) (z : Vec F S64x2048 .f32) : Vec F S4x64x512 .f32 :=
  if k0_cond5 i = 1#1 then
    put (put (put (put y ![0, 0, 0] S1x64x512.size (k0_pay9 z)) ![1, 0, 0] S1x64x512.size (k0_pay10 z)) ![2, 0, 0] S1x64x512.size (k0_pay11 z))
      ![3, 0, 0] S1x64x512.size (k0_pay12 z)
  else y

set_option maxHeartbeats 4000000 in
/-- The body's triple: the inputs as they were, the results and the scratch as stated. -/
theorem body_triple (c : Dev nD) (i : grid0.Coords) (arg3 : Memref sig .tc .vmem S4x64x512 .bf16) (harg3 : arg3.IsWhole) (arg4 : Memref sig .tc .vmem S1x64x1024 .bf16) (harg4 : arg4.IsWhole) (arg5 : Memref sig .tc .vmem S1x72x1024 .bf16) (harg5 : arg5.IsWhole) (arg6 : Memref sig .tc .vmem S4x64x512 .bf16) (harg6 : arg6.IsWhole) (arg7 : Memref sig .tc .vmem S4x64x512 .bf16) (harg7 : arg7.IsWhole) (arg8 : Memref sig .tc .vmem S4x1x512 .f32) (harg8 : arg8.IsWhole) (arg9 : Memref sig .tc .vmem S4x64x512 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S64x2048 .f32) (harg12 : arg12.IsWhole)
    (h12 : k0_cond2 i = 1#1 ↔ ¬ k0_cond1 i = 1#1) (hAB : condB i ↔ ¬ condA i)
    (x0 : Vec F S4x64x512 .bf16) (x1 : Vec F S1x64x1024 .bf16) (x2 : Vec F S1x72x1024 .bf16) (x3 : Vec F S4x64x512 .bf16) (x4 : Vec F S4x64x512 .bf16) (x5 : Vec F S4x1x512 .f32)
    (y6 : Vec F S4x64x512 .f32) (y7 y8 : Vec F S1x8192x64 .f32) (ys : Vec F S64x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
        ∗ owns (c : Thread nD τ) arg9 fullShare y6 ∗ owns (c : Thread nD τ) arg10 fullShare y7 ∗ owns (c : Thread nD τ) arg11 fullShare y8 ∗ owns (c : Thread nD τ) arg12 fullShare ys
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare (leftQ i y6 (leftS i ys (k0_pay18 x1) (dsPart x0 x1 x2 x3 x4 x5)))
            ∗ owns (c : Thread nD τ) arg10 fullShare (leftK i y7 (dkPart x0 x1 x2 x3 x4 x5)) ∗ owns (c : Thread nD τ) arg11 fullShare (leftV i y8 (dvPart x0 x1 x3 x5))
            ∗ owns (c : Thread nD τ) arg12 fullShare (leftS i ys (k0_pay18 x1) (dsPart x0 x1 x2 x3 x4 x5))) -∗ K ⟨⟩))
      ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12) K := by
  by_cases h1 : k0_cond1 i = 1#1 <;> by_cases h3 : condA i <;> by_cases h5 : k0_cond5 i = 1#1
  all_goals
    have h2 := h12
    have h4 := hAB
    first
      | replace h2 : ¬ k0_cond2 i = 1#1 := fun h => (h12.1 h) h1
      | replace h2 : k0_cond2 i = 1#1 := h12.2 h1
    first
      | replace h4 : ¬ condB i := fun h => (hAB.1 h) h3
      | replace h4 : condB i := hAB.2 h3
    simp only [cc0_flash_bwd_eq_skeleton]; unfold cc0_flash_bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs, HS0⟩, Hk⟩
    sl_exec (disch := first | sl_exact h1 | sl_exact h2 | sl_exact h3 | sl_exact h4 | sl_exact h5)
    sl_step
    iapply Hk
    subst hf0; subst hf1; subst hf2; subst hf3; subst hf4; subst hf5; subst hf6; subst hf7; subst hf8; subst hfs
    have e1 : ∀ r, View.readAt (Elt F) arg4.view (Rect.unit ![0, 0, 0] S1x64x1024.size r).toLoadRect f1 = View.read (Elt F) arg4.view f1 := fun r => View.readAt_full arg4.view f1 r
    have es : ∀ r, View.readAt (Elt F) arg12.view (Rect.unit ![0, 0] S64x2048.size r).toLoadRect fs0 = View.read (Elt F) arg12.view fs0 := fun r => View.readAt_full arg12.view fs0 r
    have ec : ∀ r r' (w : Vec F S64x2048 .f32), View.readCov arg12.view [⟨Rect.unit ![0, 0] S64x2048.size r', w⟩] (Rect.unit ![0, 0] S64x2048.size r).toLoadRect = w := fun r r' w => View.readCov_full arg12.view r r' w []
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      first
        | (rw [leftQ, if_neg h5]; done)
        | (rw [View.read_writes_cons_put arg9.view f6 _ _ _ rfl, View.read_writes_cons_put arg9.view f6 _ _ _ rfl, View.read_writes_cons_put arg9.view f6 _ _ _ rfl,
            View.read_writes_cons_put arg9.view f6 _ _ _ rfl, View.writes_nil, leftQ, if_pos h5, leftS]
           sl_unfold_words
           first
             | rw [if_pos h3]
             | rw [if_neg h3]
           simp only [ec, es, e1]
           rfl)
    isplitl [H7]
    · iexists _; isplitr; swap; · iexact H7
      ipureintro
      first
        | (rw [View.read_writes_cons_put arg10.view f7 _ _ [] (k0_off1_eq i), View.writes_nil, leftK, if_pos h1]
           sl_unfold_words
           simp only [e1]
           rfl)
        | (rw [View.read_writes_cons_put arg10.view f7 _ _ [] (k0_off2_eq i), View.writes_nil, leftK, if_neg h1]
           rw [← View.readAt_unit arg10.view f7 (k0_off2_inb i h2) (k0_off2_eq i) (rowOff_inb i)]
           sl_unfold_words
           simp only [e1]
           rfl)
    isplitl [H8]
    · iexists _; isplitr; swap; · iexact H8
      ipureintro
      first
        | (rw [View.read_writes_cons_put arg11.view f8 _ _ [] (k0_off1_eq i), View.writes_nil, leftV, if_pos h1]
           sl_unfold_words
           simp only [e1]
           rfl)
        | (rw [View.read_writes_cons_put arg11.view f8 _ _ [] (k0_off2_eq i), View.writes_nil, leftV, if_neg h1]
           rw [← View.readAt_unit arg11.view f8 (k0_off2_inb i h2) (k0_off2_eq i) (rowOff_inb i)]
           sl_unfold_words
           simp only [e1]
           rfl)
    iexists _; isplitr; swap; · iexact HS0
    ipureintro
    sl_unfold_words
    refine (View.read_writes_full arg12.view fs0 _ _ []).trans ?_
    first
      | (rw [leftS, if_pos h3]
         simp only [e1]
         rfl)
      | (rw [leftS, if_neg h3]
         simp only [e1, es]
         rfl)

end Cert.KernelIdeal.Hand

end
-- ==== Proof.Pipe.lean ====
/- The backward kernel's pipeline: what its results and its scratch hold between the grid points, and the run. A point is
   numbered 128·g + 8·i + j, with g the key head, i the block of queries, j the block of keys. -/
module

public import proofs.«01_k».proof.Proof.Step
public import Idealize.ShloMosaic.Lib.Pipeline.DatRel
public import Idealize.ShloMosaic.Lib.Pipeline.ArrRel

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Idealize.ShloMosaic.VecWindow (window put)

variable {F : FTy → Type} [FloatOps F] [Named F]

local notation "𝕄" => MT nD τ sig Unit (Elt F) ℕ (UR sig nD τ) ℕ

/-! ## The branches at a point -/

theorem coord1 (t : Fin cfg0.N) : (grid0.coords t 1).val = t.val / 8 % 16 := Pipeline.Grid.coords_val t 1 (by decide) rfl
theorem coord2 (t : Fin cfg0.N) : (grid0.coords t 2).val = t.val % 8 := by
  have h : (grid0.coords t 2).val = t.val / 1 % 8 := Pipeline.Grid.coords_val t 2 (by decide) rfl
  rw [h, Nat.div_one]

theorem cond1_iff (t : Fin cfg0.N) : k0_cond1 (grid0.coords t) = 1#1 ↔ t.val / 8 % 16 = 0 := by
  have ht : t.val < 512 := Nat.lt_of_lt_of_eq t.isLt N_0
  simp only [k0_cond1, coord1 t]
  word_cmp

theorem cond2_iff (t : Fin cfg0.N) : k0_cond2 (grid0.coords t) = 1#1 ↔ ¬ t.val / 8 % 16 = 0 := by
  revert t
  exact (by decide +kernel : ∀ t : Fin grid0.N, k0_cond2 (grid0.coords t) = 1#1 ↔ ¬ t.val / 8 % 16 = 0)

theorem condA_iff (t : Fin cfg0.N) : condA (grid0.coords t) ↔ t.val % 8 = 0 := by
  have ht : t.val < 512 := Nat.lt_of_lt_of_eq t.isLt N_0
  simp only [condA, coord2 t]
  word_cmp

theorem condB_iff (t : Fin cfg0.N) : condB (grid0.coords t) ↔ ¬ t.val % 8 = 0 := by
  revert t
  exact (by decide +kernel : ∀ t : Fin grid0.N, condB (grid0.coords t) ↔ ¬ t.val % 8 = 0)

theorem cond5_iff (t : Fin cfg0.N) : k0_cond5 (grid0.coords t) = 1#1 ↔ t.val % 8 = 7 := by
  have ht : t.val < 512 := Nat.lt_of_lt_of_eq t.isLt N_0
  simp only [k0_cond5, coord2 t]
  word_cmp

/-! ## Rows accumulated over the blocks of queries -/

/-- Point number `n` of the grid. -/
def pt (n : ℕ) : Fin cfg0.N := ⟨n % 512, by rw [show cfg0.N = 512 from N_0]; omega⟩

theorem pt_of (t : Fin cfg0.N) (n : ℕ) (h : n = t.val) : pt n = t := by
  have ht : t.val < 512 := Nat.lt_of_lt_of_eq t.isLt N_0
  apply Fin.ext; show n % 512 = t.val; omega

/-- The offset of row block `jj`. -/
abbrev blkOff (jj : ℕ) : Fin 3 → ℕ := ![0, 1024 * jj, 0]

theorem blkOff_inb {jj : ℕ} (h : jj < 8) : ∀ a, blkOff jj a + S1x1024x64.size a ≤ S1x8192x64.size a := by
  intro a; fin_cases a
  · show 0 + 1 ≤ 1; omega
  · show 1024 * jj + 1024 ≤ 8192; omega
  · show 0 + 64 ≤ 64; omega

/-- The rows of block `jj`, out of all. -/
def rowsOf (y : Vec F S1x8192x64 .f32) (jj : ℕ) (h : jj < 8) : Vec F S1x1024x64 .f32 := window y (blkOff jj) S1x1024x64.size (blkOff_inb h)

/-- Rows stored at a first point (`a`), accumulated at a later one (`f`). -/
def leftRows (i : grid0.Coords) (y : Vec F S1x8192x64 .f32) (a : Vec F S1x1024x64 .f32) (f : Vec F S1x1024x64 .f32 → Vec F S1x1024x64 .f32) : Vec F S1x8192x64 .f32 :=
  if k0_cond1 i = 1#1 then put y (rowOff i) S1x1024x64.size a
  else put y (rowOff i) S1x1024x64.size (f (window y (rowOff i) S1x1024x64.size (rowOff_inb i)))

/-- Block `jj` of key head `g` after block `i` of the queries, from what each point stores first (`a`) and accumulates (`f`). -/
def blkAt (a : Fin cfg0.N → Vec F S1x1024x64 .f32) (f : Fin cfg0.N → Vec F S1x1024x64 .f32 → Vec F S1x1024x64 .f32) (g jj : ℕ) : ℕ → Vec F S1x1024x64 .f32
  | 0 => a (pt (128 * g + jj))
  | i + 1 => f (pt (128 * g + 8 * (i + 1) + jj)) (blkAt a f g jj i)

/-- What is known of the rows after point `t`: the blocks up to this point's hold what this block of queries leaves, the later ones what the block before left. -/
def RowsAt (a : Fin cfg0.N → Vec F S1x1024x64 .f32) (f : Fin cfg0.N → Vec F S1x1024x64 .f32 → Vec F S1x1024x64 .f32) (n : ℕ) (X : Vec F S1x8192x64 .f32) : Prop :=
  ∀ (jj : ℕ) (h : jj < 8), (jj ≤ n % 8 → rowsOf X jj h = blkAt a f (n / 128) jj (n / 8 % 16))
    ∧ (n % 8 < jj → n / 8 % 16 ≠ 0 → rowsOf X jj h = blkAt a f (n / 128) jj (n / 8 % 16 - 1))

theorem rowOff_coords (t : Fin cfg0.N) : rowOff (grid0.coords t) = blkOff (t.val % 8) := by
  show ![0, 1024 * (grid0.coords t 2).val, 0] = ![0, 1024 * (t.val % 8), 0]
  rw [coord2 t]

theorem rowsOf_put_same (y : Vec F S1x8192x64 .f32) (jj : ℕ) (h : jj < 8) (w : Vec F S1x1024x64 .f32) :
    rowsOf (put y (blkOff jj) S1x1024x64.size w) jj h = w :=
  VecWindow.window_put_same y (blkOff jj) S1x1024x64.size (blkOff_inb h) w

theorem rowsOf_put_ne (y : Vec F S1x8192x64 .f32) (jj kk : ℕ) (h : jj < 8) (hne : jj ≠ kk) (w : Vec F S1x1024x64 .f32) :
    rowsOf (put y (blkOff kk) S1x1024x64.size w) jj h = rowsOf y jj h :=
  VecWindow.window_put_of_disjoint y (blkOff kk) S1x1024x64.size (blkOff jj) S1x1024x64.size (blkOff_inb h) w 1 (by
    show 1024 * jj + 1024 ≤ 1024 * kk ∨ 1024 * kk + 1024 ≤ 1024 * jj
    omega)

/-- One point's step: from what is known after the point before (nothing, where the key head is new) to what is known after this one. -/
theorem rowsAt_step (a : Fin cfg0.N → Vec F S1x1024x64 .f32) (f : Fin cfg0.N → Vec F S1x1024x64 .f32 → Vec F S1x1024x64 .f32) (t : Fin cfg0.N)
    (Y : Vec F S1x8192x64 .f32) (hY : t.val % 128 ≠ 0 → RowsAt a f (t.val - 1) Y) :
    RowsAt a f t.val (leftRows (grid0.coords t) Y (a t) (f t)) := by
  have ht : t.val < 512 := Nat.lt_of_lt_of_eq t.isLt N_0
  have hj : t.val % 8 < 8 := Nat.mod_lt _ (by decide)
  have hwin : window Y (rowOff (grid0.coords t)) S1x1024x64.size (rowOff_inb (grid0.coords t)) = rowsOf Y (t.val % 8) hj := by
    unfold rowsOf
    have e := rowOff_coords t
    funext y
    unfold window
    congr 1
    funext k
    apply Fin.ext
    exact congrArg (· + 1 * (y k).val) (congrFun e k)
  unfold leftRows
  rw [hwin, rowOff_coords t]
  intro jj h
  by_cases h0 : t.val / 8 % 16 = 0
  · rw [if_pos ((cond1_iff t).mpr h0)]
    refine ⟨fun hle => ?_, fun _ hne => absurd h0 hne⟩
    rw [h0]
    by_cases hjj : jj = t.val % 8
    · subst hjj
      rw [rowsOf_put_same]
      show a t = a (pt _)
      rw [pt_of t _ (by omega)]
    · rw [rowsOf_put_ne _ _ _ _ hjj]
      have hp := (hY (by omega) jj h).1 (by omega)
      rw [hp, show (t.val - 1) / 128 = t.val / 128 by omega, show (t.val - 1) / 8 % 16 = 0 by omega]
  · rw [if_neg (fun hc => h0 ((cond1_iff t).mp hc))]
    have hY' := hY (by omega)
    by_cases hj0 : t.val % 8 = 0
    · -- the point before ended the block of queries before
      have e1 : (t.val - 1) / 128 = t.val / 128 := by omega
      have e2 : (t.val - 1) / 8 % 16 = t.val / 8 % 16 - 1 := by omega
      have e3 : (t.val - 1) % 8 = 7 := by omega
      have hp : ∀ (kk : ℕ) (hk : kk < 8), rowsOf Y kk hk = blkAt a f (t.val / 128) kk (t.val / 8 % 16 - 1) := fun kk hk => by
        have := (hY' kk hk).1 (by omega)
        rw [e1, e2] at this; exact this
      refine ⟨fun hle => ?_, fun hlt _ => ?_⟩
      · have hjj : jj = t.val % 8 := by omega
        subst hjj
        rw [rowsOf_put_same, hp]
        obtain ⟨i, hi⟩ : ∃ i, t.val / 8 % 16 = i + 1 := ⟨t.val / 8 % 16 - 1, by omega⟩
        rw [hi]
        show f t _ = f (pt _) _
        rw [pt_of t _ (by omega), Nat.add_sub_cancel]
      · rw [rowsOf_put_ne _ _ _ _ (by omega), hp]
    · have e1 : (t.val - 1) / 128 = t.val / 128 := by omega
      have e2 : (t.val - 1) / 8 % 16 = t.val / 8 % 16 := by omega
      have e3 : (t.val - 1) % 8 = t.val % 8 - 1 := by omega
      refine ⟨fun hle => ?_, fun hlt hne => ?_⟩
      · by_cases hjj : jj = t.val % 8
        · subst hjj
          have hp := (hY' (t.val % 8) hj).2 (by omega) (by omega)
          rw [e1, e2] at hp
          rw [rowsOf_put_same, hp]
          obtain ⟨i, hi⟩ : ∃ i, t.val / 8 % 16 = i + 1 := ⟨t.val / 8 % 16 - 1, by omega⟩
          rw [hi]
          show f t _ = f (pt _) _
          rw [pt_of t _ (by omega), Nat.add_sub_cancel]
        · have hp := (hY' jj h).1 (by omega)
          rw [e1, e2] at hp
          rw [rowsOf_put_ne _ _ _ _ hjj, hp]
      · have hp := (hY' jj h).2 (by omega) (by omega)
        rw [e1, e2] at hp
        rw [rowsOf_put_ne _ _ _ _ (by omega), hp]

/-! ## The kernel's own rows -/

variable (m : (ℓ : Loc nD τ sig) → Buf (Elt F) ℓ) (ρ : Dev nD → PrngReg)

/-- The input blocks at a point. -/
abbrev in0 (c : Dev nD) (t : Fin cfg0.N) : Vec F S4x64x512 .bf16 := iblk m c 0 t
abbrev in1 (c : Dev nD) (t : Fin cfg0.N) : Vec F S1x64x1024 .bf16 := iblk m c 1 t
abbrev in2 (c : Dev nD) (t : Fin cfg0.N) : Vec F S1x72x1024 .bf16 := iblk m c 2 t
abbrev in3 (c : Dev nD) (t : Fin cfg0.N) : Vec F S4x64x512 .bf16 := iblk m c 3 t
abbrev in4 (c : Dev nD) (t : Fin cfg0.N) : Vec F S4x64x512 .bf16 := iblk m c 4 t
abbrev in5 (c : Dev nD) (t : Fin cfg0.N) : Vec F S4x1x512 .f32 := iblk m c 5 t

/-- The shares of the gradients at a point, of the point's blocks. -/
def dkAt (c : Dev nD) (t : Fin cfg0.N) : FVec F S1024x64 .f32 := dkPart (in0 m c t) (in1 m c t) (in2 m c t) (in3 m c t) (in4 m c t) (in5 m c t)
def dvAt (c : Dev nD) (t : Fin cfg0.N) : FVec F S1024x64 .f32 := dvPart (in0 m c t) (in1 m c t) (in3 m c t) (in5 m c t)
def dsAt (c : Dev nD) (t : Fin cfg0.N) : FVec F S1024x2048 .bf16 := dsPart (in0 m c t) (in1 m c t) (in2 m c t) (in3 m c t) (in4 m c t) (in5 m c t)
def keyAt (c : Dev nD) (t : Fin cfg0.N) : FVec F S64x1024 .bf16 := k0_pay18 (in1 m c t)

/-- The keys' gradient's block `jj` after block `i` of the queries; the values' likewise. -/
def keyRows (c : Dev nD) : ℕ → ℕ → ℕ → Vec F S1x1024x64 .f32 := blkAt (fun t => k0_pay3 (dkAt m c t) scaleK) (fun t v => k0_pay5 (dkAt m c t) scaleK v)
def valueRows (c : Dev nD) : ℕ → ℕ → ℕ → Vec F S1x1024x64 .f32 := blkAt (fun t => k0_pay4 (dvAt m c t)) (fun t v => k0_pay6 (dvAt m c t) v)

def KeysAt (c : Dev nD) : ℕ → Vec F S1x8192x64 .f32 → Prop := RowsAt (fun t => k0_pay3 (dkAt m c t) scaleK) (fun t v => k0_pay5 (dkAt m c t) scaleK v)
def ValuesAt (c : Dev nD) : ℕ → Vec F S1x8192x64 .f32 → Prop := RowsAt (fun t => k0_pay4 (dvAt m c t)) (fun t v => k0_pay6 (dvAt m c t) v)

/-- The scratch after block `j` of the keys, in the run of points that begins at point `b`. -/
def accAt (c : Dev nD) (b : ℕ) : ℕ → Vec F S64x2048 .f32
  | 0 => k0_pay7 (keyAt m c (pt b)) (dsAt m c (pt b))
  | j + 1 => k0_pay8 (keyAt m c (pt (b + (j + 1)))) (dsAt m c (pt (b + (j + 1)))) (accAt c b j)

/-- What is known of the scratch before point `n`. -/
def Acc (c : Dev nD) (n : ℕ) (d : Vec F S64x2048 .f32) : Prop := n % 8 = 0 ∨ d = accAt m c (n / 8 * 8) (n % 8 - 1)

theorem leftS_at (c : Dev nD) (t : Fin cfg0.N) (d : Vec F S64x2048 .f32) (hd : Acc m c t.val d) :
    leftS (grid0.coords t) d (keyAt m c t) (dsAt m c t) = accAt m c (t.val / 8 * 8) (t.val % 8) := by
  have ht : t.val < 512 := Nat.lt_of_lt_of_eq t.isLt N_0
  unfold leftS
  by_cases h0 : t.val % 8 = 0
  · rw [if_pos ((condA_iff t).mpr h0), h0]
    show _ = k0_pay7 _ _
    rw [pt_of t _ (by omega)]
  · rw [if_neg (fun h => h0 ((condA_iff t).mp h))]
    rcases hd with hd | hd
    · exact absurd hd h0
    · obtain ⟨j, hj⟩ : ∃ j, t.val % 8 = j + 1 := ⟨t.val % 8 - 1, by omega⟩
      rw [hd, hj]
      show _ = k0_pay8 _ _ _
      rw [pt_of t _ (by omega), Nat.add_sub_cancel]

theorem acc_succ (c : Dev nD) (t : Fin cfg0.N) : Acc m c (t.val + 1) (accAt m c (t.val / 8 * 8) (t.val % 8)) := by
  by_cases h : (t.val + 1) % 8 = 0
  · exact .inl h
  · refine .inr ?_
    rw [show (t.val + 1) / 8 * 8 = t.val / 8 * 8 by omega, show (t.val + 1) % 8 - 1 = t.val % 8 by omega]

/-- The queries' gradient block that the run of points at `b` writes: the scratch's four heads. -/
def queryOut (c : Dev nD) (b : ℕ) (y : Vec F S4x64x512 .f32) : Vec F S4x64x512 .f32 :=
  put (put (put (put y ![0, 0, 0] S1x64x512.size (k0_pay9 (accAt m c b 7))) ![1, 0, 0] S1x64x512.size (k0_pay10 (accAt m c b 7)))
    ![2, 0, 0] S1x64x512.size (k0_pay11 (accAt m c b 7))) ![3, 0, 0] S1x64x512.size (k0_pay12 (accAt m c b 7))

/-- What is known of the queries' gradient block after point `n`. -/
def QueriesAt (c : Dev nD) (n : ℕ) (X : Vec F S4x64x512 .f32) : Prop := n % 8 = 7 → ∃ y, X = queryOut m c (n / 8 * 8) y

/-! ## The proof data -/

/-- The results' windows. -/
def outs (w : Fin 9) : Bool := w.val == 6 || w.val == 7 || w.val == 8

/-- What a result's block is known to hold after a point. -/
def Rl (c : Dev nD) (w : Fin cfg0.W) (t : Fin cfg0.N) (X : (cfg0.win w).block.Idx → Elt F (cfg0.win w).elt) : Prop :=
  match w, X with
  | ⟨6, _⟩, X => QueriesAt m c t.val X
  | ⟨7, _⟩, X => KeysAt m c t.val X
  | ⟨8, _⟩, X => ValuesAt m c t.val X
  | _, _ => True

abbrev scM : Memref sig .tc .vmem S64x2048 .f32 := Memref.whole cc0_scratch0

/-- The invariant before point `n`: the scratch at known contents, the generator register at anything. -/
def PhiN (c : Dev nD) (n : ℕ) : sProp 𝕄 :=
  iprop((∃ d, ⌜Acc m c n d⌝ ∗ owns (c : Thread nD τ) scM fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiN m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What a result's block holds when a point finds it: what is known after the point before, where the key head is not new. -/
theorem found (c : Dev nD) (w : Fin cfg0.W) (hw : outs w = true) (hfe : ∀ t, (cfg0.win w).fetch t = false)
    (hfl : ∀ t : Fin cfg0.N, (cfg0.win w).flush t = true ↔ t.val % 128 = 127) (t : Fin cfg0.N) (Y)
    (hY : ((dats m 0 c).toRRel outs (Rl m c)).Finds w t Y) (h0 : t.val % 128 ≠ 0) : ∃ u : Fin cfg0.N, u.val = t.val - 1 ∧ Rl m c w u Y := by
  have ht : t.val < 512 := Nat.lt_of_lt_of_eq t.isLt N_0
  rcases (RDat.finds_of_pos _ (hfe t) (by omega) Y).mp hY with h | h
  · have := (hfl _).mp h
    exact absurd this (by show ¬ (t.val - 1) % 128 = 127; omega)
  · exact ⟨_, rfl, Dat.toRRel_leaves _ hw h⟩

theorem found_keys (c : Dev nD) (t : Fin cfg0.N) (Y : Vec F S1x8192x64 .f32)
    (hY : ((dats m 0 c).toRRel outs (Rl m c)).Finds 7 t Y) (h0 : t.val % 128 ≠ 0) : KeysAt m c (t.val - 1) Y := by
  obtain ⟨u, hu, h⟩ := found m c 7 rfl (fun _ => rfl) flush0_7 t Y hY h0
  rw [← hu]; exact h

theorem found_values (c : Dev nD) (t : Fin cfg0.N) (Y : Vec F S1x8192x64 .f32)
    (hY : ((dats m 0 c).toRRel outs (Rl m c)).Finds 8 t Y) (h0 : t.val % 128 ≠ 0) : ValuesAt m c (t.val - 1) Y := by
  obtain ⟨u, hu, h⟩ := found m c 8 rfl (fun _ => rfl) flush0_8 t Y hY h0
  rw [← hu]; exact h

theorem left_keys (c : Dev nD) (t : Fin cfg0.N) (Y : Vec F S1x8192x64 .f32) (hY : t.val % 128 ≠ 0 → KeysAt m c (t.val - 1) Y) :
    KeysAt m c t.val (leftK (grid0.coords t) Y (dkAt m c t)) :=
  rowsAt_step (fun t => k0_pay3 (dkAt m c t) scaleK) (fun t v => k0_pay5 (dkAt m c t) scaleK v) t Y hY

theorem left_values (c : Dev nD) (t : Fin cfg0.N) (Y : Vec F S1x8192x64 .f32) (hY : t.val % 128 ≠ 0 → ValuesAt m c (t.val - 1) Y) :
    ValuesAt m c t.val (leftV (grid0.coords t) Y (dvAt m c t)) :=
  rowsAt_step (fun t => k0_pay4 (dvAt m c t)) (fun t v => k0_pay6 (dvAt m c t) v) t Y hY

theorem left_queries (c : Dev nD) (t : Fin cfg0.N) (Y : Vec F S4x64x512 .f32) :
    QueriesAt m c t.val (leftQ (grid0.coords t) Y (accAt m c (t.val / 8 * 8) (t.val % 8))) := fun h7 => by
  refine ⟨Y, ?_⟩
  unfold leftQ queryOut
  rw [if_pos ((cond5_iff t).mpr h7), h7]

/-! ## The body obligation -/

abbrev ms0 (t : Fin cfg0.N) : Memref sig .tc .vmem S4x64x512 .bf16 := win0_0.stage (cfg0.slots t 0)
abbrev ms1 (t : Fin cfg0.N) : Memref sig .tc .vmem S1x64x1024 .bf16 := win0_1.stage (cfg0.slots t 1)
abbrev ms2 (t : Fin cfg0.N) : Memref sig .tc .vmem S1x72x1024 .bf16 := win0_2.stage (cfg0.slots t 2)
abbrev ms3 (t : Fin cfg0.N) : Memref sig .tc .vmem S4x64x512 .bf16 := win0_3.stage (cfg0.slots t 3)
abbrev ms4 (t : Fin cfg0.N) : Memref sig .tc .vmem S4x64x512 .bf16 := win0_4.stage (cfg0.slots t 4)
abbrev ms5 (t : Fin cfg0.N) : Memref sig .tc .vmem S4x1x512 .f32 := win0_5.stage (cfg0.slots t 5)
abbrev ms6 (t : Fin cfg0.N) : Memref sig .tc .vmem S4x64x512 .f32 := win0_6.stage (cfg0.slots t 6)
abbrev ms7 (t : Fin cfg0.N) : Memref sig .tc .vmem S1x8192x64 .f32 := win0_7.stage (cfg0.slots t 7)
abbrev ms8 (t : Fin cfg0.N) : Memref sig .tc .vmem S1x8192x64 .f32 := win0_8.stage (cfg0.slots t 8)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ Y, ⌜((dats m 0 c).toRRel outs (Rl m c)).Finds 6 t Y⌝ ∗ owns (c : Thread nD τ) (ms6 t) fullShare Y)
    ∗ (∃ Y, ⌜((dats m 0 c).toRRel outs (Rl m c)).Finds 7 t Y⌝ ∗ owns (c : Thread nD τ) (ms7 t) fullShare Y)
    ∗ (∃ Y, ⌜((dats m 0 c).toRRel outs (Rl m c)).Finds 8 t Y⌝ ∗ owns (c : Thread nD τ) (ms8 t) fullShare Y))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (∃ X, ⌜Rl m c 6 t X⌝ ∗ owns (c : Thread nD τ) (ms6 t) fullShare X)
    ∗ (∃ X, ⌜Rl m c 7 t X⌝ ∗ owns (c : Thread nD τ) (ms7 t) fullShare X)
    ∗ (∃ X, ⌜Rl m c 8 t X⌝ ∗ owns (c : Thread nD τ) (ms8 t) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, after_0, after_1, after_2, after_3, after_4, after_5]
  rw [show (dats m 0 c).owesAt () t.succ = (dats m 0 c).owesAt () t.castSucc from rfl]
  rw [show (dats m 0 c).Φ t.succ = PhiN m c (t.val + 1) from rfl, show (dats m 0 c).Φ t.castSucc = PhiN m c t.val from rfl]
  unfold PhiN
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩, ⟨%Y8, %h8, H8⟩⟩
  iapply (body_triple c (grid0.coords t) _ _ _ _ _ _ _ _ _ _ _ _ _ _ _ _ _ _ _ _
    ((cond2_iff t).trans (not_congr (cond1_iff t)).symm) ((condB_iff t).trans (not_congr (condA_iff t)).symm)
    (in0 m c t) (in1 m c t) (in2 m c t) (in3 m c t) (in4 m c t) (in5 m c t) Y6 Y7 Y8 d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  have es := leftS_at m c t d hd
  isplitl [HS Hg]
  · isplitl [HS]
    · iexists (leftS (grid0.coords t) d (keyAt m c t) (dsAt m c t)); isplitr
      · ipureintro; rw [es]; exact acc_succ m c t
      · iexact HS
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists (leftQ (grid0.coords t) Y6 (leftS (grid0.coords t) d (keyAt m c t) (dsAt m c t))); isplitr
    · ipureintro; rw [es]; exact left_queries m c t Y6
    · iexact H6
  isplitl [H7]
  · iexists (leftK (grid0.coords t) Y7 (dkAt m c t)); isplitr
    · ipureintro; exact left_keys m c t Y7 (found_keys m c t Y7 h7)
    · iexact H7
  iexists (leftV (grid0.coords t) Y8 (dvAt m c t)); isplitr
  · ipureintro; exact left_values m c t Y8 (found_values m c t Y8 h8)
  · iexact H8

theorem defs_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ outs (Rl m c) := fun t => by
  rw [bigSep_W0, bigSep_W0, defs_row]
  exact triple_restated (sound_body m c t) rfl .rfl fun _ => .rfl

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem hin (c : Dev nD) : Pipeline.ΦA spec0 c ⊢ (dats m 0 c).Φ 0 := by
  rw [show (dats m 0 c).Φ 0 = PhiN m c 0 from rfl, PhiA_eq]
  unfold PhiN
  iintro ⟨⟨%d, HS⟩, Hg⟩
  isplitl [HS]
  · iexists d; isplitr
    · ipureintro; exact .inl rfl
    · iexact HS
  · iexact Hg

theorem hout (c : Dev nD) : (dats m 0 c).Φ (Fin.last cfg0.N) ⊢ Pipeline.ΦA spec0 c := by
  rw [show (dats m 0 c).Φ (Fin.last cfg0.N) = PhiN m c cfg0.N from rfl, PhiA_eq]
  unfold PhiN
  iintro ⟨⟨%d, %_, HS⟩, Hg⟩
  isplitl [HS]
  · iexists d; iexact HS
  · iexact Hg

/-! ## The run -/

/-- The proof data as the launch takes them. -/
def rdats (c : Dev nD) : RDat τ (Elt F) Unit ℕ (UR sig nD τ) ℕ cfg0 c := (dats m 0 c).toRRel outs (Rl m c)

set_option backward.isDefEq.respectTransparency.types false in
/-- Every run of the program ends with each result made of blocks that meet what is known after the point that writes them, every counter at zero. -/
theorem run_main : θ_run defs (onTc (τ := τ) (main (F := F))) (s₀ m ρ) (fun r => RDat.FramePost (cfgs 0) (rdats m) (V m) r ∧ r.2.sem = fun _ => 0) :=
  RDat.θ_run_frame_track_shared (Q' := _) cfgs (0 : Fin 1) launch₀0 defs₀ Variants.none (rdats m) m ρ main
    (hbody := fun c => (body_obligation m c).toRRel) (hq := fun _ _ _ => rfl)
    (howed := fun _ _ => rfl) (V := V m) (hmain := hmain m Variants.none) (hA := A_eq m) (hin := hin m) (hout := hout m)

end Cert.KernelIdeal.Hand

end
-- ==== Proof.Outs.lean ====
/- The backward kernel's run: its three results as arrays, its arguments unchanged. -/
module

public import proofs.«01_k».proof.Proof.Pipe
public import Idealize.ShloMosaic.Lib.Pipeline.ValueKit.Geometry
public import Idealize.ShloMosaic.Lib.Pointwise
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.Sem
open Idealize.ShloMosaic.Pipeline (Dat RDat)
open Idealize.ShloMosaic.VecWindow (window put)

variable {F : FTy → Type} [FloatOps F] [Named F]
variable (m : (ℓ : Loc nD τ sig) → Buf (Elt F) ℓ) (ρ : Dev nD → PrngReg)

/-- The queries' gradient: head `h = 4·g + r` and token `s` from the scratch of the run of points (g, s / 512), at lane `512·r + s % 512`. -/
def outQ (c : Dev nD) : Vec F S16x64x8192 .f32 := fun x =>
  accAt m c (128 * ((x 0).val / 4) + 8 * ((x 2).val / 512)) 7
    (ix2 (n0 := 64) (n1 := 2048) ⟨(x 1).val, (x 1).isLt⟩ ⟨512 * ((x 0).val % 4) + (x 2).val % 512, by omega⟩)

/-- An array of rows from its blocks. -/
def outRows (B : ℕ → ℕ → ℕ → Vec F S1x1024x64 .f32) : Vec F S4x8192x64 .f32 := fun x =>
  B (x 0).val ((x 1).val / 1024) 15 (ix3 (n0 := 1) (n1 := 1024) (n2 := 64) 0 ⟨(x 1).val % 1024, by omega⟩ ⟨(x 2).val, (x 2).isLt⟩)

theorem rowsAt_entry (a : Fin cfg0.N → Vec F S1x1024x64 .f32) (f : Fin cfg0.N → Vec F S1x1024x64 .f32 → Vec F S1x1024x64 .f32) (n : ℕ)
    (hn : n % 128 = 127) (X : Vec F S1x8192x64 .f32) (hX : RowsAt a f n X) (y0 : Fin 1) (y1 : Fin 8192) (y2 : Fin 64) :
    X (ix3 y0 y1 y2) = blkAt a f (n / 128) (y1.val / 1024) 15 (ix3 (n0 := 1) (n1 := 1024) (n2 := 64) 0 ⟨y1.val % 1024, by omega⟩ y2) := by
  have h := (hX (y1.val / 1024) (by omega)).1 (by omega)
  rw [show n / 8 % 16 = 15 by omega] at h
  rw [← h]
  unfold rowsOf window
  congr 1
  funext a
  apply Fin.ext
  match a with
  | ⟨0, _⟩ => show y0.val = 0 + 1 * 0; omega
  | ⟨1, _⟩ => show y1.val = 1024 * (y1.val / 1024) + 1 * (y1.val % 1024); omega
  | ⟨2, _⟩ => show y2.val = 0 + 1 * y2.val; omega

theorem put_entry (y : Vec F S4x64x512 .f32) (r : ℕ) (w : Vec F S1x64x512 .f32) (a0 : Fin 4) (a1 : Fin 64) (a2 : Fin 512) :
    put y ![r, 0, 0] S1x64x512.size w (ix3 a0 a1 a2) = if a0.val = r then w (ix3 (n0 := 1) (n1 := 64) (n2 := 512) 0 a1 a2) else y (ix3 a0 a1 a2) := by
  unfold put
  by_cases h : a0.val = r
  · have hin : ∀ a, (![r, 0, 0] : Fin 3 → ℕ) a ≤ ((ix3 a0 a1 a2 : S4x64x512.Idx) a).val ∧ ((ix3 a0 a1 a2 : S4x64x512.Idx) a).val < (![r, 0, 0] : Fin 3 → ℕ) a + S1x64x512.size a := by
      intro a
      match a with
      | ⟨0, _⟩ => show r ≤ a0.val ∧ a0.val < r + 1; omega
      | ⟨1, _⟩ => show 0 ≤ a1.val ∧ a1.val < 0 + 64; omega
      | ⟨2, _⟩ => show 0 ≤ a2.val ∧ a2.val < 0 + 512; omega
    rw [dif_pos hin, if_pos h]
    congr 1
    funext a
    apply Fin.ext
    match a with
    | ⟨0, _⟩ => show a0.val - r = 0; omega
    | ⟨1, _⟩ => show a1.val - 0 = a1.val; omega
    | ⟨2, _⟩ => show a2.val - 0 = a2.val; omega
  · rw [dif_neg, if_neg h]
    intro hin
    have := hin 0
    have e : (![r, 0, 0] : Fin 3 → ℕ) 0 ≤ a0.val ∧ a0.val < (![r, 0, 0] : Fin 3 → ℕ) 0 + 1 := this
    have e2 : r ≤ a0.val ∧ a0.val < r + 1 := e
    omega

theorem queryOut_entry (c : Dev nD) (b : ℕ) (y : Vec F S4x64x512 .f32) (a0 : Fin 4) (a1 : Fin 64) (a2 : Fin 512) :
    queryOut m c b y (ix3 a0 a1 a2) = accAt m c b 7 (ix2 (n0 := 64) (n1 := 2048) a1 ⟨512 * a0.val + a2.val, by omega⟩) := by
  unfold queryOut
  generalize accAt m c b 7 = A
  rw [put_entry, put_entry, put_entry, put_entry]
  have p9 : k0_pay9 A (ix3 (n0 := 1) (n1 := 64) (n2 := 512) 0 a1 a2) = A (ix2 (n0 := 64) (n1 := 2048) a1 ⟨a2.val, by omega⟩) := by pointwise [k0_pay9]
  have p10 : k0_pay10 A (ix3 (n0 := 1) (n1 := 64) (n2 := 512) 0 a1 a2) = A (ix2 (n0 := 64) (n1 := 2048) a1 ⟨512 + a2.val, by omega⟩) := by pointwise [k0_pay10]
  have p11 : k0_pay11 A (ix3 (n0 := 1) (n1 := 64) (n2 := 512) 0 a1 a2) = A (ix2 (n0 := 64) (n1 := 2048) a1 ⟨1024 + a2.val, by omega⟩) := by pointwise [k0_pay11]
  have p12 : k0_pay12 A (ix3 (n0 := 1) (n1 := 64) (n2 := 512) 0 a1 a2) = A (ix2 (n0 := 64) (n1 := 2048) a1 ⟨1536 + a2.val, by omega⟩) := by pointwise [k0_pay12]
  rw [p9, p10, p11, p12]
  have h4 := a0.isLt
  by_cases h3 : a0.val = 3
  · rw [if_pos h3]; congr 2; apply Fin.ext; show 1536 + a2.val = 512 * a0.val + a2.val; omega
  by_cases h2 : a0.val = 2
  · rw [if_neg h3, if_pos h2]; congr 2; apply Fin.ext; show 1024 + a2.val = 512 * a0.val + a2.val; omega
  by_cases h1 : a0.val = 1
  · rw [if_neg h3, if_neg h2, if_pos h1]; congr 2; apply Fin.ext; show 512 + a2.val = 512 * a0.val + a2.val; omega
  · rw [if_neg h3, if_neg h2, if_neg h1, if_pos (by omega)]; congr 2; apply Fin.ext; show a2.val = 512 * a0.val + a2.val; omega

theorem idx6_0 : ∀ t : Fin cfg0.N, win0_6.index t 0 = t.val / 128 := by
  exact (by decide +kernel : ∀ t : Fin grid0.N, win0_6.index t 0 = t.val / 128)
theorem idx6_1 : ∀ t : Fin cfg0.N, win0_6.index t 1 = 0 := by
  exact (by decide +kernel : ∀ t : Fin grid0.N, win0_6.index t 1 = 0)
theorem idx6_2 : ∀ t : Fin cfg0.N, win0_6.index t 2 = t.val / 8 % 16 := by
  exact (by decide +kernel : ∀ t : Fin grid0.N, win0_6.index t 2 = t.val / 8 % 16)
theorem idx7_0 : ∀ t : Fin cfg0.N, win0_7.index t 0 = t.val / 128 := by
  exact (by decide +kernel : ∀ t : Fin grid0.N, win0_7.index t 0 = t.val / 128)
theorem idx7_1 : ∀ t : Fin cfg0.N, win0_7.index t 1 = 0 := by
  exact (by decide +kernel : ∀ t : Fin grid0.N, win0_7.index t 1 = 0)
theorem idx7_2 : ∀ t : Fin cfg0.N, win0_7.index t 2 = 0 := by
  exact (by decide +kernel : ∀ t : Fin grid0.N, win0_7.index t 2 = 0)
theorem idx8_0 : ∀ t : Fin cfg0.N, win0_8.index t 0 = t.val / 128 := by
  exact (by decide +kernel : ∀ t : Fin grid0.N, win0_8.index t 0 = t.val / 128)
theorem idx8_1 : ∀ t : Fin cfg0.N, win0_8.index t 1 = 0 := by
  exact (by decide +kernel : ∀ t : Fin grid0.N, win0_8.index t 1 = 0)
theorem idx8_2 : ∀ t : Fin cfg0.N, win0_8.index t 2 = 0 := by
  exact (by decide +kernel : ∀ t : Fin grid0.N, win0_8.index t 2 = 0)

theorem final_rows7 {c : Dev nD} (dat : Dat τ (Elt F) Unit ℕ (UR sig nD τ) ℕ cfg0 c)
    (a : Fin cfg0.N → Vec F S1x1024x64 .f32) (f : Fin cfg0.N → Vec F S1x1024x64 .f32 → Vec F S1x1024x64 .f32)
    (h : ∀ t : Fin cfg0.N, (cfg0.win 7).flush t = true → RowsAt a f t.val (dat.after 7 t)) : dat.arrAt 7 cfg0.N = outRows (blkAt a f) := by
  refine dat.arrAt_eq_of_covers 7 _ (by decide +kernel) fun t hf y => ?_
  have hx := h t hf
  have h127 := (flush0_7 t).mp hf
  have e := rowsAt_entry a f t.val h127 (dat.after 7 t) hx (y 0) (y 1) (y 2)
  refine Eq.trans (b := (dat.after 7 t : Vec F S1x8192x64 .f32) (ix3 (n0 := 1) (n1 := 8192) (n2 := 64) (y 0) (y 1) (y 2))) ?_ ?_
  · show (dat.after 7 t : Vec F S1x8192x64 .f32) y = _
    congr 1
    exact eq_ix3 (n0 := 1) (n1 := 8192) (n2 := 64) y
  · rw [e]
    have hy0 : (y 0).val = 0 := by have h0 := (y 0).isLt; have h1 : (y 0).val < 1 := h0; omega
    have c0 : ((((cfg0.win 7).blk t).view.emb y) 0).val = t.val / 128 := by
      show ((win0_7.rect t).emb y 0 : ℕ) = _
      rw [Pipeline.Window.rect_emb_val win0_7 t y 0, idx7_0 t]
      show t.val / 128 * 1 + (y 0).val = _; omega
    have c1 : ((((cfg0.win 7).blk t).view.emb y) 1).val = (y 1).val := by
      show ((win0_7.rect t).emb y 1 : ℕ) = _
      rw [Pipeline.Window.rect_emb_val_of_index_zero _ _ _ (idx7_1 t)]
    have c2 : ((((cfg0.win 7).blk t).view.emb y) 2).val = (y 2).val := by
      show ((win0_7.rect t).emb y 2 : ℕ) = _
      rw [Pipeline.Window.rect_emb_val_of_index_zero _ _ _ (idx7_2 t)]
    unfold outRows
    simp only [c0, c1, c2]
    rfl

theorem final_rows8 {c : Dev nD} (dat : Dat τ (Elt F) Unit ℕ (UR sig nD τ) ℕ cfg0 c)
    (a : Fin cfg0.N → Vec F S1x1024x64 .f32) (f : Fin cfg0.N → Vec F S1x1024x64 .f32 → Vec F S1x1024x64 .f32)
    (h : ∀ t : Fin cfg0.N, (cfg0.win 8).flush t = true → RowsAt a f t.val (dat.after 8 t)) : dat.arrAt 8 cfg0.N = outRows (blkAt a f) := by
  refine dat.arrAt_eq_of_covers 8 _ (by decide +kernel) fun t hf y => ?_
  have hx := h t hf
  have h127 := (flush0_8 t).mp hf
  have e := rowsAt_entry a f t.val h127 (dat.after 8 t) hx (y 0) (y 1) (y 2)
  refine Eq.trans (b := (dat.after 8 t : Vec F S1x8192x64 .f32) (ix3 (n0 := 1) (n1 := 8192) (n2 := 64) (y 0) (y 1) (y 2))) ?_ ?_
  · show (dat.after 8 t : Vec F S1x8192x64 .f32) y = _
    congr 1
    exact eq_ix3 (n0 := 1) (n1 := 8192) (n2 := 64) y
  · rw [e]
    have hy0 : (y 0).val = 0 := by have h0 := (y 0).isLt; have h1 : (y 0).val < 1 := h0; omega
    have c0 : ((((cfg0.win 8).blk t).view.emb y) 0).val = t.val / 128 := by
      show ((win0_8.rect t).emb y 0 : ℕ) = _
      rw [Pipeline.Window.rect_emb_val win0_8 t y 0, idx8_0 t]
      show t.val / 128 * 1 + (y 0).val = _; omega
    have c1 : ((((cfg0.win 8).blk t).view.emb y) 1).val = (y 1).val := by
      show ((win0_8.rect t).emb y 1 : ℕ) = _
      rw [Pipeline.Window.rect_emb_val_of_index_zero _ _ _ (idx8_1 t)]
    have c2 : ((((cfg0.win 8).blk t).view.emb y) 2).val = (y 2).val := by
      show ((win0_8.rect t).emb y 2 : ℕ) = _
      rw [Pipeline.Window.rect_emb_val_of_index_zero _ _ _ (idx8_2 t)]
    unfold outRows
    simp only [c0, c1, c2]
    rfl

theorem final_queries {c : Dev nD} (dat : Dat τ (Elt F) Unit ℕ (UR sig nD τ) ℕ cfg0 c)
    (h : ∀ t : Fin cfg0.N, (cfg0.win 6).flush t = true → QueriesAt m c t.val (dat.after 6 t)) : dat.arrAt 6 cfg0.N = outQ m c := by
  refine dat.arrAt_eq_of_covers 6 _ (by decide +kernel) fun t hf y => ?_
  have ht : t.val < 512 := Nat.lt_of_lt_of_eq t.isLt N_0
  have h7 := (flush0_6 t).mp hf
  obtain ⟨z, hz⟩ := h t hf h7
  have e := queryOut_entry m c (t.val / 8 * 8) z (y 0) (y 1) (y 2)
  refine Eq.trans (b := (dat.after 6 t : Vec F S4x64x512 .f32) (ix3 (n0 := 4) (n1 := 64) (n2 := 512) (y 0) (y 1) (y 2))) ?_ ?_
  · show (dat.after 6 t : Vec F S4x64x512 .f32) y = _
    congr 1
    exact eq_ix3 (n0 := 4) (n1 := 64) (n2 := 512) y
  · rw [hz, e]
    have hy0 : (y 0).val < 4 := (y 0).isLt
    have hy2 : (y 2).val < 512 := (y 2).isLt
    have c0 : ((((cfg0.win 6).blk t).view.emb y) 0).val = 4 * (t.val / 128) + (y 0).val := by
      show ((win0_6.rect t).emb y 0 : ℕ) = _
      rw [Pipeline.Window.rect_emb_val win0_6 t y 0, idx6_0 t]
      show t.val / 128 * 4 + (y 0).val = _; omega
    have c1 : ((((cfg0.win 6).blk t).view.emb y) 1).val = (y 1).val := by
      show ((win0_6.rect t).emb y 1 : ℕ) = _
      rw [Pipeline.Window.rect_emb_val_of_index_zero _ _ _ (idx6_1 t)]
    have c2 : ((((cfg0.win 6).blk t).view.emb y) 2).val = 512 * (t.val / 8 % 16) + (y 2).val := by
      show ((win0_6.rect t).emb y 2 : ℕ) = _
      rw [Pipeline.Window.rect_emb_val win0_6 t y 2, idx6_2 t]
      show t.val / 8 % 16 * 512 + (y 2).val = _; omega
    unfold outQ
    simp only [c0, c1, c2]
    have e1 : t.val / 8 * 8 = 128 * ((4 * (t.val / 128) + (y 0).val) / 4) + 8 * ((512 * (t.val / 8 % 16) + (y 2).val) / 512) := by omega
    rw [← e1]
    congr 2
    apply Fin.ext
    show 512 * (y 0).val + (y 2).val = 512 * ((4 * (t.val / 128) + (y 0).val) % 4) + (512 * (t.val / 8 % 16) + (y 2).val) % 512
    omega

/-- What every run ends in: the results, the arguments as they were, every counter at zero. -/
theorem run_results [∀ e, Nonempty (Elt F e)] : θ_run defs (onTc (τ := τ) (main (F := F))) ⟨m, fun _ => 0, ρ⟩ (fun r =>
    (∀ c : Dev nD, r.2.mem ((c.tc : Thread nD τ).loc main_v38_0) = outQ m c
      ∧ r.2.mem ((c.tc : Thread nD τ).loc main_v38_1) = outRows (keyRows m c)
      ∧ r.2.mem ((c.tc : Thread nD τ).loc main_v38_2) = outRows (valueRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => by
    obtain ⟨after, hl, ha⟩ := RDat.FramePost.exists_exact h.1 c
    have hk : ∀ (w : Fin cfg0.W), outs w = true → ∀ u : Fin cfg0.N, (cfg0.win w).flush u = true → Rl m c w u (after w u) := fun w hw u hf =>
      Pipeline.Dat.toRRel_leaves _ hw (hl w u hf)
    refine ⟨(ha 6).trans (final_queries m _ fun t hf => hk 6 rfl t hf),
      (ha 7).trans (final_rows7 _ _ _ fun t hf => hk 7 rfl t hf),
      (ha 8).trans (final_rows8 _ _ _ fun t hf => hk 8 rfl t hf),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Hand

end
-- ==== Proof.Block.lean ====
/- One point's shares of the gradients, entry by entry, at exact arithmetic. -/
module

public import proofs.«01_k».proof.Proof.Pipe
public import Idealize.ShloMosaic.Lib.Pointwise

@[expose] public section

set_option maxRecDepth 16384

noncomputable section

namespace Cert.KernelIdeal.Hand

open Cert.KernelIdeal.Gen
open Idealize.ShloMosaic Idealize.ShloMosaic.TcCoe
open Idealize.ShloMosaic.VecWindow (window put)

/-- Lane `512·r + s`: token `s` of head `r`. -/
abbrev lane (r : Fin 4) (s : Fin 512) : Fin 2048 := ⟨512 * r.val + s.val, by omega⟩

/-- A sum over the lanes is one over heads and tokens. -/
theorem sum_lanes {M : Type*} [AddCommMonoid M] (f : Fin 2048 → M) : ∑ n, f n = ∑ r : Fin 4, ∑ s : Fin 512, f (lane r s) := by
  rw [Fin.sum_univ_tiles 4 512 rfl f]
  refine Finset.sum_congr rfl fun r _ => Finset.sum_congr rfl fun s _ => ?_
  congr 1
  apply Fin.ext
  show r.val * 512 + s.val = 512 * r.val + s.val
  omega

theorem window_head {e : EltTy} (x : Vec Ideal S4x64x512 e) (n : ℕ) (h) (k : Fin 4) (hk : k.val = n) (d : Fin 64) (s : Fin 512) :
    window x ![n, 0, 0] S1x64x512.size h (ix3 (n0 := 1) (n1 := 64) (n2 := 512) 0 d s) = x (ix3 k d s) := by
  unfold window
  congr 1
  funext a
  apply Fin.ext
  match a with
  | ⟨0, _⟩ => show n + 1 * 0 = k.val; omega
  | ⟨1, _⟩ => show 0 + 1 * d.val = d.val; omega
  | ⟨2, _⟩ => show 0 + 1 * s.val = s.val; omega

theorem window_lane (x : Vec Ideal S4x1x512 .f32) (n : ℕ) (h) (k : Fin 4) (hk : k.val = n) (s : Fin 512) :
    window x ![n, 0, 0] S1x1x512.size h (ix3 (n0 := 1) (n1 := 1) (n2 := 512) 0 0 s) = x (ix3 (n0 := 4) (n1 := 1) (n2 := 512) k 0 s) := by
  unfold window
  congr 1
  funext a
  apply Fin.ext
  match a with
  | ⟨0, _⟩ => show n + 1 * 0 = k.val; omega
  | ⟨1, _⟩ => show 0 + 1 * 0 = 0; omega
  | ⟨2, _⟩ => show 0 + 1 * s.val = s.val; omega

theorem valRows_entry (x : Vec Ideal S1x72x1024 .bf16) (d : Fin 64) (t : Fin 1024) :
    valRows x (ix3 (n0 := 1) (n1 := 64) (n2 := 1024) 0 d t) = x (ix3 (n0 := 1) (n1 := 72) (n2 := 1024) 0 ⟨d.val, by omega⟩ t) := by
  unfold valRows window
  congr 1
  funext a
  apply Fin.ext
  match a with
  | ⟨0, _⟩ => show 0 + 1 * 0 = 0; omega
  | ⟨1, _⟩ => show 0 + 1 * d.val = d.val; omega
  | ⟨2, _⟩ => show 0 + 1 * t.val = t.val; omega

theorem cat4_entry (a b c e : FVec Ideal S1x64x512 .bf16) (r : Fin 4) (d : Fin 64) (s : Fin 512) :
    k0_pay13 a b c e (ix2 (n0 := 64) (n1 := 2048) d (lane r s))
      = (![a, b, c, e] r) (ix3 (n0 := 1) (n1 := 64) (n2 := 512) 0 d s) := by
  have hs := s.isLt
  fin_cases r
  · pointwise [k0_pay13]
  · pointwise [k0_pay13]
  · pointwise [k0_pay13]
    rw [dif_neg (by omega), dif_neg (by omega), dif_pos (by omega)]
    congr 2
    apply Fin.ext
    show 1024 + s.val - 512 - 512 = s.val
    omega
  · pointwise [k0_pay13]
    rw [dif_neg (by omega), dif_neg (by omega), dif_neg (by omega)]
    congr 2
    apply Fin.ext
    show 1536 + s.val - 512 - 512 - 512 = s.val
    omega

theorem qAll_entry (x : FVec Ideal S4x64x512 .bf16) (r : Fin 4) (d : Fin 64) (s : Fin 512) :
    qAll x (ix2 (n0 := 64) (n1 := 2048) d (lane r s)) = x (ix3 r d s) := by
  unfold qAll
  rw [cat4_entry]
  fin_cases r
  · exact window_head (e := .bf16) x 0 _ 0 rfl d s
  · exact window_head (e := .bf16) x 1 _ 1 rfl d s
  · exact window_head (e := .bf16) x 2 _ 2 rfl d s
  · exact window_head (e := .bf16) x 3 _ 3 rfl d s

theorem doAll_entry (x : FVec Ideal S4x64x512 .bf16) (r : Fin 4) (d : Fin 64) (s : Fin 512) :
    doAll x (ix2 (n0 := 64) (n1 := 2048) d (lane r s)) = x (ix3 r d s) := qAll_entry x r d s

/-- The four rows side by side. -/
theorem rows_entry (x : FVec Ideal S4x1x512 .f32) (n : Fin 2048) (r : Fin 4) (s : Fin 512) (hn : n.val = 512 * r.val + s.val) :
    (if h : n.val < 512 then lane0 (F := Ideal) x (ix3 (n0 := 1) (n1 := 1) (n2 := 512) 0 0 ⟨n.val, h⟩)
      else if h : n.val - 512 < 512 then lane1 (F := Ideal) x (ix3 (n0 := 1) (n1 := 1) (n2 := 512) 0 0 ⟨n.val - 512, h⟩)
      else if h : n.val - 512 - 512 < 512 then lane2 (F := Ideal) x (ix3 (n0 := 1) (n1 := 1) (n2 := 512) 0 0 ⟨n.val - 512 - 512, h⟩)
      else lane3 (F := Ideal) x (ix3 (n0 := 1) (n1 := 1) (n2 := 512) 0 0 ⟨n.val - 512 - 512 - 512, by omega⟩)) = (x (ix3 (n0 := 4) (n1 := 1) (n2 := 512) r 0 s) : Ideal .f32) := by
  have hs := s.isLt
  fin_cases r
  · have hn : n.val = 512 * 0 + s.val := hn
    rw [dif_pos (by omega)]
    refine (window_lane x 0 _ 0 rfl _).trans (congrArg x (congrArg (ix3 0 0) (Fin.ext ?_)))
    show n.val = s.val; omega
  · have hn : n.val = 512 * 1 + s.val := hn
    rw [dif_neg (by omega), dif_pos (by omega)]
    refine (window_lane x 1 _ 1 rfl _).trans (congrArg x (congrArg (ix3 1 0) (Fin.ext ?_)))
    show n.val - 512 = s.val; omega
  · have hn : n.val = 512 * 2 + s.val := hn
    rw [dif_neg (by omega), dif_neg (by omega), dif_pos (by omega)]
    refine (window_lane x 2 _ 2 rfl _).trans (congrArg x (congrArg (ix3 2 0) (Fin.ext ?_)))
    show n.val - 512 - 512 = s.val; omega
  · have hn : n.val = 512 * 3 + s.val := hn
    rw [dif_neg (by omega), dif_neg (by omega), dif_neg (by omega)]
    refine (window_lane x 3 _ 3 rfl _).trans (congrArg x (congrArg (ix3 3 0) (Fin.ext ?_)))
    show n.val - 512 - 512 - 512 = s.val; omega

/-- The weight of key `t` at token `s` of head `r`. -/
def wgt (x0 : FVec Ideal S4x64x512 .bf16) (x1 : FVec Ideal S1x64x1024 .bf16) (x5 : FVec Ideal S4x1x512 .f32) (t : Fin 1024) (r : Fin 4) (s : Fin 512) : EReal :=
  Ideal.exp2 ((∑ d : Fin 64, x1 (ix3 (n0 := 1) 0 d t) * x0 (ix3 r d s)) - x5 (ix3 (n0 := 4) (n1 := 1) (n2 := 512) r 0 s))

/-- The cotangent of that weight, less the token's mean. -/
def cot (x2 : FVec Ideal S1x72x1024 .bf16) (x3 x4 : FVec Ideal S4x64x512 .bf16) (t : Fin 1024) (r : Fin 4) (s : Fin 512) : EReal :=
  (∑ d : Fin 64, x2 (ix3 (n0 := 1) (n1 := 72) (n2 := 1024) 0 ⟨d.val, by omega⟩ t) * x3 (ix3 r d s)) - ∑ d : Fin 64, x3 (ix3 r d s) * x4 (ix3 r d s)

theorem wgt_entry (x0 : FVec Ideal S4x64x512 .bf16) (x1 : FVec Ideal S1x64x1024 .bf16) (x5 : FVec Ideal S4x1x512 .f32) (t : Fin 1024) (r : Fin 4) (s : Fin 512) :
    k0_pay19 (F := Ideal) (qAll x0) x1 (lane0 (F := Ideal) x5) (lane1 (F := Ideal) x5) (lane2 (F := Ideal) x5) (lane3 (F := Ideal) x5) (ix2 (n0 := 1024) (n1 := 2048) t (lane r s)) = wgt x0 x1 x5 t r s := by
  have e : ∀ n : Fin 2048, n = lane r s → k0_pay19 (F := Ideal) (qAll x0) x1 (lane0 (F := Ideal) x5) (lane1 (F := Ideal) x5) (lane2 (F := Ideal) x5) (lane3 (F := Ideal) x5) (ix2 (n0 := 1024) (n1 := 2048) t n) = wgt x0 x1 x5 t r s := by
    intro n hn
    pointwise [k0_pay19, k0_pay18]
    rw [rows_entry x5 n r s (by rw [hn]), hn]
    unfold wgt
    refine congrArg (fun z => Ideal.exp2 (z - _)) (Finset.sum_congr rfl fun d _ => ?_)
    rw [qAll_entry]
  exact e _ rfl

theorem dvPart_entry (x0 : FVec Ideal S4x64x512 .bf16) (x1 : FVec Ideal S1x64x1024 .bf16) (x3 : FVec Ideal S4x64x512 .bf16) (x5 : FVec Ideal S4x1x512 .f32)
    (t : Fin 1024) (d : Fin 64) :
    dvPart (F := Ideal) x0 x1 x3 x5 (ix2 t d) = ∑ r : Fin 4, ∑ s : Fin 512, wgt x0 x1 x5 t r s * x3 (ix3 r d s) := by
  unfold dvPart
  pointwise [k0_pay20]
  rw [sum_lanes]
  refine Finset.sum_congr rfl fun r _ => Finset.sum_congr rfl fun s _ => ?_
  rw [wgt_entry, doAll_entry]

/-- The scores' gradient from the weights `P` and the other operands. -/
def dsCore (P : FVec Ideal S1024x2048 .f32) (C : FVec Ideal S64x2048 .bf16) (D : FVec Ideal S64x2048 .bf16) (v34 : FVec Ideal S1x64x1024 .bf16) : FVec Ideal S1024x2048 .bf16 :=
  truncf .bf16 (mulf P (subf (matmul dot_S64x1024_S64x2048_S1024x2048_0_0_1_1_n_n none (shapeCast S64x1024 v34 shapeCasts_S1x64x1024_S64x1024) D (constant S1024x2048 .f32 0x00000000#32))
    (broadcastTo S1024x2048 (shapeCast S1x2048 (multiReduction .add [0] S2048 (mulf (extf .f32 D bitsLt_bf16_f32) (extf .f32 C bitsLt_bf16_f32)) 0x00000000#32 reduces_S64x2048_S2048 (.inl rfl) rfl) shapeCasts_S2048_S1x2048) broadcasts_S1x2048_S1024x2048))) bitsLt_bf16_f32

theorem dsCore_entry (P : FVec Ideal S1024x2048 .f32) (C : FVec Ideal S64x2048 .bf16) (D : FVec Ideal S64x2048 .bf16) (v34 : FVec Ideal S1x64x1024 .bf16) (t : Fin 1024) (n : Fin 2048) :
    dsCore P C D v34 (ix2 t n) = P (ix2 t n) * ((∑ d : Fin 64, v34 (ix3 (n0 := 1) 0 d t) * D (ix2 d n)) - ∑ d : Fin 64, D (ix2 d n) * C (ix2 d n)) := by
  pointwise [dsCore]

theorem dsPart_eq (x0 : FVec Ideal S4x64x512 .bf16) (x1 : FVec Ideal S1x64x1024 .bf16) (x2 : FVec Ideal S1x72x1024 .bf16) (x3 x4 : FVec Ideal S4x64x512 .bf16) (x5 : FVec Ideal S4x1x512 .f32) :
    dsPart (F := Ideal) x0 x1 x2 x3 x4 x5
      = dsCore (k0_pay19 (F := Ideal) (qAll x0) x1 (lane0 x5) (lane1 x5) (lane2 x5) (lane3 x5)) (doAll x4) (doAll x3) (valRows (F := Ideal) x2) := rfl

theorem dsPart_entry (x0 : FVec Ideal S4x64x512 .bf16) (x1 : FVec Ideal S1x64x1024 .bf16) (x2 : FVec Ideal S1x72x1024 .bf16) (x3 x4 : FVec Ideal S4x64x512 .bf16) (x5 : FVec Ideal S4x1x512 .f32)
    (t : Fin 1024) (r : Fin 4) (s : Fin 512) :
    dsPart (F := Ideal) x0 x1 x2 x3 x4 x5 (ix2 (n0 := 1024) (n1 := 2048) t (lane r s)) = wgt x0 x1 x5 t r s * cot x2 x3 x4 t r s := by
  rw [dsPart_eq, dsCore_entry, wgt_entry]
  unfold cot
  refine congrArg (fun z => wgt x0 x1 x5 t r s * z) (congrArg₂ (· - ·) ?_ ?_)
  · refine Finset.sum_congr rfl fun d _ => ?_
    rw [doAll_entry, valRows_entry]
  · refine Finset.sum_congr rfl fun d _ => ?_
    rw [doAll_entry, doAll_entry]

theorem dkPart_entry (x0 : FVec Ideal S4x64x512 .bf16) (x1 : FVec Ideal S1x64x1024 .bf16) (x2 : FVec Ideal S1x72x1024 .bf16) (x3 x4 : FVec Ideal S4x64x512 .bf16) (x5 : FVec Ideal S4x1x512 .f32)
    (t : Fin 1024) (d : Fin 64) :
    dkPart (F := Ideal) x0 x1 x2 x3 x4 x5 (ix2 t d) = ∑ r : Fin 4, ∑ s : Fin 512, wgt x0 x1 x5 t r s * cot x2 x3 x4 t r s * x0 (ix3 r d s) := by
  have e : dkPart (F := Ideal) x0 x1 x2 x3 x4 x5 (ix2 t d) = ∑ n : Fin 2048, dsPart (F := Ideal) x0 x1 x2 x3 x4 x5 (ix2 t n) * qAll x0 (ix2 d n) := by
    show k0_pay22 (F := Ideal) _ _ _ _ _ _ _ _ _ _ _ _ _ (ix2 t d) = _
    unfold k0_pay22
    change matmul dot_S1024x2048_S64x2048_S1024x64_1_1_0_0_n_n none (dsPart (F := Ideal) x0 x1 x2 x3 x4 x5) (qAll (F := Ideal) x0) (constant S1024x64 .f32 0x00000000#32) (ix2 t d) = _
    generalize dsPart (F := Ideal) x0 x1 x2 x3 x4 x5 = A
    generalize qAll (F := Ideal) x0 = B
    pointwise []
  rw [e, sum_lanes]
  refine Finset.sum_congr rfl fun r _ => Finset.sum_congr rfl fun s _ => ?_
  rw [dsPart_entry, qAll_entry]

end Cert.KernelIdeal.Hand

end
-- ==== Proof.Arrays.lean ====
/- The backward kernel's results as sums over the arrays it is called with, at exact arithmetic. -/
module

public import proofs.«01_k».proof.Proof.Block
public import proofs.«01_k».proof.Proof.Outs

@[expose] public section

set_option maxRecDepth 16384

noncomputable section

namespace Cert.KernelIdeal.Hand

open Cert.KernelIdeal.Gen
open Idealize.ShloMosaic Idealize.ShloMosaic.TcCoe
open Idealize.ShloMosaic.VecWindow (window put)

variable (m : (ℓ : Loc nD τ sig) → Buf (Elt Ideal) ℓ)

/-! ## The arrays the kernel is called with -/

/-- Queries and keys; values and ones; the output's cotangent; the output; the logarithms of the sums. -/
def aQK (c : Dev nD) : FVec Ideal S20x64x8192 .bf16 := V m c main_v7
def aV (c : Dev nD) : FVec Ideal S4x72x8192 .bf16 := V m c main_v11
def aDo (c : Dev nD) : FVec Ideal S16x64x8192 .bf16 := V m c main_v14
def aO (c : Dev nD) : FVec Ideal S16x64x8192 .bf16 := V m c main_v37
def aL (c : Dev nD) : FVec Ideal S16x1x8192 .f32 := V m c main_v31

/-- Query head `r` of key head `g`; its place after the query heads; token `s` of query block `i`; key `t` of key block `j`. -/
abbrev hd (g r : Fin 4) : Fin 16 := ⟨4 * g.val + r.val, by omega⟩
abbrev qh (g r : Fin 4) : Fin 20 := ⟨4 * g.val + r.val, by omega⟩
abbrev kh (g : Fin 4) : Fin 20 := ⟨16 + g.val, by omega⟩
abbrev qtok (i : Fin 16) (s : Fin 512) : Fin 8192 := ⟨512 * i.val + s.val, by omega⟩
abbrev ktok (j : Fin 8) (t : Fin 1024) : Fin 8192 := ⟨1024 * j.val + t.val, by omega⟩
abbrev point (g : Fin 4) (i : Fin 16) (j : Fin 8) : Fin cfg0.N := pt (128 * g.val + 8 * i.val + j.val)

theorem point_val (g : Fin 4) (i : Fin 16) (j : Fin 8) : (point g i j).val = 128 * g.val + 8 * i.val + j.val := by
  show (128 * g.val + 8 * i.val + j.val) % 512 = _
  omega

theorem sum_qtok {M : Type*} [AddCommMonoid M] (f : Fin 8192 → M) : ∑ n, f n = ∑ i : Fin 16, ∑ s : Fin 512, f (qtok i s) := by
  rw [Fin.sum_univ_tiles 16 512 rfl f]
  refine Finset.sum_congr rfl fun r _ => Finset.sum_congr rfl fun s _ => congrArg f (Fin.ext ?_)
  show r.val * 512 + s.val = 512 * r.val + s.val
  omega

theorem sum_ktok {M : Type*} [AddCommMonoid M] (f : Fin 8192 → M) : ∑ n, f n = ∑ i : Fin 8, ∑ s : Fin 1024, f (ktok i s) := by
  rw [Fin.sum_univ_tiles 8 1024 rfl f]
  refine Finset.sum_congr rfl fun r _ => Finset.sum_congr rfl fun s _ => congrArg f (Fin.ext ?_)
  show r.val * 1024 + s.val = 1024 * r.val + s.val
  omega

/-! ## The blocks -/

theorem idx0_0 : ∀ t : Fin cfg0.N, win0_0.index t 0 = t.val / 128 := by
  exact (by decide +kernel : ∀ t : Fin grid0.N, win0_0.index t 0 = t.val / 128)
theorem idx0_1 : ∀ t : Fin cfg0.N, win0_0.index t 1 = 0 := by
  exact (by decide +kernel : ∀ t : Fin grid0.N, win0_0.index t 1 = 0)
theorem idx0_2 : ∀ t : Fin cfg0.N, win0_0.index t 2 = t.val / 8 % 16 := by
  exact (by decide +kernel : ∀ t : Fin grid0.N, win0_0.index t 2 = t.val / 8 % 16)
theorem idx1_0 : ∀ t : Fin cfg0.N, win0_1.index t 0 = 16 + t.val / 128 := by
  exact (by decide +kernel : ∀ t : Fin grid0.N, win0_1.index t 0 = 16 + t.val / 128)
theorem idx1_1 : ∀ t : Fin cfg0.N, win0_1.index t 1 = 0 := by
  exact (by decide +kernel : ∀ t : Fin grid0.N, win0_1.index t 1 = 0)
theorem idx1_2 : ∀ t : Fin cfg0.N, win0_1.index t 2 = t.val % 8 := by
  exact (by decide +kernel : ∀ t : Fin grid0.N, win0_1.index t 2 = t.val % 8)
theorem idx2_0 : ∀ t : Fin cfg0.N, win0_2.index t 0 = t.val / 128 := by
  exact (by decide +kernel : ∀ t : Fin grid0.N, win0_2.index t 0 = t.val / 128)
theorem idx2_1 : ∀ t : Fin cfg0.N, win0_2.index t 1 = 0 := by
  exact (by decide +kernel : ∀ t : Fin grid0.N, win0_2.index t 1 = 0)
theorem idx2_2 : ∀ t : Fin cfg0.N, win0_2.index t 2 = t.val % 8 := by
  exact (by decide +kernel : ∀ t : Fin grid0.N, win0_2.index t 2 = t.val % 8)
theorem idx3_0 : ∀ t : Fin cfg0.N, win0_3.index t 0 = t.val / 128 := by
  exact (by decide +kernel : ∀ t : Fin grid0.N, win0_3.index t 0 = t.val / 128)
theorem idx3_1 : ∀ t : Fin cfg0.N, win0_3.index t 1 = 0 := by
  exact (by decide +kernel : ∀ t : Fin grid0.N, win0_3.index t 1 = 0)
theorem idx3_2 : ∀ t : Fin cfg0.N, win0_3.index t 2 = t.val / 8 % 16 := by
  exact (by decide +kernel : ∀ t : Fin grid0.N, win0_3.index t 2 = t.val / 8 % 16)
theorem idx4_0 : ∀ t : Fin cfg0.N, win0_4.index t 0 = t.val / 128 := by
  exact (by decide +kernel : ∀ t : Fin grid0.N, win0_4.index t 0 = t.val / 128)
theorem idx4_1 : ∀ t : Fin cfg0.N, win0_4.index t 1 = 0 := by
  exact (by decide +kernel : ∀ t : Fin grid0.N, win0_4.index t 1 = 0)
theorem idx4_2 : ∀ t : Fin cfg0.N, win0_4.index t 2 = t.val / 8 % 16 := by
  exact (by decide +kernel : ∀ t : Fin grid0.N, win0_4.index t 2 = t.val / 8 % 16)
theorem idx5_0 : ∀ t : Fin cfg0.N, win0_5.index t 0 = t.val / 128 := by
  exact (by decide +kernel : ∀ t : Fin grid0.N, win0_5.index t 0 = t.val / 128)
theorem idx5_1 : ∀ t : Fin cfg0.N, win0_5.index t 1 = 0 := by
  exact (by decide +kernel : ∀ t : Fin grid0.N, win0_5.index t 1 = 0)
theorem idx5_2 : ∀ t : Fin cfg0.N, win0_5.index t 2 = t.val / 8 % 16 := by
  exact (by decide +kernel : ∀ t : Fin grid0.N, win0_5.index t 2 = t.val / 8 % 16)

variable (c : Dev nD) (g : Fin 4) (i : Fin 16) (j : Fin 8)

theorem in0_entry (r : Fin 4) (d : Fin 64) (s : Fin 512) :
    (in0 m c (point g i j) (ix3 r d s) : EReal) = aQK m c (ix3 (qh g r) d (qtok i s)) := by
  have hp := point_val g i j
  show V m c main_v7 (((cfg0.win 0).blk (point g i j)).view.emb (ix3 r d s)) = V m c main_v7 _
  congr 1
  funext a
  apply Fin.ext
  match a with
  | ⟨0, _⟩ =>
    show ((win0_0.rect (point g i j)).emb (ix3 r d s) 0 : ℕ) = 4 * g.val + r.val
    rw [Pipeline.Window.rect_emb_val win0_0 (point g i j) (ix3 r d s) 0, idx0_0, hp]
    show (128 * g.val + 8 * i.val + j.val) / 128 * 4 + r.val = _; omega
  | ⟨1, _⟩ =>
    show ((win0_0.rect (point g i j)).emb (ix3 r d s) 1 : ℕ) = d.val
    rw [Pipeline.Window.rect_emb_val_of_index_zero _ _ _ (idx0_1 _)]
    rfl
  | ⟨2, _⟩ =>
    show ((win0_0.rect (point g i j)).emb (ix3 r d s) 2 : ℕ) = 512 * i.val + s.val
    rw [Pipeline.Window.rect_emb_val win0_0 (point g i j) (ix3 r d s) 2, idx0_2, hp]
    show (128 * g.val + 8 * i.val + j.val) / 8 % 16 * 512 + s.val = _; omega

theorem in1_entry (d : Fin 64) (t : Fin 1024) :
    (in1 m c (point g i j) (ix3 (n0 := 1) (n1 := 64) (n2 := 1024) 0 d t) : EReal) = aQK m c (ix3 (kh g) d (ktok j t)) := by
  have hp := point_val g i j
  show V m c main_v7 (((cfg0.win 1).blk (point g i j)).view.emb (ix3 (n0 := 1) (n1 := 64) (n2 := 1024) 0 d t)) = V m c main_v7 _
  congr 1
  funext a
  apply Fin.ext
  match a with
  | ⟨0, _⟩ =>
    show ((win0_1.rect (point g i j)).emb (ix3 (n0 := 1) (n1 := 64) (n2 := 1024) 0 d t) 0 : ℕ) = 16 + g.val
    rw [Pipeline.Window.rect_emb_val win0_1 (point g i j) (ix3 (n0 := 1) (n1 := 64) (n2 := 1024) 0 d t) 0, idx1_0, hp]
    show (16 + (128 * g.val + 8 * i.val + j.val) / 128) * 1 + 0 = _; omega
  | ⟨1, _⟩ =>
    show ((win0_1.rect (point g i j)).emb (ix3 (n0 := 1) (n1 := 64) (n2 := 1024) 0 d t) 1 : ℕ) = d.val
    rw [Pipeline.Window.rect_emb_val_of_index_zero _ _ _ (idx1_1 _)]
    rfl
  | ⟨2, _⟩ =>
    show ((win0_1.rect (point g i j)).emb (ix3 (n0 := 1) (n1 := 64) (n2 := 1024) 0 d t) 2 : ℕ) = 1024 * j.val + t.val
    rw [Pipeline.Window.rect_emb_val win0_1 (point g i j) (ix3 (n0 := 1) (n1 := 64) (n2 := 1024) 0 d t) 2, idx1_2, hp]
    show (128 * g.val + 8 * i.val + j.val) % 8 * 1024 + t.val = _; omega

theorem in2_entry (d : Fin 72) (t : Fin 1024) :
    (in2 m c (point g i j) (ix3 (n0 := 1) (n1 := 72) (n2 := 1024) 0 d t) : EReal) = aV m c (ix3 g d (ktok j t)) := by
  have hp := point_val g i j
  show V m c main_v11 (((cfg0.win 2).blk (point g i j)).view.emb (ix3 (n0 := 1) (n1 := 72) (n2 := 1024) 0 d t)) = V m c main_v11 _
  congr 1
  funext a
  apply Fin.ext
  match a with
  | ⟨0, _⟩ =>
    show ((win0_2.rect (point g i j)).emb (ix3 (n0 := 1) (n1 := 72) (n2 := 1024) 0 d t) 0 : ℕ) = g.val
    rw [Pipeline.Window.rect_emb_val win0_2 (point g i j) (ix3 (n0 := 1) (n1 := 72) (n2 := 1024) 0 d t) 0, idx2_0, hp]
    show (128 * g.val + 8 * i.val + j.val) / 128 * 1 + 0 = _; omega
  | ⟨1, _⟩ =>
    show ((win0_2.rect (point g i j)).emb (ix3 (n0 := 1) (n1 := 72) (n2 := 1024) 0 d t) 1 : ℕ) = d.val
    rw [Pipeline.Window.rect_emb_val_of_index_zero _ _ _ (idx2_1 _)]
    rfl
  | ⟨2, _⟩ =>
    show ((win0_2.rect (point g i j)).emb (ix3 (n0 := 1) (n1 := 72) (n2 := 1024) 0 d t) 2 : ℕ) = 1024 * j.val + t.val
    rw [Pipeline.Window.rect_emb_val win0_2 (point g i j) (ix3 (n0 := 1) (n1 := 72) (n2 := 1024) 0 d t) 2, idx2_2, hp]
    show (128 * g.val + 8 * i.val + j.val) % 8 * 1024 + t.val = _; omega

theorem in3_entry (r : Fin 4) (d : Fin 64) (s : Fin 512) :
    (in3 m c (point g i j) (ix3 r d s) : EReal) = aDo m c (ix3 (hd g r) d (qtok i s)) := by
  have hp := point_val g i j
  show V m c main_v14 (((cfg0.win 3).blk (point g i j)).view.emb (ix3 r d s)) = V m c main_v14 _
  congr 1
  funext a
  apply Fin.ext
  match a with
  | ⟨0, _⟩ =>
    show ((win0_3.rect (point g i j)).emb (ix3 r d s) 0 : ℕ) = 4 * g.val + r.val
    rw [Pipeline.Window.rect_emb_val win0_3 (point g i j) (ix3 r d s) 0, idx3_0, hp]
    show (128 * g.val + 8 * i.val + j.val) / 128 * 4 + r.val = _; omega
  | ⟨1, _⟩ =>
    show ((win0_3.rect (point g i j)).emb (ix3 r d s) 1 : ℕ) = d.val
    rw [Pipeline.Window.rect_emb_val_of_index_zero _ _ _ (idx3_1 _)]
    rfl
  | ⟨2, _⟩ =>
    show ((win0_3.rect (point g i j)).emb (ix3 r d s) 2 : ℕ) = 512 * i.val + s.val
    rw [Pipeline.Window.rect_emb_val win0_3 (point g i j) (ix3 r d s) 2, idx3_2, hp]
    show (128 * g.val + 8 * i.val + j.val) / 8 % 16 * 512 + s.val = _; omega

theorem in4_entry (r : Fin 4) (d : Fin 64) (s : Fin 512) :
    (in4 m c (point g i j) (ix3 r d s) : EReal) = aO m c (ix3 (hd g r) d (qtok i s)) := by
  have hp := point_val g i j
  show V m c main_v37 (((cfg0.win 4).blk (point g i j)).view.emb (ix3 r d s)) = V m c main_v37 _
  congr 1
  funext a
  apply Fin.ext
  match a with
  | ⟨0, _⟩ =>
    show ((win0_4.rect (point g i j)).emb (ix3 r d s) 0 : ℕ) = 4 * g.val + r.val
    rw [Pipeline.Window.rect_emb_val win0_4 (point g i j) (ix3 r d s) 0, idx4_0, hp]
    show (128 * g.val + 8 * i.val + j.val) / 128 * 4 + r.val = _; omega
  | ⟨1, _⟩ =>
    show ((win0_4.rect (point g i j)).emb (ix3 r d s) 1 : ℕ) = d.val
    rw [Pipeline.Window.rect_emb_val_of_index_zero _ _ _ (idx4_1 _)]
    rfl
  | ⟨2, _⟩ =>
    show ((win0_4.rect (point g i j)).emb (ix3 r d s) 2 : ℕ) = 512 * i.val + s.val
    rw [Pipeline.Window.rect_emb_val win0_4 (point g i j) (ix3 r d s) 2, idx4_2, hp]
    show (128 * g.val + 8 * i.val + j.val) / 8 % 16 * 512 + s.val = _; omega

theorem in5_entry (r : Fin 4) (s : Fin 512) :
    (in5 m c (point g i j) (ix3 (n0 := 4) (n1 := 1) (n2 := 512) r 0 s) : EReal) = aL m c (ix3 (n0 := 16) (n1 := 1) (n2 := 8192) (hd g r) 0 (qtok i s)) := by
  have hp := point_val g i j
  show V m c main_v31 (((cfg0.win 5).blk (point g i j)).view.emb (ix3 (n0 := 4) (n1 := 1) (n2 := 512) r 0 s)) = V m c main_v31 _
  congr 1
  funext a
  apply Fin.ext
  match a with
  | ⟨0, _⟩ =>
    show ((win0_5.rect (point g i j)).emb (ix3 (n0 := 4) (n1 := 1) (n2 := 512) r 0 s) 0 : ℕ) = 4 * g.val + r.val
    rw [Pipeline.Window.rect_emb_val win0_5 (point g i j) (ix3 (n0 := 4) (n1 := 1) (n2 := 512) r 0 s) 0, idx5_0, hp]
    show (128 * g.val + 8 * i.val + j.val) / 128 * 4 + r.val = _; omega
  | ⟨1, _⟩ =>
    show ((win0_5.rect (point g i j)).emb (ix3 (n0 := 4) (n1 := 1) (n2 := 512) r 0 s) 1 : ℕ) = 0
    rw [Pipeline.Window.rect_emb_val_of_index_zero _ _ _ (idx5_1 _)]
    rfl
  | ⟨2, _⟩ =>
    show ((win0_5.rect (point g i j)).emb (ix3 (n0 := 4) (n1 := 1) (n2 := 512) r 0 s) 2 : ℕ) = 512 * i.val + s.val
    rw [Pipeline.Window.rect_emb_val win0_5 (point g i j) (ix3 (n0 := 4) (n1 := 1) (n2 := 512) r 0 s) 2, idx5_2, hp]
    show (128 * g.val + 8 * i.val + j.val) / 8 % 16 * 512 + s.val = _; omega

/-! ## The shares of a point, over the arrays -/

/-- The weight of key `u` at token `n` of query head `r` of key head `g`; its cotangent less the token's mean. -/
def bigW (g r : Fin 4) (n u : Fin 8192) : EReal :=
  Ideal.exp2 ((∑ d : Fin 64, aQK m c (ix3 (kh g) d u) * aQK m c (ix3 (qh g r) d n)) - aL m c (ix3 (n0 := 16) (n1 := 1) (n2 := 8192) (hd g r) 0 n))
def bigC (g r : Fin 4) (n u : Fin 8192) : EReal :=
  (∑ d : Fin 64, aV m c (ix3 (n0 := 4) (n1 := 72) (n2 := 8192) g ⟨d.val, by omega⟩ u) * aDo m c (ix3 (hd g r) d n))
    - ∑ d : Fin 64, aDo m c (ix3 (hd g r) d n) * aO m c (ix3 (hd g r) d n)

theorem wgt_at (t : Fin 1024) (r : Fin 4) (s : Fin 512) :
    wgt (in0 m c (point g i j)) (in1 m c (point g i j)) (in5 m c (point g i j)) t r s = bigW m c g r (qtok i s) (ktok j t) := by
  unfold wgt bigW
  rw [in5_entry]
  refine congrArg (fun z => Ideal.exp2 (z - _)) (Finset.sum_congr rfl fun d _ => ?_)
  rw [in0_entry, in1_entry]

theorem cot_at (t : Fin 1024) (r : Fin 4) (s : Fin 512) :
    cot (in2 m c (point g i j)) (in3 m c (point g i j)) (in4 m c (point g i j)) t r s = bigC m c g r (qtok i s) (ktok j t) := by
  unfold cot bigC
  refine congrArg₂ (· - ·) (Finset.sum_congr rfl fun d _ => ?_) (Finset.sum_congr rfl fun d _ => ?_)
  · rw [in2_entry, in3_entry]
  · rw [in3_entry, in4_entry]

theorem dvAt_entry (t : Fin 1024) (d : Fin 64) :
    (dvAt m c (point g i j) (ix2 t d) : EReal) = ∑ r : Fin 4, ∑ s : Fin 512, bigW m c g r (qtok i s) (ktok j t) * aDo m c (ix3 (hd g r) d (qtok i s)) := by
  unfold dvAt
  rw [dvPart_entry]
  refine Finset.sum_congr rfl fun r _ => Finset.sum_congr rfl fun s _ => ?_
  rw [wgt_at, in3_entry]

theorem dsAt_entry (t : Fin 1024) (r : Fin 4) (s : Fin 512) :
    (dsAt m c (point g i j) (ix2 (n0 := 1024) (n1 := 2048) t (lane r s)) : EReal) = bigW m c g r (qtok i s) (ktok j t) * bigC m c g r (qtok i s) (ktok j t) := by
  unfold dsAt
  rw [dsPart_entry, wgt_at, cot_at]

theorem dkAt_entry (t : Fin 1024) (d : Fin 64) :
    (dkAt m c (point g i j) (ix2 t d) : EReal)
      = ∑ r : Fin 4, ∑ s : Fin 512, bigW m c g r (qtok i s) (ktok j t) * bigC m c g r (qtok i s) (ktok j t) * aQK m c (ix3 (qh g r) d (qtok i s)) := by
  unfold dkAt
  rw [dkPart_entry]
  refine Finset.sum_congr rfl fun r _ => Finset.sum_congr rfl fun s _ => ?_
  rw [wgt_at, cot_at, in0_entry]

theorem keyAt_entry (d : Fin 64) (t : Fin 1024) : (keyAt m c (point g i j) (ix2 d t) : EReal) = aQK m c (ix3 (kh g) d (ktok j t)) := by
  rw [← in1_entry m c g i j d t]
  unfold keyAt
  generalize in1 m c (point g i j) = X
  pointwise [k0_pay18]

/-! ## The accumulated results -/

theorem blk_sum (a : Fin cfg0.N → Vec Ideal S1x1024x64 .f32) (f : Fin cfg0.N → Vec Ideal S1x1024x64 .f32 → Vec Ideal S1x1024x64 .f32)
    (x : S1x1024x64.Idx) (w : Fin cfg0.N → EReal) (ha : ∀ p, (a p x : EReal) = w p) (hf : ∀ p v, (f p v x : EReal) = (v x : EReal) + w p) (g jj n : ℕ) :
    (blkAt a f g jj n x : EReal) = ∑ i ∈ Finset.range (n + 1), w (pt (128 * g + 8 * i + jj)) := by
  induction n with
  | zero => rw [Finset.sum_range_one]; exact ha _
  | succ n ih =>
    rw [Finset.sum_range_succ, ← ih]
    exact hf _ _

theorem pay3_entry (A : FVec Ideal S1024x64 .f32) (z : Ideal .f32) (t : Fin 1024) (d : Fin 64) :
    (k0_pay3 A z (ix3 (n0 := 1) (n1 := 1024) (n2 := 64) 0 t d) : EReal) = (A (ix2 t d) : EReal) * z := by
  pointwise [k0_pay3, k0_pay1]
theorem pay5_entry (A : FVec Ideal S1024x64 .f32) (z : Ideal .f32) (v : Vec Ideal S1x1024x64 .f32) (t : Fin 1024) (d : Fin 64) :
    (k0_pay5 A z v (ix3 (n0 := 1) (n1 := 1024) (n2 := 64) 0 t d) : EReal) = (v (ix3 (n0 := 1) (n1 := 1024) (n2 := 64) 0 t d) : EReal) + (A (ix2 t d) : EReal) * z := by
  pointwise [k0_pay5, k0_pay1]
theorem pay4_entry (A : FVec Ideal S1024x64 .f32) (t : Fin 1024) (d : Fin 64) :
    (k0_pay4 A (ix3 (n0 := 1) (n1 := 1024) (n2 := 64) 0 t d) : EReal) = (A (ix2 t d) : EReal) := by
  pointwise [k0_pay4]
theorem pay6_entry (A : FVec Ideal S1024x64 .f32) (v : Vec Ideal S1x1024x64 .f32) (t : Fin 1024) (d : Fin 64) :
    (k0_pay6 A v (ix3 (n0 := 1) (n1 := 1024) (n2 := 64) 0 t d) : EReal) = (v (ix3 (n0 := 1) (n1 := 1024) (n2 := 64) 0 t d) : EReal) + (A (ix2 t d) : EReal) := by
  pointwise [k0_pay6]
theorem pay7_entry (K : FVec Ideal S64x1024 .bf16) (D : FVec Ideal S1024x2048 .bf16) (d : Fin 64) (n : Fin 2048) :
    (k0_pay7 K D (ix2 d n) : EReal) = ∑ t : Fin 1024, K (ix2 d t) * D (ix2 t n) := by
  pointwise [k0_pay7, k0_pay2]
theorem pay8_entry (K : FVec Ideal S64x1024 .bf16) (D : FVec Ideal S1024x2048 .bf16) (v : Vec Ideal S64x2048 .f32) (d : Fin 64) (n : Fin 2048) :
    (k0_pay8 K D v (ix2 d n) : EReal) = (v (ix2 d n) : EReal) + ∑ t : Fin 1024, K (ix2 d t) * D (ix2 t n) := by
  pointwise [k0_pay8, k0_pay2]

theorem acc_sum (b n : ℕ) (d : Fin 64) (l : Fin 2048) :
    (accAt m c b n (ix2 d l) : EReal) = ∑ j ∈ Finset.range (n + 1), ∑ t : Fin 1024, keyAt m c (pt (b + j)) (ix2 d t) * dsAt m c (pt (b + j)) (ix2 t l) := by
  induction n with
  | zero => rw [Finset.sum_range_one]; exact pay7_entry _ _ d l
  | succ n ih =>
    rw [Finset.sum_range_succ, ← ih]
    exact pay8_entry _ _ _ d l

theorem outQ_entry (g r : Fin 4) (d : Fin 64) (n : Fin 8192) :
    (outQ m c (ix3 (hd g r) d n) : EReal) = ∑ u : Fin 8192, aQK m c (ix3 (kh g) d u) * (bigW m c g r n u * bigC m c g r n u) := by
  obtain ⟨i, s, rfl⟩ : ∃ (i : Fin 16) (s : Fin 512), n = qtok i s :=
    ⟨⟨n.val / 512, by omega⟩, ⟨n.val % 512, by omega⟩, Fin.ext (by show n.val = 512 * (n.val / 512) + n.val % 512; omega)⟩
  have e : (outQ m c (ix3 (hd g r) d (qtok i s)) : EReal) = accAt m c (128 * g.val + 8 * i.val) 7 (ix2 (n0 := 64) (n1 := 2048) d (lane r s)) := by
    unfold outQ
    have e1 : 128 * ((4 * g.val + r.val) / 4) + 8 * ((512 * i.val + s.val) / 512) = 128 * g.val + 8 * i.val := by omega
    have e2 : (⟨512 * ((4 * g.val + r.val) % 4) + (512 * i.val + s.val) % 512, by omega⟩ : Fin 2048) = lane r s := by
      apply Fin.ext
      show 512 * ((4 * g.val + r.val) % 4) + (512 * i.val + s.val) % 512 = 512 * r.val + s.val
      omega
    show accAt m c (128 * ((4 * g.val + r.val) / 4) + 8 * ((512 * i.val + s.val) / 512)) 7
      (ix2 (n0 := 64) (n1 := 2048) d (⟨512 * ((4 * g.val + r.val) % 4) + (512 * i.val + s.val) % 512, by omega⟩ : Fin 2048)) = _
    rw [e1, e2]
  rw [e, acc_sum, sum_ktok, Finset.sum_range]
  refine Finset.sum_congr rfl fun j _ => Finset.sum_congr rfl fun t _ => ?_
  exact congrArg₂ (· * ·) (keyAt_entry m c g i j d t) (dsAt_entry m c g i j t r s)

theorem keys_entry (g : Fin 4) (u : Fin 8192) (d : Fin 64) :
    (outRows (keyRows m c) (ix3 g u d) : EReal)
      = ∑ i : Fin 16, (∑ r : Fin 4, ∑ s : Fin 512, bigW m c g r (qtok i s) u * bigC m c g r (qtok i s) u * aQK m c (ix3 (qh g r) d (qtok i s))) * (scaleK : Ideal .f32) := by
  obtain ⟨j, t, rfl⟩ : ∃ (j : Fin 8) (t : Fin 1024), u = ktok j t :=
    ⟨⟨u.val / 1024, by omega⟩, ⟨u.val % 1024, by omega⟩, Fin.ext (by show u.val = 1024 * (u.val / 1024) + u.val % 1024; omega)⟩
  have e : (outRows (keyRows m c) (ix3 g (ktok j t) d) : EReal) = keyRows m c g.val j.val 15 (ix3 (n0 := 1) (n1 := 1024) (n2 := 64) 0 t d) := by
    unfold outRows
    have e1 : (1024 * j.val + t.val) / 1024 = j.val := by omega
    have e2 : (⟨(1024 * j.val + t.val) % 1024, by omega⟩ : Fin 1024) = t := by
      apply Fin.ext
      show (1024 * j.val + t.val) % 1024 = t.val
      omega
    show keyRows m c g.val ((1024 * j.val + t.val) / 1024) 15 (ix3 (n0 := 1) (n1 := 1024) (n2 := 64) 0 (⟨(1024 * j.val + t.val) % 1024, by omega⟩ : Fin 1024) d) = _
    rw [e1, e2]
  rw [e]
  unfold keyRows
  rw [blk_sum _ _ _ (fun p => (dkAt m c p (ix2 t d) : EReal) * (scaleK : Ideal .f32)) (fun p => pay3_entry _ _ t d) (fun p v => pay5_entry _ _ v t d), Finset.sum_range]
  refine Finset.sum_congr rfl fun i _ => ?_
  exact congrArg (· * (scaleK : Ideal .f32)) (dkAt_entry m c g i j t d)

theorem values_entry (g : Fin 4) (u : Fin 8192) (d : Fin 64) :
    (outRows (valueRows m c) (ix3 g u d) : EReal)
      = ∑ i : Fin 16, ∑ r : Fin 4, ∑ s : Fin 512, bigW m c g r (qtok i s) u * aDo m c (ix3 (hd g r) d (qtok i s)) := by
  obtain ⟨j, t, rfl⟩ : ∃ (j : Fin 8) (t : Fin 1024), u = ktok j t :=
    ⟨⟨u.val / 1024, by omega⟩, ⟨u.val % 1024, by omega⟩, Fin.ext (by show u.val = 1024 * (u.val / 1024) + u.val % 1024; omega)⟩
  have e : (outRows (valueRows m c) (ix3 g (ktok j t) d) : EReal) = valueRows m c g.val j.val 15 (ix3 (n0 := 1) (n1 := 1024) (n2 := 64) 0 t d) := by
    unfold outRows
    have e1 : (1024 * j.val + t.val) / 1024 = j.val := by omega
    have e2 : (⟨(1024 * j.val + t.val) % 1024, by omega⟩ : Fin 1024) = t := by
      apply Fin.ext
      show (1024 * j.val + t.val) % 1024 = t.val
      omega
    show valueRows m c g.val ((1024 * j.val + t.val) / 1024) 15 (ix3 (n0 := 1) (n1 := 1024) (n2 := 64) 0 (⟨(1024 * j.val + t.val) % 1024, by omega⟩ : Fin 1024) d) = _
    rw [e1, e2]
  rw [e]
  unfold valueRows
  rw [blk_sum _ _ _ (fun p => (dvAt m c p (ix2 t d) : EReal)) (fun p => pay4_entry _ t d) (fun p v => pay6_entry _ v t d), Finset.sum_range]
  exact Finset.sum_congr rfl fun i _ => dvAt_entry m c g i j t d

end Cert.KernelIdeal.Hand

end
-- ==== Proof.Host.lean ====
/- What the host code hands the backward kernel, as terms of the program's arguments. -/
module

public import proofs.«01_k».proof.Proof.Arrays
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The scores of the scaled queries against the keys: key head, query head in it, token, key. -/
def tScore (q : FVec F S8192x16x64 .f32) (k : FVec F S8192x4x64 .f32) : FVec F S4x4x8192x8192 .f32 :=
  transpose S4x4x8192x8192 [0, 3, 2, 1] (Host.dotGeneral dot_S8192x4x64_S8192x4x4x64_S4x8192x8192x4_2_3_0_02_1_1 none k
    (shapeCast S8192x4x4x64 (mulf q (broadcastInDim S8192x16x64 ![] bcast_S_S8192x16x64 (constant S_ .f32 0x3E000000#32))) shapeCasts_S8192x16x64_S8192x4x4x64))
    transposes_S4x8192x8192x4_S4x4x8192x8192_0_3_2_1
/-- Each token's largest score. -/
def tMax (q : FVec F S8192x16x64 .f32) (k : FVec F S8192x4x64 .f32) : FVec F S4x4x8192 .f32 :=
  Host.reduce FloatOps.maximumf (tScore q k) (constant S_ .f32 0xFF800000#32) reducesTo_S4x4x8192x8192_S4x4x8192_d3 h_S_
/-- The exponentials of the scores less the largest. -/
def tExp (q : FVec F S8192x16x64 .f32) (k : FVec F S8192x4x64 .f32) : FVec F S4x4x8192x8192 .f32 :=
  Host.exp (subf (tScore q k) (broadcastInDim S4x4x8192x8192 ![0, 1, 2, 3] bcast_S4x4x8192x1_S4x4x8192x8192_0_1_2_3
    (broadcastInDim S4x4x8192x1 ![0, 1, 2] bcast_S4x4x8192_S4x4x8192x1_0_1_2 (tMax q k))))
/-- Each token's sum of them. -/
def tSum (q : FVec F S8192x16x64 .f32) (k : FVec F S8192x4x64 .f32) : FVec F S4x4x8192x1 .f32 :=
  broadcastInDim S4x4x8192x1 ![0, 1, 2] bcast_S4x4x8192_S4x4x8192x1_0_1_2
    (Host.reduceAdd (tExp q k) (constant S_ .f32 0x00000000#32) reducesTo_S4x4x8192x8192_S4x4x8192_d3 h_S_)

def hQK (q : FVec F S8192x16x64 .f32) (k : FVec F S8192x4x64 .f32) : FVec F S20x64x8192 .bf16 :=
  truncf .bf16 (concatenate S20x64x8192 0
    [⟨S16x64x8192, mulf (transpose S16x64x8192 [1, 2, 0] q transposes_S8192x16x64_S16x64x8192_1_2_0)
        (broadcastInDim S16x64x8192 ![] bcast_S_S16x64x8192 (Host.divf (constant S_ .f32 0x3E000000#32) (Host.log (constant S_ .f32 0x40000000#32))))⟩,
     ⟨S4x64x8192, transpose S4x64x8192 [1, 2, 0] k transposes_S8192x4x64_S4x64x8192_1_2_0⟩]
    concatenates_S16x64x8192_S4x64x8192_S20x64x8192_d0) bitsLt_bf16_f32
def hV (v : FVec F S8192x4x64 .f32) : FVec F S4x72x8192 .bf16 :=
  truncf .bf16 (concatenate S4x72x8192 1
    [⟨S4x64x8192, transpose S4x64x8192 [1, 2, 0] v transposes_S8192x4x64_S4x64x8192_1_2_0⟩,
     ⟨S4x8x8192, broadcastInDim S4x8x8192 ![] bcast_S_S4x8x8192 (constant S_ .f32 0x3F800000#32)⟩]
    concatenates_S4x64x8192_S4x8x8192_S4x72x8192_d1) bitsLt_bf16_f32
def hDo (ct : FVec F S8192x1024 .f32) : FVec F S16x64x8192 .bf16 :=
  truncf .bf16 (shapeCast S16x64x8192 (transpose S1024x8192 [1, 0] ct transposes_S8192x1024_S1024x8192_1_0) shapeCasts_S1024x8192_S16x64x8192) bitsLt_bf16_f32
def hL (q : FVec F S8192x16x64 .f32) (k : FVec F S8192x4x64 .f32) : FVec F S16x1x8192 .f32 :=
  shapeCast S16x1x8192 (Host.divf (addf (broadcastInDim S4x4x8192x1 ![0, 1, 2] bcast_S4x4x8192_S4x4x8192x1_0_1_2 (tMax q k)) (Host.log (tSum q k)))
    (broadcastInDim S4x4x8192x1 ![] bcast_S_S4x4x8192x1 (Host.log (constant S_ .f32 0x40000000#32)))) shapeCasts_S4x4x8192x1_S16x1x8192
def hO (q : FVec F S8192x16x64 .f32) (k : FVec F S8192x4x64 .f32) (v : FVec F S8192x4x64 .f32) : FVec F S16x64x8192 .bf16 :=
  truncf .bf16 (shapeCast S16x64x8192 (transpose S4x4x64x8192 [0, 2, 1, 3]
    (Host.dotGeneral dot_S8192x4x64_S4x4x8192x8192_S4x64x4x8192_0_3_2_12_1_0 none v
      (Host.divf (tExp q k) (broadcastInDim S4x4x8192x8192 ![0, 1, 2, 3] bcast_S4x4x8192x1_S4x4x8192x8192_0_1_2_3 (tSum q k))))
    transposes_S4x64x4x8192_S4x4x64x8192_0_2_1_3) shapeCasts_S4x4x64x8192_S16x64x8192) bitsLt_bf16_f32

variable (m : (ℓ : Loc nD τ sig) → Buf (Elt F) ℓ) (c : Dev nD)

theorem V_qk : V m c main_v7 = hQK (m ((c : Thread nD τ).loc main_arg0)) (m ((c : Thread nD τ).loc main_arg1)) := by
  unfold_abbrev_sides
  after_results_simp
  all_goals rfl
theorem V_v : V m c main_v11 = hV (m ((c : Thread nD τ).loc main_arg2)) := by
  unfold_abbrev_sides
  after_results_simp
  all_goals rfl
theorem V_do : V m c main_v14 = hDo (m ((c : Thread nD τ).loc main_arg3)) := by
  unfold_abbrev_sides
  after_results_simp
  all_goals rfl
theorem V_l : V m c main_v31 = hL (m ((c : Thread nD τ).loc main_arg0)) (m ((c : Thread nD τ).loc main_arg1)) := by
  unfold_abbrev_sides
  after_results_simp
  all_goals rfl
theorem V_o : V m c main_v37 = hO (m ((c : Thread nD τ).loc main_arg0)) (m ((c : Thread nD τ).loc main_arg1)) (m ((c : Thread nD τ).loc main_arg2)) := by
  unfold_abbrev_sides
  after_results_simp
  all_goals rfl

end Cert.KernelIdeal.Hand

end
-- ==== Proof.HostRead.lean ====
/- The host code's arrays read at an index, at exact arithmetic. -/
module

public import proofs.«01_k».proof.Proof.Host
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (q : FVec Ideal S8192x16x64 .f32) (k v : FVec Ideal S8192x4x64 .f32) (ct : FVec Ideal S8192x1024 .f32)

theorem tScore_entry (g r : Fin 4) (i j : Fin 8192) :
    (tScore (F := Ideal) q k (ix4 (n0 := 4) (n1 := 4) (n2 := 8192) (n3 := 8192) g r i j) : EReal)
      = ∑ d : Fin 64, (k (ix3 (n0 := 8192) (n1 := 4) (n2 := 64) j g d) : EReal) * ((q (ix3 (n0 := 8192) (n1 := 16) (n2 := 64) i (hd g r) d) : EReal) * Ideal.ofBits .f32 0x3E000000#32) := by
  pointwise [tScore]
  refine Finset.sum_congr rfl fun d _ => ?_
  rw [show (⟨g.val * 4 + r.val, by omega⟩ : Fin 16) = hd g r from Fin.ext (by show g.val * 4 + r.val = 4 * g.val + r.val; omega)]

theorem tMax_entry (g r : Fin 4) (i : Fin 8192) :
    (tMax (F := Ideal) q k (ix3 (n0 := 4) (n1 := 4) (n2 := 8192) g r i) : EReal)
      = Finset.univ.fold max (⊥ : EReal) fun j : Fin 8192 => (tScore (F := Ideal) q k (ix4 (n0 := 4) (n1 := 4) (n2 := 8192) (n3 := 8192) g r i j) : EReal) := by
  unfold tMax
  generalize tScore (F := Ideal) q k = X
  pointwise []
  rw [show Ideal.ofBits .f32 0xFF800000#32 = (⊥ : EReal) by simp [Ideal.ofBits, Ideal.ieee]]

theorem tExp_entry (g r : Fin 4) (i j : Fin 8192) :
    (tExp (F := Ideal) q k (ix4 (n0 := 4) (n1 := 4) (n2 := 8192) (n3 := 8192) g r i j) : EReal)
      = Ideal.exp ((tScore (F := Ideal) q k (ix4 (n0 := 4) (n1 := 4) (n2 := 8192) (n3 := 8192) g r i j) : EReal) - (tMax (F := Ideal) q k (ix3 (n0 := 4) (n1 := 4) (n2 := 8192) g r i) : EReal)) := by
  unfold tExp
  generalize tScore (F := Ideal) q k = X
  generalize tMax (F := Ideal) q k = Y
  pointwise []

theorem tSum_entry (g r : Fin 4) (i : Fin 8192) :
    (tSum (F := Ideal) q k (ix4 (n0 := 4) (n1 := 4) (n2 := 8192) (n3 := 1) g r i 0) : EReal)
      = ∑ j : Fin 8192, (tExp (F := Ideal) q k (ix4 (n0 := 4) (n1 := 4) (n2 := 8192) (n3 := 8192) g r i j) : EReal) := by
  unfold tSum
  generalize tExp (F := Ideal) q k = X
  pointwise []

theorem hQK_query (g r : Fin 4) (d : Fin 64) (n : Fin 8192) :
    (hQK (F := Ideal) q k (ix3 (n0 := 20) (n1 := 64) (n2 := 8192) (qh g r) d n) : EReal)
      = (q (ix3 (n0 := 8192) (n1 := 16) (n2 := 64) n (hd g r) d) : EReal) * Ideal.div (Ideal.ofBits .f32 0x3E000000#32) (Ideal.log (Ideal.ofBits .f32 0x40000000#32)) := by
  pointwise [hQK]
  rw [dif_pos (by omega : 4 * g.val + r.val < 16)]

theorem hQK_key (g : Fin 4) (d : Fin 64) (n : Fin 8192) :
    (hQK (F := Ideal) q k (ix3 (n0 := 20) (n1 := 64) (n2 := 8192) (kh g) d n) : EReal) = (k (ix3 (n0 := 8192) (n1 := 4) (n2 := 64) n g d) : EReal) := by
  pointwise [hQK]

theorem hV_entry (g : Fin 4) (d : Fin 64) (n : Fin 8192) :
    (hV (F := Ideal) v (ix3 (n0 := 4) (n1 := 72) (n2 := 8192) g ⟨d.val, by omega⟩ n) : EReal) = (v (ix3 (n0 := 8192) (n1 := 4) (n2 := 64) n g d) : EReal) := by
  pointwise [hV]

theorem hDo_entry (g r : Fin 4) (d : Fin 64) (n : Fin 8192) :
    (hDo (F := Ideal) ct (ix3 (n0 := 16) (n1 := 64) (n2 := 8192) (hd g r) d n) : EReal)
      = (ct (ix2 (n0 := 8192) (n1 := 1024) n ⟨64 * (4 * g.val + r.val) + d.val, by omega⟩) : EReal) := by
  pointwise [hDo]
  rw [show (⟨(4 * g.val + r.val) * 64 + d.val, by omega⟩ : Fin 1024) = ⟨64 * (4 * g.val + r.val) + d.val, by omega⟩ from Fin.ext (by show (4 * g.val + r.val) * 64 + d.val = 64 * (4 * g.val + r.val) + d.val; omega)]

/-- A value a token, as a column. -/
theorem column_entry (X : FVec Ideal S4x4x8192 .f32) (g r : Fin 4) (n : Fin 8192) :
    (broadcastInDim S4x4x8192x1 ![0, 1, 2] bcast_S4x4x8192_S4x4x8192x1_0_1_2 X (ix4 (n0 := 4) (n1 := 4) (n2 := 8192) (n3 := 1) g r n 0) : EReal)
      = (X (ix3 (n0 := 4) (n1 := 4) (n2 := 8192) g r n) : EReal) := by
  pointwise []

/-- One value, as a column. -/
theorem column_const (X : FVec Ideal S_ .f32) (g r : Fin 4) (n : Fin 8192) :
    (broadcastInDim S4x4x8192x1 ![] bcast_S_S4x4x8192x1 X (ix4 (n0 := 4) (n1 := 4) (n2 := 8192) (n3 := 1) g r n 0) : EReal)
      = (X ix0 : EReal) := by
  pointwise []

theorem column_pos (a b c N : ℕ) : ((a * 4 + b) * N + c) * 1 + 0 = ((4 * a + b) * 1 + 0) * N + c := by ring

/-- A column of sums a head, laid out as one row a query head. -/
theorem column_row (Z : FVec Ideal S4x4x8192x1 .f32) (g r : Fin 4) (n : Fin 8192) :
    (shapeCast S16x1x8192 Z shapeCasts_S4x4x8192x1_S16x1x8192 (ix3 (n0 := 16) (n1 := 1) (n2 := 8192) (hd g r) 0 n) : EReal)
      = (Z (ix4 (n0 := 4) (n1 := 4) (n2 := 8192) (n3 := 1) g r n 0) : EReal) := by
  refine shapeCast_apply Z _ _ _ ?_
  rw [Shape.rowMajor_val_three, Shape.rowMajor_val_four]
  exact column_pos g.val r.val n.val 8192

/-- A column of sums and a column of shares, over one value: read as one row a query head. -/
theorem row_entry (X : FVec Ideal S4x4x8192 .f32) (Y : FVec Ideal S4x4x8192x1 .f32) (Z : FVec Ideal S_ .f32) (g r : Fin 4) (n : Fin 8192) :
    (shapeCast S16x1x8192 (Host.divf (addf (broadcastInDim S4x4x8192x1 ![0, 1, 2] bcast_S4x4x8192_S4x4x8192x1_0_1_2 X) (Host.log Y))
      (broadcastInDim S4x4x8192x1 ![] bcast_S_S4x4x8192x1 Z)) shapeCasts_S4x4x8192x1_S16x1x8192 (ix3 (n0 := 16) (n1 := 1) (n2 := 8192) (hd g r) 0 n) : EReal)
      = Ideal.div ((X (ix3 (n0 := 4) (n1 := 4) (n2 := 8192) g r n) : EReal) + Ideal.log (Y (ix4 (n0 := 4) (n1 := 4) (n2 := 8192) (n3 := 1) g r n 0) : EReal)) (Z ix0 : EReal) := by
  rw [column_row, ← column_entry X g r n, ← column_const Z g r n]
  rfl

theorem log_const (w : BitVec 32) : (Host.log (constant (F := Ideal) S_ .f32 w) ix0 : EReal) = Ideal.log (Ideal.ofBits .f32 w) := rfl

theorem hL_entry (g r : Fin 4) (n : Fin 8192) :
    (hL (F := Ideal) q k (ix3 (n0 := 16) (n1 := 1) (n2 := 8192) (hd g r) 0 n) : EReal)
      = Ideal.div ((tMax (F := Ideal) q k (ix3 (n0 := 4) (n1 := 4) (n2 := 8192) g r n) : EReal) + Ideal.log (tSum (F := Ideal) q k (ix4 (n0 := 4) (n1 := 4) (n2 := 8192) (n3 := 1) g r n 0) : EReal))
          (Ideal.log (Ideal.ofBits .f32 0x40000000#32)) := by
  rw [← log_const]
  exact row_entry _ _ _ g r n

theorem hO_entry (g r : Fin 4) (d : Fin 64) (n : Fin 8192) :
    (hO (F := Ideal) q k v (ix3 (n0 := 16) (n1 := 64) (n2 := 8192) (hd g r) d n) : EReal)
      = ∑ j : Fin 8192, (v (ix3 (n0 := 8192) (n1 := 4) (n2 := 64) j g d) : EReal) *
          Ideal.div (tExp (F := Ideal) q k (ix4 (n0 := 4) (n1 := 4) (n2 := 8192) (n3 := 8192) g r n j) : EReal) (tSum (F := Ideal) q k (ix4 (n0 := 4) (n1 := 4) (n2 := 8192) (n3 := 1) g r n 0) : EReal) := by
  unfold hO
  generalize tExp (F := Ideal) q k = X
  generalize tSum (F := Ideal) q k = Y
  pointwise []
  have h1 : (⟨(4 * g.val + r.val) / 4, by omega⟩ : Fin 4) = g := Fin.ext (by show (4 * g.val + r.val) / 4 = g.val; omega)
  have h2 : (⟨(4 * g.val + r.val) % 4, by omega⟩ : Fin 4) = r := Fin.ext (by show (4 * g.val + r.val) % 4 = r.val; omega)
  simp only [h1, h2]

end Cert.KernelIdeal.Hand

end
-- ==== Proof.Reals.lean ====
/- The attention's gradient over the reals: the softmax of a row, its gradient, and the passage from the extended reals. -/
module

public import Idealize.ShloMosaic.Lib.Pointwise

@[expose] public section

noncomputable section

namespace Cert.Attention

open Idealize.ShloMosaic

/-! ## From the extended reals -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fold_max_coe {n : ℕ} (hn : 0 < n) (f : Fin n → ℝ) :
    ∃ M : ℝ, Finset.univ.fold max (⊥ : EReal) (fun j => (f j : EReal)) = (M : EReal) := by
  haveI : Nonempty (Fin n) := ⟨⟨0, hn⟩⟩
  obtain ⟨i, _, hi⟩ := Finset.exists_mem_eq_sup Finset.univ Finset.univ_nonempty (fun j => (f j : EReal))
  exact ⟨f i, hi⟩

theorem div_real (x y : ℝ) (hy : y ≠ 0) : Ideal.div (x : EReal) (y : EReal) = ((x / y : ℝ) : EReal) := by
  rw [Ideal.div_coe hy, ← EReal.coe_mul, mul_one_div]

theorem exp_real (x : ℝ) : Ideal.exp (x : EReal) = ((Real.exp x : ℝ) : EReal) := rfl
theorem exp2_real (x : ℝ) : Ideal.exp2 (x : EReal) = (((2 : ℝ) ^ x : ℝ) : EReal) := rfl
theorem log_real (x : ℝ) (hx : 0 < x) : Ideal.log (x : EReal) = ((Real.log x : ℝ) : EReal) := by
  show (if x ≤ 0 then (⊥ : EReal) else (Real.log x : EReal)) = _
  rw [if_neg (not_le.2 hx)]

theorem eighth : Ideal.ofBits .f32 0x3E000000#32 = ((1 / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem log_two_pos : 0 < Real.log 2 := Real.log_pos one_lt_two

/-! ## The real gradient -/

/-- Query head `r` of key head `g`, and the place of its entry `d` in a row of the output. -/
abbrev head (g r : Fin 4) : Fin 16 := ⟨4 * g.val + r.val, by omega⟩
abbrev lane (g r : Fin 4) (d : Fin 64) : Fin 1024 := ⟨64 * (4 * g.val + r.val) + d.val, by omega⟩

variable (Q : Fin 8192 → Fin 16 → Fin 64 → ℝ) (K V : Fin 8192 → Fin 4 → Fin 64 → ℝ) (C : Fin 8192 → Fin 1024 → ℝ)

/-- The score of key `j` at token `i`; a token's largest; the exponentials; their sum; the weights. -/
def score (g r : Fin 4) (i j : Fin 8192) : ℝ := ∑ d : Fin 64, K j g d * (Q i (head g r) d * (1 / 8))
def top (g r : Fin 4) (i : Fin 8192) : ℝ := (Finset.univ.fold max (⊥ : EReal) fun j => (score Q K g r i j : EReal)).toReal
def expo (g r : Fin 4) (i j : Fin 8192) : ℝ := Real.exp (score Q K g r i j - top Q K g r i)
def total (g r : Fin 4) (i : Fin 8192) : ℝ := ∑ j, expo Q K g r i j
def weight (g r : Fin 4) (i j : Fin 8192) : ℝ := expo Q K g r i j / total Q K g r i
/-- The weights' cotangent and the scores'. -/
def weightCot (g r : Fin 4) (i j : Fin 8192) : ℝ := ∑ d : Fin 64, C i (lane g r d) * V j g d
def scoreCot (g r : Fin 4) (i j : Fin 8192) : ℝ :=
  weight Q K g r i j * (weightCot V C g r i j - ∑ u, weight Q K g r i u * weightCot V C g r i u)

theorem top_coe (g r : Fin 4) (i : Fin 8192) :
    Finset.univ.fold max (⊥ : EReal) (fun j => (score Q K g r i j : EReal)) = (top Q K g r i : EReal) := by
  obtain ⟨M, hM⟩ := fold_max_coe (n := 8192) (by norm_num) (score Q K g r i)
  unfold top
  rw [hM, EReal.toReal_coe]

theorem total_pos (g r : Fin 4) (i : Fin 8192) : 0 < total Q K g r i :=
  Finset.sum_pos (fun j _ => Real.exp_pos _) ⟨⟨0, by norm_num⟩, Finset.mem_univ _⟩

/-- A power of two of a score over `ln 2`, less the logarithm of the sum over `ln 2`, is the weight. -/
theorem two_pow_weight (g r : Fin 4) (i j : Fin 8192) :
    (2 : ℝ) ^ (score Q K g r i j / Real.log 2 - (top Q K g r i + Real.log (total Q K g r i)) / Real.log 2) = weight Q K g r i j := by
  have hS := total_pos Q K g r i
  rw [Real.rpow_def_of_pos two_pos]
  have e : Real.log 2 * (score Q K g r i j / Real.log 2 - (top Q K g r i + Real.log (total Q K g r i)) / Real.log 2)
      = (score Q K g r i j - top Q K g r i) - Real.log (total Q K g r i) := by
    have := log_two_pos.ne'
    field_simp
    ring
  rw [e, Real.exp_sub, Real.exp_log hS]
  rfl

/-- The token's mean of the weights' cotangent is the output's product with its cotangent. -/
theorem mean_eq (g r : Fin 4) (i : Fin 8192) :
    ∑ d : Fin 64, C i (lane g r d) * ∑ j, V j g d * weight Q K g r i j = ∑ u, weight Q K g r i u * weightCot V C g r i u := by
  simp only [weightCot, Finset.mul_sum]
  rw [Finset.sum_comm]
  exact Finset.sum_congr rfl fun _ _ => Finset.sum_congr rfl fun _ _ => by ring

/-- The scores' cotangent as the quotient's rule gives it. -/
theorem scoreCot_eq (g r : Fin 4) (i j : Fin 8192) :
    (weightCot V C g r i j / total Q K g r i + -∑ u, weightCot V C g r i u * (1 / (total Q K g r i * total Q K g r i)) * expo Q K g r i u) * expo Q K g r i j
      = scoreCot Q K V C g r i j := by
  have hS := (total_pos Q K g r i).ne'
  have e : ∑ u, weightCot V C g r i u * (1 / (total Q K g r i * total Q K g r i)) * expo Q K g r i u
      = (∑ u, weight Q K g r i u * weightCot V C g r i u) / total Q K g r i := by
    rw [Finset.sum_div]
    refine Finset.sum_congr rfl fun u _ => ?_
    unfold weight
    field_simp
  rw [e]
  unfold scoreCot
  generalize ∑ u, weight Q K g r i u * weightCot V C g r i u = z
  unfold weight
  field_simp
  ring

end Cert.Attention

end
-- ==== Proof.KernelVals.lean ====
/- The kernel's results on finite arguments are the real gradient. -/
module

public import proofs.«01_k».proof.Proof.HostRead
public import proofs.«01_k».proof.Proof.Reals

@[expose] public section

set_option maxRecDepth 16384

noncomputable section

namespace Cert.KernelIdeal.Hand

open Cert.KernelIdeal Cert.KernelIdeal.Gen
open Idealize.ShloMosaic Idealize.ShloMosaic.TcCoe
open Cert.Attention (score top expo total weight weightCot coe_sum eighth)

section host
variable (q : FVec Ideal S8192x16x64 .f32) (k v : FVec Ideal S8192x4x64 .f32)
variable (Q : Fin 8192 → Fin 16 → Fin 64 → ℝ) (K V : Fin 8192 → Fin 4 → Fin 64 → ℝ)
variable (hq : ∀ i h d, (q (ix3 (n0 := 8192) (n1 := 16) (n2 := 64) i h d) : EReal) = (Q i h d : EReal))
  (hk : ∀ i h d, (k (ix3 (n0 := 8192) (n1 := 4) (n2 := 64) i h d) : EReal) = (K i h d : EReal))
include hq hk

theorem score_val (g r : Fin 4) (i j : Fin 8192) :
    (tScore (F := Ideal) q k (ix4 (n0 := 4) (n1 := 4) (n2 := 8192) (n3 := 8192) g r i j) : EReal) = (score Q K g r i j : EReal) := by
  rw [tScore_entry, eighth]
  unfold score
  rw [← coe_sum]
  refine Finset.sum_congr rfl fun d _ => ?_
  rw [hq, hk, ← EReal.coe_mul, ← EReal.coe_mul]

theorem max_val (g r : Fin 4) (i : Fin 8192) :
    (tMax (F := Ideal) q k (ix3 (n0 := 4) (n1 := 4) (n2 := 8192) g r i) : EReal) = (top Q K g r i : EReal) := by
  rw [tMax_entry, ← Cert.Attention.top_coe]
  exact congrArg (fun f : Fin 8192 → EReal => Finset.univ.fold max (⊥ : EReal) f) (funext fun j => score_val q k Q K hq hk g r i j)

theorem exp_val (g r : Fin 4) (i j : Fin 8192) :
    (tExp (F := Ideal) q k (ix4 (n0 := 4) (n1 := 4) (n2 := 8192) (n3 := 8192) g r i j) : EReal) = (expo Q K g r i j : EReal) := by
  rw [tExp_entry, score_val q k Q K hq hk, max_val q k Q K hq hk, ← EReal.coe_sub, Cert.Attention.exp_real]
  rfl

theorem sum_val (g r : Fin 4) (i : Fin 8192) :
    (tSum (F := Ideal) q k (ix4 (n0 := 4) (n1 := 4) (n2 := 8192) (n3 := 1) g r i 0) : EReal) = (total Q K g r i : EReal) := by
  rw [tSum_entry]
  unfold total
  rw [← coe_sum]
  exact Finset.sum_congr rfl fun j _ => exp_val q k Q K hq hk g r i j

theorem query_val (g r : Fin 4) (d : Fin 64) (n : Fin 8192) :
    (hQK (F := Ideal) q k (ix3 (n0 := 20) (n1 := 64) (n2 := 8192) (qh g r) d n) : EReal) = ((Q n (hd g r) d * ((1 / 8) / Real.log 2) : ℝ) : EReal) := by
  rw [hQK_query, eighth, Cert.Attention.two, Cert.Attention.log_real _ two_pos, Cert.Attention.div_real _ _ Cert.Attention.log_two_pos.ne', hq, ← EReal.coe_mul]

theorem row_val (g r : Fin 4) (n : Fin 8192) :
    (hL (F := Ideal) q k (ix3 (n0 := 16) (n1 := 1) (n2 := 8192) (hd g r) 0 n) : EReal)
      = (((top Q K g r n + Real.log (total Q K g r n)) / Real.log 2 : ℝ) : EReal) := by
  rw [hL_entry, max_val q k Q K hq hk, sum_val q k Q K hq hk, Cert.Attention.two, Cert.Attention.log_real _ two_pos,
    Cert.Attention.log_real _ (Cert.Attention.total_pos Q K g r n), ← EReal.coe_add, Cert.Attention.div_real _ _ Cert.Attention.log_two_pos.ne']

theorem out_val (hv : ∀ i h d, (v (ix3 (n0 := 8192) (n1 := 4) (n2 := 64) i h d) : EReal) = (V i h d : EReal)) (g r : Fin 4) (d : Fin 64) (n : Fin 8192) :
    (hO (F := Ideal) q k v (ix3 (n0 := 16) (n1 := 64) (n2 := 8192) (hd g r) d n) : EReal)
      = ((∑ j, V j g d * weight Q K g r n j : ℝ) : EReal) := by
  rw [hO_entry, ← coe_sum]
  refine Finset.sum_congr rfl fun j _ => ?_
  rw [hv, exp_val q k Q K hq hk, sum_val q k Q K hq hk, Cert.Attention.div_real _ _ (Cert.Attention.total_pos Q K g r n).ne', ← EReal.coe_mul]
  rfl

end host

variable (m : (ℓ : Loc nD τ sig) → Buf (Elt Ideal) ℓ) (c : Dev nD)
variable (Q : Fin 8192 → Fin 16 → Fin 64 → ℝ) (K V : Fin 8192 → Fin 4 → Fin 64 → ℝ) (C : Fin 8192 → Fin 1024 → ℝ)

/-- The program's arguments on a core are these reals. -/
structure Holds : Prop where
  q : ∀ i h d, ((m ((c : Thread nD τ).loc main_arg0) : FVec Ideal S8192x16x64 .f32) (ix3 (n0 := 8192) (n1 := 16) (n2 := 64) i h d) : EReal) = (Q i h d : EReal)
  k : ∀ i h d, ((m ((c : Thread nD τ).loc main_arg1) : FVec Ideal S8192x4x64 .f32) (ix3 (n0 := 8192) (n1 := 4) (n2 := 64) i h d) : EReal) = (K i h d : EReal)
  v : ∀ i h d, ((m ((c : Thread nD τ).loc main_arg2) : FVec Ideal S8192x4x64 .f32) (ix3 (n0 := 8192) (n1 := 4) (n2 := 64) i h d) : EReal) = (V i h d : EReal)
  ct : ∀ i n, ((m ((c : Thread nD τ).loc main_arg3) : FVec Ideal S8192x1024 .f32) (ix2 (n0 := 8192) (n1 := 1024) i n) : EReal) = (C i n : EReal)

variable {m c Q K V C} (H : Holds m c Q K V C)
include H

theorem aQ_val (g r : Fin 4) (d : Fin 64) (n : Fin 8192) :
    (aQK m c (ix3 (qh g r) d n) : EReal) = ((Q n (hd g r) d * ((1 / 8) / Real.log 2) : ℝ) : EReal) := by
  unfold aQK
  rw [V_qk]
  exact query_val _ _ Q K H.q H.k g r d n

theorem aK_val (g : Fin 4) (d : Fin 64) (n : Fin 8192) : (aQK m c (ix3 (kh g) d n) : EReal) = (K n g d : EReal) := by
  unfold aQK
  rw [V_qk]
  exact (hQK_key _ _ g d n).trans (H.k n g d)

theorem aV_val (g : Fin 4) (d : Fin 64) (n : Fin 8192) :
    (aV m c (ix3 (n0 := 4) (n1 := 72) (n2 := 8192) g ⟨d.val, by omega⟩ n) : EReal) = (V n g d : EReal) := by
  unfold aV
  rw [V_v]
  exact (hV_entry _ g d n).trans (H.v n g d)

theorem aDo_val (g r : Fin 4) (d : Fin 64) (n : Fin 8192) :
    (aDo m c (ix3 (hd g r) d n) : EReal) = (C n (Cert.Attention.lane g r d) : EReal) := by
  unfold aDo
  rw [V_do]
  exact (hDo_entry _ g r d n).trans (H.ct n _)

theorem aO_val (g r : Fin 4) (d : Fin 64) (n : Fin 8192) :
    (aO m c (ix3 (hd g r) d n) : EReal) = ((∑ j, V j g d * weight Q K g r n j : ℝ) : EReal) := by
  unfold aO
  rw [V_o]
  exact out_val _ _ _ Q K V H.q H.k H.v g r d n

theorem aL_val (g r : Fin 4) (n : Fin 8192) :
    (aL m c (ix3 (n0 := 16) (n1 := 1) (n2 := 8192) (hd g r) 0 n) : EReal) = (((top Q K g r n + Real.log (total Q K g r n)) / Real.log 2 : ℝ) : EReal) := by
  unfold aL
  rw [V_l]
  exact row_val _ _ Q K H.q H.k g r n

theorem bigW_val (g r : Fin 4) (n u : Fin 8192) : bigW m c g r n u = (weight Q K g r n u : EReal) := by
  unfold bigW
  have e : ∑ d : Fin 64, (aQK m c (ix3 (kh g) d u) : EReal) * aQK m c (ix3 (qh g r) d n) = ((score Q K g r n u / Real.log 2 : ℝ) : EReal) := by
    unfold score
    rw [Finset.sum_div, ← coe_sum]
    refine Finset.sum_congr rfl fun d _ => ?_
    rw [aK_val H, aQ_val H, ← EReal.coe_mul]
    congr 1
    show K u g d * (Q n (hd g r) d * (1 / 8 / Real.log 2)) = K u g d * (Q n (hd g r) d * (1 / 8)) / Real.log 2
    ring
  refine (congrArg (fun z => Ideal.exp2 (z - _)) e).trans ?_
  rw [aL_val H, ← EReal.coe_sub, Cert.Attention.exp2_real, Cert.Attention.two_pow_weight]

theorem bigC_val (g r : Fin 4) (n u : Fin 8192) :
    bigC m c g r n u = ((weightCot V C g r n u - ∑ j, weight Q K g r n j * weightCot V C g r n j : ℝ) : EReal) := by
  unfold bigC
  have e1 : ∑ d : Fin 64, (aV m c (ix3 (n0 := 4) (n1 := 72) (n2 := 8192) g ⟨d.val, by omega⟩ u) : EReal) * aDo m c (ix3 (hd g r) d n)
      = (weightCot V C g r n u : EReal) := by
    unfold weightCot
    rw [← coe_sum]
    refine Finset.sum_congr rfl fun d _ => ?_
    rw [aV_val H, aDo_val H, ← EReal.coe_mul, mul_comm]
  have e2 : ∑ d : Fin 64, (aDo m c (ix3 (hd g r) d n) : EReal) * aO m c (ix3 (hd g r) d n)
      = ((∑ j, weight Q K g r n j * weightCot V C g r n j : ℝ) : EReal) := by
    rw [← Cert.Attention.mean_eq, ← coe_sum]
    refine Finset.sum_congr rfl fun d _ => ?_
    rw [aDo_val H, aO_val H, ← EReal.coe_mul]
  refine (congrArg₂ (fun y z : EReal => y - z) e1 e2).trans ?_
  rw [← EReal.coe_sub]

theorem share_val (g r : Fin 4) (n u : Fin 8192) :
    bigW m c g r n u * bigC m c g r n u = (Cert.Attention.scoreCot Q K V C g r n u : EReal) := by
  rw [bigW_val H, bigC_val H, ← EReal.coe_mul]
  rfl

theorem scale_val : ((scaleK : Ideal .f32) : EReal) = ((Real.log 2 : ℝ) : EReal) :=
  IdealRules.named_const.ideal_named_scalar _ _ _ _ rfl

theorem q_val (g r : Fin 4) (d : Fin 64) (i : Fin 8192) :
    (outQ m c (ix3 (hd g r) d i) : EReal) = ((∑ j, Cert.Attention.scoreCot Q K V C g r i j * K j g d : ℝ) : EReal) := by
  rw [outQ_entry, ← coe_sum]
  refine Finset.sum_congr rfl fun j _ => ?_
  rw [share_val H, aK_val H, ← EReal.coe_mul, mul_comm]

theorem k_val (g : Fin 4) (j : Fin 8192) (d : Fin 64) :
    (outRows (keyRows m c) (ix3 g j d) : EReal)
      = ((∑ r : Fin 4, ∑ i, Cert.Attention.scoreCot Q K V C g r i j * (Q i (hd g r) d * (1 / 8)) : ℝ) : EReal) := by
  have e : ∀ i : Fin 16, (∑ r : Fin 4, ∑ s : Fin 512, bigW m c g r (qtok i s) j * bigC m c g r (qtok i s) j * aQK m c (ix3 (qh g r) d (qtok i s))) * (scaleK : Ideal .f32)
      = ((∑ r : Fin 4, ∑ s : Fin 512, Cert.Attention.scoreCot Q K V C g r (qtok i s) j * (Q (qtok i s) (hd g r) d * (1 / 8)) : ℝ) : EReal) := by
    intro i
    have e1 : ∑ r : Fin 4, ∑ s : Fin 512, bigW m c g r (qtok i s) j * bigC m c g r (qtok i s) j * aQK m c (ix3 (qh g r) d (qtok i s))
        = ((∑ r : Fin 4, ∑ s : Fin 512, Cert.Attention.scoreCot Q K V C g r (qtok i s) j * (Q (qtok i s) (hd g r) d * ((1 / 8) / Real.log 2)) : ℝ) : EReal) := by
      rw [← coe_sum]
      refine Finset.sum_congr rfl fun r _ => ?_
      rw [← coe_sum]
      refine Finset.sum_congr rfl fun s _ => ?_
      rw [share_val H, aQ_val H, ← EReal.coe_mul]
    refine (congrArg₂ (fun y z : EReal => y * z) e1 (scale_val H)).trans ?_
    rw [← EReal.coe_mul]
    congr 1
    rw [Finset.sum_mul]
    refine Finset.sum_congr rfl fun r _ => ?_
    rw [Finset.sum_mul]
    refine Finset.sum_congr rfl fun s _ => ?_
    have := Cert.Attention.log_two_pos.ne'
    field_simp
  rw [keys_entry]
  refine (Finset.sum_congr rfl fun i _ => e i).trans ?_
  rw [coe_sum, Finset.sum_comm]
  refine congrArg (fun z : ℝ => (z : EReal)) (Finset.sum_congr rfl fun r _ => ?_)
  rw [sum_qtok fun i => Cert.Attention.scoreCot Q K V C g r i j * (Q i (hd g r) d * (1 / 8))]

theorem v_val (g : Fin 4) (j : Fin 8192) (d : Fin 64) :
    (outRows (valueRows m c) (ix3 g j d) : EReal)
      = ((∑ r : Fin 4, ∑ i, C i (Cert.Attention.lane g r d) * weight Q K g r i j : ℝ) : EReal) := by
  rw [values_entry]
  have e : ∀ i : Fin 16, ∑ r : Fin 4, ∑ s : Fin 512, bigW m c g r (qtok i s) j * aDo m c (ix3 (hd g r) d (qtok i s))
      = ((∑ r : Fin 4, ∑ s : Fin 512, C (qtok i s) (Cert.Attention.lane g r d) * weight Q K g r (qtok i s) j : ℝ) : EReal) := by
    intro i
    rw [← coe_sum]
    refine Finset.sum_congr rfl fun r _ => ?_
    rw [← coe_sum]
    refine Finset.sum_congr rfl fun s _ => ?_
    rw [bigW_val H, aDo_val H, ← EReal.coe_mul, mul_comm]
  refine (Finset.sum_congr rfl fun i _ => e i).trans ?_
  rw [coe_sum, Finset.sum_comm]
  refine congrArg (fun z : ℝ => (z : EReal)) (Finset.sum_congr rfl fun r _ => ?_)
  rw [sum_qtok fun i => C i (Cert.Attention.lane g r d) * weight Q K g r i j]

end Cert.KernelIdeal.Hand

end
-- ==== Proof.Ref.lean ====
/- The reference's results read at an index, at exact arithmetic. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

section terms
variable {F : FTy → Type} [FloatOps F]

/-- The scaled queries, by key head. -/
def rQ (q : FVec F S8192x16x64 .f32) : FVec F S8192x4x4x64 .f32 :=
  shapeCast S8192x4x4x64 (mulf q (broadcastInDim S8192x16x64 ![] bcast_S_S8192x16x64 (constant S_ .f32 0x3E000000#32))) shapeCasts_S8192x16x64_S8192x4x4x64
/-- The scores. -/
def rScore (q : FVec F S8192x16x64 .f32) (k : FVec F S8192x4x64 .f32) : FVec F S4x4x8192x8192 .f32 :=
  transpose S4x4x8192x8192 [0, 3, 2, 1] (Host.dotGeneral dot_S8192x4x64_S8192x4x4x64_S4x8192x8192x4_2_3_0_02_1_1 none k (rQ q))
    transposes_S4x8192x8192x4_S4x4x8192x8192_0_3_2_1
/-- Each token's largest score. -/
def rMax (q : FVec F S8192x16x64 .f32) (k : FVec F S8192x4x64 .f32) : FVec F S4x4x8192 .f32 :=
  maximumf (broadcastInDim S4x4x8192 ![] bcast_S_S4x4x8192 (constant S_ .f32 0xFF800000#32))
    (Host.reduce FloatOps.maximumf (rScore q k) (constant S_ .f32 0xFF800000#32) reducesTo_S4x4x8192x8192_S4x4x8192_d3 h_S_)
/-- The exponentials. -/
def rExp (q : FVec F S8192x16x64 .f32) (k : FVec F S8192x4x64 .f32) : FVec F S4x4x8192x8192 .f32 :=
  Host.exp (subf (rScore q k) (broadcastInDim S4x4x8192x8192 ![0, 1, 2, 3] bcast_S4x4x8192x1_S4x4x8192x8192_0_1_2_3
    (broadcastInDim S4x4x8192x1 ![0, 1, 2] bcast_S4x4x8192_S4x4x8192x1_0_1_2 (rMax q k))))
/-- Their sums. -/
def rSum (q : FVec F S8192x16x64 .f32) (k : FVec F S8192x4x64 .f32) : FVec F S4x4x8192x1 .f32 :=
  broadcastInDim S4x4x8192x1 ![0, 1, 2] bcast_S4x4x8192_S4x4x8192x1_0_1_2
    (Host.reduceAdd (rExp q k) (constant S_ .f32 0x00000000#32) reducesTo_S4x4x8192x8192_S4x4x8192_d3 h_S_)
/-- The output's cotangent, by head. -/
def rDo (ct : FVec F S8192x1024 .f32) : FVec F S4x64x4x8192 .f32 :=
  transpose S4x64x4x8192 [1, 3, 2, 0] (shapeCast S8192x4x4x64 ct shapeCasts_S8192x1024_S8192x4x4x64) transposes_S8192x4x4x64_S4x64x4x8192_1_3_2_0
/-- The weights' cotangent. -/
def rDp (v : FVec F S8192x4x64 .f32) (ct : FVec F S8192x1024 .f32) : FVec F S4x4x8192x8192 .f32 :=
  Host.dotGeneral dot_S4x64x4x8192_S8192x4x64_S4x4x8192x8192_1_2_23_0_0_1 none (rDo ct) v
/-- One over the square of a column. -/
def inverseSquare (S : FVec F S4x4x8192x1 .f32) : FVec F S4x4x8192x1 .f32 :=
  Host.divf (broadcastInDim S4x4x8192x1 ![] bcast_S_S4x4x8192x1 (constant S_ .f32 0x3F800000#32)) (mulf S S)
/-- The sums' cotangent, from the weights' cotangent, the exponentials and one over the sums' squares. -/
def sumCot (dp e : FVec F S4x4x8192x8192 .f32) (T : FVec F S4x4x8192x1 .f32) : FVec F S4x4x8192 .f32 :=
  Host.reduceAdd (Host.negf (shapeCast S4x4x8192x1 (Host.reduceAdd (mulf (mulf dp (broadcastInDim S4x4x8192x8192 ![0, 1, 2, 3] bcast_S4x4x8192x1_S4x4x8192x8192_0_1_2_3 T)) e)
      (constant S_ .f32 0x00000000#32) reducesTo_S4x4x8192x8192_S4x4x8192_d3 h_S_) shapeCasts_S4x4x8192_S4x4x8192x1))
    (constant S_ .f32 0x00000000#32) reducesTo_S4x4x8192x1_S4x4x8192_d3 h_S_
/-- The scores' cotangent, from the weights' cotangent, the exponentials, the sums and the sums' cotangent. -/
def scoreCot (dp e : FVec F S4x4x8192x8192 .f32) (S : FVec F S4x4x8192x1 .f32) (N : FVec F S4x4x8192 .f32) : FVec F S4x4x8192x8192 .f32 :=
  mulf (addf (Host.divf dp (broadcastInDim S4x4x8192x8192 ![0, 1, 2, 3] bcast_S4x4x8192x1_S4x4x8192x8192_0_1_2_3 S))
    (broadcastInDim S4x4x8192x8192 ![0, 1, 2] bcast_S4x4x8192_S4x4x8192x8192_0_1_2 N)) e
def rDs (q : FVec F S8192x16x64 .f32) (k v : FVec F S8192x4x64 .f32) (ct : FVec F S8192x1024 .f32) : FVec F S4x4x8192x8192 .f32 :=
  scoreCot (rDp v ct) (rExp q k) (rSum q k) (sumCot (rDp v ct) (rExp q k) (inverseSquare (rSum q k)))

/-- The three results, from the scores' cotangent and what it meets. -/
def toQ (ds : FVec F S4x4x8192x8192 .f32) (k : FVec F S8192x4x64 .f32) : FVec F S16x64x8192 .f32 :=
  transpose S16x64x8192 [1, 2, 0] (shapeCast S8192x16x64 (transpose S8192x4x4x64 [1, 0, 2, 3]
    (Host.dotGeneral dot_S4x8192x8192x4_S8192x4x64_S4x8192x4x64_1_0_23_2_0_1 none
      (transpose S4x8192x8192x4 [0, 3, 2, 1] ds transposes_S4x4x8192x8192_S4x8192x8192x4_0_3_2_1) k)
    transposes_S4x8192x4x64_S8192x4x4x64_1_0_2_3) shapeCasts_S8192x4x4x64_S8192x16x64) transposes_S8192x16x64_S16x64x8192_1_2_0
def toK (ds : FVec F S4x4x8192x8192 .f32) (Q : FVec F S8192x4x4x64 .f32) : FVec F S4x8192x64 .f32 :=
  transpose S4x8192x64 [1, 0, 2] (transpose S8192x4x64 [1, 0, 2]
    (Host.dotGeneral dot_S4x8192x8192x4_S8192x4x4x64_S4x8192x64_23_02_1_3_0_1 none
      (transpose S4x8192x8192x4 [0, 3, 2, 1] ds transposes_S4x4x8192x8192_S4x8192x8192x4_0_3_2_1) Q)
    transposes_S4x8192x64_S8192x4x64_1_0_2) transposes_S8192x4x64_S4x8192x64_1_0_2
def toV (D : FVec F S4x64x4x8192 .f32) (e : FVec F S4x4x8192x8192 .f32) (S : FVec F S4x4x8192x1 .f32) : FVec F S4x8192x64 .f32 :=
  transpose S4x8192x64 [1, 0, 2] (transpose S8192x4x64 [2, 0, 1]
    (Host.dotGeneral dot_S4x64x4x8192_S4x4x8192x8192_S4x64x8192_23_12_1_3_0_0 none D
      (Host.divf e (broadcastInDim S4x4x8192x8192 ![0, 1, 2, 3] bcast_S4x4x8192x1_S4x4x8192x8192_0_1_2_3 S)))
    transposes_S4x64x8192_S8192x4x64_2_0_1) transposes_S8192x4x64_S4x8192x64_1_0_2

variable (m : (ℓ : Loc nD τ sig) → Buf (Elt F) ℓ) (c : Dev nD)

theorem res_q : Value.res_main_v59 m c = toQ (rDs (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg1)) := rfl
theorem res_k : Value.res_main_v60 m c = toK (rDs (m ((c.tc : Thread nD τ).loc main_arg0)) (m ((c.tc : Thread nD τ).loc main_arg1))
    (m ((c.tc : Thread nD τ).loc main_arg2)) (m ((c.tc : Thread nD τ).loc main_arg3))) (rQ (m ((c.tc : Thread nD τ).loc main_arg0))) := rfl

end terms

/-! ## Read at an index -/

abbrev hd (g r : Fin 4) : Fin 16 := ⟨4 * g.val + r.val, by omega⟩

variable (q : FVec Ideal S8192x16x64 .f32) (k v : FVec Ideal S8192x4x64 .f32) (ct : FVec Ideal S8192x1024 .f32)

theorem rQ_entry (g r : Fin 4) (i : Fin 8192) (d : Fin 64) :
    (rQ (F := Ideal) q (ix4 (n0 := 8192) (n1 := 4) (n2 := 4) (n3 := 64) i g r d) : EReal)
      = (q (ix3 (n0 := 8192) (n1 := 16) (n2 := 64) i (hd g r) d) : EReal) * Ideal.ofBits .f32 0x3E000000#32 := by
  pointwise [rQ]
  rw [show (⟨g.val * 4 + r.val, by omega⟩ : Fin 16) = hd g r from Fin.ext (by show g.val * 4 + r.val = 4 * g.val + r.val; omega)]

theorem rScore_entry (g r : Fin 4) (i j : Fin 8192) :
    (rScore (F := Ideal) q k (ix4 (n0 := 4) (n1 := 4) (n2 := 8192) (n3 := 8192) g r i j) : EReal)
      = ∑ d : Fin 64, (k (ix3 (n0 := 8192) (n1 := 4) (n2 := 64) j g d) : EReal) * ((q (ix3 (n0 := 8192) (n1 := 16) (n2 := 64) i (hd g r) d) : EReal) * Ideal.ofBits .f32 0x3E000000#32) := by
  simp only [← rQ_entry]
  unfold rScore
  generalize rQ (F := Ideal) q = X
  pointwise []

/-- The largest of a row, from −∞. -/
def largest (X : FVec Ideal S4x4x8192x8192 .f32) : FVec Ideal S4x4x8192 .f32 :=
  Host.reduce FloatOps.maximumf X (constant (F := Ideal) S_ .f32 0xFF800000#32) reducesTo_S4x4x8192x8192_S4x4x8192_d3 h_S_
theorem largest_entry (X : FVec Ideal S4x4x8192x8192 .f32) (g r : Fin 4) (i : Fin 8192) :
    (largest X (ix3 (n0 := 4) (n1 := 4) (n2 := 8192) g r i) : EReal)
      = Finset.univ.fold max (⊥ : EReal) fun j : Fin 8192 => (X (ix4 (n0 := 4) (n1 := 4) (n2 := 8192) (n3 := 8192) g r i j) : EReal) := by
  pointwise [largest]
  rw [show Ideal.ofBits .f32 0xFF800000#32 = (⊥ : EReal) by simp [Ideal.ofBits, Ideal.ieee]]

/-- The larger of one value and a row's entry. -/
theorem larger_entry (w : BitVec 32) (Y : FVec Ideal S4x4x8192 .f32) (x : S4x4x8192.Idx) :
    (maximumf (broadcastInDim S4x4x8192 ![] bcast_S_S4x4x8192 (constant (F := Ideal) S_ .f32 w)) Y x : EReal) = max (Ideal.ofBits .f32 w) (Y x : EReal) := rfl

theorem rMax_entry (g r : Fin 4) (i : Fin 8192) :
    (rMax (F := Ideal) q k (ix3 (n0 := 4) (n1 := 4) (n2 := 8192) g r i) : EReal)
      = Finset.univ.fold max (⊥ : EReal) fun j : Fin 8192 => (rScore (F := Ideal) q k (ix4 (n0 := 4) (n1 := 4) (n2 := 8192) (n3 := 8192) g r i j) : EReal) := by
  rw [← largest_entry]
  refine (larger_entry _ (largest (rScore (F := Ideal) q k)) _).trans ?_
  rw [show Ideal.ofBits .f32 0xFF800000#32 = (⊥ : EReal) by simp [Ideal.ofBits, Ideal.ieee]]
  exact max_bot_left _

theorem rExp_entry (g r : Fin 4) (i j : Fin 8192) :
    (rExp (F := Ideal) q k (ix4 (n0 := 4) (n1 := 4) (n2 := 8192) (n3 := 8192) g r i j) : EReal)
      = Ideal.exp ((rScore (F := Ideal) q k (ix4 (n0 := 4) (n1 := 4) (n2 := 8192) (n3 := 8192) g r i j) : EReal) - (rMax (F := Ideal) q k (ix3 (n0 := 4) (n1 := 4) (n2 := 8192) g r i) : EReal)) := by
  unfold rExp
  generalize rScore (F := Ideal) q k = X
  generalize rMax (F := Ideal) q k = Y
  pointwise []

theorem rSum_entry (g r : Fin 4) (i : Fin 8192) :
    (rSum (F := Ideal) q k (ix4 (n0 := 4) (n1 := 4) (n2 := 8192) (n3 := 1) g r i 0) : EReal)
      = ∑ j : Fin 8192, (rExp (F := Ideal) q k (ix4 (n0 := 4) (n1 := 4) (n2 := 8192) (n3 := 8192) g r i j) : EReal) := by
  unfold rSum
  generalize rExp (F := Ideal) q k = X
  pointwise []

theorem rDo_entry (g r : Fin 4) (d : Fin 64) (i : Fin 8192) :
    (rDo (F := Ideal) ct (ix4 (n0 := 4) (n1 := 64) (n2 := 4) (n3 := 8192) g d r i) : EReal)
      = (ct (ix2 (n0 := 8192) (n1 := 1024) i ⟨64 * (4 * g.val + r.val) + d.val, by omega⟩) : EReal) := by
  pointwise [rDo]
  rw [show (⟨g.val * 256 + r.val * 64 + d.val, by omega⟩ : Fin 1024) = ⟨64 * (4 * g.val + r.val) + d.val, by omega⟩ from Fin.ext (by show g.val * 256 + r.val * 64 + d.val = 64 * (4 * g.val + r.val) + d.val; omega)]

theorem rDp_entry (g r : Fin 4) (i j : Fin 8192) :
    (rDp (F := Ideal) v ct (ix4 (n0 := 4) (n1 := 4) (n2 := 8192) (n3 := 8192) g r i j) : EReal)
      = ∑ d : Fin 64, (ct (ix2 (n0 := 8192) (n1 := 1024) i ⟨64 * (4 * g.val + r.val) + d.val, by omega⟩) : EReal) * (v (ix3 (n0 := 8192) (n1 := 4) (n2 := 64) j g d) : EReal) := by
  simp only [← rDo_entry]
  unfold rDp
  generalize rDo (F := Ideal) ct = X
  pointwise []

theorem inverseSquare_entry (S : FVec Ideal S4x4x8192x1 .f32) (g r : Fin 4) (i : Fin 8192) :
    (inverseSquare (F := Ideal) S (ix4 (n0 := 4) (n1 := 4) (n2 := 8192) (n3 := 1) g r i 0) : EReal)
      = Ideal.div 1 ((S (ix4 (n0 := 4) (n1 := 4) (n2 := 8192) (n3 := 1) g r i 0) : EReal) * (S (ix4 (n0 := 4) (n1 := 4) (n2 := 8192) (n3 := 1) g r i 0) : EReal)) := by
  pointwise [inverseSquare]

theorem sumCot_entry (dp e : FVec Ideal S4x4x8192x8192 .f32) (T : FVec Ideal S4x4x8192x1 .f32) (g r : Fin 4) (i : Fin 8192) :
    (sumCot (F := Ideal) dp e T (ix3 (n0 := 4) (n1 := 4) (n2 := 8192) g r i) : EReal)
      = -∑ j : Fin 8192, (dp (ix4 (n0 := 4) (n1 := 4) (n2 := 8192) (n3 := 8192) g r i j) : EReal) * (T (ix4 (n0 := 4) (n1 := 4) (n2 := 8192) (n3 := 1) g r i 0) : EReal) * (e (ix4 (n0 := 4) (n1 := 4) (n2 := 8192) (n3 := 8192) g r i j) : EReal) := by
  pointwise [sumCot]
  exact Fin.sum_univ_one _

theorem scoreCot_entry (dp e : FVec Ideal S4x4x8192x8192 .f32) (S : FVec Ideal S4x4x8192x1 .f32) (N : FVec Ideal S4x4x8192 .f32) (g r : Fin 4) (i j : Fin 8192) :
    (scoreCot (F := Ideal) dp e S N (ix4 (n0 := 4) (n1 := 4) (n2 := 8192) (n3 := 8192) g r i j) : EReal)
      = (Ideal.div (dp (ix4 (n0 := 4) (n1 := 4) (n2 := 8192) (n3 := 8192) g r i j) : EReal) (S (ix4 (n0 := 4) (n1 := 4) (n2 := 8192) (n3 := 1) g r i 0) : EReal)
          + (N (ix3 (n0 := 4) (n1 := 4) (n2 := 8192) g r i) : EReal)) * (e (ix4 (n0 := 4) (n1 := 4) (n2 := 8192) (n3 := 8192) g r i j) : EReal) := by
  pointwise [scoreCot]

theorem toQ_entry (ds : FVec Ideal S4x4x8192x8192 .f32) (g r : Fin 4) (d : Fin 64) (i : Fin 8192) :
    (toQ (F := Ideal) ds k (ix3 (n0 := 16) (n1 := 64) (n2 := 8192) (hd g r) d i) : EReal)
      = ∑ j : Fin 8192, (ds (ix4 (n0 := 4) (n1 := 4) (n2 := 8192) (n3 := 8192) g r i j) : EReal) * (k (ix3 (n0 := 8192) (n1 := 4) (n2 := 64) j g d) : EReal) := by
  pointwise [toQ]

theorem toK_entry (ds : FVec Ideal S4x4x8192x8192 .f32) (Q : FVec Ideal S8192x4x4x64 .f32) (g : Fin 4) (j : Fin 8192) (d : Fin 64) :
    (toK (F := Ideal) ds Q (ix3 (n0 := 4) (n1 := 8192) (n2 := 64) g j d) : EReal)
      = ∑ r : Fin 4, ∑ i : Fin 8192, (ds (ix4 (n0 := 4) (n1 := 4) (n2 := 8192) (n3 := 8192) g r i j) : EReal) * (Q (ix4 (n0 := 8192) (n1 := 4) (n2 := 4) (n3 := 64) i g r d) : EReal) := by
  pointwise [toK]
  exact Finset.sum_comm

theorem toV_entry (D : FVec Ideal S4x64x4x8192 .f32) (e : FVec Ideal S4x4x8192x8192 .f32) (S : FVec Ideal S4x4x8192x1 .f32) (g : Fin 4) (j : Fin 8192) (d : Fin 64) :
    (toV (F := Ideal) D e S (ix3 (n0 := 4) (n1 := 8192) (n2 := 64) g j d) : EReal)
      = ∑ r : Fin 4, ∑ i : Fin 8192, (D (ix4 (n0 := 4) (n1 := 64) (n2 := 4) (n3 := 8192) g d r i) : EReal)
          * Ideal.div (e (ix4 (n0 := 4) (n1 := 4) (n2 := 8192) (n3 := 8192) g r i j) : EReal) (S (ix4 (n0 := 4) (n1 := 4) (n2 := 8192) (n3 := 1) g r i 0) : EReal) := by
  pointwise [toV]

end Cert.ReferenceIdeal.Hand

end
-- ==== Proof.RefVals.lean ====
/- The reference's results on finite arguments are the real gradient. -/
module

public import proofs.«01_k».proof.Proof.Ref
public import proofs.«01_k».proof.Proof.Reals

@[expose] public section

set_option maxRecDepth 16384

noncomputable section

namespace Cert.ReferenceIdeal.Hand

open Cert.ReferenceIdeal Cert.ReferenceIdeal.Gen
open Idealize.ShloMosaic Idealize.ShloMosaic.TcCoe
open Cert.Attention (score top expo total weight weightCot coe_sum eighth lane)

variable (q : FVec Ideal S8192x16x64 .f32) (k v : FVec Ideal S8192x4x64 .f32) (ct : FVec Ideal S8192x1024 .f32)
variable (Q : Fin 8192 → Fin 16 → Fin 64 → ℝ) (K V : Fin 8192 → Fin 4 → Fin 64 → ℝ) (C : Fin 8192 → Fin 1024 → ℝ)

section
variable (hq : ∀ i h d, (q (ix3 (n0 := 8192) (n1 := 16) (n2 := 64) i h d) : EReal) = (Q i h d : EReal))
  (hk : ∀ i h d, (k (ix3 (n0 := 8192) (n1 := 4) (n2 := 64) i h d) : EReal) = (K i h d : EReal))
include hq hk

theorem score_val (g r : Fin 4) (i j : Fin 8192) :
    (rScore (F := Ideal) q k (ix4 (n0 := 4) (n1 := 4) (n2 := 8192) (n3 := 8192) g r i j) : EReal) = (score Q K g r i j : EReal) := by
  rw [rScore_entry, eighth]
  unfold score
  rw [← coe_sum]
  refine Finset.sum_congr rfl fun d _ => ?_
  rw [hq, hk, ← EReal.coe_mul, ← EReal.coe_mul]

theorem max_val (g r : Fin 4) (i : Fin 8192) :
    (rMax (F := Ideal) q k (ix3 (n0 := 4) (n1 := 4) (n2 := 8192) g r i) : EReal) = (top Q K g r i : EReal) := by
  rw [rMax_entry, ← Cert.Attention.top_coe]
  exact congrArg (fun f : Fin 8192 → EReal => Finset.univ.fold max (⊥ : EReal) f) (funext fun j => score_val q k Q K hq hk g r i j)

theorem exp_val (g r : Fin 4) (i j : Fin 8192) :
    (rExp (F := Ideal) q k (ix4 (n0 := 4) (n1 := 4) (n2 := 8192) (n3 := 8192) g r i j) : EReal) = (expo Q K g r i j : EReal) := by
  rw [rExp_entry, score_val q k Q K hq hk, max_val q k Q K hq hk, ← EReal.coe_sub, Cert.Attention.exp_real]
  rfl

theorem sum_val (g r : Fin 4) (i : Fin 8192) :
    (rSum (F := Ideal) q k (ix4 (n0 := 4) (n1 := 4) (n2 := 8192) (n3 := 1) g r i 0) : EReal) = (total Q K g r i : EReal) := by
  rw [rSum_entry]
  unfold total
  rw [← coe_sum]
  exact Finset.sum_congr rfl fun j _ => exp_val q k Q K hq hk g r i j

end

section
variable (hv : ∀ i h d, (v (ix3 (n0 := 8192) (n1 := 4) (n2 := 64) i h d) : EReal) = (V i h d : EReal))
  (hc : ∀ i n, (ct (ix2 (n0 := 8192) (n1 := 1024) i n) : EReal) = (C i n : EReal))
include hv hc

theorem dp_val (g r : Fin 4) (i j : Fin 8192) :
    (rDp (F := Ideal) v ct (ix4 (n0 := 4) (n1 := 4) (n2 := 8192) (n3 := 8192) g r i j) : EReal) = (weightCot V C g r i j : EReal) := by
  rw [rDp_entry]
  unfold weightCot
  rw [← coe_sum]
  refine Finset.sum_congr rfl fun d _ => ?_
  rw [hv, hc, ← EReal.coe_mul]

variable (hq : ∀ i h d, (q (ix3 (n0 := 8192) (n1 := 16) (n2 := 64) i h d) : EReal) = (Q i h d : EReal))
  (hk : ∀ i h d, (k (ix3 (n0 := 8192) (n1 := 4) (n2 := 64) i h d) : EReal) = (K i h d : EReal))
include hq hk

theorem ds_val (g r : Fin 4) (i j : Fin 8192) :
    (rDs (F := Ideal) q k v ct (ix4 (n0 := 4) (n1 := 4) (n2 := 8192) (n3 := 8192) g r i j) : EReal) = (Cert.Attention.scoreCot Q K V C g r i j : EReal) := by
  have hS := (Cert.Attention.total_pos Q K g r i).ne'
  unfold rDs
  rw [scoreCot_entry, sumCot_entry, inverseSquare_entry, exp_val q k Q K hq hk, sum_val q k Q K hq hk, dp_val v ct V C hv hc,
    ← EReal.coe_mul (total Q K g r i), ← EReal.coe_one, Cert.Attention.div_real _ _ (mul_ne_zero hS hS), Cert.Attention.div_real _ _ hS]
  have e : ∑ u : Fin 8192, (rDp (F := Ideal) v ct (ix4 (n0 := 4) (n1 := 4) (n2 := 8192) (n3 := 8192) g r i u) : EReal)
        * ((1 / (total Q K g r i * total Q K g r i) : ℝ) : EReal) * (rExp (F := Ideal) q k (ix4 (n0 := 4) (n1 := 4) (n2 := 8192) (n3 := 8192) g r i u) : EReal)
      = ((∑ u, weightCot V C g r i u * (1 / (total Q K g r i * total Q K g r i)) * expo Q K g r i u : ℝ) : EReal) := by
    rw [← coe_sum]
    refine Finset.sum_congr rfl fun u _ => ?_
    rw [dp_val v ct V C hv hc, exp_val q k Q K hq hk, ← EReal.coe_mul, ← EReal.coe_mul]
  rw [e, ← EReal.coe_neg, ← EReal.coe_add, ← EReal.coe_mul, Cert.Attention.scoreCot_eq]

theorem q_val (g r : Fin 4) (d : Fin 64) (i : Fin 8192) :
    (toQ (F := Ideal) (rDs (F := Ideal) q k v ct) k (ix3 (n0 := 16) (n1 := 64) (n2 := 8192) (hd g r) d i) : EReal)
      = ((∑ j, Cert.Attention.scoreCot Q K V C g r i j * K j g d : ℝ) : EReal) := by
  rw [toQ_entry, ← coe_sum]
  refine Finset.sum_congr rfl fun j _ => ?_
  rw [ds_val q k v ct Q K V C hv hc hq hk, hk, ← EReal.coe_mul]

theorem k_val (g : Fin 4) (j : Fin 8192) (d : Fin 64) :
    (toK (F := Ideal) (rDs (F := Ideal) q k v ct) (rQ (F := Ideal) q) (ix3 (n0 := 4) (n1 := 8192) (n2 := 64) g j d) : EReal)
      = ((∑ r : Fin 4, ∑ i, Cert.Attention.scoreCot Q K V C g r i j * (Q i (hd g r) d * (1 / 8)) : ℝ) : EReal) := by
  rw [toK_entry, ← coe_sum]
  refine Finset.sum_congr rfl fun r _ => ?_
  rw [← coe_sum]
  refine Finset.sum_congr rfl fun i _ => ?_
  rw [ds_val q k v ct Q K V C hv hc hq hk, rQ_entry, hq, eighth, ← EReal.coe_mul, ← EReal.coe_mul]

theorem v_val (g : Fin 4) (j : Fin 8192) (d : Fin 64) :
    (toV (F := Ideal) (rDo (F := Ideal) ct) (rExp (F := Ideal) q k) (rSum (F := Ideal) q k) (ix3 (n0 := 4) (n1 := 8192) (n2 := 64) g j d) : EReal)
      = ((∑ r : Fin 4, ∑ i, C i (lane g r d) * weight Q K g r i j : ℝ) : EReal) := by
  rw [toV_entry, ← coe_sum]
  refine Finset.sum_congr rfl fun r _ => ?_
  rw [← coe_sum]
  refine Finset.sum_congr rfl fun i _ => ?_
  rw [rDo_entry, hc, exp_val q k Q K hq hk, sum_val q k Q K hq hk, Cert.Attention.div_real _ _ (Cert.Attention.total_pos Q K g r i).ne', ← EReal.coe_mul]
  rfl

end

end Cert.ReferenceIdeal.Hand

end
-- ==== Proof.Pre.lean ====
/- What the precondition says: every argument's entries are real. -/
module

public import proofs.«01_k».proof.Pre_finite
public import Idealize.ShloMosaic.Lib.Affine
public import Idealize.ShloMosaic.Lib.Decide
public import Idealize.ShloMosaic.Lib.ReduceAll
public import Idealize.ShloMosaic.Lib.Pointwise

@[expose] public section

noncomputable section

namespace Cert.Pre_finite.Hand

open Cert.Pre_finite Idealize.ShloMosaic

instance facts : Cert.Pre_finite.Facts where
  bcast_S_S8192x16x64 := by decide
  reducesTo_S8192x16x64_S_d0_1_2 := by decide
  h_S_ := by decide
  bcast_S_S8192x4x64 := by decide
  reducesTo_S8192x4x64_S_d0_1_2 := by decide
  bcast_S_S8192x1024 := by decide
  reducesTo_S8192x1024_S_d0_1 := by decide

instance : Subsingleton S_.Idx := ⟨fun a b => funext fun x => x.elim0⟩

/-- An entry whose magnitude is below infinity is real. -/
theorem real_of_cmp (x : EReal) (h : Ideal.cmp .olt (max x (-x)) (Ideal.ofBits .f32 0x7F800000#32) = 1#1) : x = ((x.toReal : ℝ) : EReal) := by
  have e : Ideal.ofBits .f32 0x7F800000#32 = (⊤ : EReal) := by simp [Ideal.ofBits, Ideal.ieee]
  rw [e] at h
  have h1 : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  have h2 := max_lt_iff.1 h1
  refine (EReal.coe_toReal h2.1.ne ?_).symm
  intro hb
  rw [hb] at h2
  exact absurd h2.2 (by simp)

/-- An array all of whose magnitudes compare below infinity holds reals. -/
theorem real_of_all {s : Shape} {axes : List (Fin s.rank)} (x : FVec Ideal s .f32) (hb : S_.BroadcastsInDim s (![] : Fin 0 → Fin s.rank)) (hr : s.ReducesTo axes S_)
    (h : Host.reduce IntOp.andi (cmpf .olt (Host.absf x) (broadcastInDim s ![] hb (constant (F := Ideal) S_ .f32 0x7F800000#32))) (constantI S_ 1 1#1) hr (by decide) ix0 = 1#1) (i : s.Idx) :
    (x i : EReal) = ((EReal.toReal (x i) : ℝ) : EReal) :=
  real_of_cmp (x i) (Host.reduce_andi_all _ _ hr _ ix0 h i)

theorem finite_real (q : FVec Ideal S8192x16x64 .f32) (k v : FVec Ideal S8192x4x64 .f32) (ct : FVec Ideal S8192x1024 .f32)
    (h : fn (F := Ideal) q k v ct = fun _ => 1#1) :
    (∀ i, (q i : EReal) = ((EReal.toReal (q i) : ℝ) : EReal)) ∧ (∀ i, (k i : EReal) = ((EReal.toReal (k i) : ℝ) : EReal))
      ∧ (∀ i, (v i : EReal) = ((EReal.toReal (v i) : ℝ) : EReal)) ∧ (∀ i, (ct i : EReal) = ((EReal.toReal (ct i) : ℝ) : EReal)) := by
  have h0 := congrFun h ix0
  obtain ⟨h1, hct⟩ := IntOp.andi_eq_one.1 h0
  obtain ⟨h2, hv⟩ := IntOp.andi_eq_one.1 h1
  obtain ⟨hq, hk⟩ := IntOp.andi_eq_one.1 h2
  exact ⟨real_of_all q _ _ hq, real_of_all k _ _ hk, real_of_all v _ _ hv, real_of_all ct _ _ hct⟩

end Cert.Pre_finite.Hand

end
-- ==== Proof.Equal.lean ====
/- On finite arguments the two programs' results are equal. -/
module

public import proofs.«01_k».proof.Proof.KernelVals
public import proofs.«01_k».proof.Proof.RefVals
public import proofs.«01_k».proof.Proof.Pre

@[expose] public section

set_option maxRecDepth 16384

noncomputable section

namespace Cert.Equal

open Cert.KernelIdeal Cert.KernelIdeal.Gen Cert.KernelIdeal.Hand
open Idealize.ShloMosaic Idealize.ShloMosaic.TcCoe

/-- Every query head is the `r`th of the four that share key head `g`. -/
theorem head_split (h : Fin 16) : ∃ g r : Fin 4, h = hd g r :=
  ⟨⟨h.val / 4, by omega⟩, ⟨h.val % 4, by omega⟩, Fin.ext (by show h.val = 4 * (h.val / 4) + h.val % 4; omega)⟩

variable (m : (ℓ : Loc nD τ sig) → Buf (Elt Ideal) ℓ) (c : Dev nD)

abbrev argQ : FVec Ideal S8192x16x64 .f32 := m ((c.tc : Thread nD τ).loc main_arg0)
abbrev argK : FVec Ideal S8192x4x64 .f32 := m ((c.tc : Thread nD τ).loc main_arg1)
abbrev argV : FVec Ideal S8192x4x64 .f32 := m ((c.tc : Thread nD τ).loc main_arg2)
abbrev argC : FVec Ideal S8192x1024 .f32 := m ((c.tc : Thread nD τ).loc main_arg3)

abbrev realQ (i : Fin 8192) (h : Fin 16) (d : Fin 64) : ℝ := EReal.toReal (argQ m c (ix3 i h d))
abbrev realK (i : Fin 8192) (h : Fin 4) (d : Fin 64) : ℝ := EReal.toReal (argK m c (ix3 i h d))
abbrev realV (i : Fin 8192) (h : Fin 4) (d : Fin 64) : ℝ := EReal.toReal (argV m c (ix3 i h d))
abbrev realC (i : Fin 8192) (n : Fin 1024) : ℝ := EReal.toReal (argC m c (ix2 i n))

variable (hpre : Cert.Pre_finite.fn (F := Ideal) (argQ m c) (argK m c) (argV m c) (argC m c) = fun _ => 1#1)
include hpre

theorem holds : Holds m c (realQ m c) (realK m c) (realV m c) (realC m c) where
  q i h d := (Cert.Pre_finite.Hand.finite_real _ _ _ _ hpre).1 _
  k i h d := (Cert.Pre_finite.Hand.finite_real _ _ _ _ hpre).2.1 _
  v i h d := (Cert.Pre_finite.Hand.finite_real _ _ _ _ hpre).2.2.1 _
  ct i n := (Cert.Pre_finite.Hand.finite_real _ _ _ _ hpre).2.2.2 _

theorem queries : (Cert.ReferenceIdeal.Hand.toQ (F := Ideal) (Cert.ReferenceIdeal.Hand.rDs (F := Ideal) (argQ m c) (argK m c) (argV m c) (argC m c)) (argK m c) : FVec Ideal S16x64x8192 .f32)
    = outQ m c := by
  have H := holds m c hpre
  funext x
  obtain ⟨h, d, i, rfl⟩ : ∃ h d i, x = ix3 h d i := ⟨x 0, x 1, x 2, eq_ix3 x⟩
  obtain ⟨g, r, rfl⟩ := head_split h
  exact (Cert.ReferenceIdeal.Hand.q_val _ _ _ _ _ _ _ _ H.v H.ct H.q H.k g r d i).trans (Cert.KernelIdeal.Hand.q_val H g r d i).symm

theorem keys : (Cert.ReferenceIdeal.Hand.toK (F := Ideal) (Cert.ReferenceIdeal.Hand.rDs (F := Ideal) (argQ m c) (argK m c) (argV m c) (argC m c)) (Cert.ReferenceIdeal.Hand.rQ (F := Ideal) (argQ m c)) : FVec Ideal S4x8192x64 .f32)
    = outRows (keyRows m c) := by
  have H := holds m c hpre
  funext x
  obtain ⟨g, j, d, rfl⟩ : ∃ g j d, x = ix3 g j d := ⟨x 0, x 1, x 2, eq_ix3 x⟩
  exact (Cert.ReferenceIdeal.Hand.k_val _ _ _ _ _ _ _ _ H.v H.ct H.q H.k g j d).trans (Cert.KernelIdeal.Hand.k_val H g j d).symm

theorem values : (Cert.ReferenceIdeal.Hand.toV (F := Ideal) (Cert.ReferenceIdeal.Hand.rDo (F := Ideal) (argC m c)) (Cert.ReferenceIdeal.Hand.rExp (F := Ideal) (argQ m c) (argK m c)) (Cert.ReferenceIdeal.Hand.rSum (F := Ideal) (argQ m c) (argK m c)) : FVec Ideal S4x8192x64 .f32)
    = outRows (valueRows m c) := by
  have H := holds m c hpre
  funext x
  obtain ⟨g, j, d, rfl⟩ : ∃ g j d, x = ix3 g j d := ⟨x 0, x 1, x 2, eq_ix3 x⟩
  exact (Cert.ReferenceIdeal.Hand.v_val _ _ _ _ _ _ _ _ H.v H.ct H.q H.k g j d).trans (Cert.KernelIdeal.Hand.v_val H g j d).symm

end Cert.Equal

end
-- ==== Proof.FwdRun.lean ====
/- What the attention's forward pass leaves after each of its points: the running maximum and the running sums, and at a
   block's last point the quotients and the log-sums. -/
module

public import proofs.«01_k».proof.Proof.Gen.FlashFwdIdeal.Value
public import Idealize.ShloMosaic.Lib.Pointwise
public import Idealize.ShloMosaic.Lib.Pipeline.ValueKit

@[expose] public section

set_option maxRecDepth 16384

noncomputable section

namespace Cert.FlashFwdIdeal.Hand

open Cert.FlashFwdIdeal Cert.FlashFwdIdeal.Gen
open Idealize.ShloMosaic Idealize.ShloMosaic.TcCoe

section
variable {F : FTy → Type} [FloatOps F] [Named F]

/-- A head of a block of queries. -/
abbrev head0 (x : Vec F S4x64x1024 .bf16) : Vec F S1x64x1024 .bf16 := View.ld x (Rect.unit ![0, 0, 0] ![1, 64, 1024] inb_S4x64x1024_S1x64x1024_0_0_0)
abbrev head1 (x : Vec F S4x64x1024 .bf16) : Vec F S1x64x1024 .bf16 := View.ld x (Rect.unit ![1, 0, 0] ![1, 64, 1024] inb_S4x64x1024_S1x64x1024_1_0_0)
abbrev head2 (x : Vec F S4x64x1024 .bf16) : Vec F S1x64x1024 .bf16 := View.ld x (Rect.unit ![2, 0, 0] ![1, 64, 1024] inb_S4x64x1024_S1x64x1024_2_0_0)
abbrev head3 (x : Vec F S4x64x1024 .bf16) : Vec F S1x64x1024 .bf16 := View.ld x (Rect.unit ![3, 0, 0] ![1, 64, 1024] inb_S4x64x1024_S1x64x1024_3_0_0)

/-- The next running maximum. -/
def nextMax (x0 : Vec F S4x64x1024 .bf16) (x1 : Vec F S1x64x512 .bf16) (M : Vec F S1x4096 .f32) : Vec F S1x4096 .f32 :=
  k0_pay2 (k0_pay18 x1 (head0 x0) (head1 x0) (head2 x0) (head3 x0) M)

/-- The next running sums. -/
def nextSum (x0 : Vec F S4x64x1024 .bf16) (x1 : Vec F S1x64x512 .bf16) (x2 : Vec F S1x72x512 .bf16) (M : Vec F S1x4096 .f32) (A : Vec F S72x4096 .f32) :
    Vec F S72x4096 .f32 :=
  k0_pay1 (k0_pay19 x1 (head0 x0) (head1 x0) (head2 x0) (head3 x0) M) (k0_pay20 x1 (head0 x0) (head1 x0) (head2 x0) (head3 x0) M A) (k0_pay21 x2)

variable (m : (ℓ : Loc nD τ sig) → Buf (Elt F) ℓ) (c : Dev nD)

abbrev queriesAt (t : Fin cfg0.N) : Vec F S4x64x1024 .bf16 := iblk m c 0 t
abbrev keysAt (t : Fin cfg0.N) : Vec F S1x64x512 .bf16 := iblk m c 1 t
abbrev valuesAt (t : Fin cfg0.N) : Vec F S1x72x512 .bf16 := iblk m c 2 t

abbrev maxAt (t : Fin cfg0.N) : Vec F S1x4096 .f32 := (outsAt0 m c t.val t.isLt).2.2.1
abbrev sumAt (t : Fin cfg0.N) : Vec F S72x4096 .f32 := (outsAt0 m c t.val t.isLt).2.2.2
abbrev prev (t : Fin cfg0.N) : Fin cfg0.N := ⟨t.val - 1, Nat.lt_of_le_of_lt (Nat.sub_le _ _) t.isLt⟩

theorem read0 (x : Vec F S1x4096 .f32) : View.read (Elt F) (View.whole cc0_scratch0) ((Memref.isWhole_whole cc0_scratch0).unread x) = x :=
  (Memref.isWhole_whole cc0_scratch0).read_unread x
theorem read1 (x : Vec F S72x4096 .f32) : View.read (Elt F) (View.whole cc0_scratch1) ((Memref.isWhole_whole cc0_scratch1).unread x) = x :=
  (Memref.isWhole_whole cc0_scratch1).read_unread x

theorem max_first (t : Fin cfg0.N) (h0 : t.val % 16 = 0) : maxAt m c t = nextMax (queriesAt m c t) (keysAt m c t) k0_pay15 := by
  unfold maxAt
  rw [outsAt0_A m c t h0 (by omega)]
  frame_out
  rfl
theorem sum_first (t : Fin cfg0.N) (h0 : t.val % 16 = 0) :
    sumAt m c t = nextSum (queriesAt m c t) (keysAt m c t) (valuesAt m c t) k0_pay15 k0_pay16 := by
  unfold sumAt
  rw [outsAt0_A m c t h0 (by omega)]
  frame_out
  rfl
theorem max_next (t : Fin cfg0.N) (h0 : ¬ t.val % 16 = 0) :
    maxAt m c t = nextMax (queriesAt m c t) (keysAt m c t) (maxAt m c (prev t)) := by
  by_cases h1 : t.val % 16 = 15
  · rw [show maxAt m c t = (outsAt0 m c t.val t.isLt).2.2.1 from rfl, outsAt0_C m c t h0 h1]
    frame_out
    rw [read0]
    rfl
  · rw [show maxAt m c t = (outsAt0 m c t.val t.isLt).2.2.1 from rfl, outsAt0_B m c t h0 h1]
    frame_out
    rw [read0]
    rfl
theorem sum_next (t : Fin cfg0.N) (h0 : ¬ t.val % 16 = 0) :
    sumAt m c t = nextSum (queriesAt m c t) (keysAt m c t) (valuesAt m c t) (maxAt m c (prev t)) (sumAt m c (prev t)) := by
  by_cases h1 : t.val % 16 = 15
  · rw [show sumAt m c t = (outsAt0 m c t.val t.isLt).2.2.2 from rfl, outsAt0_C m c t h0 h1]
    frame_out
    rw [read0, read1]
    rfl
  · rw [show sumAt m c t = (outsAt0 m c t.val t.isLt).2.2.2 from rfl, outsAt0_B m c t h0 h1]
    frame_out
    rw [read0, read1]
    rfl

end

end Cert.FlashFwdIdeal.Hand

end
-- ==== Proof.FwdBlock.lean ====
/- One step of the attention's forward pass, entry by entry, at exact arithmetic. -/
module

public import proofs.«01_k».proof.Proof.FwdRun
public import Idealize.ShloMosaic.Lib.Pointwise

@[expose] public section

set_option maxRecDepth 16384

noncomputable section

namespace Cert.FlashFwdIdeal.Hand

open Cert.FlashFwdIdeal Cert.FlashFwdIdeal.Gen
open Idealize.ShloMosaic Idealize.ShloMosaic.TcCoe

/-- Lane `1024·r + s`: token `s` of head `r`. -/
abbrev lane (r : Fin 4) (s : Fin 1024) : Fin 4096 := ⟨1024 * r.val + s.val, by omega⟩

/-- The score of key `u` at token `s` of head `r`, in base two. -/
def scoreAt (x0 : FVec Ideal S4x64x1024 .bf16) (x1 : FVec Ideal S1x64x512 .bf16) (u : Fin 512) (r : Fin 4) (s : Fin 1024) : EReal :=
  ∑ d : Fin 64, x1 (ix3 (n0 := 1) 0 d u) * x0 (ix3 r d s)

theorem head_entry (x : Vec Ideal S4x64x1024 .bf16) (n : ℕ) (h) (k : Fin 4) (hk : k.val = n) (d : Fin 64) (s : Fin 1024) :
    (View.ld x (Rect.unit ![n, 0, 0] ![1, 64, 1024] h) : Vec Ideal S1x64x1024 .bf16) (ix3 (n0 := 1) (n1 := 64) (n2 := 1024) 0 d s) = x (ix3 k d s) := by
  refine View.ld_unit_apply_of _ _ _ _ _ _ fun a => ?_
  match a with
  | ⟨0, _⟩ => show k.val = n + 0; omega
  | ⟨1, _⟩ => show d.val = 0 + d.val; omega
  | ⟨2, _⟩ => show s.val = 0 + s.val; omega

/-- The four heads side by side. -/
def sideBySide (a b c e : FVec Ideal S1x64x1024 .bf16) : FVec Ideal S64x4096 .bf16 :=
  concatenate S64x4096 1 [⟨S64x1024, shapeCast S64x1024 a shapeCasts_S1x64x1024_S64x1024⟩, ⟨S64x1024, shapeCast S64x1024 b shapeCasts_S1x64x1024_S64x1024⟩,
    ⟨S64x1024, shapeCast S64x1024 c shapeCasts_S1x64x1024_S64x1024⟩, ⟨S64x1024, shapeCast S64x1024 e shapeCasts_S1x64x1024_S64x1024⟩]
    concatenates_S64x1024_S64x1024_S64x1024_S64x1024_S64x4096_d1

theorem sideBySide_entry (a b c e : FVec Ideal S1x64x1024 .bf16) (r : Fin 4) (d : Fin 64) (s : Fin 1024) :
    sideBySide a b c e (ix2 (n0 := 64) (n1 := 4096) d (lane r s)) = (![a, b, c, e] r) (ix3 (n0 := 1) (n1 := 64) (n2 := 1024) 0 d s) := by
  have hs := s.isLt
  fin_cases r
  · pointwise [sideBySide]
  · pointwise [sideBySide]
  · pointwise [sideBySide]
    rw [dif_neg (by omega), dif_neg (by omega), dif_pos (by omega)]
    congr 2
    apply Fin.ext
    show 2048 + s.val - 1024 - 1024 = s.val
    omega
  · pointwise [sideBySide]
    rw [dif_neg (by omega), dif_neg (by omega), dif_neg (by omega)]
    congr 2
    apply Fin.ext
    show 3072 + s.val - 1024 - 1024 - 1024 = s.val
    omega

theorem product_entry (y : FVec Ideal S1x64x512 .bf16) (Q : FVec Ideal S64x4096 .bf16) (u : Fin 512) (n : Fin 4096) :
    (matmul dot_S64x512_S64x4096_S512x4096_0_0_1_1_n_n none (shapeCast S64x512 y shapeCasts_S1x64x512_S64x512) Q (constant (F := Ideal) S512x4096 .f32 0x00000000#32) (ix2 u n) : EReal)
      = ∑ d : Fin 64, y (ix3 (n0 := 1) 0 d u) * Q (ix2 d n) := by
  pointwise []

theorem cat_entry (y : FVec Ideal S1x64x512 .bf16) (a b c e : FVec Ideal S1x64x1024 .bf16) (u : Fin 512) (r : Fin 4) (s : Fin 1024) :
    k0_pay17 (F := Ideal) y a b c e (ix2 (n0 := 512) (n1 := 4096) u (lane r s))
      = ∑ d : Fin 64, y (ix3 (n0 := 1) 0 d u) * (![a, b, c, e] r) (ix3 (n0 := 1) (n1 := 64) (n2 := 1024) 0 d s) := by
  refine (product_entry y (sideBySide a b c e) u (lane r s)).trans ?_
  exact Finset.sum_congr rfl fun d _ => congrArg (_ * ·) (sideBySide_entry a b c e r d s)

theorem pay17_entry (x0 : FVec Ideal S4x64x1024 .bf16) (x1 : FVec Ideal S1x64x512 .bf16) (u : Fin 512) (r : Fin 4) (s : Fin 1024) :
    k0_pay17 (F := Ideal) x1 (head0 x0) (head1 x0) (head2 x0) (head3 x0) (ix2 (n0 := 512) (n1 := 4096) u (lane r s)) = scoreAt x0 x1 u r s := by
  rw [cat_entry]
  unfold scoreAt
  refine Finset.sum_congr rfl fun d _ => congrArg (_ * ·) ?_
  fin_cases r
  · exact head_entry x0 0 _ 0 rfl d s
  · exact head_entry x0 1 _ 1 rfl d s
  · exact head_entry x0 2 _ 2 rfl d s
  · exact head_entry x0 3 _ 3 rfl d s

theorem pay18_entry (x0 : FVec Ideal S4x64x1024 .bf16) (x1 : FVec Ideal S1x64x512 .bf16) (M : FVec Ideal S1x4096 .f32) (r : Fin 4) (s : Fin 1024) :
    (k0_pay18 (F := Ideal) x1 (head0 x0) (head1 x0) (head2 x0) (head3 x0) M (ix2 (n0 := 1) (n1 := 4096) 0 (lane r s)) : EReal)
      = max (M (ix2 (n0 := 1) (n1 := 4096) 0 (lane r s)) : EReal) (Finset.univ.fold max ⊥ fun u => scoreAt x0 x1 u r s) := by
  simp only [← pay17_entry]
  pointwise [k0_pay18]
  rw [show Ideal.ofBits .f32 0xFF800000#32 = (⊥ : EReal) by simp [Ideal.ofBits, Ideal.ieee]]

theorem nextMax_entry (x0 : FVec Ideal S4x64x1024 .bf16) (x1 : FVec Ideal S1x64x512 .bf16) (M : FVec Ideal S1x4096 .f32) (r : Fin 4) (s : Fin 1024) :
    (nextMax (F := Ideal) x0 x1 M (ix2 (n0 := 1) (n1 := 4096) 0 (lane r s)) : EReal)
      = max (M (ix2 (n0 := 1) (n1 := 4096) 0 (lane r s)) : EReal) (Finset.univ.fold max ⊥ fun u => scoreAt x0 x1 u r s) := by
  rw [← pay18_entry]
  pointwise [nextMax, k0_pay2]

theorem pay19_entry (x1 : FVec Ideal S1x64x512 .bf16) (a b c e : FVec Ideal S1x64x1024 .bf16) (M : FVec Ideal S1x4096 .f32) (u : Fin 512) (n : Fin 4096) :
    (k0_pay19 (F := Ideal) x1 a b c e M (ix2 u n) : EReal)
      = Ideal.exp2 (k0_pay17 (F := Ideal) x1 a b c e (ix2 u n) - k0_pay18 (F := Ideal) x1 a b c e M (ix2 (n0 := 1) 0 n)) := by
  pointwise [k0_pay19]
  rfl

theorem pay20_entry (x1 : FVec Ideal S1x64x512 .bf16) (a b c e : FVec Ideal S1x64x1024 .bf16) (M : FVec Ideal S1x4096 .f32) (A : FVec Ideal S72x4096 .f32) (d : Fin 72) (n : Fin 4096) :
    (k0_pay20 (F := Ideal) x1 a b c e M A (ix2 d n) : EReal)
      = Ideal.exp2 (M (ix2 (n0 := 1) 0 n) - k0_pay18 (F := Ideal) x1 a b c e M (ix2 (n0 := 1) 0 n)) * A (ix2 d n) := by
  pointwise [k0_pay20]
  rfl

theorem pay1_entry (W : FVec Ideal S512x4096 .bf16) (A : FVec Ideal S72x4096 .f32) (x2 : FVec Ideal S1x72x512 .bf16) (d : Fin 72) (n : Fin 4096) :
    (k0_pay1 (F := Ideal) W A (k0_pay21 x2) (ix2 d n) : EReal) = A (ix2 d n) + ∑ u : Fin 512, x2 (ix3 (n0 := 1) 0 d u) * W (ix2 u n) := by
  pointwise [k0_pay1, k0_pay21]

theorem nextSum_entry (x0 : FVec Ideal S4x64x1024 .bf16) (x1 : FVec Ideal S1x64x512 .bf16) (x2 : FVec Ideal S1x72x512 .bf16) (M : FVec Ideal S1x4096 .f32) (A : FVec Ideal S72x4096 .f32)
    (d : Fin 72) (r : Fin 4) (s : Fin 1024) :
    (nextSum (F := Ideal) x0 x1 x2 M A (ix2 d (lane r s)) : EReal)
      = Ideal.exp2 (M (ix2 (n0 := 1) 0 (lane r s)) - nextMax (F := Ideal) x0 x1 M (ix2 (n0 := 1) 0 (lane r s))) * A (ix2 d (lane r s))
        + ∑ u : Fin 512, x2 (ix3 (n0 := 1) 0 d u) * Ideal.exp2 (scoreAt x0 x1 u r s - nextMax (F := Ideal) x0 x1 M (ix2 (n0 := 1) 0 (lane r s))) := by
  unfold nextSum
  rw [pay1_entry, pay20_entry]
  simp only [pay19_entry, pay17_entry, nextMax_entry, pay18_entry]

theorem pay15_entry (n : Fin 4096) : (k0_pay15 (F := Ideal) (ix2 (n0 := 1) 0 n) : EReal) = Ideal.ofBits .f32 0xF149F2CA#32 := by
  pointwise [k0_pay15]

theorem pay16_entry (d : Fin 72) (n : Fin 4096) : (k0_pay16 (F := Ideal) (ix2 d n) : EReal) = 0 := by
  pointwise [k0_pay16]

abbrev log2eK : Ideal .f32 := Named.named κ "log2e" 0x3FB8AA3B#32

theorem pay7_entry (A : FVec Ideal S72x4096 .f32) (d : Fin 64) (n : Fin 4096) :
    (k0_pay7 (F := Ideal) A (ix2 d n) : EReal) = Ideal.div (A (ix2 (n0 := 72) ⟨d.val, by omega⟩ n)) (A (ix2 (n0 := 72) 64 n)) := by
  pointwise [k0_pay7, k0_pay6]

theorem pay8_entry (A : FVec Ideal S72x4096 .f32) (M : FVec Ideal S1x4096 .f32) (n : Fin 4096) :
    (k0_pay8 (F := Ideal) A M (ix2 (n0 := 1) 0 n) : EReal) = M (ix2 (n0 := 1) 0 n) + Ideal.log (A (ix2 (n0 := 72) 64 n)) * log2eK := by
  pointwise [k0_pay8, k0_pay6]

end Cert.FlashFwdIdeal.Hand

end
-- ==== Proof.FwdOut.lean ====
/- What the attention's forward pass writes at a block's last point, entry by entry, at exact arithmetic. -/
module

public import proofs.«01_k».proof.Proof.FwdBlock
public import Idealize.ShloMosaic.Lib.Pointwise

@[expose] public section

set_option maxRecDepth 16384

noncomputable section

namespace Cert.FlashFwdIdeal.Hand

open Cert.FlashFwdIdeal Cert.FlashFwdIdeal.Gen
open Idealize.ShloMosaic Idealize.ShloMosaic.TcCoe

theorem tile0 (A : FVec Ideal S72x4096 .f32) (d : Fin 64) (s : Fin 1024) : (k0_pay9 (F := Ideal) A (ix3 (n0 := 1) 0 d s) : EReal) = k0_pay7 (F := Ideal) A (ix2 d (lane 0 s)) := by
  pointwise [k0_pay9]
  exact congrArg (fun n : Fin 4096 => (k0_pay7 (F := Ideal) A (ix2 d n) : EReal)) (Fin.ext (by show s.val = 1024 * 0 + s.val; omega))
theorem tile1 (A : FVec Ideal S72x4096 .f32) (d : Fin 64) (s : Fin 1024) : (k0_pay11 (F := Ideal) A (ix3 (n0 := 1) 0 d s) : EReal) = k0_pay7 (F := Ideal) A (ix2 d (lane 1 s)) := by
  pointwise [k0_pay11]
  exact congrArg (fun n : Fin 4096 => (k0_pay7 (F := Ideal) A (ix2 d n) : EReal)) (Fin.ext (by show 1024 + s.val = 1024 * 1 + s.val; omega))
theorem tile2 (A : FVec Ideal S72x4096 .f32) (d : Fin 64) (s : Fin 1024) : (k0_pay13 (F := Ideal) A (ix3 (n0 := 1) 0 d s) : EReal) = k0_pay7 (F := Ideal) A (ix2 d (lane 2 s)) := by
  pointwise [k0_pay13]
  exact congrArg (fun n : Fin 4096 => (k0_pay7 (F := Ideal) A (ix2 d n) : EReal)) (Fin.ext (by show 2048 + s.val = 1024 * 2 + s.val; omega))
theorem tile3 (A : FVec Ideal S64x4096 .f32) (d : Fin 64) (s : Fin 1024) : (k0_pay4 (F := Ideal) A (ix3 (n0 := 1) 0 d s) : EReal) = A (ix2 d (lane 3 s)) := by
  pointwise [k0_pay4]
  exact congrArg (fun n : Fin 4096 => (A (ix2 d n) : EReal)) (Fin.ext (by show 3072 + s.val = 1024 * 3 + s.val; omega))
theorem row0 (A : FVec Ideal S72x4096 .f32) (M : FVec Ideal S1x4096 .f32) (s : Fin 1024) : (k0_pay10 (F := Ideal) A M (ix3 (n0 := 1) (n1 := 1) 0 0 s) : EReal) = k0_pay8 (F := Ideal) A M (ix2 (n0 := 1) 0 (lane 0 s)) := by
  pointwise [k0_pay10]
  exact congrArg (fun n : Fin 4096 => (k0_pay8 (F := Ideal) A M (ix2 (n0 := 1) 0 n) : EReal)) (Fin.ext (by show s.val = 1024 * 0 + s.val; omega))
theorem row1 (A : FVec Ideal S72x4096 .f32) (M : FVec Ideal S1x4096 .f32) (s : Fin 1024) : (k0_pay12 (F := Ideal) A M (ix3 (n0 := 1) (n1 := 1) 0 0 s) : EReal) = k0_pay8 (F := Ideal) A M (ix2 (n0 := 1) 0 (lane 1 s)) := by
  pointwise [k0_pay12]
  exact congrArg (fun n : Fin 4096 => (k0_pay8 (F := Ideal) A M (ix2 (n0 := 1) 0 n) : EReal)) (Fin.ext (by show 1024 + s.val = 1024 * 1 + s.val; omega))
theorem row2 (A : FVec Ideal S72x4096 .f32) (M : FVec Ideal S1x4096 .f32) (s : Fin 1024) : (k0_pay3 (F := Ideal) (k0_pay14 A M) (ix3 (n0 := 1) (n1 := 1) 0 0 s) : EReal) = k0_pay8 (F := Ideal) A M (ix2 (n0 := 1) 0 (lane 2 s)) := by
  pointwise [k0_pay3, k0_pay14]
  exact congrArg (fun n : Fin 4096 => (k0_pay8 (F := Ideal) A M (ix2 (n0 := 1) 0 n) : EReal)) (Fin.ext (by show 2048 + s.val = 1024 * 2 + s.val; omega))
theorem row3 (L : FVec Ideal S1x4096 .f32) (s : Fin 1024) : (k0_pay5 (F := Ideal) L (ix3 (n0 := 1) (n1 := 1) 0 0 s) : EReal) = L (ix2 (n0 := 1) 0 (lane 3 s)) := by
  pointwise [k0_pay5]
  exact congrArg (fun n : Fin 4096 => (L (ix2 (n0 := 1) 0 n) : EReal)) (Fin.ext (by show 3072 + s.val = 1024 * 3 + s.val; omega))

variable (m : (ℓ : Loc nD τ sig) → Buf (Elt Ideal) ℓ) (c : Dev nD)

theorem out_entry (t : Fin cfg0.N) (h0 : ¬ t.val % 16 = 0) (h1 : t.val % 16 = 15) (r : Fin 4) (d : Fin 64) (s : Fin 1024) :
    ((outsAt0 m c t.val t.isLt).1 (ix3 r d s) : EReal)
      = Ideal.div (sumAt m c t (ix2 (n0 := 72) ⟨d.val, by omega⟩ (lane r s))) (sumAt m c t (ix2 (n0 := 72) 64 (lane r s))) := by
  rw [outsAt0_C m c t h0 h1]
  frame_out
  rw [read0, read1]
  have e : nextSum (queriesAt m c t) (keysAt m c t) (valuesAt m c t) (maxAt m c (prev t)) (sumAt m c (prev t)) = sumAt m c t := (sum_next m c t h0).symm
  unfold nextSum at e
  erw [e]
  canon_tiles x h
  all_goals
    obtain ⟨i0, i1, i2, rfl⟩ : ∃ (i0 : Fin 1) (i1 : Fin 64) (i2 : Fin 1024), x = ix3 i0 i1 i2 := ⟨x 0, x 1, x 2, eq_ix3 x⟩
    obtain rfl : i0 = 0 := Subsingleton.elim _ _
    obtain rfl : d = i1 := Fin.ext h1
    obtain rfl : s = i2 := Fin.ext h2
    rw [← pay7_entry]
  · obtain rfl : r = 3 := Fin.ext h0
    exact tile3 _ d s
  · obtain rfl : r = 2 := Fin.ext h0
    exact tile2 _ d s
  · obtain rfl : r = 1 := Fin.ext h0
    exact tile1 _ d s
  · obtain rfl : r = 0 := Fin.ext h0
    exact tile0 _ d s

theorem lse_entry (t : Fin cfg0.N) (h0 : ¬ t.val % 16 = 0) (h1 : t.val % 16 = 15) (r : Fin 4) (s : Fin 1024) :
    ((outsAt0 m c t.val t.isLt).2.1 (ix3 (n0 := 4) (n1 := 1) r 0 s) : EReal)
      = maxAt m c t (ix2 (n0 := 1) 0 (lane r s)) + Ideal.log (sumAt m c t (ix2 (n0 := 72) 64 (lane r s))) * log2eK := by
  rw [outsAt0_C m c t h0 h1]
  frame_out
  rw [read0, read1]
  have e : nextSum (queriesAt m c t) (keysAt m c t) (valuesAt m c t) (maxAt m c (prev t)) (sumAt m c (prev t)) = sumAt m c t := (sum_next m c t h0).symm
  have e' : nextMax (queriesAt m c t) (keysAt m c t) (maxAt m c (prev t)) = maxAt m c t := (max_next m c t h0).symm
  unfold nextSum at e
  unfold nextMax at e'
  erw [e, e']
  canon_tiles x h
  all_goals
    obtain ⟨i0, i1, i2, rfl⟩ : ∃ (i0 : Fin 1) (i1 : Fin 1) (i2 : Fin 1024), x = ix3 i0 i1 i2 := ⟨x 0, x 1, x 2, eq_ix3 x⟩
    obtain rfl : i0 = 0 := Subsingleton.elim _ _
    obtain rfl : i1 = 0 := Subsingleton.elim _ _
    obtain rfl : s = i2 := Fin.ext h2
    rw [← pay8_entry]
  · obtain rfl : r = 3 := Fin.ext h0
    exact row3 _ s
  · obtain rfl : r = 2 := Fin.ext h0
    exact row2 _ _ s
  · obtain rfl : r = 1 := Fin.ext h0
    exact row1 _ _ s
  · obtain rfl : r = 0 := Fin.ext h0
    exact row0 _ _ s

end Cert.FlashFwdIdeal.Hand
end
-- ==== Proof.FwdReals.lean ====
/- The attention's forward pass over real scores: the running rescaled sums, and the softmax they end in. -/
module

public import proofs.«01_k».proof.Proof.Reals

@[expose] public section

noncomputable section

namespace Cert.Forward

open Idealize.ShloMosaic
open Cert.Attention (coe_sum fold_max_coe div_real exp_real exp2_real log_real log_two_pos)

/-- A real factor that is not negative goes into a sum. -/
theorem coe_mul_sum {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hr) (EReal.coe_ne_top r) _ _

theorem exp2_sub (x y : ℝ) : Ideal.exp2 ((x : EReal) - (y : EReal)) = (((2 : ℝ) ^ (x - y) : ℝ) : EReal) := by
  rw [← EReal.coe_sub, exp2_real]

/-- Sums of weights against one bound become sums against another. -/
theorem rescale {ι : Type*} (t : Finset ι) (M M' : ℝ) (s : ι → ℝ) (v : ι → EReal) :
    Ideal.exp2 ((M : EReal) - (M' : EReal)) * ∑ i ∈ t, v i * Ideal.exp2 ((s i : EReal) - (M : EReal))
      = ∑ i ∈ t, v i * Ideal.exp2 ((s i : EReal) - (M' : EReal)) := by
  rw [exp2_sub, coe_mul_sum _ _ (Real.rpow_nonneg two_pos.le _)]
  refine Finset.sum_congr rfl fun i _ => ?_
  rw [exp2_sub, exp2_sub, mul_left_comm, ← EReal.coe_mul, ← Real.rpow_add two_pos]
  congr 3
  ring

theorem max_real (N : ℝ) {n : ℕ} (hn : 0 < n) (s : Fin n → ℝ) :
    ∃ M : ℝ, max (N : EReal) (Finset.univ.fold max (⊥ : EReal) fun t => (s t : EReal)) = (M : EReal) := by
  obtain ⟨M, hM⟩ := fold_max_coe hn s
  exact ⟨max N M, by rw [hM]; exact (EReal.coe_strictMono.monotone.map_max).symm⟩

/-- One block of keys: the bound raised to the block's largest score, the sum rescaled and added to. -/
theorem run_entry {n : ℕ} (hn : 0 < n) (L : ℕ) (s : ℕ → Fin n → ℝ) (v : ℕ → Fin n → EReal) (N : ℝ) (mm aa : ℕ → EReal)
    (m0 : mm 0 = max (N : EReal) (Finset.univ.fold max (⊥ : EReal) fun t => (s 0 t : EReal)))
    (a0 : aa 0 = Ideal.exp2 ((N : EReal) - mm 0) * 0 + ∑ t, v 0 t * Ideal.exp2 ((s 0 t : EReal) - mm 0))
    (m1 : ∀ j, j + 1 < L → mm (j + 1) = max (mm j) (Finset.univ.fold max (⊥ : EReal) fun t => (s (j + 1) t : EReal)))
    (a1 : ∀ j, j + 1 < L → aa (j + 1) = Ideal.exp2 (mm j - mm (j + 1)) * aa j + ∑ t, v (j + 1) t * Ideal.exp2 ((s (j + 1) t : EReal) - mm (j + 1)))
    (j : ℕ) (hj : j < L) : (∃ M : ℝ, mm j = (M : EReal)) ∧ aa j = ∑ i ∈ Finset.range (j + 1), ∑ t, v i t * Ideal.exp2 ((s i t : EReal) - mm j) := by
  induction j with
  | zero =>
    obtain ⟨M, hM⟩ := max_real N hn (s 0)
    exact ⟨⟨M, m0.trans hM⟩, by rw [a0, mul_zero, zero_add, Finset.sum_range_one]⟩
  | succ j ih =>
    obtain ⟨⟨M, hM⟩, ha⟩ := ih (by omega)
    obtain ⟨M', hM'⟩ := max_real M hn (s (j + 1))
    have h1 : mm (j + 1) = (M' : EReal) := by rw [m1 j hj, hM, hM']
    refine ⟨⟨M', h1⟩, ?_⟩
    rw [a1 j hj, ha, hM, h1, Finset.sum_range_succ (fun i => ∑ t, v i t * Ideal.exp2 ((s i t : EReal) - (M' : EReal))) (j + 1)]
    refine congrArg (· + _) ?_
    rw [Finset.sum_sigma', Finset.sum_sigma']
    exact rescale _ M M' (fun x : (_ : ℕ) × Fin n => s x.1 x.2) (fun x : (_ : ℕ) × Fin n => v x.1 x.2)

section
variable {n : ℕ} (S : Fin n → ℝ) (T M : ℝ)

theorem weight_eq (j : Fin n) : (2 : ℝ) ^ (S j * (1 / Real.log 2) - M) = Real.exp (T - Real.log 2 * M) * Real.exp (S j - T) := by
  have := log_two_pos.ne'
  rw [Real.rpow_def_of_pos two_pos, ← Real.exp_add]
  congr 1
  field_simp
  ring

theorem total_eq : ∑ j, (1 : EReal) * Ideal.exp2 (((S j * (1 / Real.log 2) : ℝ) : EReal) - (M : EReal))
    = ((Real.exp (T - Real.log 2 * M) * ∑ j, Real.exp (S j - T) : ℝ) : EReal) := by
  rw [Finset.mul_sum, ← coe_sum]
  refine Finset.sum_congr rfl fun j _ => ?_
  rw [one_mul, exp2_sub, weight_eq S T M]

theorem total_pos (hn : 0 < n) : 0 < ∑ j, Real.exp (S j - T) := Finset.sum_pos (fun j _ => Real.exp_pos _) ⟨⟨0, hn⟩, Finset.mem_univ _⟩

/-- The quotient of the running sums is the sum of the values by the softmax's weights. -/
theorem output_eq (hn : 0 < n) (v : Fin n → EReal) :
    Ideal.div (∑ j, v j * Ideal.exp2 (((S j * (1 / Real.log 2) : ℝ) : EReal) - (M : EReal)))
        (∑ j, (1 : EReal) * Ideal.exp2 (((S j * (1 / Real.log 2) : ℝ) : EReal) - (M : EReal)))
      = ∑ j, v j * Ideal.div (Ideal.exp ((S j : EReal) - (T : EReal))) (∑ u, Ideal.exp ((S u : EReal) - (T : EReal))) := by
  have hp := total_pos S T hn
  have hc := Real.exp_pos (T - Real.log 2 * M)
  have e : ∑ u, Ideal.exp ((S u : EReal) - (T : EReal)) = ((∑ u, Real.exp (S u - T) : ℝ) : EReal) := by
    rw [← coe_sum]
    refine Finset.sum_congr rfl fun u _ => ?_
    rw [← EReal.coe_sub, exp_real]
  rw [total_eq S T M, Ideal.div_coe (mul_pos hc hp).ne', mul_comm, coe_mul_sum _ _ (one_div_pos.2 (mul_pos hc hp)).le, e]
  refine Finset.sum_congr rfl fun j _ => ?_
  rw [exp2_sub, weight_eq S T M, ← EReal.coe_sub, exp_real, div_real _ _ hp.ne', mul_left_comm, ← EReal.coe_mul]
  congr 2
  have := hp.ne'
  have := hc.ne'
  field_simp

/-- The bound with the logarithm of the running sum is the logarithm, in base two, of the sum of exponentials. -/
theorem logsum_eq (hn : 0 < n) :
    (M : EReal) + Ideal.log (∑ j, (1 : EReal) * Ideal.exp2 (((S j * (1 / Real.log 2) : ℝ) : EReal) - (M : EReal))) * ((1 / Real.log 2 : ℝ) : EReal)
      = Ideal.div ((T : EReal) + Ideal.log (∑ u, Ideal.exp ((S u : EReal) - (T : EReal)))) ((Real.log 2 : ℝ) : EReal) := by
  have hp := total_pos S T hn
  have hc := Real.exp_pos (T - Real.log 2 * M)
  have h2 := log_two_pos.ne'
  have e : ∑ u, Ideal.exp ((S u : EReal) - (T : EReal)) = ((∑ u, Real.exp (S u - T) : ℝ) : EReal) := by
    rw [← coe_sum]
    refine Finset.sum_congr rfl fun u _ => ?_
    rw [← EReal.coe_sub, exp_real]
  rw [total_eq S T M, e, log_real _ (mul_pos hc hp), log_real _ hp, ← EReal.coe_add, div_real _ _ h2, ← EReal.coe_mul, ← EReal.coe_add,
    Real.log_mul hc.ne' hp.ne', Real.log_exp]
  congr 1
  field_simp
  ring

end

end Cert.Forward

end
-- ==== Proof.FwdVals.lean ====
/- The forward call's arrays and blocks read at an index, and its two results on finite queries and keys. -/
module

public import proofs.«01_k».proof.Proof.FwdOut
public import proofs.«01_k».proof.Proof.FwdReals
public import Idealize.ShloMosaic.Lib.StableHlo.Run

@[expose] public section

set_option maxRecDepth 16384

noncomputable section

namespace Cert.FlashFwdIdeal.Hand

open Cert.FlashFwdIdeal Cert.FlashFwdIdeal.Gen
open Idealize.ShloMosaic Idealize.ShloMosaic.TcCoe
open Cert.Attention (coe_sum eighth)

/-! ## The arrays the call is given -/

section host
variable {F : FTy → Type} [FloatOps F] [Named F]

def hQK (q : FVec F S8192x16x64 .f32) (k : FVec F S8192x4x64 .f32) : FVec F S20x64x8192 .bf16 :=
  truncf .bf16 (concatenate S20x64x8192 0
    [⟨S16x64x8192, mulf (transpose S16x64x8192 [1, 2, 0] q transposes_S8192x16x64_S16x64x8192_1_2_0)
        (broadcastInDim S16x64x8192 ![] bcast_S_S16x64x8192 (Host.divf (constant S_ .f32 0x3E000000#32) (Host.log (constant S_ .f32 0x40000000#32))))⟩,
     ⟨S4x64x8192, transpose S4x64x8192 [1, 2, 0] k transposes_S8192x4x64_S4x64x8192_1_2_0⟩]
    concatenates_S16x64x8192_S4x64x8192_S20x64x8192_d0) bitsLt_bf16_f32
def hV (v : FVec F S8192x4x64 .f32) : FVec F S4x72x8192 .bf16 :=
  truncf .bf16 (concatenate S4x72x8192 1
    [⟨S4x64x8192, transpose S4x64x8192 [1, 2, 0] v transposes_S8192x4x64_S4x64x8192_1_2_0⟩,
     ⟨S4x8x8192, broadcastInDim S4x8x8192 ![] bcast_S_S4x8x8192 (constant S_ .f32 0x3F800000#32)⟩]
    concatenates_S4x64x8192_S4x8x8192_S4x72x8192_d1) bitsLt_bf16_f32

variable (m : (ℓ : Loc nD τ sig) → Buf (Elt F) ℓ) (c : Dev nD)

theorem V_qk : V m c main_v7 = hQK (m ((c : Thread nD τ).loc main_arg0)) (m ((c : Thread nD τ).loc main_arg1)) := by
  unfold_abbrev_sides
  after_results_simp
  all_goals rfl
theorem V_v : V m c main_v11 = hV (m ((c : Thread nD τ).loc main_arg2)) := by
  unfold_abbrev_sides
  after_results_simp
  all_goals rfl

end host

/-- Query head `r` of key head `g`; its place before the key heads; token `s` of query block `i`; key `u` of key block `j`. -/
abbrev hd (g r : Fin 4) : Fin 16 := ⟨4 * g.val + r.val, by omega⟩
abbrev qh (g r : Fin 4) : Fin 20 := ⟨4 * g.val + r.val, by omega⟩
abbrev kh (g : Fin 4) : Fin 20 := ⟨16 + g.val, by omega⟩
abbrev qtok (i : Fin 8) (s : Fin 1024) : Fin 8192 := ⟨1024 * i.val + s.val, by omega⟩
abbrev ktok (j : Fin 16) (u : Fin 512) : Fin 8192 := ⟨512 * j.val + u.val, by omega⟩

theorem points : cfg0.N = 512 := rfl
abbrev point (g : Fin 4) (i : Fin 8) (j : Fin 16) : Fin cfg0.N := ⟨128 * g.val + 16 * i.val + j.val, by rw [points]; omega⟩

section
variable (q : FVec Ideal S8192x16x64 .f32) (k v : FVec Ideal S8192x4x64 .f32)

theorem hQK_query (g r : Fin 4) (d : Fin 64) (n : Fin 8192) :
    (hQK (F := Ideal) q k (ix3 (n0 := 20) (n1 := 64) (n2 := 8192) (qh g r) d n) : EReal)
      = (q (ix3 (n0 := 8192) (n1 := 16) (n2 := 64) n (hd g r) d) : EReal) * Ideal.div (Ideal.ofBits .f32 0x3E000000#32) (Ideal.log (Ideal.ofBits .f32 0x40000000#32)) := by
  pointwise [hQK]
  rw [dif_pos (by omega : 4 * g.val + r.val < 16)]

theorem hQK_key (g : Fin 4) (d : Fin 64) (n : Fin 8192) :
    (hQK (F := Ideal) q k (ix3 (n0 := 20) (n1 := 64) (n2 := 8192) (kh g) d n) : EReal) = (k (ix3 (n0 := 8192) (n1 := 4) (n2 := 64) n g d) : EReal) := by
  pointwise [hQK]

theorem hV_value (g : Fin 4) (d : Fin 64) (n : Fin 8192) :
    (hV (F := Ideal) v (ix3 (n0 := 4) (n1 := 72) (n2 := 8192) g ⟨d.val, by omega⟩ n) : EReal) = (v (ix3 (n0 := 8192) (n1 := 4) (n2 := 64) n g d) : EReal) := by
  pointwise [hV]

theorem hV_one (g : Fin 4) (n : Fin 8192) :
    (hV (F := Ideal) v (ix3 (n0 := 4) (n1 := 72) (n2 := 8192) g 64 n) : EReal) = 1 := by
  pointwise [hV]

end

/-! ## The blocks -/

theorem idx0_0 : ∀ t : Fin cfg0.N, win0_0.index t 0 = t.val / 128 := by
  exact (by decide +kernel : ∀ t : Fin grid0.N, win0_0.index t 0 = t.val / 128)
theorem idx0_1 : ∀ t : Fin cfg0.N, win0_0.index t 1 = 0 := by
  exact (by decide +kernel : ∀ t : Fin grid0.N, win0_0.index t 1 = 0)
theorem idx0_2 : ∀ t : Fin cfg0.N, win0_0.index t 2 = t.val / 16 % 8 := by
  exact (by decide +kernel : ∀ t : Fin grid0.N, win0_0.index t 2 = t.val / 16 % 8)
theorem idx1_0 : ∀ t : Fin cfg0.N, win0_1.index t 0 = 16 + t.val / 128 := by
  exact (by decide +kernel : ∀ t : Fin grid0.N, win0_1.index t 0 = 16 + t.val / 128)
theorem idx1_1 : ∀ t : Fin cfg0.N, win0_1.index t 1 = 0 := by
  exact (by decide +kernel : ∀ t : Fin grid0.N, win0_1.index t 1 = 0)
theorem idx1_2 : ∀ t : Fin cfg0.N, win0_1.index t 2 = t.val % 16 := by
  exact (by decide +kernel : ∀ t : Fin grid0.N, win0_1.index t 2 = t.val % 16)
theorem idx2_0 : ∀ t : Fin cfg0.N, win0_2.index t 0 = t.val / 128 := by
  exact (by decide +kernel : ∀ t : Fin grid0.N, win0_2.index t 0 = t.val / 128)
theorem idx2_1 : ∀ t : Fin cfg0.N, win0_2.index t 1 = 0 := by
  exact (by decide +kernel : ∀ t : Fin grid0.N, win0_2.index t 1 = 0)
theorem idx2_2 : ∀ t : Fin cfg0.N, win0_2.index t 2 = t.val % 16 := by
  exact (by decide +kernel : ∀ t : Fin grid0.N, win0_2.index t 2 = t.val % 16)

variable (m : (ℓ : Loc nD τ sig) → Buf (Elt Ideal) ℓ) (c : Dev nD)

abbrev argQ : FVec Ideal S8192x16x64 .f32 := m ((c : Thread nD τ).loc main_arg0)
abbrev argK : FVec Ideal S8192x4x64 .f32 := m ((c : Thread nD τ).loc main_arg1)
abbrev argV : FVec Ideal S8192x4x64 .f32 := m ((c : Thread nD τ).loc main_arg2)

section
variable (g : Fin 4) (i : Fin 8) (j : Fin 16)

theorem queries_entry (r : Fin 4) (d : Fin 64) (s : Fin 1024) :
    (queriesAt m c (point g i j) (ix3 r d s) : EReal) = hQK (F := Ideal) (argQ m c) (argK m c) (ix3 (qh g r) d (qtok i s)) := by
  rw [← V_qk]
  show V m c main_v7 (((cfg0.win 0).blk (point g i j)).view.emb (ix3 r d s)) = V m c main_v7 _
  congr 1
  funext a
  apply Fin.ext
  match a with
  | ⟨0, _⟩ =>
    show ((win0_0.rect (point g i j)).emb (ix3 r d s) 0 : ℕ) = 4 * g.val + r.val
    rw [Pipeline.Window.rect_emb_val win0_0 (point g i j) (ix3 r d s) 0, idx0_0]
    show (128 * g.val + 16 * i.val + j.val) / 128 * 4 + r.val = _; omega
  | ⟨1, _⟩ =>
    show ((win0_0.rect (point g i j)).emb (ix3 r d s) 1 : ℕ) = d.val
    rw [Pipeline.Window.rect_emb_val_of_index_zero _ _ _ (idx0_1 _)]
    rfl
  | ⟨2, _⟩ =>
    show ((win0_0.rect (point g i j)).emb (ix3 r d s) 2 : ℕ) = 1024 * i.val + s.val
    rw [Pipeline.Window.rect_emb_val win0_0 (point g i j) (ix3 r d s) 2, idx0_2]
    show (128 * g.val + 16 * i.val + j.val) / 16 % 8 * 1024 + s.val = _; omega

theorem keys_entry (d : Fin 64) (u : Fin 512) :
    (keysAt m c (point g i j) (ix3 (n0 := 1) (n1 := 64) (n2 := 512) 0 d u) : EReal) = hQK (F := Ideal) (argQ m c) (argK m c) (ix3 (kh g) d (ktok j u)) := by
  rw [← V_qk]
  show V m c main_v7 (((cfg0.win 1).blk (point g i j)).view.emb (ix3 (n0 := 1) (n1 := 64) (n2 := 512) 0 d u)) = V m c main_v7 _
  congr 1
  funext a
  apply Fin.ext
  match a with
  | ⟨0, _⟩ =>
    show ((win0_1.rect (point g i j)).emb (ix3 (n0 := 1) (n1 := 64) (n2 := 512) 0 d u) 0 : ℕ) = 16 + g.val
    rw [Pipeline.Window.rect_emb_val win0_1 (point g i j) (ix3 (n0 := 1) (n1 := 64) (n2 := 512) 0 d u) 0, idx1_0]
    show (16 + (128 * g.val + 16 * i.val + j.val) / 128) * 1 + 0 = _; omega
  | ⟨1, _⟩ =>
    show ((win0_1.rect (point g i j)).emb (ix3 (n0 := 1) (n1 := 64) (n2 := 512) 0 d u) 1 : ℕ) = d.val
    rw [Pipeline.Window.rect_emb_val_of_index_zero _ _ _ (idx1_1 _)]
    rfl
  | ⟨2, _⟩ =>
    show ((win0_1.rect (point g i j)).emb (ix3 (n0 := 1) (n1 := 64) (n2 := 512) 0 d u) 2 : ℕ) = 512 * j.val + u.val
    rw [Pipeline.Window.rect_emb_val win0_1 (point g i j) (ix3 (n0 := 1) (n1 := 64) (n2 := 512) 0 d u) 2, idx1_2]
    show (128 * g.val + 16 * i.val + j.val) % 16 * 512 + u.val = _; omega

theorem values_entry (d : Fin 72) (u : Fin 512) :
    (valuesAt m c (point g i j) (ix3 (n0 := 1) (n1 := 72) (n2 := 512) 0 d u) : EReal) = hV (F := Ideal) (argV m c) (ix3 g d (ktok j u)) := by
  rw [← V_v]
  show V m c main_v11 (((cfg0.win 2).blk (point g i j)).view.emb (ix3 (n0 := 1) (n1 := 72) (n2 := 512) 0 d u)) = V m c main_v11 _
  congr 1
  funext a
  apply Fin.ext
  match a with
  | ⟨0, _⟩ =>
    show ((win0_2.rect (point g i j)).emb (ix3 (n0 := 1) (n1 := 72) (n2 := 512) 0 d u) 0 : ℕ) = g.val
    rw [Pipeline.Window.rect_emb_val win0_2 (point g i j) (ix3 (n0 := 1) (n1 := 72) (n2 := 512) 0 d u) 0, idx2_0]
    show (128 * g.val + 16 * i.val + j.val) / 128 * 1 + 0 = _; omega
  | ⟨1, _⟩ =>
    show ((win0_2.rect (point g i j)).emb (ix3 (n0 := 1) (n1 := 72) (n2 := 512) 0 d u) 1 : ℕ) = d.val
    rw [Pipeline.Window.rect_emb_val_of_index_zero _ _ _ (idx2_1 _)]
    rfl
  | ⟨2, _⟩ =>
    show ((win0_2.rect (point g i j)).emb (ix3 (n0 := 1) (n1 := 72) (n2 := 512) 0 d u) 2 : ℕ) = 512 * j.val + u.val
    rw [Pipeline.Window.rect_emb_val win0_2 (point g i j) (ix3 (n0 := 1) (n1 := 72) (n2 := 512) 0 d u) 2, idx2_2]
    show (128 * g.val + 16 * i.val + j.val) % 16 * 512 + u.val = _; omega

end

/-! ## The sums over a sweep of the keys -/

theorem low : ∃ N : ℝ, Ideal.ofBits .f32 0xF149F2CA#32 = (N : EReal) :=
  ⟨-(13234890 * 2 ^ 76), by simp [Ideal.ofBits, Ideal.ieee]⟩

section
variable (Q : Fin 8192 → Fin 16 → Fin 64 → ℝ) (K : Fin 8192 → Fin 4 → Fin 64 → ℝ)

/-- The score of key `n` at token `i`. -/
def score (g r : Fin 4) (i n : Fin 8192) : ℝ := (∑ d : Fin 64, K n g d * Q i (hd g r) d) * (1 / 8)

variable {m c Q K}
variable (hq : ∀ i h d, (argQ m c (ix3 i h d) : EReal) = (Q i h d : EReal)) (hk : ∀ i h d, (argK m c (ix3 i h d) : EReal) = (K i h d : EReal))
include hq hk

theorem score_val (g : Fin 4) (i : Fin 8) (j : Fin 16) (u : Fin 512) (r : Fin 4) (s : Fin 1024) :
    scoreAt (queriesAt m c (point g i j)) (keysAt m c (point g i j)) u r s = ((score Q K g r (qtok i s) (ktok j u) * (1 / Real.log 2) : ℝ) : EReal) := by
  unfold scoreAt score
  rw [Finset.sum_mul, Finset.sum_mul, ← coe_sum]
  refine Finset.sum_congr rfl fun d _ => ?_
  refine (congrArg₂ (fun x y : EReal => x * y) ((keys_entry m c g i j d u).trans (hQK_key _ _ g d _)) ((queries_entry m c g i j r d s).trans (hQK_query _ _ g r d _))).trans ?_
  rw [eighth, Cert.Attention.two, Cert.Attention.log_real _ two_pos, Cert.Attention.div_real _ _ Cert.Attention.log_two_pos.ne', hq, hk, ← EReal.coe_mul, ← EReal.coe_mul]
  congr 1
  ring

/-- Block number `j` of sixteen, for any `j`. -/
abbrev blk (j : ℕ) : Fin 16 := ⟨j % 16, Nat.mod_lt _ (by norm_num)⟩

theorem point_prev (g : Fin 4) (i : Fin 8) (j : ℕ) (hj : j + 1 < 16) : prev (point g i (blk (j + 1))) = point g i (blk j) := by
  apply Fin.ext
  show 128 * g.val + 16 * i.val + (j + 1) % 16 - 1 = 128 * g.val + 16 * i.val + j % 16
  omega

/-- After key block `j`: the bound is real, and a sum is over the keys so far. -/
theorem sweep (g : Fin 4) (i : Fin 8) (r : Fin 4) (s : Fin 1024) (d : Fin 72) (j : ℕ) (hj : j < 16) :
    (∃ M : ℝ, (maxAt m c (point g i (blk j)) (ix2 (n0 := 1) 0 (lane r s)) : EReal) = (M : EReal)) ∧
      (sumAt m c (point g i (blk j)) (ix2 d (lane r s)) : EReal)
        = ∑ b ∈ Finset.range (j + 1), ∑ u : Fin 512, (hV (F := Ideal) (argV m c) (ix3 g d (ktok (blk b) u)) : EReal)
            * Ideal.exp2 (((score Q K g r (qtok i s) (ktok (blk b) u) * (1 / Real.log 2) : ℝ) : EReal) - maxAt m c (point g i (blk j)) (ix2 (n0 := 1) 0 (lane r s))) := by
  obtain ⟨N, hN⟩ := low
  refine Cert.Forward.run_entry (n := 512) (by norm_num) 16 (fun b u => score Q K g r (qtok i s) (ktok (blk b) u) * (1 / Real.log 2))
    (fun b u => (hV (F := Ideal) (argV m c) (ix3 g d (ktok (blk b) u)) : EReal)) N
    (fun j => (maxAt m c (point g i (blk j)) (ix2 (n0 := 1) 0 (lane r s)) : EReal)) (fun j => (sumAt m c (point g i (blk j)) (ix2 d (lane r s)) : EReal)) ?_ ?_ ?_ ?_ j hj
  · have h0 : (point g i (blk 0)).val % 16 = 0 := by show (128 * g.val + 16 * i.val + 0 % 16) % 16 = 0; omega
    rw [max_first m c _ h0, nextMax_entry, pay15_entry, hN]
    simp only [score_val hq hk]
  · have h0 : (point g i (blk 0)).val % 16 = 0 := by show (128 * g.val + 16 * i.val + 0 % 16) % 16 = 0; omega
    rw [sum_first m c _ h0, nextSum_entry, ← max_first m c _ h0, pay15_entry, pay16_entry, hN]
    simp only [score_val hq hk, values_entry]
  · intro j hj
    have h0 : ¬ (point g i (blk (j + 1))).val % 16 = 0 := by show ¬ (128 * g.val + 16 * i.val + (j + 1) % 16) % 16 = 0; omega
    rw [max_next m c _ h0, nextMax_entry, point_prev hq hk g i j hj]
    simp only [score_val hq hk]
  · intro j hj
    have h0 : ¬ (point g i (blk (j + 1))).val % 16 = 0 := by show ¬ (128 * g.val + 16 * i.val + (j + 1) % 16) % 16 = 0; omega
    rw [sum_next m c _ h0, nextSum_entry, ← max_next m c _ h0, point_prev hq hk g i j hj]
    simp only [score_val hq hk, values_entry]

/-- After the last key block: the bound is real, and a sum is over every key. -/
theorem sweep_all (g : Fin 4) (i : Fin 8) (r : Fin 4) (s : Fin 1024) (d : Fin 72) :
    (∃ M : ℝ, (maxAt m c (point g i 15) (ix2 (n0 := 1) 0 (lane r s)) : EReal) = (M : EReal)) ∧
      (sumAt m c (point g i 15) (ix2 d (lane r s)) : EReal)
        = ∑ n : Fin 8192, (hV (F := Ideal) (argV m c) (ix3 g d n) : EReal)
            * Ideal.exp2 (((score Q K g r (qtok i s) n * (1 / Real.log 2) : ℝ) : EReal) - maxAt m c (point g i 15) (ix2 (n0 := 1) 0 (lane r s))) := by
  have h := sweep hq hk g i r s d 15 (by norm_num)
  refine ⟨h.1, h.2.trans ?_⟩
  rw [Finset.sum_range, Fin.sum_univ_tiles 16 512 rfl]
  refine Finset.sum_congr rfl fun b _ => Finset.sum_congr rfl fun u _ => ?_
  have e : ktok (blk b.val) u = ⟨b.val * 512 + u.val, by omega⟩ := Fin.ext (by show 512 * (b.val % 16) + u.val = b.val * 512 + u.val; omega)
  rw [e]
  rfl

theorem log2e_val : ((log2eK : Ideal .f32) : EReal) = ((1 / Real.log 2 : ℝ) : EReal) := by
  rw [one_div]
  exact IdealRules.named_const.ideal_named_scalar _ _ _ _ rfl

omit hq hk in
/-- Where entry `(head, d, token)` of the output is written: the last point of its query block. -/
theorem G3_entry (g r : Fin 4) (i : Fin 8) (d : Fin 64) (s : Fin 1024) :
    Value.G3 m c (ix3 (n0 := 16) (n1 := 64) (n2 := 8192) (hd g r) d (qtok i s)) = (outsAt0 m c (point g i 15).val (point g i 15).isLt).1 (ix3 r d s) := by
  have hp : Value.pt3Of (ix3 (n0 := 16) (n1 := 64) (n2 := 8192) (hd g r) d (qtok i s)) = (point g i 15).val := by
    show 16 * (8 * ((4 * g.val + r.val) / 4 - 0) + 8 * (d.val / 64 - 0) + 1 * ((1024 * i.val + s.val) / 1024 - 0)) + 15 = 128 * g.val + 16 * i.val + 15
    omega
  have hl : Value.loc3Of (ix3 (n0 := 16) (n1 := 64) (n2 := 8192) (hd g r) d (qtok i s)) = ix3 r d s := by
    funext a
    apply Fin.ext
    match a with
    | ⟨0, _⟩ => show (4 * g.val + r.val) % 4 = r.val; omega
    | ⟨1, _⟩ => show d.val % 64 = d.val; omega
    | ⟨2, _⟩ => show (1024 * i.val + s.val) % 1024 = s.val; omega
  unfold Value.G3
  rw [dif_pos (by rw [hp]; exact (point g i 15).isLt), hl, ← Value.outsAt0_sweep m c _ (by rw [hp]; exact (point g i 15).isLt)]
  simp only [hp]

omit hq hk in
theorem G4_entry (g r : Fin 4) (i : Fin 8) (s : Fin 1024) :
    Value.G4 m c (ix3 (n0 := 16) (n1 := 1) (n2 := 8192) (hd g r) 0 (qtok i s)) = (outsAt0 m c (point g i 15).val (point g i 15).isLt).2.1 (ix3 (n1 := 1) r 0 s) := by
  have hp : Value.pt4Of (ix3 (n0 := 16) (n1 := 1) (n2 := 8192) (hd g r) 0 (qtok i s)) = (point g i 15).val := by
    show 16 * (8 * ((4 * g.val + r.val) / 4 - 0) + 8 * (0 / 1 - 0) + 1 * ((1024 * i.val + s.val) / 1024 - 0)) + 15 = 128 * g.val + 16 * i.val + 15
    omega
  have hl : Value.loc4Of (ix3 (n0 := 16) (n1 := 1) (n2 := 8192) (hd g r) 0 (qtok i s)) = ix3 (n1 := 1) r 0 s := by
    funext a
    apply Fin.ext
    match a with
    | ⟨0, _⟩ => show (4 * g.val + r.val) % 4 = r.val; omega
    | ⟨1, _⟩ => rfl
    | ⟨2, _⟩ => show (1024 * i.val + s.val) % 1024 = s.val; omega
  unfold Value.G4
  rw [dif_pos (by rw [hp]; exact (point g i 15).isLt), hl, ← Value.outsAt0_sweep m c _ (by rw [hp]; exact (point g i 15).isLt)]
  simp only [hp]

/-- The two results are the softmax's about any real `T`. -/
theorem output_val (T : ℝ) (g r : Fin 4) (i : Fin 8) (d : Fin 64) (s : Fin 1024) :
    (Value.G3 m c (ix3 (n0 := 16) (n1 := 64) (n2 := 8192) (hd g r) d (qtok i s)) : EReal)
      = ∑ j : Fin 8192, (argV m c (ix3 (n0 := 8192) (n1 := 4) (n2 := 64) j g d) : EReal)
          * Ideal.div (Ideal.exp ((score Q K g r (qtok i s) j : EReal) - (T : EReal))) (∑ u, Ideal.exp ((score Q K g r (qtok i s) u : EReal) - (T : EReal))) := by
  have h1 : (point g i 15).val % 16 = 15 := by show (128 * g.val + 16 * i.val + 15) % 16 = 15; omega
  obtain ⟨⟨M, hM⟩, hA⟩ := sweep_all hq hk g i r s ⟨d.val, by omega⟩
  have hL := (sweep_all hq hk g i r s 64).2
  rw [G3_entry, out_entry m c _ (by omega) h1, hA, hL, hM]
  simp only [hV_value, hV_one]
  exact Cert.Forward.output_eq (fun j => score Q K g r (qtok i s) j) T M (by norm_num) _

theorem log_val (T : ℝ) (g r : Fin 4) (i : Fin 8) (s : Fin 1024) :
    (Value.G4 m c (ix3 (n0 := 16) (n1 := 1) (n2 := 8192) (hd g r) 0 (qtok i s)) : EReal)
      = Ideal.div ((T : EReal) + Ideal.log (∑ u, Ideal.exp ((score Q K g r (qtok i s) u : EReal) - (T : EReal)))) ((Real.log 2 : ℝ) : EReal) := by
  have h1 : (point g i 15).val % 16 = 15 := by show (128 * g.val + 16 * i.val + 15) % 16 = 15; omega
  obtain ⟨⟨M, hM⟩, hL⟩ := sweep_all hq hk g i r s 64
  rw [G4_entry, lse_entry m c _ (by omega) h1, hL, hM, log2e_val hq hk]
  simp only [hV_one]
  exact Cert.Forward.logsum_eq (fun j => score Q K g r (qtok i s) j) T M (by norm_num)

end

end Cert.FlashFwdIdeal.Hand

end
-- ==== Proof.FwdRef.lean ====
/- The forward reference's results read at an index, at exact arithmetic. -/
module

public import proofs.«01_k».proof.Proof.Gen.FlashFwdReferenceIdeal.Run
public import proofs.«01_k».proof.Proof.Reals
public import Idealize.ShloMosaic.Lib.Pointwise

@[expose] public section

set_option maxRecDepth 16384

noncomputable section

namespace Cert.FlashFwdReferenceIdeal.Hand

open Cert.FlashFwdReferenceIdeal Cert.FlashFwdReferenceIdeal.Gen
open Idealize.ShloMosaic Idealize.ShloMosaic.TcCoe

variable (q : FVec Ideal S8192x16x64 .f32) (k v : FVec Ideal S8192x4x64 .f32)

/-- The scores. -/
def fScore (q : FVec Ideal S8192x16x64 .f32) (k : FVec Ideal S8192x4x64 .f32) : FVec Ideal S4x4x8192x8192 .f32 :=
  mulf (transpose S4x4x8192x8192 [0, 3, 2, 1] (Host.dotGeneral dot_S8192x4x64_S8192x4x4x64_S4x8192x8192x4_2_3_0_02_1_1 none k
    (shapeCast S8192x4x4x64 q shapeCasts_S8192x16x64_S8192x4x4x64)) transposes_S4x8192x8192x4_S4x4x8192x8192_0_3_2_1)
    (broadcastInDim S4x4x8192x8192 ![] bcast_S_S4x4x8192x8192 (constant (F := Ideal) S_ .f32 0x3E000000#32))
/-- The largest of a row. -/
def fTop (X : FVec Ideal S4x4x8192x8192 .f32) : FVec Ideal S4x4x8192 .f32 :=
  Host.reduce FloatOps.maximumf X (constant (F := Ideal) S_ .f32 0xFF800000#32) reducesTo_S4x4x8192x8192_S4x4x8192_d3 h_S_
/-- A value a row, as a column. -/
def fCol (X : FVec Ideal S4x4x8192 .f32) : FVec Ideal S4x4x8192x1 .f32 := broadcastInDim S4x4x8192x1 ![0, 1, 2] bcast_S4x4x8192_S4x4x8192x1_0_1_2 X
/-- The exponentials of a row less its largest. -/
def fExp (X : FVec Ideal S4x4x8192x8192 .f32) (M : FVec Ideal S4x4x8192x1 .f32) : FVec Ideal S4x4x8192x8192 .f32 :=
  Host.exp (subf X (broadcastInDim S4x4x8192x8192 ![0, 1, 2, 3] bcast_S4x4x8192x1_S4x4x8192x8192_0_1_2_3 M))
/-- A row's sum. -/
def fSum (X : FVec Ideal S4x4x8192x8192 .f32) : FVec Ideal S4x4x8192 .f32 :=
  Host.reduceAdd X (constant (F := Ideal) S_ .f32 0x00000000#32) reducesTo_S4x4x8192x8192_S4x4x8192_d3 h_S_
/-- The output, from the exponentials and their sums. -/
def fOut (v : FVec Ideal S8192x4x64 .f32) (E : FVec Ideal S4x4x8192x8192 .f32) (L : FVec Ideal S4x4x8192x1 .f32) : FVec Ideal S16x64x8192 .bf16 :=
  truncf .bf16 (shapeCast S16x64x8192 (transpose S4x4x64x8192 [0, 2, 1, 3]
    (Host.dotGeneral dot_S8192x4x64_S4x4x8192x8192_S4x64x4x8192_0_3_2_12_1_0 none v
      (Host.divf E (broadcastInDim S4x4x8192x8192 ![0, 1, 2, 3] bcast_S4x4x8192x1_S4x4x8192x8192_0_1_2_3 L)))
    transposes_S4x64x4x8192_S4x4x64x8192_0_2_1_3) shapeCasts_S4x4x64x8192_S16x64x8192) bitsLt_bf16_f32
/-- The log-sums in base two, from the largest and the sums. -/
def fLog (M L : FVec Ideal S4x4x8192x1 .f32) : FVec Ideal S16x1x8192 .f32 :=
  shapeCast S16x1x8192 (Host.divf (addf M (Host.log L)) (broadcastInDim S4x4x8192x1 ![] bcast_S_S4x4x8192x1 (Host.log (constant (F := Ideal) S_ .f32 0x40000000#32))))
    shapeCasts_S4x4x8192x1_S16x1x8192

/-- The two results. -/
def output (q : FVec Ideal S8192x16x64 .f32) (k v : FVec Ideal S8192x4x64 .f32) : FVec Ideal S16x64x8192 .bf16 :=
  fOut v (fExp (fScore q k) (fCol (fTop (fScore q k)))) (fCol (fSum (fExp (fScore q k) (fCol (fTop (fScore q k))))))
def logSums (q : FVec Ideal S8192x16x64 .f32) (k : FVec Ideal S8192x4x64 .f32) : FVec Ideal S16x1x8192 .f32 :=
  fLog (fCol (fTop (fScore q k))) (fCol (fSum (fExp (fScore q k) (fCol (fTop (fScore q k))))))

abbrev hd (g r : Fin 4) : Fin 16 := ⟨4 * g.val + r.val, by omega⟩

theorem fScore_entry (g r : Fin 4) (i j : Fin 8192) :
    (fScore q k (ix4 (n0 := 4) (n1 := 4) (n2 := 8192) (n3 := 8192) g r i j) : EReal)
      = (∑ d : Fin 64, (k (ix3 (n0 := 8192) (n1 := 4) (n2 := 64) j g d) : EReal) * (q (ix3 (n0 := 8192) (n1 := 16) (n2 := 64) i (hd g r) d) : EReal)) * Ideal.ofBits .f32 0x3E000000#32 := by
  pointwise [fScore]
  refine congrArg (· * _) (Finset.sum_congr rfl fun d _ => ?_)
  rw [show (⟨g.val * 4 + r.val, by omega⟩ : Fin 16) = hd g r from Fin.ext (by show g.val * 4 + r.val = 4 * g.val + r.val; omega)]

theorem fTop_entry (X : FVec Ideal S4x4x8192x8192 .f32) (g r : Fin 4) (i : Fin 8192) :
    (fTop X (ix3 (n0 := 4) (n1 := 4) (n2 := 8192) g r i) : EReal)
      = Finset.univ.fold max (⊥ : EReal) fun j : Fin 8192 => (X (ix4 (n0 := 4) (n1 := 4) (n2 := 8192) (n3 := 8192) g r i j) : EReal) := by
  pointwise [fTop]
  rw [show Ideal.ofBits .f32 0xFF800000#32 = (⊥ : EReal) by simp [Ideal.ofBits, Ideal.ieee]]

theorem fCol_entry (X : FVec Ideal S4x4x8192 .f32) (g r : Fin 4) (i : Fin 8192) :
    (fCol X (ix4 (n0 := 4) (n1 := 4) (n2 := 8192) (n3 := 1) g r i 0) : EReal) = X (ix3 (n0 := 4) (n1 := 4) (n2 := 8192) g r i) := by
  pointwise [fCol]

theorem fExp_entry (X : FVec Ideal S4x4x8192x8192 .f32) (M : FVec Ideal S4x4x8192x1 .f32) (g r : Fin 4) (i j : Fin 8192) :
    (fExp X M (ix4 (n0 := 4) (n1 := 4) (n2 := 8192) (n3 := 8192) g r i j) : EReal)
      = Ideal.exp ((X (ix4 (n0 := 4) (n1 := 4) (n2 := 8192) (n3 := 8192) g r i j) : EReal) - (M (ix4 (n0 := 4) (n1 := 4) (n2 := 8192) (n3 := 1) g r i 0) : EReal)) := by
  pointwise [fExp]

theorem fSum_entry (X : FVec Ideal S4x4x8192x8192 .f32) (g r : Fin 4) (i : Fin 8192) :
    (fSum X (ix3 (n0 := 4) (n1 := 4) (n2 := 8192) g r i) : EReal) = ∑ j : Fin 8192, (X (ix4 (n0 := 4) (n1 := 4) (n2 := 8192) (n3 := 8192) g r i j) : EReal) := by
  pointwise [fSum]

theorem fOut_entry (E : FVec Ideal S4x4x8192x8192 .f32) (L : FVec Ideal S4x4x8192x1 .f32) (g r : Fin 4) (d : Fin 64) (i : Fin 8192) :
    (fOut v E L (ix3 (n0 := 16) (n1 := 64) (n2 := 8192) (hd g r) d i) : EReal)
      = ∑ j : Fin 8192, (v (ix3 (n0 := 8192) (n1 := 4) (n2 := 64) j g d) : EReal)
          * Ideal.div (E (ix4 (n0 := 4) (n1 := 4) (n2 := 8192) (n3 := 8192) g r i j)) (L (ix4 (n0 := 4) (n1 := 4) (n2 := 8192) (n3 := 1) g r i 0)) := by
  pointwise [fOut]
  have key : ∀ g' r' : Fin 4, g' = g → r' = r → ∀ j : Fin 8192, ((v (ix3 (n0 := 8192) (n1 := 4) (n2 := 64) j g' d) : EReal)
      * Ideal.div (E (ix4 (n0 := 4) (n1 := 4) (n2 := 8192) (n3 := 8192) g' r' i j)) (L (ix4 (n0 := 4) (n1 := 4) (n2 := 8192) (n3 := 1) g' r' i 0)))
      = (v (ix3 (n0 := 8192) (n1 := 4) (n2 := 64) j g d) : EReal)
      * Ideal.div (E (ix4 (n0 := 4) (n1 := 4) (n2 := 8192) (n3 := 8192) g r i j)) (L (ix4 (n0 := 4) (n1 := 4) (n2 := 8192) (n3 := 1) g r i 0)) := by
    rintro _ _ rfl rfl j
    rfl
  exact Finset.sum_congr rfl fun j _ => key ⟨(4 * g.val + r.val) / 4, by omega⟩ ⟨(4 * g.val + r.val) % 4, by omega⟩
    (Fin.ext (by show (4 * g.val + r.val) / 4 = g.val; omega)) (Fin.ext (by show (4 * g.val + r.val) % 4 = r.val; omega)) j

theorem fLog_entry (M L : FVec Ideal S4x4x8192x1 .f32) (g r : Fin 4) (i : Fin 8192) :
    (fLog M L (ix3 (n0 := 16) (n1 := 1) (n2 := 8192) (hd g r) 0 i) : EReal)
      = Ideal.div ((M (ix4 (n0 := 4) (n1 := 4) (n2 := 8192) (n3 := 1) g r i 0) : EReal) + Ideal.log (L (ix4 (n0 := 4) (n1 := 4) (n2 := 8192) (n3 := 1) g r i 0)))
          (Ideal.log (Ideal.ofBits .f32 0x40000000#32)) := by
  pointwise [fLog]
  have key : ∀ g' r' : Fin 4, g' = g → r' = r →
      Ideal.div ((M (ix4 (n0 := 4) (n1 := 4) (n2 := 8192) (n3 := 1) g' r' i 0) : EReal) + Ideal.log (L (ix4 (n0 := 4) (n1 := 4) (n2 := 8192) (n3 := 1) g' r' i 0)))
          (Ideal.log (Ideal.ofBits .f32 0x40000000#32))
      = Ideal.div ((M (ix4 (n0 := 4) (n1 := 4) (n2 := 8192) (n3 := 1) g r i 0) : EReal) + Ideal.log (L (ix4 (n0 := 4) (n1 := 4) (n2 := 8192) (n3 := 1) g r i 0)))
          (Ideal.log (Ideal.ofBits .f32 0x40000000#32)) := by
    rintro _ _ rfl rfl
    rfl
  exact key ⟨(4 * g.val + r.val) / 4, by omega⟩ ⟨(4 * g.val + r.val) % 4, by omega⟩
    (Fin.ext (by show (4 * g.val + r.val) / 4 = g.val; omega)) (Fin.ext (by show (4 * g.val + r.val) % 4 = r.val; omega))

/-! ## On finite queries and keys -/

section
variable (Q : Fin 8192 → Fin 16 → Fin 64 → ℝ) (K : Fin 8192 → Fin 4 → Fin 64 → ℝ)

/-- The score of key `n` at token `i`. -/
def score (g r : Fin 4) (i n : Fin 8192) : ℝ := (∑ d : Fin 64, K n g d * Q i (hd g r) d) * (1 / 8)

variable {q k Q K}
variable (hq : ∀ i h d, (q (ix3 (n0 := 8192) (n1 := 16) (n2 := 64) i h d) : EReal) = (Q i h d : EReal))
  (hk : ∀ i h d, (k (ix3 (n0 := 8192) (n1 := 4) (n2 := 64) i h d) : EReal) = (K i h d : EReal))
include hq hk

theorem score_val (g r : Fin 4) (i j : Fin 8192) :
    (fScore q k (ix4 (n0 := 4) (n1 := 4) (n2 := 8192) (n3 := 8192) g r i j) : EReal) = (score Q K g r i j : EReal) := by
  rw [fScore_entry, Cert.Attention.eighth]
  unfold score
  rw [EReal.coe_mul, ← Cert.Attention.coe_sum]
  refine congrArg (· * _) (Finset.sum_congr rfl fun d _ => ?_)
  rw [hq, hk, ← EReal.coe_mul]

/-- A row's largest score is real, and both results are the softmax's about it. -/
theorem results (g r : Fin 4) (i : Fin 8192) : ∃ T : ℝ,
    (∀ d : Fin 64, (output q k v (ix3 (n0 := 16) (n1 := 64) (n2 := 8192) (hd g r) d i) : EReal)
      = ∑ j : Fin 8192, (v (ix3 (n0 := 8192) (n1 := 4) (n2 := 64) j g d) : EReal)
          * Ideal.div (Ideal.exp ((score Q K g r i j : EReal) - (T : EReal))) (∑ u, Ideal.exp ((score Q K g r i u : EReal) - (T : EReal))))
    ∧ (logSums q k (ix3 (n0 := 16) (n1 := 1) (n2 := 8192) (hd g r) 0 i) : EReal)
      = Ideal.div ((T : EReal) + Ideal.log (∑ u, Ideal.exp ((score Q K g r i u : EReal) - (T : EReal)))) ((Real.log 2 : ℝ) : EReal) := by
  obtain ⟨T, hT⟩ := Cert.Attention.fold_max_coe (n := 8192) (by norm_num) (score Q K g r i)
  have ht : (fTop (fScore q k) (ix3 (n0 := 4) (n1 := 4) (n2 := 8192) g r i) : EReal) = (T : EReal) := by
    rw [fTop_entry, ← hT]
    exact congrArg (fun f : Fin 8192 → EReal => Finset.univ.fold max (⊥ : EReal) f) (funext fun j => score_val hq hk g r i j)
  have he : ∀ j, (fExp (fScore q k) (fCol (fTop (fScore q k))) (ix4 (n0 := 4) (n1 := 4) (n2 := 8192) (n3 := 8192) g r i j) : EReal)
      = Ideal.exp ((score Q K g r i j : EReal) - (T : EReal)) := fun j => by
    rw [fExp_entry, fCol_entry, ht, score_val hq hk]
  have hs : (fCol (fSum (fExp (fScore q k) (fCol (fTop (fScore q k))))) (ix4 (n0 := 4) (n1 := 4) (n2 := 8192) (n3 := 1) g r i 0) : EReal)
      = ∑ u, Ideal.exp ((score Q K g r i u : EReal) - (T : EReal)) := by
    rw [fCol_entry, fSum_entry]
    exact Finset.sum_congr rfl fun u _ => he u
  refine ⟨T, fun d => ?_, ?_⟩
  · unfold output
    rw [fOut_entry, hs]
    exact Finset.sum_congr rfl fun j _ => by rw [he]
  · unfold logSums
    rw [fLog_entry, hs, fCol_entry, ht, Cert.Attention.two, Cert.Attention.log_real _ two_pos]

end

end Cert.FlashFwdReferenceIdeal.Hand

end
-- ==== Proof.FwdPre.lean ====
/- What the forward pass's precondition says: the queries' and the keys' entries are real. -/
module

public import proofs.«01_k».proof.Pre_finite_qk
public import proofs.«01_k».proof.Proof.Pre

@[expose] public section

noncomputable section

namespace Cert.Pre_finite_qk.Hand

open Cert.Pre_finite_qk Idealize.ShloMosaic

instance facts : Cert.Pre_finite_qk.Facts where
  bcast_S_S8192x16x64 := by decide
  reducesTo_S8192x16x64_S_d0_1_2 := by decide
  h_S_ := by decide
  bcast_S_S8192x4x64 := by decide
  reducesTo_S8192x4x64_S_d0_1_2 := by decide

theorem finite_real (q : FVec Ideal S8192x16x64 .f32) (k v : FVec Ideal S8192x4x64 .f32) (h : fn (F := Ideal) q k v = fun _ => 1#1) :
    (∀ i, (q i : EReal) = ((EReal.toReal (q i) : ℝ) : EReal)) ∧ (∀ i, (k i : EReal) = ((EReal.toReal (k i) : ℝ) : EReal)) := by
  obtain ⟨hq, hk⟩ := IntOp.andi_eq_one.1 (congrFun h ix0)
  exact ⟨Cert.Pre_finite.Hand.real_of_all q _ _ hq, Cert.Pre_finite.Hand.real_of_all k _ _ hk⟩

end Cert.Pre_finite_qk.Hand

end
-- ==== Proof.FwdEqual.lean ====
/- On finite queries and keys the forward call and its reference end with the same output and log-sums. -/
module

public import proofs.«01_k».proof.Proof.FwdVals
public import proofs.«01_k».proof.Proof.FwdRef
public import proofs.«01_k».proof.Proof.FwdPre

@[expose] public section

set_option maxRecDepth 16384

noncomputable section

namespace Cert.ForwardEqual

open Cert.FlashFwdIdeal Cert.FlashFwdIdeal.Gen Cert.FlashFwdIdeal.Hand
open Idealize.ShloMosaic Idealize.ShloMosaic.TcCoe

theorem head_split (h : Fin 16) : ∃ g r : Fin 4, h = hd g r :=
  ⟨⟨h.val / 4, by omega⟩, ⟨h.val % 4, by omega⟩, Fin.ext (by show h.val = 4 * (h.val / 4) + h.val % 4; omega)⟩
theorem token_split (n : Fin 8192) : ∃ (i : Fin 8) (s : Fin 1024), n = qtok i s :=
  ⟨⟨n.val / 1024, by omega⟩, ⟨n.val % 1024, by omega⟩, Fin.ext (by show n.val = 1024 * (n.val / 1024) + n.val % 1024; omega)⟩

variable (m : (ℓ : Loc nD τ sig) → Buf (Elt Ideal) ℓ) (c : Dev nD)

abbrev realQ (i : Fin 8192) (h : Fin 16) (d : Fin 64) : ℝ := EReal.toReal (argQ m c (ix3 i h d))
abbrev realK (i : Fin 8192) (h : Fin 4) (d : Fin 64) : ℝ := EReal.toReal (argK m c (ix3 i h d))

variable (hpre : Cert.Pre_finite_qk.fn (F := Ideal) (argQ m c) (argK m c) (argV m c) = fun _ => 1#1)
include hpre

theorem realQ_eq (i : Fin 8192) (h : Fin 16) (d : Fin 64) : (argQ m c (ix3 i h d) : EReal) = (realQ m c i h d : EReal) :=
  (Cert.Pre_finite_qk.Hand.finite_real _ _ _ hpre).1 _
theorem realK_eq (i : Fin 8192) (h : Fin 4) (d : Fin 64) : (argK m c (ix3 i h d) : EReal) = (realK m c i h d : EReal) :=
  (Cert.Pre_finite_qk.Hand.finite_real _ _ _ hpre).2 _

theorem outputs : Cert.FlashFwdReferenceIdeal.Hand.output (argQ m c) (argK m c) (argV m c) = Value.G3 m c := by
  funext x
  obtain ⟨h, d, n, rfl⟩ : ∃ (h : Fin 16) (d : Fin 64) (n : Fin 8192), x = ix3 h d n := ⟨x 0, x 1, x 2, eq_ix3 x⟩
  obtain ⟨g, r, rfl⟩ := head_split h
  obtain ⟨i, s, rfl⟩ := token_split n
  obtain ⟨T, hT, _⟩ := Cert.FlashFwdReferenceIdeal.Hand.results (argV m c) (realQ_eq m c hpre) (realK_eq m c hpre) g r (qtok i s)
  exact (hT d).trans (output_val (realQ_eq m c hpre) (realK_eq m c hpre) T g r i d s).symm

theorem logs : Cert.FlashFwdReferenceIdeal.Hand.logSums (argQ m c) (argK m c) = Value.G4 m c := by
  funext x
  obtain ⟨h, z, n, rfl⟩ : ∃ (h : Fin 16) (z : Fin 1) (n : Fin 8192), x = ix3 h z n := ⟨x 0, x 1, x 2, eq_ix3 x⟩
  obtain rfl : z = 0 := Subsingleton.elim _ _
  obtain ⟨g, r, rfl⟩ := head_split h
  obtain ⟨i, s, rfl⟩ := token_split n
  obtain ⟨T, _, hT⟩ := Cert.FlashFwdReferenceIdeal.Hand.results (argV m c) (realQ_eq m c hpre) (realK_eq m c hpre) g r (qtok i s)
  exact hT.trans (log_val (realQ_eq m c hpre) (realK_eq m c hpre) T g r i s).symm

end Cert.ForwardEqual

end
-- ==== Proof.lean ====
/- The certificate: for each kernel the frames and the equality of what it writes with what its reference writes. The
   attention's kernel also has its named constant. -/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Gen.MlpReferenceIdeal.Run
public import proofs.«01_k».proof.Proof.Gen.Mlp.Frame
public import proofs.«01_k».proof.Proof.Gen.MlpIdeal.Frame
public import proofs.«01_k».proof.Proof.Gen.ProjDwReferenceIdeal.Run
public import proofs.«01_k».proof.Proof.Gen.ProjDwIdeal.Value
public import proofs.«01_k».proof.Proof.Gen.ProjDw.Frame
public import proofs.«01_k».proof.Proof.Gen.Proj.Frame
public import proofs.«01_k».proof.Proof.Gen.ProjIdeal.Frame
public import proofs.«01_k».proof.Proof.Gen.ProjReferenceIdeal.Run
public import proofs.«01_k».proof.Proof.Gen.FlashFwdReferenceIdeal.Run
public import proofs.«01_k».proof.Proof.Gen.FlashFwd.Frame
public import proofs.«01_k».proof.Proof.Gen.FlashFwd.Skeleton
public import proofs.«01_k».proof.Proof.Gen.FlashFwdIdeal.Frame
public import proofs.«01_k».proof.Proof.Gen.FlashFwdIdeal.Value
public import proofs.«01_k».proof.Proof.Gen.FlashFwdIdeal.Skeleton
public import proofs.«01_k».proof.Proof.Gen.SsdOutDw.Frame
public import proofs.«01_k».proof.Proof.Gen.SsdOutDwIdeal.Value
public import proofs.«01_k».proof.Proof.Gen.SsdOutDwReferenceIdeal.Run
public import proofs.«01_k».proof.Proof.Gen.OutDw.Frame
public import proofs.«01_k».proof.Proof.Gen.OutDwIdeal.Value
public import proofs.«01_k».proof.Proof.Gen.OutDwReferenceIdeal.Run
public import proofs.«01_k».proof.Proof.Gen.Loss.Frame
public import proofs.«01_k».proof.Proof.Gen.LossIdeal.Frame
public import proofs.«01_k».proof.Proof.Gen.LossReferenceIdeal.Run
public import proofs.«01_k».proof.Proof.Gen.AdamwMlp.Frame
public import proofs.«01_k».proof.Proof.Gen.AdamwMlpIdeal.Value
public import proofs.«01_k».proof.Proof.Gen.AdamwMlpReferenceIdeal.Run
public import proofs.«01_k».proof.Proof.Gen.AdamwOut.Frame
public import proofs.«01_k».proof.Proof.Gen.AdamwOutIdeal.Value
public import proofs.«01_k».proof.Proof.Gen.AdamwOutReferenceIdeal.Run
public import proofs.«01_k».proof.Proof.Gen.AdamwSsd.Frame
public import proofs.«01_k».proof.Proof.Gen.AdamwSsdIdeal.Value
public import proofs.«01_k».proof.Proof.Gen.AdamwSsdReferenceIdeal.Run
public import proofs.«01_k».proof.Proof.Gen.AdamwIn.Frame
public import proofs.«01_k».proof.Proof.Gen.AdamwInIdeal.Value
public import proofs.«01_k».proof.Proof.Gen.AdamwInReferenceIdeal.Run
public import proofs.«01_k».proof.Proof.Gen.AdamwAda.Frame
public import proofs.«01_k».proof.Proof.Gen.AdamwAdaIdeal.Value
public import proofs.«01_k».proof.Proof.Gen.AdamwAdaReferenceIdeal.Run
public import proofs.«01_k».proof.Proof.Gen.AdamwConv.Frame
public import proofs.«01_k».proof.Proof.Gen.AdamwConvIdeal.Value
public import proofs.«01_k».proof.Proof.Gen.AdamwConvReferenceIdeal.Run
public import proofs.«01_k».proof.Proof.Gen.AdamwSmall.Frame
public import proofs.«01_k».proof.Proof.Gen.AdamwSmallIdeal.Value
public import proofs.«01_k».proof.Proof.Gen.AdamwSmallReferenceIdeal.Run
public import proofs.«01_k».proof.Proof.Gen.Merge.Frame
public import proofs.«01_k».proof.Proof.Gen.MergeIdeal.Frame
public import proofs.«01_k».proof.Proof.Gen.MergeReferenceIdeal.Run
public import proofs.«01_k».proof.Proof.Gen.MlpDwTwo.Frame
public import proofs.«01_k».proof.Proof.Gen.MlpDwTwoIdeal.Value
public import proofs.«01_k».proof.Proof.Gen.MlpDwTwoReferenceIdeal.Run
public import proofs.«01_k».proof.Proof.Gen.MlpDwOne.Frame
public import proofs.«01_k».proof.Proof.Gen.MlpDwOneIdeal.Value
public import proofs.«01_k».proof.Proof.Gen.MlpDwOneReferenceIdeal.Run
public import proofs.«01_k».proof.Proof.AdamwMlp
public import proofs.«01_k».proof.Proof.AdamwOut
public import proofs.«01_k».proof.Proof.AdamwSsd
public import proofs.«01_k».proof.Proof.AdamwIn
public import proofs.«01_k».proof.Proof.AdamwAda
public import proofs.«01_k».proof.Proof.AdamwConv
public import proofs.«01_k».proof.Proof.AdamwSmall
public import proofs.«01_k».proof.Proof.ProjDw
public import proofs.«01_k».proof.Proof.MlpVals
public import proofs.«01_k».proof.Proof.ProjVals
public import proofs.«01_k».proof.Proof.MlpDwTwo
public import proofs.«01_k».proof.Proof.MergeRef
public import proofs.«01_k».proof.Proof.MlpDwOne
public import proofs.«01_k».proof.Proof.SsdOutDw
public import proofs.«01_k».proof.Proof.OutDw
public import proofs.«01_k».proof.Proof.LossRef
public import proofs.«01_k».proof.Proof.Outs
public import proofs.«01_k».proof.Proof.PrintedPipe
public import proofs.«01_k».proof.Proof.Equal
public import proofs.«01_k».proof.Proof.FwdEqual
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The kernel leaves its arguments as they were and every counter at zero. -/
theorem kernel_frame (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2.2.2, h.2⟩) (Cert.KernelIdeal.Hand.run_results (F := Ideal) m g)

/-- So does the kernel as printed. -/
theorem printed_frame : Cert.quiescent_Kernel (hKernel := Cert.Kernel.Gen.facts) := fun m g _ =>
  (θ_run Cert.Kernel.defs _ _).mono (fun _ h => ⟨fun c =>
    ⟨((h.1 c).2 Cert.Kernel.main_arg0 (Pipeline.mem_restRefs_of Cert.Kernel.main_arg0 (by decide) (by decide))).trans (Cert.Kernel.Gen.V_main_arg0 m c),
      ((h.1 c).2 Cert.Kernel.main_arg1 (Pipeline.mem_restRefs_of Cert.Kernel.main_arg1 (by decide) (by decide))).trans (Cert.Kernel.Gen.V_main_arg1 m c),
      ((h.1 c).2 Cert.Kernel.main_arg2 (Pipeline.mem_restRefs_of Cert.Kernel.main_arg2 (by decide) (by decide))).trans (Cert.Kernel.Gen.V_main_arg2 m c),
      ((h.1 c).2 Cert.Kernel.main_arg3 (Pipeline.mem_restRefs_of Cert.Kernel.main_arg3 (by decide) (by decide))).trans (Cert.Kernel.Gen.V_main_arg3 m c)⟩, h.2⟩)
    (Cert.Kernel.Hand.run_main (F := Bits) m g)

/-- So does the reference. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, Idealize.ShloMosaic.sem_eq_zero_of_no_sems (by decide) r.2⟩)
    (Cert.ReferenceIdeal.Value.run (F := Ideal) m g)

/-- From finite arguments both programs end with the same three gradients. -/
theorem gradients_equal : Cert.algebraic_KernelIdeal_ReferenceIdeal_pre_finite := by
  intro m g m' g' hpre hagree
  refine ⟨fun c => Cert.KernelIdeal.Hand.outQ m c, fun c => Cert.KernelIdeal.Hand.outRows (Cert.KernelIdeal.Hand.keyRows m c),
    fun c => Cert.KernelIdeal.Hand.outRows (Cert.KernelIdeal.Hand.valueRows m c), ?_, ?_⟩
  · exact (θ_run Cert.KernelIdeal.defs _ _).mono (fun _ h => h.1) (Cert.KernelIdeal.Hand.run_results (F := Ideal) m g)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' g')
    · rw [Cert.ReferenceIdeal.Hand.res_q, (hagree c).1, (hagree c).2.1, (hagree c).2.2.1, (hagree c).2.2.2]
      exact Cert.Equal.queries m c (hpre c)
    · rw [Cert.ReferenceIdeal.Hand.res_k, (hagree c).1, (hagree c).2.1, (hagree c).2.2.1, (hagree c).2.2.2]
      exact Cert.Equal.keys m c (hpre c)
    · rw [(hagree c).1, (hagree c).2.1, (hagree c).2.2.2]
      exact Cert.Equal.values m c (hpre c)

/-- Both programs end with the product over the tokens: the gradient of the input projection's weight. -/
theorem projection_equal : Cert.algebraic_ProjDwIdeal_ProjDwReferenceIdeal
    (hProjDwIdeal := Cert.ProjDwIdeal.Gen.facts) (hProjDwReferenceIdeal := Cert.ProjDwReferenceIdeal.Gen.facts) := by
  intro m g m' g' _ hagree
  refine ⟨fun c => Cert.ProjDwIdeal.Hand.tokenProduct (Cert.ProjDwIdeal.Hand.argH m c) (Cert.ProjDwIdeal.Hand.argC m c), ?_, ?_⟩
  · exact (θ_run Cert.ProjDwIdeal.defs _ _).mono (fun _ h c => ⟨(h c).1.trans (Cert.ProjDwIdeal.Hand.result m c), (h c).2⟩)
      (Cert.ProjDwIdeal.Value.run_blocks (F := Ideal) m g)
  · refine (θ_run Cert.ProjDwReferenceIdeal.defs _ _).mono (fun _ h c => ⟨(h c).1.trans ?_, (h c).2⟩) (Cert.ProjDwReferenceIdeal.Value.run (F := Ideal) m' g')
    rw [(hagree c).1, (hagree c).2]
    exact Cert.ProjDwReferenceIdeal.Hand.result _ _

/-- Both programs end with the gradient of the channel mixer's input. -/
theorem mixer_equal : Cert.algebraic_MlpIdeal_MlpReferenceIdeal
    (hMlpIdeal := Cert.MlpIdeal.Gen.facts) (hMlpReferenceIdeal := Cert.MlpReferenceIdeal.Gen.facts) := by
  intro m g m' g' _ hagree
  refine ⟨fun c => Cert.MlpIdeal.Hand.inputCot (Cert.MlpIdeal.Hand.hiddenCot (Cert.MlpIdeal.Hand.argC c m) (Cert.MlpIdeal.Hand.argW2 c m)
    (Cert.MlpIdeal.Hand.relus (Cert.MlpIdeal.Hand.argH c m) (Cert.MlpIdeal.Hand.argW1 c m))) (Cert.MlpIdeal.Hand.argW1 c m), ?_, ?_⟩
  · exact (θ_run Cert.MlpIdeal.defs _ _).mono (fun _ h c => ⟨(h c).1.trans (Cert.MlpIdeal.Hand.result c m g), (h c).2⟩)
      (Cert.MlpIdeal.Hand.run_results (F := Ideal) m g)
  · refine (θ_run Cert.MlpReferenceIdeal.defs _ _).mono (fun _ h c => ⟨(h c).1.trans ?_, (h c).2⟩) (Cert.MlpReferenceIdeal.Value.run (F := Ideal) m' g')
    rw [(hagree c).1, (hagree c).2.1, (hagree c).2.2.1, (hagree c).2.2.2]
    exact Cert.MlpReferenceIdeal.Hand.result _ _ _ _

/-- Both programs end with the input projection of the tokens and with the gradient that comes back through it. -/
theorem inputs_equal : Cert.algebraic_ProjIdeal_ProjReferenceIdeal
    (hProjIdeal := Cert.ProjIdeal.Gen.facts) (hProjReferenceIdeal := Cert.ProjReferenceIdeal.Gen.facts) := by
  intro m g m' g' _ hagree
  refine ⟨fun c => Cert.ProjIdeal.Hand.projected (Cert.ProjIdeal.Hand.argH c m) (Cert.ProjIdeal.Hand.argW c m),
    fun c => Cert.ProjIdeal.Hand.inputCot (Cert.ProjIdeal.Hand.argC c m) (Cert.ProjIdeal.Hand.argW c m) (fun _ => (0 : EReal)), ?_, ?_⟩
  · exact (θ_run Cert.ProjIdeal.defs _ _).mono (fun _ h c => ⟨(h c).1.trans (Cert.ProjIdeal.Hand.result_proj c m g),
      (h c).2.1.trans (Cert.ProjIdeal.Hand.result_back c m g), (h c).2.2⟩)
      (Cert.ProjIdeal.Hand.run_results (F := Ideal) m g)
  · refine (θ_run Cert.ProjReferenceIdeal.defs _ _).mono (fun _ h c => ⟨(h c).1.trans ?_, (h c).2.1.trans ?_, (h c).2.2⟩)
      (Cert.ProjReferenceIdeal.Value.run (F := Ideal) m' g')
    · rw [(hagree c).1, (hagree c).2.1]
      exact Cert.ProjReferenceIdeal.Hand.result_proj _ _
    · rw [(hagree c).2.1, (hagree c).2.2]
      exact Cert.ProjReferenceIdeal.Hand.result_back _ _

/-- Both programs end with the gradient of the channel mixer's second weight. -/
theorem mixer_second_equal : Cert.algebraic_MlpDwTwoIdeal_MlpDwTwoReferenceIdeal
    (hMlpDwTwoIdeal := Cert.MlpDwTwoIdeal.Gen.facts) (hMlpDwTwoReferenceIdeal := Cert.MlpDwTwoReferenceIdeal.Gen.facts) := by
  intro m g m' g' _ hagree
  refine ⟨fun c => Cert.MlpDwTwoIdeal.Hand.tokenProduct (Cert.MlpDwTwoIdeal.Hand.argH m c) (Cert.MlpDwTwoIdeal.Hand.argC m c), ?_, ?_⟩
  · exact (θ_run Cert.MlpDwTwoIdeal.defs _ _).mono (fun _ h c => ⟨(h c).1.trans (Cert.MlpDwTwoIdeal.Hand.result m c), (h c).2⟩)
      (Cert.MlpDwTwoIdeal.Value.run_blocks (F := Ideal) m g)
  · refine (θ_run Cert.MlpDwTwoReferenceIdeal.defs _ _).mono (fun _ h c => ⟨(h c).1.trans ?_, (h c).2⟩) (Cert.MlpDwTwoReferenceIdeal.Value.run (F := Ideal) m' g')
    rw [(hagree c).1, (hagree c).2.1, (hagree c).2.2]
    exact Cert.MlpDwTwoReferenceIdeal.Hand.result _ _ _

/-- Both programs end with the gradient of the channel mixer's first weight. -/
theorem mixer_first_equal : Cert.algebraic_MlpDwOneIdeal_MlpDwOneReferenceIdeal
    (hMlpDwOneIdeal := Cert.MlpDwOneIdeal.Gen.facts) (hMlpDwOneReferenceIdeal := Cert.MlpDwOneReferenceIdeal.Gen.facts) := by
  intro m g m' g' _ hagree
  refine ⟨fun c => Cert.MlpDwOneIdeal.Hand.tokenProduct (Cert.MlpDwOneIdeal.Hand.argH m c) (Cert.MlpDwOneIdeal.Hand.argC m c), ?_, ?_⟩
  · exact (θ_run Cert.MlpDwOneIdeal.defs _ _).mono (fun _ h c => ⟨(h c).1.trans (Cert.MlpDwOneIdeal.Hand.result m c), (h c).2⟩)
      (Cert.MlpDwOneIdeal.Value.run_blocks (F := Ideal) m g)
  · refine (θ_run Cert.MlpDwOneReferenceIdeal.defs _ _).mono (fun _ h c => ⟨(h c).1.trans ?_, (h c).2⟩) (Cert.MlpDwOneReferenceIdeal.Value.run (F := Ideal) m' g')
    rw [(hagree c).1, (hagree c).2]
    exact Cert.MlpDwOneReferenceIdeal.Hand.result _ _

/-- Both programs end with the gradient of the state-space branch's output weight. -/
theorem state_out_equal : Cert.algebraic_SsdOutDwIdeal_SsdOutDwReferenceIdeal
    (hSsdOutDwIdeal := Cert.SsdOutDwIdeal.Gen.facts) (hSsdOutDwReferenceIdeal := Cert.SsdOutDwReferenceIdeal.Gen.facts) := by
  intro m g m' g' _ hagree
  refine ⟨fun c => Cert.SsdOutDwIdeal.Hand.tokenProduct (Cert.SsdOutDwIdeal.Hand.argH m c) (Cert.SsdOutDwIdeal.Hand.argC m c), ?_, ?_⟩
  · exact (θ_run Cert.SsdOutDwIdeal.defs _ _).mono (fun _ h c => ⟨(h c).1.trans (Cert.SsdOutDwIdeal.Hand.result m c), (h c).2⟩)
      (Cert.SsdOutDwIdeal.Value.run_blocks (F := Ideal) m g)
  · refine (θ_run Cert.SsdOutDwReferenceIdeal.defs _ _).mono (fun _ h c => ⟨(h c).1.trans ?_, (h c).2⟩) (Cert.SsdOutDwReferenceIdeal.Value.run (F := Ideal) m' g')
    rw [(hagree c).1, (hagree c).2]
    exact Cert.SsdOutDwReferenceIdeal.Hand.result _ _

/-- Both programs end with the gradient of the merge's output weight. -/
theorem merge_out_equal : Cert.algebraic_OutDwIdeal_OutDwReferenceIdeal
    (hOutDwIdeal := Cert.OutDwIdeal.Gen.facts) (hOutDwReferenceIdeal := Cert.OutDwReferenceIdeal.Gen.facts) := by
  intro m g m' g' _ hagree
  refine ⟨fun c => Cert.OutDwIdeal.Hand.tokenProduct (Cert.OutDwIdeal.Hand.argH m c) (Cert.OutDwIdeal.Hand.argC m c), ?_, ?_⟩
  · exact (θ_run Cert.OutDwIdeal.defs _ _).mono (fun _ h c => ⟨(h c).1.trans (Cert.OutDwIdeal.Hand.result m c), (h c).2⟩)
      (Cert.OutDwIdeal.Value.run_blocks (F := Ideal) m g)
  · refine (θ_run Cert.OutDwReferenceIdeal.defs _ _).mono (fun _ h c => ⟨(h c).1.trans ?_, (h c).2⟩) (Cert.OutDwReferenceIdeal.Value.run (F := Ideal) m' g')
    rw [(hagree c).1, (hagree c).2]
    exact Cert.OutDwReferenceIdeal.Hand.result _ _

/-- Both programs end with the loss and with its gradients in the output, in the channel mixer's product and in the gate. -/
theorem loss_equal : Cert.algebraic_LossIdeal_LossReferenceIdeal
    (hLossIdeal := Cert.LossIdeal.Gen.facts) (hLossReferenceIdeal := Cert.LossReferenceIdeal.Gen.facts) := by
  intro m g m' g' _ hagree
  refine ⟨fun c => Cert.LossIdeal.Hand.lossOf (Cert.LossIdeal.Hand.squares (Cert.LossIdeal.Hand.argA m c) (Cert.LossIdeal.Hand.argW m c) (Cert.LossIdeal.Hand.argX m c) (Cert.LossIdeal.Hand.argG m c) (Cert.LossIdeal.Hand.argT m c)),
    fun c => Cert.LossIdeal.Hand.dOut (Cert.LossIdeal.Hand.argA m c) (Cert.LossIdeal.Hand.argW m c) (Cert.LossIdeal.Hand.argX m c) (Cert.LossIdeal.Hand.argG m c) (Cert.LossIdeal.Hand.argT m c),
    fun c => Cert.LossIdeal.Hand.dProd (Cert.LossIdeal.Hand.argA m c) (Cert.LossIdeal.Hand.argW m c) (Cert.LossIdeal.Hand.argX m c) (Cert.LossIdeal.Hand.argG m c) (Cert.LossIdeal.Hand.argT m c),
    fun c => Cert.LossIdeal.Hand.dGate (Cert.LossIdeal.Hand.argA m c) (Cert.LossIdeal.Hand.argW m c) (Cert.LossIdeal.Hand.argX m c) (Cert.LossIdeal.Hand.argG m c) (Cert.LossIdeal.Hand.argT m c), ?_, ?_⟩
  · exact Cert.LossIdeal.Hand.run m g
  · refine (θ_run Cert.LossReferenceIdeal.defs _ _).mono (fun _ h c => ⟨(h c).1.trans ?_, (h c).2.1.trans ?_, (h c).2.2.1.trans ?_, (h c).2.2.2.1.trans ?_, (h c).2.2.2.2⟩)
      (Cert.LossReferenceIdeal.Value.run (F := Ideal) m' g')
    all_goals rw [(hagree c).1, (hagree c).2.1, (hagree c).2.2.1, (hagree c).2.2.2.1, (hagree c).2.2.2.2]
    · exact Cert.LossReferenceIdeal.Hand.result_loss _ _ _ _ _
    · exact Cert.LossReferenceIdeal.Hand.rOut_eq _ _ _ _ _
    · exact Cert.LossReferenceIdeal.Hand.result_prod _ _ _ _ _
    · exact Cert.LossReferenceIdeal.Hand.result_gate _ _ _ _ _

/-- Both programs end with AdamW's step and moments of the channel mixer's two weights. -/
theorem mixer_step_equal : Cert.algebraic_AdamwMlpIdeal_AdamwMlpReferenceIdeal
    (hAdamwMlpIdeal := Cert.AdamwMlpIdeal.Gen.facts) (hAdamwMlpReferenceIdeal := Cert.AdamwMlpReferenceIdeal.Gen.facts) := by
  intro m g m' g' _ hagree
  refine ⟨_, _, _, Cert.AdamwMlpIdeal.Value.run (F := Ideal) m g, ?_⟩
  refine (θ_run Cert.AdamwMlpReferenceIdeal.defs _ _).mono (fun _ h c => ⟨(h c).1.trans ?_, (h c).2.1.trans ?_, (h c).2.2.1.trans ?_, (h c).2.2.2⟩)
    (Cert.AdamwMlpReferenceIdeal.Value.run (F := Ideal) m' g')
  all_goals rw [(hagree c).2.1]
  · rw [(hagree c).1, (hagree c).2.2.1, (hagree c).2.2.2]
    exact Cert.AdamwMlpReferenceIdeal.Hand.delta _ _ _ _
  · rw [(hagree c).2.2.1]
    exact Cert.AdamwMlpReferenceIdeal.Hand.first _ _
  · rw [(hagree c).2.2.2]
    exact Cert.AdamwMlpReferenceIdeal.Hand.second _ _

/-- Both programs end with AdamW's step and moments of the output weights of the attention and of the merge. -/
theorem outputs_step_equal : Cert.algebraic_AdamwOutIdeal_AdamwOutReferenceIdeal
    (hAdamwOutIdeal := Cert.AdamwOutIdeal.Gen.facts) (hAdamwOutReferenceIdeal := Cert.AdamwOutReferenceIdeal.Gen.facts) := by
  intro m g m' g' _ hagree
  refine ⟨_, _, _, Cert.AdamwOutIdeal.Value.run (F := Ideal) m g, ?_⟩
  refine (θ_run Cert.AdamwOutReferenceIdeal.defs _ _).mono (fun _ h c => ⟨(h c).1.trans ?_, (h c).2.1.trans ?_, (h c).2.2.1.trans ?_, (h c).2.2.2⟩)
    (Cert.AdamwOutReferenceIdeal.Value.run (F := Ideal) m' g')
  all_goals rw [(hagree c).2.1]
  · rw [(hagree c).1, (hagree c).2.2.1, (hagree c).2.2.2]
    exact Cert.AdamwOutReferenceIdeal.Hand.delta _ _ _ _
  · rw [(hagree c).2.2.1]
    exact Cert.AdamwOutReferenceIdeal.Hand.first _ _
  · rw [(hagree c).2.2.2]
    exact Cert.AdamwOutReferenceIdeal.Hand.second _ _

/-- Both programs end with AdamW's step and moments of the state-space branch's output weight. -/
theorem state_step_equal : Cert.algebraic_AdamwSsdIdeal_AdamwSsdReferenceIdeal
    (hAdamwSsdIdeal := Cert.AdamwSsdIdeal.Gen.facts) (hAdamwSsdReferenceIdeal := Cert.AdamwSsdReferenceIdeal.Gen.facts) := by
  intro m g m' g' _ hagree
  refine ⟨_, _, _, Cert.AdamwSsdIdeal.Value.run (F := Ideal) m g, ?_⟩
  refine (θ_run Cert.AdamwSsdReferenceIdeal.defs _ _).mono (fun _ h c => ⟨(h c).1.trans ?_, (h c).2.1.trans ?_, (h c).2.2.1.trans ?_, (h c).2.2.2⟩)
    (Cert.AdamwSsdReferenceIdeal.Value.run (F := Ideal) m' g')
  all_goals rw [(hagree c).2.1]
  · rw [(hagree c).1, (hagree c).2.2.1, (hagree c).2.2.2]
    exact Cert.AdamwSsdReferenceIdeal.Hand.delta _ _ _ _
  · rw [(hagree c).2.2.1]
    exact Cert.AdamwSsdReferenceIdeal.Hand.first _ _
  · rw [(hagree c).2.2.2]
    exact Cert.AdamwSsdReferenceIdeal.Hand.second _ _

/-- Both programs end with AdamW's step and moments of the input projection's weight. -/
theorem projection_step_equal : Cert.algebraic_AdamwInIdeal_AdamwInReferenceIdeal
    (hAdamwInIdeal := Cert.AdamwInIdeal.Gen.facts) (hAdamwInReferenceIdeal := Cert.AdamwInReferenceIdeal.Gen.facts) := by
  intro m g m' g' _ hagree
  refine ⟨_, _, _, Cert.AdamwInIdeal.Value.run (F := Ideal) m g, ?_⟩
  refine (θ_run Cert.AdamwInReferenceIdeal.defs _ _).mono (fun _ h c => ⟨(h c).1.trans ?_, (h c).2.1.trans ?_, (h c).2.2.1.trans ?_, (h c).2.2.2⟩)
    (Cert.AdamwInReferenceIdeal.Value.run (F := Ideal) m' g')
  all_goals rw [(hagree c).2.1]
  · rw [(hagree c).1, (hagree c).2.2.1, (hagree c).2.2.2]
    exact Cert.AdamwInReferenceIdeal.Hand.delta _ _ _ _
  · rw [(hagree c).2.2.1]
    exact Cert.AdamwInReferenceIdeal.Hand.first _ _
  · rw [(hagree c).2.2.2]
    exact Cert.AdamwInReferenceIdeal.Hand.second _ _

/-- Both programs end with AdamW's step and moments of the modulation's weight. -/
theorem modulation_step_equal : Cert.algebraic_AdamwAdaIdeal_AdamwAdaReferenceIdeal
    (hAdamwAdaIdeal := Cert.AdamwAdaIdeal.Gen.facts) (hAdamwAdaReferenceIdeal := Cert.AdamwAdaReferenceIdeal.Gen.facts) := by
  intro m g m' g' _ hagree
  refine ⟨_, _, _, Cert.AdamwAdaIdeal.Value.run (F := Ideal) m g, ?_⟩
  refine (θ_run Cert.AdamwAdaReferenceIdeal.defs _ _).mono (fun _ h c => ⟨(h c).1.trans ?_, (h c).2.1.trans ?_, (h c).2.2.1.trans ?_, (h c).2.2.2⟩)
    (Cert.AdamwAdaReferenceIdeal.Value.run (F := Ideal) m' g')
  all_goals rw [(hagree c).2.1]
  · rw [(hagree c).1, (hagree c).2.2.1, (hagree c).2.2.2]
    exact Cert.AdamwAdaReferenceIdeal.Hand.delta _ _ _ _
  · rw [(hagree c).2.2.1]
    exact Cert.AdamwAdaReferenceIdeal.Hand.first _ _
  · rw [(hagree c).2.2.2]
    exact Cert.AdamwAdaReferenceIdeal.Hand.second _ _

/-- Both programs end with AdamW's step and moments of the convolution's weight. -/
theorem convolution_step_equal : Cert.algebraic_AdamwConvIdeal_AdamwConvReferenceIdeal
    (hAdamwConvIdeal := Cert.AdamwConvIdeal.Gen.facts) (hAdamwConvReferenceIdeal := Cert.AdamwConvReferenceIdeal.Gen.facts) := by
  intro m g m' g' _ hagree
  refine ⟨_, _, _, Cert.AdamwConvIdeal.Value.run (F := Ideal) m g, ?_⟩
  refine (θ_run Cert.AdamwConvReferenceIdeal.defs _ _).mono (fun _ h c => ⟨(h c).1.trans ?_, (h c).2.1.trans ?_, (h c).2.2.1.trans ?_, (h c).2.2.2⟩)
    (Cert.AdamwConvReferenceIdeal.Value.run (F := Ideal) m' g')
  all_goals rw [(hagree c).2.1]
  · rw [(hagree c).1, (hagree c).2.2.1, (hagree c).2.2.2]
    exact Cert.AdamwConvReferenceIdeal.Hand.delta _ _ _ _
  · rw [(hagree c).2.2.1]
    exact Cert.AdamwConvReferenceIdeal.Hand.first _ _
  · rw [(hagree c).2.2.2]
    exact Cert.AdamwConvReferenceIdeal.Hand.second _ _

/-- Both programs end with AdamW's step and moments of the small weights in one row. -/
theorem small_step_equal : Cert.algebraic_AdamwSmallIdeal_AdamwSmallReferenceIdeal
    (hAdamwSmallIdeal := Cert.AdamwSmallIdeal.Gen.facts) (hAdamwSmallReferenceIdeal := Cert.AdamwSmallReferenceIdeal.Gen.facts) := by
  intro m g m' g' _ hagree
  refine ⟨_, _, _, Cert.AdamwSmallIdeal.Value.run (F := Ideal) m g, ?_⟩
  refine (θ_run Cert.AdamwSmallReferenceIdeal.defs _ _).mono (fun _ h c => ⟨(h c).1.trans ?_, (h c).2.1.trans ?_, (h c).2.2.1.trans ?_, (h c).2.2.2⟩)
    (Cert.AdamwSmallReferenceIdeal.Value.run (F := Ideal) m' g')
  all_goals rw [(hagree c).2.1]
  · rw [(hagree c).1, (hagree c).2.2.1, (hagree c).2.2.2]
    exact Cert.AdamwSmallReferenceIdeal.Hand.delta _ _ _ _
  · rw [(hagree c).2.2.1]
    exact Cert.AdamwSmallReferenceIdeal.Hand.first _ _
  · rw [(hagree c).2.2.2]
    exact Cert.AdamwSmallReferenceIdeal.Hand.second _ _

/-- Both programs end with the step's output after the merge, the gates' cotangents, what goes back to the two branches
    and the gradient of the attention's output weight. -/
theorem merge_equal : Cert.algebraic_MergeIdeal_MergeReferenceIdeal
    (hMergeIdeal := Cert.MergeIdeal.Gen.facts) (hMergeReferenceIdeal := Cert.MergeReferenceIdeal.Gen.facts) := by
  intro m g m' g' _ hagree
  refine ⟨fun c => Cert.MergeIdeal.Hand.residual (Cert.MergeIdeal.Hand.merged (Cert.MergeIdeal.Hand.vAO c m) (Cert.MergeIdeal.Hand.vBO c m) (Cert.MergeIdeal.Hand.argU c m))
      (Cert.MergeIdeal.Hand.argWO c m) (Cert.MergeIdeal.Hand.argX c m) (Cert.MergeIdeal.Hand.argG c m),
    fun c => Cert.MergeIdeal.Hand.gateCot (Cert.MergeIdeal.Hand.vP c m) (Cert.MergeIdeal.Hand.vAO c m) (Cert.MergeIdeal.Hand.gA (Cert.MergeIdeal.Hand.argU c m)),
    fun c => Cert.MergeIdeal.Hand.gateCot (Cert.MergeIdeal.Hand.vP c m) (Cert.MergeIdeal.Hand.vBO c m) (Cert.MergeIdeal.Hand.gS (Cert.MergeIdeal.Hand.argU c m)),
    fun c => Cert.MergeIdeal.Hand.attnBack (Cert.MergeIdeal.Hand.argWA c m) (Cert.MergeIdeal.Hand.vDA c m),
    fun c => Cert.MergeIdeal.Hand.attnDw (Cert.MergeIdeal.Hand.tr (Cert.MergeIdeal.Hand.argA c m)) (Cert.MergeIdeal.Hand.vDA c m),
    fun c => Cert.MergeIdeal.Hand.ssdBack (Cert.MergeIdeal.Hand.vDB c m) (Cert.MergeIdeal.Hand.argWS c m), ?_, ?_⟩
  · exact (θ_run Cert.MergeIdeal.defs _ _).mono (fun _ h c => ⟨(h c).1.trans (Cert.MergeIdeal.Hand.result_x c m g),
      (h c).2.1.trans (Cert.MergeIdeal.Hand.result_ga c m g), (h c).2.2.1.trans (Cert.MergeIdeal.Hand.result_gs c m g),
      (h c).2.2.2.1.trans (Cert.MergeIdeal.Hand.result_a c m g), (h c).2.2.2.2.1.trans (Cert.MergeIdeal.Hand.result_wa c m g),
      (h c).2.2.2.2.2.1.trans (Cert.MergeIdeal.Hand.result_s c m g), (h c).2.2.2.2.2.2⟩)
      (Cert.MergeIdeal.Hand.run_results (F := Ideal) m g)
  · refine (θ_run Cert.MergeReferenceIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.MergeReferenceIdeal.Value.run (F := Ideal) m' g') <;> obtain ⟨e0, e1, e2, e3, e4, e5, e6, e7, e8⟩ := hagree c
    · rw [e0, e1, e2, e3, e4, e5, e6, e7]
      exact Cert.MergeReferenceIdeal.Hand.result_x _ _ _ _ _ _ _ _
    · rw [e2, e3, e4, e5, e6, e7, e8]
      exact Cert.MergeReferenceIdeal.Hand.result_ga _ _ _ _ _ _ _
    · rw [e2, e3, e4, e5, e6, e7, e8]
      exact Cert.MergeReferenceIdeal.Hand.result_gs _ _ _ _ _ _ _
    · rw [e4, e5, e7, e8]
      exact Cert.MergeReferenceIdeal.Hand.result_a _ _ _ _
    · rw [e2, e4, e7, e8]
      exact Cert.MergeReferenceIdeal.Hand.result_wa _ _ _ _
    · rw [e4, e6, e7, e8]
      exact Cert.MergeReferenceIdeal.Hand.result_s _ _ _ _

/-- From finite queries and keys both programs end with the attention's output and each row's log-sum. -/
theorem forward_equal : Cert.algebraic_FlashFwdIdeal_FlashFwdReferenceIdeal_pre_finite_qk
    (hFlashFwdIdeal := Cert.FlashFwdIdeal.Gen.facts) (hFlashFwdReferenceIdeal := Cert.FlashFwdReferenceIdeal.Gen.facts) := by
  intro m g m' g' hpre hagree
  refine ⟨fun c => Cert.FlashFwdIdeal.Value.G3 m c, fun c => Cert.FlashFwdIdeal.Value.G4 m c, ?_, ?_⟩
  · exact Cert.FlashFwdIdeal.Value.run (F := Ideal) m g
  · refine (θ_run Cert.FlashFwdReferenceIdeal.defs _ _).mono (fun _ h c => ⟨(h c).1.trans ?_, (h c).2.1.trans ?_, (h c).2.2⟩)
      (Cert.FlashFwdReferenceIdeal.Value.run (F := Ideal) m' g')
    · rw [(hagree c).1, (hagree c).2.1, (hagree c).2.2]
      exact Cert.ForwardEqual.outputs m c (hpre c)
    · rw [(hagree c).1, (hagree c).2.1]
      exact Cert.ForwardEqual.logs m c (hpre c)

theorem claim : Cert.Claim := ⟨Cert.Kernel.Gen.facts, Cert.KernelIdeal.Gen.facts, Cert.ReferenceIdeal.Gen.facts,
  Cert.FlashFwd.Gen.facts, Cert.FlashFwdIdeal.Gen.facts, Cert.FlashFwdReferenceIdeal.Gen.facts,
  Cert.Mlp.Gen.facts, Cert.MlpIdeal.Gen.facts, Cert.MlpReferenceIdeal.Gen.facts,
  Cert.ProjDw.Gen.facts, Cert.ProjDwIdeal.Gen.facts, Cert.ProjDwReferenceIdeal.Gen.facts,
  Cert.Proj.Gen.facts, Cert.ProjIdeal.Gen.facts, Cert.ProjReferenceIdeal.Gen.facts,
  Cert.MlpDwTwo.Gen.facts, Cert.MlpDwTwoIdeal.Gen.facts, Cert.MlpDwTwoReferenceIdeal.Gen.facts,
  Cert.MlpDwOne.Gen.facts, Cert.MlpDwOneIdeal.Gen.facts, Cert.MlpDwOneReferenceIdeal.Gen.facts,
  Cert.SsdOutDw.Gen.facts, Cert.SsdOutDwIdeal.Gen.facts, Cert.SsdOutDwReferenceIdeal.Gen.facts,
  Cert.OutDw.Gen.facts, Cert.OutDwIdeal.Gen.facts, Cert.OutDwReferenceIdeal.Gen.facts,
  Cert.Loss.Gen.facts, Cert.LossIdeal.Gen.facts, Cert.LossReferenceIdeal.Gen.facts,
  Cert.AdamwMlp.Gen.facts, Cert.AdamwMlpIdeal.Gen.facts, Cert.AdamwMlpReferenceIdeal.Gen.facts,
  Cert.AdamwOut.Gen.facts, Cert.AdamwOutIdeal.Gen.facts, Cert.AdamwOutReferenceIdeal.Gen.facts,
  Cert.AdamwSsd.Gen.facts, Cert.AdamwSsdIdeal.Gen.facts, Cert.AdamwSsdReferenceIdeal.Gen.facts,
  Cert.AdamwIn.Gen.facts, Cert.AdamwInIdeal.Gen.facts, Cert.AdamwInReferenceIdeal.Gen.facts,
  Cert.AdamwAda.Gen.facts, Cert.AdamwAdaIdeal.Gen.facts, Cert.AdamwAdaReferenceIdeal.Gen.facts,
  Cert.AdamwConv.Gen.facts, Cert.AdamwConvIdeal.Gen.facts, Cert.AdamwConvReferenceIdeal.Gen.facts,
  Cert.AdamwSmall.Gen.facts, Cert.AdamwSmallIdeal.Gen.facts, Cert.AdamwSmallReferenceIdeal.Gen.facts,
  Cert.Merge.Gen.facts, Cert.MergeIdeal.Gen.facts, Cert.MergeReferenceIdeal.Gen.facts,
  Cert.Pre_finite.Hand.facts, Cert.Pre_finite_qk.Hand.facts,
  printed_frame, fun m g _ => kernel_frame m g, fun m g _ => kernel_frame m g,
  fun m g _ => reference_frame m g, fun m g _ => reference_frame m g,
  fun m g _ => Cert.FlashFwd.Gen.frame m g, fun m g _ => Cert.FlashFwdIdeal.Gen.frame m g, fun m g _ => Cert.FlashFwdIdeal.Gen.frame m g,
  fun m g _ => (θ_run Cert.FlashFwdReferenceIdeal.defs _ _).mono (fun r h => ⟨fun c => (h c).2.2, Idealize.ShloMosaic.sem_eq_zero_of_no_sems (by decide) r.2⟩)
    (Cert.FlashFwdReferenceIdeal.Value.run (F := Ideal) m g),
  fun m g _ => (θ_run Cert.FlashFwdReferenceIdeal.defs _ _).mono (fun r h => ⟨fun c => (h c).2.2, Idealize.ShloMosaic.sem_eq_zero_of_no_sems (by decide) r.2⟩)
    (Cert.FlashFwdReferenceIdeal.Value.run (F := Ideal) m g),
  fun m g _ => Cert.Mlp.Gen.frame m g, fun m g _ => Cert.MlpIdeal.Gen.frame m g,
  fun m g _ => (θ_run Cert.MlpReferenceIdeal.defs _ _).mono (fun r h => ⟨fun c => (h c).2, Idealize.ShloMosaic.sem_eq_zero_of_no_sems (by decide) r.2⟩)
    (Cert.MlpReferenceIdeal.Value.run (F := Ideal) m g),
  fun m g _ => Cert.ProjDw.Gen.frame m g, fun m g _ => Cert.ProjDwIdeal.Gen.frame m g,
  fun m g _ => (θ_run Cert.ProjDwReferenceIdeal.defs _ _).mono (fun r h => ⟨fun c => (h c).2, Idealize.ShloMosaic.sem_eq_zero_of_no_sems (by decide) r.2⟩)
    (Cert.ProjDwReferenceIdeal.Value.run (F := Ideal) m g),
  fun m g _ => Cert.Proj.Gen.frame m g, fun m g _ => Cert.ProjIdeal.Gen.frame m g,
  fun m g _ => (θ_run Cert.ProjReferenceIdeal.defs _ _).mono (fun r h => ⟨fun c => (h c).2.2, Idealize.ShloMosaic.sem_eq_zero_of_no_sems (by decide) r.2⟩)
    (Cert.ProjReferenceIdeal.Value.run (F := Ideal) m g),
  fun m g _ => Cert.MlpDwTwo.Gen.frame m g, fun m g _ => Cert.MlpDwTwoIdeal.Gen.frame m g,
  fun m g _ => (θ_run Cert.MlpDwTwoReferenceIdeal.defs _ _).mono (fun r h => ⟨fun c => (h c).2, Idealize.ShloMosaic.sem_eq_zero_of_no_sems (by decide) r.2⟩)
    (Cert.MlpDwTwoReferenceIdeal.Value.run (F := Ideal) m g),
  fun m g _ => Cert.MlpDwOne.Gen.frame m g, fun m g _ => Cert.MlpDwOneIdeal.Gen.frame m g,
  fun m g _ => (θ_run Cert.MlpDwOneReferenceIdeal.defs _ _).mono (fun r h => ⟨fun c => (h c).2, Idealize.ShloMosaic.sem_eq_zero_of_no_sems (by decide) r.2⟩)
    (Cert.MlpDwOneReferenceIdeal.Value.run (F := Ideal) m g),
  fun m g _ => Cert.SsdOutDw.Gen.frame m g, fun m g _ => Cert.SsdOutDwIdeal.Gen.frame m g,
  fun m g _ => (θ_run Cert.SsdOutDwReferenceIdeal.defs _ _).mono (fun r h => ⟨fun c => (h c).2, Idealize.ShloMosaic.sem_eq_zero_of_no_sems (by decide) r.2⟩)
    (Cert.SsdOutDwReferenceIdeal.Value.run (F := Ideal) m g),
  fun m g _ => Cert.OutDw.Gen.frame m g, fun m g _ => Cert.OutDwIdeal.Gen.frame m g,
  fun m g _ => (θ_run Cert.OutDwReferenceIdeal.defs _ _).mono (fun r h => ⟨fun c => (h c).2, Idealize.ShloMosaic.sem_eq_zero_of_no_sems (by decide) r.2⟩)
    (Cert.OutDwReferenceIdeal.Value.run (F := Ideal) m g),
  fun m g _ => Cert.Loss.Gen.frame m g, fun m g _ => Cert.LossIdeal.Gen.frame m g,
  fun m g _ => (θ_run Cert.LossReferenceIdeal.defs _ _).mono (fun r h => ⟨fun c => (h c).2.2.2.2, Idealize.ShloMosaic.sem_eq_zero_of_no_sems (by decide) r.2⟩)
    (Cert.LossReferenceIdeal.Value.run (F := Ideal) m g),
  fun m g _ => Cert.AdamwMlp.Gen.frame m g, fun m g _ => Cert.AdamwMlpIdeal.Gen.frame m g,
  fun m g _ => (θ_run Cert.AdamwMlpReferenceIdeal.defs _ _).mono (fun r h => ⟨fun c => (h c).2.2.2, Idealize.ShloMosaic.sem_eq_zero_of_no_sems (by decide) r.2⟩)
    (Cert.AdamwMlpReferenceIdeal.Value.run (F := Ideal) m g),
  fun m g _ => Cert.AdamwOut.Gen.frame m g, fun m g _ => Cert.AdamwOutIdeal.Gen.frame m g,
  fun m g _ => (θ_run Cert.AdamwOutReferenceIdeal.defs _ _).mono (fun r h => ⟨fun c => (h c).2.2.2, Idealize.ShloMosaic.sem_eq_zero_of_no_sems (by decide) r.2⟩)
    (Cert.AdamwOutReferenceIdeal.Value.run (F := Ideal) m g),
  fun m g _ => Cert.AdamwSsd.Gen.frame m g, fun m g _ => Cert.AdamwSsdIdeal.Gen.frame m g,
  fun m g _ => (θ_run Cert.AdamwSsdReferenceIdeal.defs _ _).mono (fun r h => ⟨fun c => (h c).2.2.2, Idealize.ShloMosaic.sem_eq_zero_of_no_sems (by decide) r.2⟩)
    (Cert.AdamwSsdReferenceIdeal.Value.run (F := Ideal) m g),
  fun m g _ => Cert.AdamwIn.Gen.frame m g, fun m g _ => Cert.AdamwInIdeal.Gen.frame m g,
  fun m g _ => (θ_run Cert.AdamwInReferenceIdeal.defs _ _).mono (fun r h => ⟨fun c => (h c).2.2.2, Idealize.ShloMosaic.sem_eq_zero_of_no_sems (by decide) r.2⟩)
    (Cert.AdamwInReferenceIdeal.Value.run (F := Ideal) m g),
  fun m g _ => Cert.AdamwAda.Gen.frame m g, fun m g _ => Cert.AdamwAdaIdeal.Gen.frame m g,
  fun m g _ => (θ_run Cert.AdamwAdaReferenceIdeal.defs _ _).mono (fun r h => ⟨fun c => (h c).2.2.2, Idealize.ShloMosaic.sem_eq_zero_of_no_sems (by decide) r.2⟩)
    (Cert.AdamwAdaReferenceIdeal.Value.run (F := Ideal) m g),
  fun m g _ => Cert.AdamwConv.Gen.frame m g, fun m g _ => Cert.AdamwConvIdeal.Gen.frame m g,
  fun m g _ => (θ_run Cert.AdamwConvReferenceIdeal.defs _ _).mono (fun r h => ⟨fun c => (h c).2.2.2, Idealize.ShloMosaic.sem_eq_zero_of_no_sems (by decide) r.2⟩)
    (Cert.AdamwConvReferenceIdeal.Value.run (F := Ideal) m g),
  fun m g _ => Cert.AdamwSmall.Gen.frame m g, fun m g _ => Cert.AdamwSmallIdeal.Gen.frame m g,
  fun m g _ => (θ_run Cert.AdamwSmallReferenceIdeal.defs _ _).mono (fun r h => ⟨fun c => (h c).2.2.2, Idealize.ShloMosaic.sem_eq_zero_of_no_sems (by decide) r.2⟩)
    (Cert.AdamwSmallReferenceIdeal.Value.run (F := Ideal) m g),
  fun m g _ => Cert.Merge.Gen.frame m g, fun m g _ => Cert.MergeIdeal.Gen.frame m g,
  fun m g _ => (θ_run Cert.MergeReferenceIdeal.defs _ _).mono (fun r h => ⟨fun c => (h c).2.2.2.2.2.2, Idealize.ShloMosaic.sem_eq_zero_of_no_sems (by decide) r.2⟩)
    (Cert.MergeReferenceIdeal.Value.run (F := Ideal) m g),
  IdealRules.named_const.statement Cert.KernelIdeal.κ "ln2" .f32 0x3F317218#32 ((Real.log 2 : ℝ) : EReal) rfl, gradients_equal,
  IdealRules.named_const.statement Cert.FlashFwdIdeal.κ "log2e" .f32 0x3FB8AA3B#32 (((Real.log 2)⁻¹ : ℝ) : EReal) rfl, forward_equal,
  trivial, mixer_equal, trivial, projection_equal, trivial, inputs_equal, trivial, mixer_second_equal, trivial, mixer_first_equal,
  trivial, state_out_equal, trivial, merge_out_equal, trivial, loss_equal,
  trivial, mixer_step_equal, trivial, outputs_step_equal, trivial, state_step_equal, trivial, projection_step_equal, trivial, modulation_step_equal, trivial, convolution_step_equal, trivial, small_step_equal,
  trivial, merge_equal⟩

end Cert.Proof

end
